-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Hid (m : (ℓ : Loc Cert.Hid.nD Cert.Hid.τ Cert.Hid.sig) → Buf (Elt Bits) ℓ) : Prop :=
  True

def Pre_HidIdeal (m : (ℓ : Loc Cert.HidIdeal.nD Cert.HidIdeal.τ Cert.HidIdeal.sig) → Buf (Elt Ideal) ℓ) : Prop :=
  True

def Pre_HidRefIdeal (m : (ℓ : Loc Cert.HidRefIdeal.nD Cert.HidRefIdeal.τ Cert.HidRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Gout (m : (ℓ : Loc Cert.Gout.nD Cert.Gout.τ Cert.Gout.sig) → Buf (Elt Bits) ℓ) : Prop :=
  True

def Pre_GoutIdeal (m : (ℓ : Loc Cert.GoutIdeal.nD Cert.GoutIdeal.τ Cert.GoutIdeal.sig) → Buf (Elt Ideal) ℓ) : Prop :=
  True

def Pre_GoutRefIdeal (m : (ℓ : Loc Cert.GoutRefIdeal.nD Cert.GoutRefIdeal.τ Cert.GoutRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_GmoSend (m : (ℓ : Loc Cert.GmoSend.nD Cert.GmoSend.τ Cert.GmoSend.sig) → Buf (Elt Bits) ℓ) : Prop :=
  True

def Pre_GmoSendIdeal (m : (ℓ : Loc Cert.GmoSendIdeal.nD Cert.GmoSendIdeal.τ Cert.GmoSendIdeal.sig) → Buf (Elt Ideal) ℓ) : Prop :=
  True

def Pre_GmoSendRefIdeal (m : (ℓ : Loc Cert.GmoSendRefIdeal.nD Cert.GmoSendRefIdeal.τ Cert.GmoSendRefIdeal.sig) → Buf (Elt Ideal) ℓ) : Prop :=
  True

def Pre_GmoOwn (m : (ℓ : Loc Cert.GmoOwn.nD Cert.GmoOwn.τ Cert.GmoOwn.sig) → Buf (Elt Bits) ℓ) : Prop :=
  True

def Pre_GmoOwnIdeal (m : (ℓ : Loc Cert.GmoOwnIdeal.nD Cert.GmoOwnIdeal.τ Cert.GmoOwnIdeal.sig) → Buf (Elt Ideal) ℓ) : Prop :=
  True

def Pre_GmoOwnRefIdeal (m : (ℓ : Loc Cert.GmoOwnRefIdeal.nD Cert.GmoOwnRefIdeal.τ Cert.GmoOwnRefIdeal.sig) → Buf (Elt Ideal) ℓ) : Prop :=
  True

def Pre_GmiSend (m : (ℓ : Loc Cert.GmiSend.nD Cert.GmiSend.τ Cert.GmiSend.sig) → Buf (Elt Bits) ℓ) : Prop :=
  True

def Pre_GmiSendIdeal (m : (ℓ : Loc Cert.GmiSendIdeal.nD Cert.GmiSendIdeal.τ Cert.GmiSendIdeal.sig) → Buf (Elt Ideal) ℓ) : Prop :=
  True

def Pre_GmiSendRefIdeal (m : (ℓ : Loc Cert.GmiSendRefIdeal.nD Cert.GmiSendRefIdeal.τ Cert.GmiSendRefIdeal.sig) → Buf (Elt Ideal) ℓ) : Prop :=
  True

def Pre_GmiOwn (m : (ℓ : Loc Cert.GmiOwn.nD Cert.GmiOwn.τ Cert.GmiOwn.sig) → Buf (Elt Bits) ℓ) : Prop :=
  True

def Pre_GmiOwnIdeal (m : (ℓ : Loc Cert.GmiOwnIdeal.nD Cert.GmiOwnIdeal.τ Cert.GmiOwnIdeal.sig) → Buf (Elt Ideal) ℓ) : Prop :=
  True

def Pre_GmiOwnRefIdeal (m : (ℓ : Loc Cert.GmiOwnRefIdeal.nD Cert.GmiOwnRefIdeal.τ Cert.GmiOwnRefIdeal.sig) → Buf (Elt Ideal) ℓ) : Prop :=
  True

def Pre_GinSend (m : (ℓ : Loc Cert.GinSend.nD Cert.GinSend.τ Cert.GinSend.sig) → Buf (Elt Bits) ℓ) : Prop :=
  True

def Pre_GinSendIdeal (m : (ℓ : Loc Cert.GinSendIdeal.nD Cert.GinSendIdeal.τ Cert.GinSendIdeal.sig) → Buf (Elt Ideal) ℓ) : Prop :=
  True

def Pre_GinSendRefIdeal (m : (ℓ : Loc Cert.GinSendRefIdeal.nD Cert.GinSendRefIdeal.τ Cert.GinSendRefIdeal.sig) → Buf (Elt Ideal) ℓ) : Prop :=
  True

def Pre_GinOwn (m : (ℓ : Loc Cert.GinOwn.nD Cert.GinOwn.τ Cert.GinOwn.sig) → Buf (Elt Bits) ℓ) : Prop :=
  True

def Pre_GinOwnIdeal (m : (ℓ : Loc Cert.GinOwnIdeal.nD Cert.GinOwnIdeal.τ Cert.GinOwnIdeal.sig) → Buf (Elt Ideal) ℓ) : Prop :=
  True

def Pre_GinOwnRefIdeal (m : (ℓ : Loc Cert.GinOwnRefIdeal.nD Cert.GinOwnRefIdeal.τ Cert.GinOwnRefIdeal.sig) → Buf (Elt Ideal) ℓ) : Prop :=
  True

def Pre_Bra (m : (ℓ : Loc Cert.Bra.nD Cert.Bra.τ Cert.Bra.sig) → Buf (Elt Bits) ℓ) : Prop :=
  True

def Pre_BraIdeal (m : (ℓ : Loc Cert.BraIdeal.nD Cert.BraIdeal.τ Cert.BraIdeal.sig) → Buf (Elt Ideal) ℓ) : Prop :=
  True

def Pre_BraRefIdeal (m : (ℓ : Loc Cert.BraRefIdeal.nD Cert.BraRefIdeal.τ Cert.BraRefIdeal.sig) → Buf (Elt Ideal) ℓ) : Prop :=
  True

def Pre_Dob (m : (ℓ : Loc Cert.Dob.nD Cert.Dob.τ Cert.Dob.sig) → Buf (Elt Bits) ℓ) : Prop :=
  True

def Pre_DobIdeal (m : (ℓ : Loc Cert.DobIdeal.nD Cert.DobIdeal.τ Cert.DobIdeal.sig) → Buf (Elt Ideal) ℓ) : Prop :=
  True

def Pre_DobRefIdeal (m : (ℓ : Loc Cert.DobRefIdeal.nD Cert.DobRefIdeal.τ Cert.DobRefIdeal.sig) → Buf (Elt Ideal) ℓ) : Prop :=
  True

def Pre_Gab (m : (ℓ : Loc Cert.Gab.nD Cert.Gab.τ Cert.Gab.sig) → Buf (Elt Bits) ℓ) : Prop :=
  True

def Pre_GabIdeal (m : (ℓ : Loc Cert.GabIdeal.nD Cert.GabIdeal.τ Cert.GabIdeal.sig) → Buf (Elt Ideal) ℓ) : Prop :=
  True

def Pre_GabRefIdeal (m : (ℓ : Loc Cert.GabRefIdeal.nD Cert.GabRefIdeal.τ Cert.GabRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Mrg (m : (ℓ : Loc Cert.Mrg.nD Cert.Mrg.τ Cert.Mrg.sig) → Buf (Elt Bits) ℓ) : Prop :=
  True

def Pre_MrgIdeal (m : (ℓ : Loc Cert.MrgIdeal.nD Cert.MrgIdeal.τ Cert.MrgIdeal.sig) → Buf (Elt Ideal) ℓ) : Prop :=
  True

def Pre_MrgRefIdeal (m : (ℓ : Loc Cert.MrgRefIdeal.nD Cert.MrgRefIdeal.τ Cert.MrgRefIdeal.sig) → Buf (Elt Ideal) ℓ) : Prop :=
  True

def Pre_Dmg (m : (ℓ : Loc Cert.Dmg.nD Cert.Dmg.τ Cert.Dmg.sig) → Buf (Elt Bits) ℓ) : Prop :=
  True

def Pre_DmgIdeal (m : (ℓ : Loc Cert.DmgIdeal.nD Cert.DmgIdeal.τ Cert.DmgIdeal.sig) → Buf (Elt Ideal) ℓ) : Prop :=
  True

def Pre_DmgRefIdeal (m : (ℓ : Loc Cert.DmgRefIdeal.nD Cert.DmgRefIdeal.τ Cert.DmgRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_Hid [hHid : Cert.Hid.Facts] : Prop :=
  ∀ (m : (ℓ : Loc Cert.Hid.nD Cert.Hid.τ Cert.Hid.sig) → Buf (Elt Bits) ℓ) (g : Dev Cert.Hid.nD → PrngReg), Pre_Hid m →
    θ_run (Cert.Hid.defs (F := Bits)) (onTc (τ := Cert.Hid.τ) (Cert.Hid.main (F := Bits))) ⟨m, fun _ => 0, g⟩ (fun r => (∀ c : Dev Cert.Hid.nD,
      r.2.mem ((c.tc : Thread Cert.Hid.nD Cert.Hid.τ).loc Cert.Hid.main_arg0) = m ((c.tc : Thread Cert.Hid.nD Cert.Hid.τ).loc Cert.Hid.main_arg0)
      ∧ r.2.mem ((c.tc : Thread Cert.Hid.nD Cert.Hid.τ).loc Cert.Hid.main_arg1) = m ((c.tc : Thread Cert.Hid.nD Cert.Hid.τ).loc Cert.Hid.main_arg1))
      ∧ r.2.sem = fun _ => 0)

def quiescent_HidIdeal [hHidIdeal : Cert.HidIdeal.Facts] : Prop :=
  ∀ (m : (ℓ : Loc Cert.HidIdeal.nD Cert.HidIdeal.τ Cert.HidIdeal.sig) → Buf (Elt Ideal) ℓ) (g : Dev Cert.HidIdeal.nD → PrngReg), Pre_HidIdeal m →
    θ_run (Cert.HidIdeal.defs (F := Ideal)) (onTc (τ := Cert.HidIdeal.τ) (Cert.HidIdeal.main (F := Ideal))) ⟨m, fun _ => 0, g⟩ (fun r => (∀ c : Dev Cert.HidIdeal.nD,
      r.2.mem ((c.tc : Thread Cert.HidIdeal.nD Cert.HidIdeal.τ).loc Cert.HidIdeal.main_arg0) = m ((c.tc : Thread Cert.HidIdeal.nD Cert.HidIdeal.τ).loc Cert.HidIdeal.main_arg0)
      ∧ r.2.mem ((c.tc : Thread Cert.HidIdeal.nD Cert.HidIdeal.τ).loc Cert.HidIdeal.main_arg1) = m ((c.tc : Thread Cert.HidIdeal.nD Cert.HidIdeal.τ).loc Cert.HidIdeal.main_arg1))
      ∧ r.2.sem = fun _ => 0)

def quiescent_HidRefIdeal [hHidRefIdeal : Cert.HidRefIdeal.Facts] : Prop :=
  ∀ (m : (ℓ : Loc Cert.HidRefIdeal.nD Cert.HidRefIdeal.τ Cert.HidRefIdeal.sig) → Buf (Elt Ideal) ℓ) (g : Dev Cert.HidRefIdeal.nD → PrngReg), Pre_HidRefIdeal m →
    θ_run (Cert.HidRefIdeal.defs (F := Ideal)) (onTc (τ := Cert.HidRefIdeal.τ) (Cert.HidRefIdeal.main (F := Ideal))) ⟨m, fun _ => 0, g⟩ (fun r => (∀ c : Dev Cert.HidRefIdeal.nD,
      r.2.mem ((c.tc : Thread Cert.HidRefIdeal.nD Cert.HidRefIdeal.τ).loc Cert.HidRefIdeal.main_arg0) = m ((c.tc : Thread Cert.HidRefIdeal.nD Cert.HidRefIdeal.τ).loc Cert.HidRefIdeal.main_arg0)
      ∧ r.2.mem ((c.tc : Thread Cert.HidRefIdeal.nD Cert.HidRefIdeal.τ).loc Cert.HidRefIdeal.main_arg1) = m ((c.tc : Thread Cert.HidRefIdeal.nD Cert.HidRefIdeal.τ).loc Cert.HidRefIdeal.main_arg1))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Gout [hGout : Cert.Gout.Facts] : Prop :=
  ∀ (m : (ℓ : Loc Cert.Gout.nD Cert.Gout.τ Cert.Gout.sig) → Buf (Elt Bits) ℓ) (g : Dev Cert.Gout.nD → PrngReg), Pre_Gout m →
    θ_run (Cert.Gout.defs (F := Bits)) (onTc (τ := Cert.Gout.τ) (Cert.Gout.main (F := Bits))) ⟨m, fun _ => 0, g⟩ (fun r => (∀ c : Dev Cert.Gout.nD,
      r.2.mem ((c.tc : Thread Cert.Gout.nD Cert.Gout.τ).loc Cert.Gout.main_arg0) = m ((c.tc : Thread Cert.Gout.nD Cert.Gout.τ).loc Cert.Gout.main_arg0)
      ∧ r.2.mem ((c.tc : Thread Cert.Gout.nD Cert.Gout.τ).loc Cert.Gout.main_arg1) = m ((c.tc : Thread Cert.Gout.nD Cert.Gout.τ).loc Cert.Gout.main_arg1))
      ∧ r.2.sem = fun _ => 0)

def quiescent_GoutIdeal [hGoutIdeal : Cert.GoutIdeal.Facts] : Prop :=
  ∀ (m : (ℓ : Loc Cert.GoutIdeal.nD Cert.GoutIdeal.τ Cert.GoutIdeal.sig) → Buf (Elt Ideal) ℓ) (g : Dev Cert.GoutIdeal.nD → PrngReg), Pre_GoutIdeal m →
    θ_run (Cert.GoutIdeal.defs (F := Ideal)) (onTc (τ := Cert.GoutIdeal.τ) (Cert.GoutIdeal.main (F := Ideal))) ⟨m, fun _ => 0, g⟩ (fun r => (∀ c : Dev Cert.GoutIdeal.nD,
      r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
      ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1))
      ∧ r.2.sem = fun _ => 0)

def quiescent_GoutRefIdeal [hGoutRefIdeal : Cert.GoutRefIdeal.Facts] : Prop :=
  ∀ (m : (ℓ : Loc Cert.GoutRefIdeal.nD Cert.GoutRefIdeal.τ Cert.GoutRefIdeal.sig) → Buf (Elt Ideal) ℓ) (g : Dev Cert.GoutRefIdeal.nD → PrngReg), Pre_GoutRefIdeal m →
    θ_run (Cert.GoutRefIdeal.defs (F := Ideal)) (onTc (τ := Cert.GoutRefIdeal.τ) (Cert.GoutRefIdeal.main (F := Ideal))) ⟨m, fun _ => 0, g⟩ (fun r => (∀ c : Dev Cert.GoutRefIdeal.nD,
      r.2.mem ((c.tc : Thread Cert.GoutRefIdeal.nD Cert.GoutRefIdeal.τ).loc Cert.GoutRefIdeal.main_arg0) = m ((c.tc : Thread Cert.GoutRefIdeal.nD Cert.GoutRefIdeal.τ).loc Cert.GoutRefIdeal.main_arg0)
      ∧ r.2.mem ((c.tc : Thread Cert.GoutRefIdeal.nD Cert.GoutRefIdeal.τ).loc Cert.GoutRefIdeal.main_arg1) = m ((c.tc : Thread Cert.GoutRefIdeal.nD Cert.GoutRefIdeal.τ).loc Cert.GoutRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_GmoSend [hGmoSend : Cert.GmoSend.Facts] : Prop :=
  ∀ (m : (ℓ : Loc Cert.GmoSend.nD Cert.GmoSend.τ Cert.GmoSend.sig) → Buf (Elt Bits) ℓ) (g : Dev Cert.GmoSend.nD → PrngReg), Pre_GmoSend m →
    θ_run (Cert.GmoSend.defs (F := Bits)) (onTc (τ := Cert.GmoSend.τ) (Cert.GmoSend.main (F := Bits))) ⟨m, fun _ => 0, g⟩ (fun r => (∀ c : Dev Cert.GmoSend.nD,
      r.2.mem ((c.tc : Thread Cert.GmoSend.nD Cert.GmoSend.τ).loc Cert.GmoSend.main_arg0) = m ((c.tc : Thread Cert.GmoSend.nD Cert.GmoSend.τ).loc Cert.GmoSend.main_arg0)
      ∧ r.2.mem ((c.tc : Thread Cert.GmoSend.nD Cert.GmoSend.τ).loc Cert.GmoSend.main_arg1) = m ((c.tc : Thread Cert.GmoSend.nD Cert.GmoSend.τ).loc Cert.GmoSend.main_arg1))
      ∧ r.2.sem = fun _ => 0)

def quiescent_GmoSendIdeal [hGmoSendIdeal : Cert.GmoSendIdeal.Facts] : Prop :=
  ∀ (m : (ℓ : Loc Cert.GmoSendIdeal.nD Cert.GmoSendIdeal.τ Cert.GmoSendIdeal.sig) → Buf (Elt Ideal) ℓ) (g : Dev Cert.GmoSendIdeal.nD → PrngReg), Pre_GmoSendIdeal m →
    θ_run (Cert.GmoSendIdeal.defs (F := Ideal)) (onTc (τ := Cert.GmoSendIdeal.τ) (Cert.GmoSendIdeal.main (F := Ideal))) ⟨m, fun _ => 0, g⟩ (fun r => (∀ c : Dev Cert.GmoSendIdeal.nD,
      r.2.mem ((c.tc : Thread Cert.GmoSendIdeal.nD Cert.GmoSendIdeal.τ).loc Cert.GmoSendIdeal.main_arg0) = m ((c.tc : Thread Cert.GmoSendIdeal.nD Cert.GmoSendIdeal.τ).loc Cert.GmoSendIdeal.main_arg0)
      ∧ r.2.mem ((c.tc : Thread Cert.GmoSendIdeal.nD Cert.GmoSendIdeal.τ).loc Cert.GmoSendIdeal.main_arg1) = m ((c.tc : Thread Cert.GmoSendIdeal.nD Cert.GmoSendIdeal.τ).loc Cert.GmoSendIdeal.main_arg1))
      ∧ r.2.sem = fun _ => 0)

def quiescent_GmoSendRefIdeal [hGmoSendRefIdeal : Cert.GmoSendRefIdeal.Facts] : Prop :=
  ∀ (m : (ℓ : Loc Cert.GmoSendRefIdeal.nD Cert.GmoSendRefIdeal.τ Cert.GmoSendRefIdeal.sig) → Buf (Elt Ideal) ℓ) (g : Dev Cert.GmoSendRefIdeal.nD → PrngReg), Pre_GmoSendRefIdeal m →
    θ_run (Cert.GmoSendRefIdeal.defs (F := Ideal)) (onTc (τ := Cert.GmoSendRefIdeal.τ) (Cert.GmoSendRefIdeal.main (F := Ideal))) ⟨m, fun _ => 0, g⟩ (fun r => (∀ c : Dev Cert.GmoSendRefIdeal.nD,
      r.2.mem ((c.tc : Thread Cert.GmoSendRefIdeal.nD Cert.GmoSendRefIdeal.τ).loc Cert.GmoSendRefIdeal.main_arg0) = m ((c.tc : Thread Cert.GmoSendRefIdeal.nD Cert.GmoSendRefIdeal.τ).loc Cert.GmoSendRefIdeal.main_arg0)
      ∧ r.2.mem ((c.tc : Thread Cert.GmoSendRefIdeal.nD Cert.GmoSendRefIdeal.τ).loc Cert.GmoSendRefIdeal.main_arg1) = m ((c.tc : Thread Cert.GmoSendRefIdeal.nD Cert.GmoSendRefIdeal.τ).loc Cert.GmoSendRefIdeal.main_arg1))
      ∧ r.2.sem = fun _ => 0)

def quiescent_GmoOwn [hGmoOwn : Cert.GmoOwn.Facts] : Prop :=
  ∀ (m : (ℓ : Loc Cert.GmoOwn.nD Cert.GmoOwn.τ Cert.GmoOwn.sig) → Buf (Elt Bits) ℓ) (g : Dev Cert.GmoOwn.nD → PrngReg), Pre_GmoOwn m →
    θ_run (Cert.GmoOwn.defs (F := Bits)) (onTc (τ := Cert.GmoOwn.τ) (Cert.GmoOwn.main (F := Bits))) ⟨m, fun _ => 0, g⟩ (fun r => (∀ c : Dev Cert.GmoOwn.nD,
      r.2.mem ((c.tc : Thread Cert.GmoOwn.nD Cert.GmoOwn.τ).loc Cert.GmoOwn.main_arg0) = m ((c.tc : Thread Cert.GmoOwn.nD Cert.GmoOwn.τ).loc Cert.GmoOwn.main_arg0)
      ∧ r.2.mem ((c.tc : Thread Cert.GmoOwn.nD Cert.GmoOwn.τ).loc Cert.GmoOwn.main_arg1) = m ((c.tc : Thread Cert.GmoOwn.nD Cert.GmoOwn.τ).loc Cert.GmoOwn.main_arg1)
      ∧ r.2.mem ((c.tc : Thread Cert.GmoOwn.nD Cert.GmoOwn.τ).loc Cert.GmoOwn.main_arg2) = m ((c.tc : Thread Cert.GmoOwn.nD Cert.GmoOwn.τ).loc Cert.GmoOwn.main_arg2))
      ∧ r.2.sem = fun _ => 0)

def quiescent_GmoOwnIdeal [hGmoOwnIdeal : Cert.GmoOwnIdeal.Facts] : Prop :=
  ∀ (m : (ℓ : Loc Cert.GmoOwnIdeal.nD Cert.GmoOwnIdeal.τ Cert.GmoOwnIdeal.sig) → Buf (Elt Ideal) ℓ) (g : Dev Cert.GmoOwnIdeal.nD → PrngReg), Pre_GmoOwnIdeal m →
    θ_run (Cert.GmoOwnIdeal.defs (F := Ideal)) (onTc (τ := Cert.GmoOwnIdeal.τ) (Cert.GmoOwnIdeal.main (F := Ideal))) ⟨m, fun _ => 0, g⟩ (fun r => (∀ c : Dev Cert.GmoOwnIdeal.nD,
      r.2.mem ((c.tc : Thread Cert.GmoOwnIdeal.nD Cert.GmoOwnIdeal.τ).loc Cert.GmoOwnIdeal.main_arg0) = m ((c.tc : Thread Cert.GmoOwnIdeal.nD Cert.GmoOwnIdeal.τ).loc Cert.GmoOwnIdeal.main_arg0)
      ∧ r.2.mem ((c.tc : Thread Cert.GmoOwnIdeal.nD Cert.GmoOwnIdeal.τ).loc Cert.GmoOwnIdeal.main_arg1) = m ((c.tc : Thread Cert.GmoOwnIdeal.nD Cert.GmoOwnIdeal.τ).loc Cert.GmoOwnIdeal.main_arg1)
      ∧ r.2.mem ((c.tc : Thread Cert.GmoOwnIdeal.nD Cert.GmoOwnIdeal.τ).loc Cert.GmoOwnIdeal.main_arg2) = m ((c.tc : Thread Cert.GmoOwnIdeal.nD Cert.GmoOwnIdeal.τ).loc Cert.GmoOwnIdeal.main_arg2))
      ∧ r.2.sem = fun _ => 0)

def quiescent_GmoOwnRefIdeal [hGmoOwnRefIdeal : Cert.GmoOwnRefIdeal.Facts] : Prop :=
  ∀ (m : (ℓ : Loc Cert.GmoOwnRefIdeal.nD Cert.GmoOwnRefIdeal.τ Cert.GmoOwnRefIdeal.sig) → Buf (Elt Ideal) ℓ) (g : Dev Cert.GmoOwnRefIdeal.nD → PrngReg), Pre_GmoOwnRefIdeal m →
    θ_run (Cert.GmoOwnRefIdeal.defs (F := Ideal)) (onTc (τ := Cert.GmoOwnRefIdeal.τ) (Cert.GmoOwnRefIdeal.main (F := Ideal))) ⟨m, fun _ => 0, g⟩ (fun r => (∀ c : Dev Cert.GmoOwnRefIdeal.nD,
      r.2.mem ((c.tc : Thread Cert.GmoOwnRefIdeal.nD Cert.GmoOwnRefIdeal.τ).loc Cert.GmoOwnRefIdeal.main_arg0) = m ((c.tc : Thread Cert.GmoOwnRefIdeal.nD Cert.GmoOwnRefIdeal.τ).loc Cert.GmoOwnRefIdeal.main_arg0)
      ∧ r.2.mem ((c.tc : Thread Cert.GmoOwnRefIdeal.nD Cert.GmoOwnRefIdeal.τ).loc Cert.GmoOwnRefIdeal.main_arg1) = m ((c.tc : Thread Cert.GmoOwnRefIdeal.nD Cert.GmoOwnRefIdeal.τ).loc Cert.GmoOwnRefIdeal.main_arg1)
      ∧ r.2.mem ((c.tc : Thread Cert.GmoOwnRefIdeal.nD Cert.GmoOwnRefIdeal.τ).loc Cert.GmoOwnRefIdeal.main_arg2) = m ((c.tc : Thread Cert.GmoOwnRefIdeal.nD Cert.GmoOwnRefIdeal.τ).loc Cert.GmoOwnRefIdeal.main_arg2))
      ∧ r.2.sem = fun _ => 0)

def quiescent_GmiSend [hGmiSend : Cert.GmiSend.Facts] : Prop :=
  ∀ (m : (ℓ : Loc Cert.GmiSend.nD Cert.GmiSend.τ Cert.GmiSend.sig) → Buf (Elt Bits) ℓ) (g : Dev Cert.GmiSend.nD → PrngReg), Pre_GmiSend m →
    θ_run (Cert.GmiSend.defs (F := Bits)) (onTc (τ := Cert.GmiSend.τ) (Cert.GmiSend.main (F := Bits))) ⟨m, fun _ => 0, g⟩ (fun r => (∀ c : Dev Cert.GmiSend.nD,
      r.2.mem ((c.tc : Thread Cert.GmiSend.nD Cert.GmiSend.τ).loc Cert.GmiSend.main_arg0) = m ((c.tc : Thread Cert.GmiSend.nD Cert.GmiSend.τ).loc Cert.GmiSend.main_arg0)
      ∧ r.2.mem ((c.tc : Thread Cert.GmiSend.nD Cert.GmiSend.τ).loc Cert.GmiSend.main_arg1) = m ((c.tc : Thread Cert.GmiSend.nD Cert.GmiSend.τ).loc Cert.GmiSend.main_arg1))
      ∧ r.2.sem = fun _ => 0)

def quiescent_GmiSendIdeal [hGmiSendIdeal : Cert.GmiSendIdeal.Facts] : Prop :=
  ∀ (m : (ℓ : Loc Cert.GmiSendIdeal.nD Cert.GmiSendIdeal.τ Cert.GmiSendIdeal.sig) → Buf (Elt Ideal) ℓ) (g : Dev Cert.GmiSendIdeal.nD → PrngReg), Pre_GmiSendIdeal m →
    θ_run (Cert.GmiSendIdeal.defs (F := Ideal)) (onTc (τ := Cert.GmiSendIdeal.τ) (Cert.GmiSendIdeal.main (F := Ideal))) ⟨m, fun _ => 0, g⟩ (fun r => (∀ c : Dev Cert.GmiSendIdeal.nD,
      r.2.mem ((c.tc : Thread Cert.GmiSendIdeal.nD Cert.GmiSendIdeal.τ).loc Cert.GmiSendIdeal.main_arg0) = m ((c.tc : Thread Cert.GmiSendIdeal.nD Cert.GmiSendIdeal.τ).loc Cert.GmiSendIdeal.main_arg0)
      ∧ r.2.mem ((c.tc : Thread Cert.GmiSendIdeal.nD Cert.GmiSendIdeal.τ).loc Cert.GmiSendIdeal.main_arg1) = m ((c.tc : Thread Cert.GmiSendIdeal.nD Cert.GmiSendIdeal.τ).loc Cert.GmiSendIdeal.main_arg1))
      ∧ r.2.sem = fun _ => 0)

def quiescent_GmiSendRefIdeal [hGmiSendRefIdeal : Cert.GmiSendRefIdeal.Facts] : Prop :=
  ∀ (m : (ℓ : Loc Cert.GmiSendRefIdeal.nD Cert.GmiSendRefIdeal.τ Cert.GmiSendRefIdeal.sig) → Buf (Elt Ideal) ℓ) (g : Dev Cert.GmiSendRefIdeal.nD → PrngReg), Pre_GmiSendRefIdeal m →
    θ_run (Cert.GmiSendRefIdeal.defs (F := Ideal)) (onTc (τ := Cert.GmiSendRefIdeal.τ) (Cert.GmiSendRefIdeal.main (F := Ideal))) ⟨m, fun _ => 0, g⟩ (fun r => (∀ c : Dev Cert.GmiSendRefIdeal.nD,
      r.2.mem ((c.tc : Thread Cert.GmiSendRefIdeal.nD Cert.GmiSendRefIdeal.τ).loc Cert.GmiSendRefIdeal.main_arg0) = m ((c.tc : Thread Cert.GmiSendRefIdeal.nD Cert.GmiSendRefIdeal.τ).loc Cert.GmiSendRefIdeal.main_arg0)
      ∧ r.2.mem ((c.tc : Thread Cert.GmiSendRefIdeal.nD Cert.GmiSendRefIdeal.τ).loc Cert.GmiSendRefIdeal.main_arg1) = m ((c.tc : Thread Cert.GmiSendRefIdeal.nD Cert.GmiSendRefIdeal.τ).loc Cert.GmiSendRefIdeal.main_arg1))
      ∧ r.2.sem = fun _ => 0)

def quiescent_GmiOwn [hGmiOwn : Cert.GmiOwn.Facts] : Prop :=
  ∀ (m : (ℓ : Loc Cert.GmiOwn.nD Cert.GmiOwn.τ Cert.GmiOwn.sig) → Buf (Elt Bits) ℓ) (g : Dev Cert.GmiOwn.nD → PrngReg), Pre_GmiOwn m →
    θ_run (Cert.GmiOwn.defs (F := Bits)) (onTc (τ := Cert.GmiOwn.τ) (Cert.GmiOwn.main (F := Bits))) ⟨m, fun _ => 0, g⟩ (fun r => (∀ c : Dev Cert.GmiOwn.nD,
      r.2.mem ((c.tc : Thread Cert.GmiOwn.nD Cert.GmiOwn.τ).loc Cert.GmiOwn.main_arg0) = m ((c.tc : Thread Cert.GmiOwn.nD Cert.GmiOwn.τ).loc Cert.GmiOwn.main_arg0)
      ∧ r.2.mem ((c.tc : Thread Cert.GmiOwn.nD Cert.GmiOwn.τ).loc Cert.GmiOwn.main_arg1) = m ((c.tc : Thread Cert.GmiOwn.nD Cert.GmiOwn.τ).loc Cert.GmiOwn.main_arg1)
      ∧ r.2.mem ((c.tc : Thread Cert.GmiOwn.nD Cert.GmiOwn.τ).loc Cert.GmiOwn.main_arg2) = m ((c.tc : Thread Cert.GmiOwn.nD Cert.GmiOwn.τ).loc Cert.GmiOwn.main_arg2))
      ∧ r.2.sem = fun _ => 0)

def quiescent_GmiOwnIdeal [hGmiOwnIdeal : Cert.GmiOwnIdeal.Facts] : Prop :=
  ∀ (m : (ℓ : Loc Cert.GmiOwnIdeal.nD Cert.GmiOwnIdeal.τ Cert.GmiOwnIdeal.sig) → Buf (Elt Ideal) ℓ) (g : Dev Cert.GmiOwnIdeal.nD → PrngReg), Pre_GmiOwnIdeal m →
    θ_run (Cert.GmiOwnIdeal.defs (F := Ideal)) (onTc (τ := Cert.GmiOwnIdeal.τ) (Cert.GmiOwnIdeal.main (F := Ideal))) ⟨m, fun _ => 0, g⟩ (fun r => (∀ c : Dev Cert.GmiOwnIdeal.nD,
      r.2.mem ((c.tc : Thread Cert.GmiOwnIdeal.nD Cert.GmiOwnIdeal.τ).loc Cert.GmiOwnIdeal.main_arg0) = m ((c.tc : Thread Cert.GmiOwnIdeal.nD Cert.GmiOwnIdeal.τ).loc Cert.GmiOwnIdeal.main_arg0)
      ∧ r.2.mem ((c.tc : Thread Cert.GmiOwnIdeal.nD Cert.GmiOwnIdeal.τ).loc Cert.GmiOwnIdeal.main_arg1) = m ((c.tc : Thread Cert.GmiOwnIdeal.nD Cert.GmiOwnIdeal.τ).loc Cert.GmiOwnIdeal.main_arg1)
      ∧ r.2.mem ((c.tc : Thread Cert.GmiOwnIdeal.nD Cert.GmiOwnIdeal.τ).loc Cert.GmiOwnIdeal.main_arg2) = m ((c.tc : Thread Cert.GmiOwnIdeal.nD Cert.GmiOwnIdeal.τ).loc Cert.GmiOwnIdeal.main_arg2))
      ∧ r.2.sem = fun _ => 0)

def quiescent_GmiOwnRefIdeal [hGmiOwnRefIdeal : Cert.GmiOwnRefIdeal.Facts] : Prop :=
  ∀ (m : (ℓ : Loc Cert.GmiOwnRefIdeal.nD Cert.GmiOwnRefIdeal.τ Cert.GmiOwnRefIdeal.sig) → Buf (Elt Ideal) ℓ) (g : Dev Cert.GmiOwnRefIdeal.nD → PrngReg), Pre_GmiOwnRefIdeal m →
    θ_run (Cert.GmiOwnRefIdeal.defs (F := Ideal)) (onTc (τ := Cert.GmiOwnRefIdeal.τ) (Cert.GmiOwnRefIdeal.main (F := Ideal))) ⟨m, fun _ => 0, g⟩ (fun r => (∀ c : Dev Cert.GmiOwnRefIdeal.nD,
      r.2.mem ((c.tc : Thread Cert.GmiOwnRefIdeal.nD Cert.GmiOwnRefIdeal.τ).loc Cert.GmiOwnRefIdeal.main_arg0) = m ((c.tc : Thread Cert.GmiOwnRefIdeal.nD Cert.GmiOwnRefIdeal.τ).loc Cert.GmiOwnRefIdeal.main_arg0)
      ∧ r.2.mem ((c.tc : Thread Cert.GmiOwnRefIdeal.nD Cert.GmiOwnRefIdeal.τ).loc Cert.GmiOwnRefIdeal.main_arg1) = m ((c.tc : Thread Cert.GmiOwnRefIdeal.nD Cert.GmiOwnRefIdeal.τ).loc Cert.GmiOwnRefIdeal.main_arg1)
      ∧ r.2.mem ((c.tc : Thread Cert.GmiOwnRefIdeal.nD Cert.GmiOwnRefIdeal.τ).loc Cert.GmiOwnRefIdeal.main_arg2) = m ((c.tc : Thread Cert.GmiOwnRefIdeal.nD Cert.GmiOwnRefIdeal.τ).loc Cert.GmiOwnRefIdeal.main_arg2))
      ∧ r.2.sem = fun _ => 0)

def quiescent_GinSend [hGinSend : Cert.GinSend.Facts] : Prop :=
  ∀ (m : (ℓ : Loc Cert.GinSend.nD Cert.GinSend.τ Cert.GinSend.sig) → Buf (Elt Bits) ℓ) (g : Dev Cert.GinSend.nD → PrngReg), Pre_GinSend m →
    θ_run (Cert.GinSend.defs (F := Bits)) (onTc (τ := Cert.GinSend.τ) (Cert.GinSend.main (F := Bits))) ⟨m, fun _ => 0, g⟩ (fun r => (∀ c : Dev Cert.GinSend.nD,
      r.2.mem ((c.tc : Thread Cert.GinSend.nD Cert.GinSend.τ).loc Cert.GinSend.main_arg0) = m ((c.tc : Thread Cert.GinSend.nD Cert.GinSend.τ).loc Cert.GinSend.main_arg0)
      ∧ r.2.mem ((c.tc : Thread Cert.GinSend.nD Cert.GinSend.τ).loc Cert.GinSend.main_arg1) = m ((c.tc : Thread Cert.GinSend.nD Cert.GinSend.τ).loc Cert.GinSend.main_arg1))
      ∧ r.2.sem = fun _ => 0)

def quiescent_GinSendIdeal [hGinSendIdeal : Cert.GinSendIdeal.Facts] : Prop :=
  ∀ (m : (ℓ : Loc Cert.GinSendIdeal.nD Cert.GinSendIdeal.τ Cert.GinSendIdeal.sig) → Buf (Elt Ideal) ℓ) (g : Dev Cert.GinSendIdeal.nD → PrngReg), Pre_GinSendIdeal m →
    θ_run (Cert.GinSendIdeal.defs (F := Ideal)) (onTc (τ := Cert.GinSendIdeal.τ) (Cert.GinSendIdeal.main (F := Ideal))) ⟨m, fun _ => 0, g⟩ (fun r => (∀ c : Dev Cert.GinSendIdeal.nD,
      r.2.mem ((c.tc : Thread Cert.GinSendIdeal.nD Cert.GinSendIdeal.τ).loc Cert.GinSendIdeal.main_arg0) = m ((c.tc : Thread Cert.GinSendIdeal.nD Cert.GinSendIdeal.τ).loc Cert.GinSendIdeal.main_arg0)
      ∧ r.2.mem ((c.tc : Thread Cert.GinSendIdeal.nD Cert.GinSendIdeal.τ).loc Cert.GinSendIdeal.main_arg1) = m ((c.tc : Thread Cert.GinSendIdeal.nD Cert.GinSendIdeal.τ).loc Cert.GinSendIdeal.main_arg1))
      ∧ r.2.sem = fun _ => 0)

def quiescent_GinSendRefIdeal [hGinSendRefIdeal : Cert.GinSendRefIdeal.Facts] : Prop :=
  ∀ (m : (ℓ : Loc Cert.GinSendRefIdeal.nD Cert.GinSendRefIdeal.τ Cert.GinSendRefIdeal.sig) → Buf (Elt Ideal) ℓ) (g : Dev Cert.GinSendRefIdeal.nD → PrngReg), Pre_GinSendRefIdeal m →
    θ_run (Cert.GinSendRefIdeal.defs (F := Ideal)) (onTc (τ := Cert.GinSendRefIdeal.τ) (Cert.GinSendRefIdeal.main (F := Ideal))) ⟨m, fun _ => 0, g⟩ (fun r => (∀ c : Dev Cert.GinSendRefIdeal.nD,
      r.2.mem ((c.tc : Thread Cert.GinSendRefIdeal.nD Cert.GinSendRefIdeal.τ).loc Cert.GinSendRefIdeal.main_arg0) = m ((c.tc : Thread Cert.GinSendRefIdeal.nD Cert.GinSendRefIdeal.τ).loc Cert.GinSendRefIdeal.main_arg0)
      ∧ r.2.mem ((c.tc : Thread Cert.GinSendRefIdeal.nD Cert.GinSendRefIdeal.τ).loc Cert.GinSendRefIdeal.main_arg1) = m ((c.tc : Thread Cert.GinSendRefIdeal.nD Cert.GinSendRefIdeal.τ).loc Cert.GinSendRefIdeal.main_arg1))
      ∧ r.2.sem = fun _ => 0)

def quiescent_GinOwn [hGinOwn : Cert.GinOwn.Facts] : Prop :=
  ∀ (m : (ℓ : Loc Cert.GinOwn.nD Cert.GinOwn.τ Cert.GinOwn.sig) → Buf (Elt Bits) ℓ) (g : Dev Cert.GinOwn.nD → PrngReg), Pre_GinOwn m →
    θ_run (Cert.GinOwn.defs (F := Bits)) (onTc (τ := Cert.GinOwn.τ) (Cert.GinOwn.main (F := Bits))) ⟨m, fun _ => 0, g⟩ (fun r => (∀ c : Dev Cert.GinOwn.nD,
      r.2.mem ((c.tc : Thread Cert.GinOwn.nD Cert.GinOwn.τ).loc Cert.GinOwn.main_arg0) = m ((c.tc : Thread Cert.GinOwn.nD Cert.GinOwn.τ).loc Cert.GinOwn.main_arg0)
      ∧ r.2.mem ((c.tc : Thread Cert.GinOwn.nD Cert.GinOwn.τ).loc Cert.GinOwn.main_arg1) = m ((c.tc : Thread Cert.GinOwn.nD Cert.GinOwn.τ).loc Cert.GinOwn.main_arg1))
      ∧ r.2.sem = fun _ => 0)

def quiescent_GinOwnIdeal [hGinOwnIdeal : Cert.GinOwnIdeal.Facts] : Prop :=
  ∀ (m : (ℓ : Loc Cert.GinOwnIdeal.nD Cert.GinOwnIdeal.τ Cert.GinOwnIdeal.sig) → Buf (Elt Ideal) ℓ) (g : Dev Cert.GinOwnIdeal.nD → PrngReg), Pre_GinOwnIdeal m →
    θ_run (Cert.GinOwnIdeal.defs (F := Ideal)) (onTc (τ := Cert.GinOwnIdeal.τ) (Cert.GinOwnIdeal.main (F := Ideal))) ⟨m, fun _ => 0, g⟩ (fun r => (∀ c : Dev Cert.GinOwnIdeal.nD,
      r.2.mem ((c.tc : Thread Cert.GinOwnIdeal.nD Cert.GinOwnIdeal.τ).loc Cert.GinOwnIdeal.main_arg0) = m ((c.tc : Thread Cert.GinOwnIdeal.nD Cert.GinOwnIdeal.τ).loc Cert.GinOwnIdeal.main_arg0)
      ∧ r.2.mem ((c.tc : Thread Cert.GinOwnIdeal.nD Cert.GinOwnIdeal.τ).loc Cert.GinOwnIdeal.main_arg1) = m ((c.tc : Thread Cert.GinOwnIdeal.nD Cert.GinOwnIdeal.τ).loc Cert.GinOwnIdeal.main_arg1))
      ∧ r.2.sem = fun _ => 0)

def quiescent_GinOwnRefIdeal [hGinOwnRefIdeal : Cert.GinOwnRefIdeal.Facts] : Prop :=
  ∀ (m : (ℓ : Loc Cert.GinOwnRefIdeal.nD Cert.GinOwnRefIdeal.τ Cert.GinOwnRefIdeal.sig) → Buf (Elt Ideal) ℓ) (g : Dev Cert.GinOwnRefIdeal.nD → PrngReg), Pre_GinOwnRefIdeal m →
    θ_run (Cert.GinOwnRefIdeal.defs (F := Ideal)) (onTc (τ := Cert.GinOwnRefIdeal.τ) (Cert.GinOwnRefIdeal.main (F := Ideal))) ⟨m, fun _ => 0, g⟩ (fun r => (∀ c : Dev Cert.GinOwnRefIdeal.nD,
      r.2.mem ((c.tc : Thread Cert.GinOwnRefIdeal.nD Cert.GinOwnRefIdeal.τ).loc Cert.GinOwnRefIdeal.main_arg0) = m ((c.tc : Thread Cert.GinOwnRefIdeal.nD Cert.GinOwnRefIdeal.τ).loc Cert.GinOwnRefIdeal.main_arg0)
      ∧ r.2.mem ((c.tc : Thread Cert.GinOwnRefIdeal.nD Cert.GinOwnRefIdeal.τ).loc Cert.GinOwnRefIdeal.main_arg1) = m ((c.tc : Thread Cert.GinOwnRefIdeal.nD Cert.GinOwnRefIdeal.τ).loc Cert.GinOwnRefIdeal.main_arg1))
      ∧ r.2.sem = fun _ => 0)

def quiescent_Bra [hBra : Cert.Bra.Facts] : Prop :=
  ∀ (m : (ℓ : Loc Cert.Bra.nD Cert.Bra.τ Cert.Bra.sig) → Buf (Elt Bits) ℓ) (g : Dev Cert.Bra.nD → PrngReg), Pre_Bra m →
    θ_run (Cert.Bra.defs (F := Bits)) (onTc (τ := Cert.Bra.τ) (Cert.Bra.main (F := Bits))) ⟨m, fun _ => 0, g⟩ (fun r => (∀ c : Dev Cert.Bra.nD,
      r.2.mem ((c.tc : Thread Cert.Bra.nD Cert.Bra.τ).loc Cert.Bra.main_arg0) = m ((c.tc : Thread Cert.Bra.nD Cert.Bra.τ).loc Cert.Bra.main_arg0)
      ∧ r.2.mem ((c.tc : Thread Cert.Bra.nD Cert.Bra.τ).loc Cert.Bra.main_arg1) = m ((c.tc : Thread Cert.Bra.nD Cert.Bra.τ).loc Cert.Bra.main_arg1))
      ∧ r.2.sem = fun _ => 0)

def quiescent_BraIdeal [hBraIdeal : Cert.BraIdeal.Facts] : Prop :=
  ∀ (m : (ℓ : Loc Cert.BraIdeal.nD Cert.BraIdeal.τ Cert.BraIdeal.sig) → Buf (Elt Ideal) ℓ) (g : Dev Cert.BraIdeal.nD → PrngReg), Pre_BraIdeal m →
    θ_run (Cert.BraIdeal.defs (F := Ideal)) (onTc (τ := Cert.BraIdeal.τ) (Cert.BraIdeal.main (F := Ideal))) ⟨m, fun _ => 0, g⟩ (fun r => (∀ c : Dev Cert.BraIdeal.nD,
      r.2.mem ((c.tc : Thread Cert.BraIdeal.nD Cert.BraIdeal.τ).loc Cert.BraIdeal.main_arg0) = m ((c.tc : Thread Cert.BraIdeal.nD Cert.BraIdeal.τ).loc Cert.BraIdeal.main_arg0)
      ∧ r.2.mem ((c.tc : Thread Cert.BraIdeal.nD Cert.BraIdeal.τ).loc Cert.BraIdeal.main_arg1) = m ((c.tc : Thread Cert.BraIdeal.nD Cert.BraIdeal.τ).loc Cert.BraIdeal.main_arg1))
      ∧ r.2.sem = fun _ => 0)

def quiescent_BraRefIdeal [hBraRefIdeal : Cert.BraRefIdeal.Facts] : Prop :=
  ∀ (m : (ℓ : Loc Cert.BraRefIdeal.nD Cert.BraRefIdeal.τ Cert.BraRefIdeal.sig) → Buf (Elt Ideal) ℓ) (g : Dev Cert.BraRefIdeal.nD → PrngReg), Pre_BraRefIdeal m →
    θ_run (Cert.BraRefIdeal.defs (F := Ideal)) (onTc (τ := Cert.BraRefIdeal.τ) (Cert.BraRefIdeal.main (F := Ideal))) ⟨m, fun _ => 0, g⟩ (fun r => (∀ c : Dev Cert.BraRefIdeal.nD,
      r.2.mem ((c.tc : Thread Cert.BraRefIdeal.nD Cert.BraRefIdeal.τ).loc Cert.BraRefIdeal.main_arg0) = m ((c.tc : Thread Cert.BraRefIdeal.nD Cert.BraRefIdeal.τ).loc Cert.BraRefIdeal.main_arg0)
      ∧ r.2.mem ((c.tc : Thread Cert.BraRefIdeal.nD Cert.BraRefIdeal.τ).loc Cert.BraRefIdeal.main_arg1) = m ((c.tc : Thread Cert.BraRefIdeal.nD Cert.BraRefIdeal.τ).loc Cert.BraRefIdeal.main_arg1))
      ∧ r.2.sem = fun _ => 0)

def quiescent_Dob [hDob : Cert.Dob.Facts] : Prop :=
  ∀ (m : (ℓ : Loc Cert.Dob.nD Cert.Dob.τ Cert.Dob.sig) → Buf (Elt Bits) ℓ) (g : Dev Cert.Dob.nD → PrngReg), Pre_Dob m →
    θ_run (Cert.Dob.defs (F := Bits)) (onTc (τ := Cert.Dob.τ) (Cert.Dob.main (F := Bits))) ⟨m, fun _ => 0, g⟩ (fun r => (∀ c : Dev Cert.Dob.nD,
      r.2.mem ((c.tc : Thread Cert.Dob.nD Cert.Dob.τ).loc Cert.Dob.main_arg0) = m ((c.tc : Thread Cert.Dob.nD Cert.Dob.τ).loc Cert.Dob.main_arg0)
      ∧ r.2.mem ((c.tc : Thread Cert.Dob.nD Cert.Dob.τ).loc Cert.Dob.main_arg1) = m ((c.tc : Thread Cert.Dob.nD Cert.Dob.τ).loc Cert.Dob.main_arg1))
      ∧ r.2.sem = fun _ => 0)

def quiescent_DobIdeal [hDobIdeal : Cert.DobIdeal.Facts] : Prop :=
  ∀ (m : (ℓ : Loc Cert.DobIdeal.nD Cert.DobIdeal.τ Cert.DobIdeal.sig) → Buf (Elt Ideal) ℓ) (g : Dev Cert.DobIdeal.nD → PrngReg), Pre_DobIdeal m →
    θ_run (Cert.DobIdeal.defs (F := Ideal)) (onTc (τ := Cert.DobIdeal.τ) (Cert.DobIdeal.main (F := Ideal))) ⟨m, fun _ => 0, g⟩ (fun r => (∀ c : Dev Cert.DobIdeal.nD,
      r.2.mem ((c.tc : Thread Cert.DobIdeal.nD Cert.DobIdeal.τ).loc Cert.DobIdeal.main_arg0) = m ((c.tc : Thread Cert.DobIdeal.nD Cert.DobIdeal.τ).loc Cert.DobIdeal.main_arg0)
      ∧ r.2.mem ((c.tc : Thread Cert.DobIdeal.nD Cert.DobIdeal.τ).loc Cert.DobIdeal.main_arg1) = m ((c.tc : Thread Cert.DobIdeal.nD Cert.DobIdeal.τ).loc Cert.DobIdeal.main_arg1))
      ∧ r.2.sem = fun _ => 0)

def quiescent_DobRefIdeal [hDobRefIdeal : Cert.DobRefIdeal.Facts] : Prop :=
  ∀ (m : (ℓ : Loc Cert.DobRefIdeal.nD Cert.DobRefIdeal.τ Cert.DobRefIdeal.sig) → Buf (Elt Ideal) ℓ) (g : Dev Cert.DobRefIdeal.nD → PrngReg), Pre_DobRefIdeal m →
    θ_run (Cert.DobRefIdeal.defs (F := Ideal)) (onTc (τ := Cert.DobRefIdeal.τ) (Cert.DobRefIdeal.main (F := Ideal))) ⟨m, fun _ => 0, g⟩ (fun r => (∀ c : Dev Cert.DobRefIdeal.nD,
      r.2.mem ((c.tc : Thread Cert.DobRefIdeal.nD Cert.DobRefIdeal.τ).loc Cert.DobRefIdeal.main_arg0) = m ((c.tc : Thread Cert.DobRefIdeal.nD Cert.DobRefIdeal.τ).loc Cert.DobRefIdeal.main_arg0)
      ∧ r.2.mem ((c.tc : Thread Cert.DobRefIdeal.nD Cert.DobRefIdeal.τ).loc Cert.DobRefIdeal.main_arg1) = m ((c.tc : Thread Cert.DobRefIdeal.nD Cert.DobRefIdeal.τ).loc Cert.DobRefIdeal.main_arg1))
      ∧ r.2.sem = fun _ => 0)

def quiescent_Gab [hGab : Cert.Gab.Facts] : Prop :=
  ∀ (m : (ℓ : Loc Cert.Gab.nD Cert.Gab.τ Cert.Gab.sig) → Buf (Elt Bits) ℓ) (g : Dev Cert.Gab.nD → PrngReg), Pre_Gab m →
    θ_run (Cert.Gab.defs (F := Bits)) (onTc (τ := Cert.Gab.τ) (Cert.Gab.main (F := Bits))) ⟨m, fun _ => 0, g⟩ (fun r => (∀ c : Dev Cert.Gab.nD,
      r.2.mem ((c.tc : Thread Cert.Gab.nD Cert.Gab.τ).loc Cert.Gab.main_arg0) = m ((c.tc : Thread Cert.Gab.nD Cert.Gab.τ).loc Cert.Gab.main_arg0)
      ∧ r.2.mem ((c.tc : Thread Cert.Gab.nD Cert.Gab.τ).loc Cert.Gab.main_arg1) = m ((c.tc : Thread Cert.Gab.nD Cert.Gab.τ).loc Cert.Gab.main_arg1))
      ∧ r.2.sem = fun _ => 0)

def quiescent_GabIdeal [hGabIdeal : Cert.GabIdeal.Facts] : Prop :=
  ∀ (m : (ℓ : Loc Cert.GabIdeal.nD Cert.GabIdeal.τ Cert.GabIdeal.sig) → Buf (Elt Ideal) ℓ) (g : Dev Cert.GabIdeal.nD → PrngReg), Pre_GabIdeal m →
    θ_run (Cert.GabIdeal.defs (F := Ideal)) (onTc (τ := Cert.GabIdeal.τ) (Cert.GabIdeal.main (F := Ideal))) ⟨m, fun _ => 0, g⟩ (fun r => (∀ c : Dev Cert.GabIdeal.nD,
      r.2.mem ((c.tc : Thread Cert.GabIdeal.nD Cert.GabIdeal.τ).loc Cert.GabIdeal.main_arg0) = m ((c.tc : Thread Cert.GabIdeal.nD Cert.GabIdeal.τ).loc Cert.GabIdeal.main_arg0)
      ∧ r.2.mem ((c.tc : Thread Cert.GabIdeal.nD Cert.GabIdeal.τ).loc Cert.GabIdeal.main_arg1) = m ((c.tc : Thread Cert.GabIdeal.nD Cert.GabIdeal.τ).loc Cert.GabIdeal.main_arg1))
      ∧ r.2.sem = fun _ => 0)

def quiescent_GabRefIdeal [hGabRefIdeal : Cert.GabRefIdeal.Facts] : Prop :=
  ∀ (m : (ℓ : Loc Cert.GabRefIdeal.nD Cert.GabRefIdeal.τ Cert.GabRefIdeal.sig) → Buf (Elt Ideal) ℓ) (g : Dev Cert.GabRefIdeal.nD → PrngReg), Pre_GabRefIdeal m →
    θ_run (Cert.GabRefIdeal.defs (F := Ideal)) (onTc (τ := Cert.GabRefIdeal.τ) (Cert.GabRefIdeal.main (F := Ideal))) ⟨m, fun _ => 0, g⟩ (fun r => (∀ c : Dev Cert.GabRefIdeal.nD,
      r.2.mem ((c.tc : Thread Cert.GabRefIdeal.nD Cert.GabRefIdeal.τ).loc Cert.GabRefIdeal.main_arg0) = m ((c.tc : Thread Cert.GabRefIdeal.nD Cert.GabRefIdeal.τ).loc Cert.GabRefIdeal.main_arg0)
      ∧ r.2.mem ((c.tc : Thread Cert.GabRefIdeal.nD Cert.GabRefIdeal.τ).loc Cert.GabRefIdeal.main_arg1) = m ((c.tc : Thread Cert.GabRefIdeal.nD Cert.GabRefIdeal.τ).loc Cert.GabRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Mrg [hMrg : Cert.Mrg.Facts] : Prop :=
  ∀ (m : (ℓ : Loc Cert.Mrg.nD Cert.Mrg.τ Cert.Mrg.sig) → Buf (Elt Bits) ℓ) (g : Dev Cert.Mrg.nD → PrngReg), Pre_Mrg m →
    θ_run (Cert.Mrg.defs (F := Bits)) (onTc (τ := Cert.Mrg.τ) (Cert.Mrg.main (F := Bits))) ⟨m, fun _ => 0, g⟩ (fun r => (∀ c : Dev Cert.Mrg.nD,
      r.2.mem ((c.tc : Thread Cert.Mrg.nD Cert.Mrg.τ).loc Cert.Mrg.main_arg0) = m ((c.tc : Thread Cert.Mrg.nD Cert.Mrg.τ).loc Cert.Mrg.main_arg0)
      ∧ r.2.mem ((c.tc : Thread Cert.Mrg.nD Cert.Mrg.τ).loc Cert.Mrg.main_arg1) = m ((c.tc : Thread Cert.Mrg.nD Cert.Mrg.τ).loc Cert.Mrg.main_arg1)
      ∧ r.2.mem ((c.tc : Thread Cert.Mrg.nD Cert.Mrg.τ).loc Cert.Mrg.main_arg2) = m ((c.tc : Thread Cert.Mrg.nD Cert.Mrg.τ).loc Cert.Mrg.main_arg2)
      ∧ r.2.mem ((c.tc : Thread Cert.Mrg.nD Cert.Mrg.τ).loc Cert.Mrg.main_arg3) = m ((c.tc : Thread Cert.Mrg.nD Cert.Mrg.τ).loc Cert.Mrg.main_arg3))
      ∧ r.2.sem = fun _ => 0)

def quiescent_MrgIdeal [hMrgIdeal : Cert.MrgIdeal.Facts] : Prop :=
  ∀ (m : (ℓ : Loc Cert.MrgIdeal.nD Cert.MrgIdeal.τ Cert.MrgIdeal.sig) → Buf (Elt Ideal) ℓ) (g : Dev Cert.MrgIdeal.nD → PrngReg), Pre_MrgIdeal m →
    θ_run (Cert.MrgIdeal.defs (F := Ideal)) (onTc (τ := Cert.MrgIdeal.τ) (Cert.MrgIdeal.main (F := Ideal))) ⟨m, fun _ => 0, g⟩ (fun r => (∀ c : Dev Cert.MrgIdeal.nD,
      r.2.mem ((c.tc : Thread Cert.MrgIdeal.nD Cert.MrgIdeal.τ).loc Cert.MrgIdeal.main_arg0) = m ((c.tc : Thread Cert.MrgIdeal.nD Cert.MrgIdeal.τ).loc Cert.MrgIdeal.main_arg0)
      ∧ r.2.mem ((c.tc : Thread Cert.MrgIdeal.nD Cert.MrgIdeal.τ).loc Cert.MrgIdeal.main_arg1) = m ((c.tc : Thread Cert.MrgIdeal.nD Cert.MrgIdeal.τ).loc Cert.MrgIdeal.main_arg1)
      ∧ r.2.mem ((c.tc : Thread Cert.MrgIdeal.nD Cert.MrgIdeal.τ).loc Cert.MrgIdeal.main_arg2) = m ((c.tc : Thread Cert.MrgIdeal.nD Cert.MrgIdeal.τ).loc Cert.MrgIdeal.main_arg2)
      ∧ r.2.mem ((c.tc : Thread Cert.MrgIdeal.nD Cert.MrgIdeal.τ).loc Cert.MrgIdeal.main_arg3) = m ((c.tc : Thread Cert.MrgIdeal.nD Cert.MrgIdeal.τ).loc Cert.MrgIdeal.main_arg3))
      ∧ r.2.sem = fun _ => 0)

def quiescent_MrgRefIdeal [hMrgRefIdeal : Cert.MrgRefIdeal.Facts] : Prop :=
  ∀ (m : (ℓ : Loc Cert.MrgRefIdeal.nD Cert.MrgRefIdeal.τ Cert.MrgRefIdeal.sig) → Buf (Elt Ideal) ℓ) (g : Dev Cert.MrgRefIdeal.nD → PrngReg), Pre_MrgRefIdeal m →
    θ_run (Cert.MrgRefIdeal.defs (F := Ideal)) (onTc (τ := Cert.MrgRefIdeal.τ) (Cert.MrgRefIdeal.main (F := Ideal))) ⟨m, fun _ => 0, g⟩ (fun r => (∀ c : Dev Cert.MrgRefIdeal.nD,
      r.2.mem ((c.tc : Thread Cert.MrgRefIdeal.nD Cert.MrgRefIdeal.τ).loc Cert.MrgRefIdeal.main_arg0) = m ((c.tc : Thread Cert.MrgRefIdeal.nD Cert.MrgRefIdeal.τ).loc Cert.MrgRefIdeal.main_arg0)
      ∧ r.2.mem ((c.tc : Thread Cert.MrgRefIdeal.nD Cert.MrgRefIdeal.τ).loc Cert.MrgRefIdeal.main_arg1) = m ((c.tc : Thread Cert.MrgRefIdeal.nD Cert.MrgRefIdeal.τ).loc Cert.MrgRefIdeal.main_arg1)
      ∧ r.2.mem ((c.tc : Thread Cert.MrgRefIdeal.nD Cert.MrgRefIdeal.τ).loc Cert.MrgRefIdeal.main_arg2) = m ((c.tc : Thread Cert.MrgRefIdeal.nD Cert.MrgRefIdeal.τ).loc Cert.MrgRefIdeal.main_arg2)
      ∧ r.2.mem ((c.tc : Thread Cert.MrgRefIdeal.nD Cert.MrgRefIdeal.τ).loc Cert.MrgRefIdeal.main_arg3) = m ((c.tc : Thread Cert.MrgRefIdeal.nD Cert.MrgRefIdeal.τ).loc Cert.MrgRefIdeal.main_arg3))
      ∧ r.2.sem = fun _ => 0)

def quiescent_Dmg [hDmg : Cert.Dmg.Facts] : Prop :=
  ∀ (m : (ℓ : Loc Cert.Dmg.nD Cert.Dmg.τ Cert.Dmg.sig) → Buf (Elt Bits) ℓ) (g : Dev Cert.Dmg.nD → PrngReg), Pre_Dmg m →
    θ_run (Cert.Dmg.defs (F := Bits)) (onTc (τ := Cert.Dmg.τ) (Cert.Dmg.main (F := Bits))) ⟨m, fun _ => 0, g⟩ (fun r => (∀ c : Dev Cert.Dmg.nD,
      r.2.mem ((c.tc : Thread Cert.Dmg.nD Cert.Dmg.τ).loc Cert.Dmg.main_arg0) = m ((c.tc : Thread Cert.Dmg.nD Cert.Dmg.τ).loc Cert.Dmg.main_arg0)
      ∧ r.2.mem ((c.tc : Thread Cert.Dmg.nD Cert.Dmg.τ).loc Cert.Dmg.main_arg1) = m ((c.tc : Thread Cert.Dmg.nD Cert.Dmg.τ).loc Cert.Dmg.main_arg1)
      ∧ r.2.mem ((c.tc : Thread Cert.Dmg.nD Cert.Dmg.τ).loc Cert.Dmg.main_arg2) = m ((c.tc : Thread Cert.Dmg.nD Cert.Dmg.τ).loc Cert.Dmg.main_arg2)
      ∧ r.2.mem ((c.tc : Thread Cert.Dmg.nD Cert.Dmg.τ).loc Cert.Dmg.main_arg3) = m ((c.tc : Thread Cert.Dmg.nD Cert.Dmg.τ).loc Cert.Dmg.main_arg3)
      ∧ r.2.mem ((c.tc : Thread Cert.Dmg.nD Cert.Dmg.τ).loc Cert.Dmg.main_arg4) = m ((c.tc : Thread Cert.Dmg.nD Cert.Dmg.τ).loc Cert.Dmg.main_arg4))
      ∧ r.2.sem = fun _ => 0)

def quiescent_DmgIdeal [hDmgIdeal : Cert.DmgIdeal.Facts] : Prop :=
  ∀ (m : (ℓ : Loc Cert.DmgIdeal.nD Cert.DmgIdeal.τ Cert.DmgIdeal.sig) → Buf (Elt Ideal) ℓ) (g : Dev Cert.DmgIdeal.nD → PrngReg), Pre_DmgIdeal m →
    θ_run (Cert.DmgIdeal.defs (F := Ideal)) (onTc (τ := Cert.DmgIdeal.τ) (Cert.DmgIdeal.main (F := Ideal))) ⟨m, fun _ => 0, g⟩ (fun r => (∀ c : Dev Cert.DmgIdeal.nD,
      r.2.mem ((c.tc : Thread Cert.DmgIdeal.nD Cert.DmgIdeal.τ).loc Cert.DmgIdeal.main_arg0) = m ((c.tc : Thread Cert.DmgIdeal.nD Cert.DmgIdeal.τ).loc Cert.DmgIdeal.main_arg0)
      ∧ r.2.mem ((c.tc : Thread Cert.DmgIdeal.nD Cert.DmgIdeal.τ).loc Cert.DmgIdeal.main_arg1) = m ((c.tc : Thread Cert.DmgIdeal.nD Cert.DmgIdeal.τ).loc Cert.DmgIdeal.main_arg1)
      ∧ r.2.mem ((c.tc : Thread Cert.DmgIdeal.nD Cert.DmgIdeal.τ).loc Cert.DmgIdeal.main_arg2) = m ((c.tc : Thread Cert.DmgIdeal.nD Cert.DmgIdeal.τ).loc Cert.DmgIdeal.main_arg2)
      ∧ r.2.mem ((c.tc : Thread Cert.DmgIdeal.nD Cert.DmgIdeal.τ).loc Cert.DmgIdeal.main_arg3) = m ((c.tc : Thread Cert.DmgIdeal.nD Cert.DmgIdeal.τ).loc Cert.DmgIdeal.main_arg3)
      ∧ r.2.mem ((c.tc : Thread Cert.DmgIdeal.nD Cert.DmgIdeal.τ).loc Cert.DmgIdeal.main_arg4) = m ((c.tc : Thread Cert.DmgIdeal.nD Cert.DmgIdeal.τ).loc Cert.DmgIdeal.main_arg4))
      ∧ r.2.sem = fun _ => 0)

def quiescent_DmgRefIdeal [hDmgRefIdeal : Cert.DmgRefIdeal.Facts] : Prop :=
  ∀ (m : (ℓ : Loc Cert.DmgRefIdeal.nD Cert.DmgRefIdeal.τ Cert.DmgRefIdeal.sig) → Buf (Elt Ideal) ℓ) (g : Dev Cert.DmgRefIdeal.nD → PrngReg), Pre_DmgRefIdeal m →
    θ_run (Cert.DmgRefIdeal.defs (F := Ideal)) (onTc (τ := Cert.DmgRefIdeal.τ) (Cert.DmgRefIdeal.main (F := Ideal))) ⟨m, fun _ => 0, g⟩ (fun r => (∀ c : Dev Cert.DmgRefIdeal.nD,
      r.2.mem ((c.tc : Thread Cert.DmgRefIdeal.nD Cert.DmgRefIdeal.τ).loc Cert.DmgRefIdeal.main_arg0) = m ((c.tc : Thread Cert.DmgRefIdeal.nD Cert.DmgRefIdeal.τ).loc Cert.DmgRefIdeal.main_arg0)
      ∧ r.2.mem ((c.tc : Thread Cert.DmgRefIdeal.nD Cert.DmgRefIdeal.τ).loc Cert.DmgRefIdeal.main_arg1) = m ((c.tc : Thread Cert.DmgRefIdeal.nD Cert.DmgRefIdeal.τ).loc Cert.DmgRefIdeal.main_arg1)
      ∧ r.2.mem ((c.tc : Thread Cert.DmgRefIdeal.nD Cert.DmgRefIdeal.τ).loc Cert.DmgRefIdeal.main_arg2) = m ((c.tc : Thread Cert.DmgRefIdeal.nD Cert.DmgRefIdeal.τ).loc Cert.DmgRefIdeal.main_arg2)
      ∧ r.2.mem ((c.tc : Thread Cert.DmgRefIdeal.nD Cert.DmgRefIdeal.τ).loc Cert.DmgRefIdeal.main_arg3) = m ((c.tc : Thread Cert.DmgRefIdeal.nD Cert.DmgRefIdeal.τ).loc Cert.DmgRefIdeal.main_arg3)
      ∧ r.2.mem ((c.tc : Thread Cert.DmgRefIdeal.nD Cert.DmgRefIdeal.τ).loc Cert.DmgRefIdeal.main_arg4) = m ((c.tc : Thread Cert.DmgRefIdeal.nD Cert.DmgRefIdeal.τ).loc Cert.DmgRefIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v233) = v0 c
          ∧ r.2.mem ((c.tc : Thread Cert.ReferenceIdeal.nD Cert.ReferenceIdeal.τ).loc Cert.ReferenceIdeal.main_v234) = v1 c
          ∧ r.2.mem ((c.tc : Thread Cert.ReferenceIdeal.nD Cert.ReferenceIdeal.τ).loc Cert.ReferenceIdeal.main_v231) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v14) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def preserves_Hid_HidIdeal : Prop :=
  True

def algebraic_HidIdeal_HidRefIdeal [hHidIdeal : Cert.HidIdeal.Facts] [hHidRefIdeal : Cert.HidRefIdeal.Facts] : Prop :=
  ∀ (m : (ℓ : Loc Cert.HidIdeal.nD Cert.HidIdeal.τ Cert.HidIdeal.sig) → Buf (Elt Ideal) ℓ) (g : Dev Cert.HidIdeal.nD → PrngReg)
    (m' : (ℓ : Loc Cert.HidRefIdeal.nD Cert.HidRefIdeal.τ Cert.HidRefIdeal.sig) → Buf (Elt Ideal) ℓ) (g' : Dev Cert.HidRefIdeal.nD → PrngReg), Pre_HidIdeal m →
    (∀ c : Dev Cert.HidIdeal.nD,
      m' ((c.tc : Thread Cert.HidRefIdeal.nD Cert.HidRefIdeal.τ).loc Cert.HidRefIdeal.main_arg0) = m ((c.tc : Thread Cert.HidIdeal.nD Cert.HidIdeal.τ).loc Cert.HidIdeal.main_arg0)
      ∧ m' ((c.tc : Thread Cert.HidRefIdeal.nD Cert.HidRefIdeal.τ).loc Cert.HidRefIdeal.main_arg1) = m ((c.tc : Thread Cert.HidIdeal.nD Cert.HidIdeal.τ).loc Cert.HidIdeal.main_arg1)) →
    ∃ (v0 : (c : Dev Cert.HidIdeal.nD) → Buf (Elt Ideal) ((c.tc : Thread Cert.HidIdeal.nD Cert.HidIdeal.τ).loc Cert.HidIdeal.main_v0)),
      θ_run (Cert.HidIdeal.defs (F := Ideal)) (onTc (τ := Cert.HidIdeal.τ) (Cert.HidIdeal.main (F := Ideal))) ⟨m, fun _ => 0, g⟩ (fun r => ∀ c : Dev Cert.HidIdeal.nD,
          r.2.mem ((c.tc : Thread Cert.HidIdeal.nD Cert.HidIdeal.τ).loc Cert.HidIdeal.main_v0) = v0 c
          ∧ r.2.mem ((c.tc : Thread Cert.HidIdeal.nD Cert.HidIdeal.τ).loc Cert.HidIdeal.main_arg0) = m ((c.tc : Thread Cert.HidIdeal.nD Cert.HidIdeal.τ).loc Cert.HidIdeal.main_arg0)
          ∧ r.2.mem ((c.tc : Thread Cert.HidIdeal.nD Cert.HidIdeal.τ).loc Cert.HidIdeal.main_arg1) = m ((c.tc : Thread Cert.HidIdeal.nD Cert.HidIdeal.τ).loc Cert.HidIdeal.main_arg1))
      ∧ θ_run (Cert.HidRefIdeal.defs (F := Ideal)) (onTc (τ := Cert.HidRefIdeal.τ) (Cert.HidRefIdeal.main (F := Ideal))) ⟨m', fun _ => 0, g'⟩ (fun r => ∀ c : Dev Cert.HidRefIdeal.nD,
          r.2.mem ((c.tc : Thread Cert.HidRefIdeal.nD Cert.HidRefIdeal.τ).loc Cert.HidRefIdeal.main_v4) = v0 c
          ∧ r.2.mem ((c.tc : Thread Cert.HidRefIdeal.nD Cert.HidRefIdeal.τ).loc Cert.HidRefIdeal.main_arg0) = m' ((c.tc : Thread Cert.HidRefIdeal.nD Cert.HidRefIdeal.τ).loc Cert.HidRefIdeal.main_arg0)
          ∧ r.2.mem ((c.tc : Thread Cert.HidRefIdeal.nD Cert.HidRefIdeal.τ).loc Cert.HidRefIdeal.main_arg1) = m' ((c.tc : Thread Cert.HidRefIdeal.nD Cert.HidRefIdeal.τ).loc Cert.HidRefIdeal.main_arg1))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)) →
    ∃ (v0 : (c : Dev Cert.InpIdeal.nD) → Buf (Elt Ideal) ((c.tc : Thread Cert.InpIdeal.nD Cert.InpIdeal.τ).loc Cert.InpIdeal.main_v0)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v0) = v0 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v4) = v0 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)) →
    ∃ (v0 : (c : Dev Cert.MlpIdeal.nD) → Buf (Elt Ideal) ((c.tc : Thread Cert.MlpIdeal.nD Cert.MlpIdeal.τ).loc Cert.MlpIdeal.main_v0_0)) (v1 : (c : Dev Cert.MlpIdeal.nD) → Buf (Elt Ideal) ((c.tc : Thread Cert.MlpIdeal.nD Cert.MlpIdeal.τ).loc Cert.MlpIdeal.main_v0_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0_0) = v0 c
          ∧ r.2.mem ((c.tc : Thread Cert.MlpIdeal.nD Cert.MlpIdeal.τ).loc Cert.MlpIdeal.main_v0_1) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v2) = v0 c
          ∧ r.2.mem ((c.tc : Thread Cert.MlpRefIdeal.nD Cert.MlpRefIdeal.τ).loc Cert.MlpRefIdeal.main_v5) = v1 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Gout_GoutIdeal : Prop :=
  True

def algebraic_GoutIdeal_GoutRefIdeal [hGoutIdeal : Cert.GoutIdeal.Facts] [hGoutRefIdeal : Cert.GoutRefIdeal.Facts] : Prop :=
  ∀ (m : (ℓ : Loc Cert.GoutIdeal.nD Cert.GoutIdeal.τ Cert.GoutIdeal.sig) → Buf (Elt Ideal) ℓ) (g : Dev Cert.GoutIdeal.nD → PrngReg)
    (m' : (ℓ : Loc Cert.GoutRefIdeal.nD Cert.GoutRefIdeal.τ Cert.GoutRefIdeal.sig) → Buf (Elt Ideal) ℓ) (g' : Dev Cert.GoutRefIdeal.nD → PrngReg), Pre_GoutIdeal m →
    (∀ c : Dev Cert.GoutIdeal.nD,
      m' ((c.tc : Thread Cert.GoutRefIdeal.nD Cert.GoutRefIdeal.τ).loc Cert.GoutRefIdeal.main_arg0) = m ((c.tc : Thread Cert.GoutIdeal.nD Cert.GoutIdeal.τ).loc Cert.GoutIdeal.main_arg0)
      ∧ m' ((c.tc : Thread Cert.GoutRefIdeal.nD Cert.GoutRefIdeal.τ).loc Cert.GoutRefIdeal.main_arg1) = m ((c.tc : Thread Cert.GoutIdeal.nD Cert.GoutIdeal.τ).loc Cert.GoutIdeal.main_arg1)) →
    ∃ (v0 : (c : Dev Cert.GoutIdeal.nD) → Buf (Elt Ideal) ((c.tc : Thread Cert.GoutIdeal.nD Cert.GoutIdeal.τ).loc Cert.GoutIdeal.main_v0)),
      θ_run (Cert.GoutIdeal.defs (F := Ideal)) (onTc (τ := Cert.GoutIdeal.τ) (Cert.GoutIdeal.main (F := Ideal))) ⟨m, fun _ => 0, g⟩ (fun r => ∀ c : Dev Cert.GoutIdeal.nD,
          r.2.mem ((c.tc : Thread Cert.GoutIdeal.nD Cert.GoutIdeal.τ).loc Cert.GoutIdeal.main_v0) = v0 c
          ∧ r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
          ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1))
      ∧ θ_run (Cert.GoutRefIdeal.defs (F := Ideal)) (onTc (τ := Cert.GoutRefIdeal.τ) (Cert.GoutRefIdeal.main (F := Ideal))) ⟨m', fun _ => 0, g'⟩ (fun r => ∀ c : Dev Cert.GoutRefIdeal.nD,
          r.2.mem ((c.tc : Thread Cert.GoutRefIdeal.nD Cert.GoutRefIdeal.τ).loc Cert.GoutRefIdeal.main_v5) = v0 c
          ∧ r.2.mem ((c.tc : Thread Cert.GoutRefIdeal.nD Cert.GoutRefIdeal.τ).loc Cert.GoutRefIdeal.main_arg0) = m' ((c.tc : Thread Cert.GoutRefIdeal.nD Cert.GoutRefIdeal.τ).loc Cert.GoutRefIdeal.main_arg0)
          ∧ r.2.mem ((c.tc : Thread Cert.GoutRefIdeal.nD Cert.GoutRefIdeal.τ).loc Cert.GoutRefIdeal.main_arg1) = m' ((c.tc : Thread Cert.GoutRefIdeal.nD Cert.GoutRefIdeal.τ).loc Cert.GoutRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_GmoSend_GmoSendIdeal : Prop :=
  True

def algebraic_GmoSendIdeal_GmoSendRefIdeal [hGmoSendIdeal : Cert.GmoSendIdeal.Facts] [hGmoSendRefIdeal : Cert.GmoSendRefIdeal.Facts] : Prop :=
  ∀ (m : (ℓ : Loc Cert.GmoSendIdeal.nD Cert.GmoSendIdeal.τ Cert.GmoSendIdeal.sig) → Buf (Elt Ideal) ℓ) (g : Dev Cert.GmoSendIdeal.nD → PrngReg)
    (m' : (ℓ : Loc Cert.GmoSendRefIdeal.nD Cert.GmoSendRefIdeal.τ Cert.GmoSendRefIdeal.sig) → Buf (Elt Ideal) ℓ) (g' : Dev Cert.GmoSendRefIdeal.nD → PrngReg), Pre_GmoSendIdeal m →
    (∀ c : Dev Cert.GmoSendIdeal.nD,
      m' ((c.tc : Thread Cert.GmoSendRefIdeal.nD Cert.GmoSendRefIdeal.τ).loc Cert.GmoSendRefIdeal.main_arg0) = m ((c.tc : Thread Cert.GmoSendIdeal.nD Cert.GmoSendIdeal.τ).loc Cert.GmoSendIdeal.main_arg0)
      ∧ m' ((c.tc : Thread Cert.GmoSendRefIdeal.nD Cert.GmoSendRefIdeal.τ).loc Cert.GmoSendRefIdeal.main_arg1) = m ((c.tc : Thread Cert.GmoSendIdeal.nD Cert.GmoSendIdeal.τ).loc Cert.GmoSendIdeal.main_arg1)) →
    ∃ (v0 : (c : Dev Cert.GmoSendIdeal.nD) → Buf (Elt Ideal) ((c.tc : Thread Cert.GmoSendIdeal.nD Cert.GmoSendIdeal.τ).loc Cert.GmoSendIdeal.main_v0)),
      θ_run (Cert.GmoSendIdeal.defs (F := Ideal)) (onTc (τ := Cert.GmoSendIdeal.τ) (Cert.GmoSendIdeal.main (F := Ideal))) ⟨m, fun _ => 0, g⟩ (fun r => ∀ c : Dev Cert.GmoSendIdeal.nD,
          r.2.mem ((c.tc : Thread Cert.GmoSendIdeal.nD Cert.GmoSendIdeal.τ).loc Cert.GmoSendIdeal.main_v0) = v0 c
          ∧ r.2.mem ((c.tc : Thread Cert.GmoSendIdeal.nD Cert.GmoSendIdeal.τ).loc Cert.GmoSendIdeal.main_arg0) = m ((c.tc : Thread Cert.GmoSendIdeal.nD Cert.GmoSendIdeal.τ).loc Cert.GmoSendIdeal.main_arg0)
          ∧ r.2.mem ((c.tc : Thread Cert.GmoSendIdeal.nD Cert.GmoSendIdeal.τ).loc Cert.GmoSendIdeal.main_arg1) = m ((c.tc : Thread Cert.GmoSendIdeal.nD Cert.GmoSendIdeal.τ).loc Cert.GmoSendIdeal.main_arg1))
      ∧ θ_run (Cert.GmoSendRefIdeal.defs (F := Ideal)) (onTc (τ := Cert.GmoSendRefIdeal.τ) (Cert.GmoSendRefIdeal.main (F := Ideal))) ⟨m', fun _ => 0, g'⟩ (fun r => ∀ c : Dev Cert.GmoSendRefIdeal.nD,
          r.2.mem ((c.tc : Thread Cert.GmoSendRefIdeal.nD Cert.GmoSendRefIdeal.τ).loc Cert.GmoSendRefIdeal.main_v8) = v0 c
          ∧ r.2.mem ((c.tc : Thread Cert.GmoSendRefIdeal.nD Cert.GmoSendRefIdeal.τ).loc Cert.GmoSendRefIdeal.main_arg0) = m' ((c.tc : Thread Cert.GmoSendRefIdeal.nD Cert.GmoSendRefIdeal.τ).loc Cert.GmoSendRefIdeal.main_arg0)
          ∧ r.2.mem ((c.tc : Thread Cert.GmoSendRefIdeal.nD Cert.GmoSendRefIdeal.τ).loc Cert.GmoSendRefIdeal.main_arg1) = m' ((c.tc : Thread Cert.GmoSendRefIdeal.nD Cert.GmoSendRefIdeal.τ).loc Cert.GmoSendRefIdeal.main_arg1))

def preserves_GmoOwn_GmoOwnIdeal : Prop :=
  True

def algebraic_GmoOwnIdeal_GmoOwnRefIdeal [hGmoOwnIdeal : Cert.GmoOwnIdeal.Facts] [hGmoOwnRefIdeal : Cert.GmoOwnRefIdeal.Facts] : Prop :=
  ∀ (m : (ℓ : Loc Cert.GmoOwnIdeal.nD Cert.GmoOwnIdeal.τ Cert.GmoOwnIdeal.sig) → Buf (Elt Ideal) ℓ) (g : Dev Cert.GmoOwnIdeal.nD → PrngReg)
    (m' : (ℓ : Loc Cert.GmoOwnRefIdeal.nD Cert.GmoOwnRefIdeal.τ Cert.GmoOwnRefIdeal.sig) → Buf (Elt Ideal) ℓ) (g' : Dev Cert.GmoOwnRefIdeal.nD → PrngReg), Pre_GmoOwnIdeal m →
    (∀ c : Dev Cert.GmoOwnIdeal.nD,
      m' ((c.tc : Thread Cert.GmoOwnRefIdeal.nD Cert.GmoOwnRefIdeal.τ).loc Cert.GmoOwnRefIdeal.main_arg0) = m ((c.tc : Thread Cert.GmoOwnIdeal.nD Cert.GmoOwnIdeal.τ).loc Cert.GmoOwnIdeal.main_arg0)
      ∧ m' ((c.tc : Thread Cert.GmoOwnRefIdeal.nD Cert.GmoOwnRefIdeal.τ).loc Cert.GmoOwnRefIdeal.main_arg1) = m ((c.tc : Thread Cert.GmoOwnIdeal.nD Cert.GmoOwnIdeal.τ).loc Cert.GmoOwnIdeal.main_arg1)
      ∧ m' ((c.tc : Thread Cert.GmoOwnRefIdeal.nD Cert.GmoOwnRefIdeal.τ).loc Cert.GmoOwnRefIdeal.main_arg2) = m ((c.tc : Thread Cert.GmoOwnIdeal.nD Cert.GmoOwnIdeal.τ).loc Cert.GmoOwnIdeal.main_arg2)) →
    ∃ (v0 : (c : Dev Cert.GmoOwnIdeal.nD) → Buf (Elt Ideal) ((c.tc : Thread Cert.GmoOwnIdeal.nD Cert.GmoOwnIdeal.τ).loc Cert.GmoOwnIdeal.main_v0)),
      θ_run (Cert.GmoOwnIdeal.defs (F := Ideal)) (onTc (τ := Cert.GmoOwnIdeal.τ) (Cert.GmoOwnIdeal.main (F := Ideal))) ⟨m, fun _ => 0, g⟩ (fun r => ∀ c : Dev Cert.GmoOwnIdeal.nD,
          r.2.mem ((c.tc : Thread Cert.GmoOwnIdeal.nD Cert.GmoOwnIdeal.τ).loc Cert.GmoOwnIdeal.main_v0) = v0 c
          ∧ r.2.mem ((c.tc : Thread Cert.GmoOwnIdeal.nD Cert.GmoOwnIdeal.τ).loc Cert.GmoOwnIdeal.main_arg0) = m ((c.tc : Thread Cert.GmoOwnIdeal.nD Cert.GmoOwnIdeal.τ).loc Cert.GmoOwnIdeal.main_arg0)
          ∧ r.2.mem ((c.tc : Thread Cert.GmoOwnIdeal.nD Cert.GmoOwnIdeal.τ).loc Cert.GmoOwnIdeal.main_arg1) = m ((c.tc : Thread Cert.GmoOwnIdeal.nD Cert.GmoOwnIdeal.τ).loc Cert.GmoOwnIdeal.main_arg1)
          ∧ r.2.mem ((c.tc : Thread Cert.GmoOwnIdeal.nD Cert.GmoOwnIdeal.τ).loc Cert.GmoOwnIdeal.main_arg2) = m ((c.tc : Thread Cert.GmoOwnIdeal.nD Cert.GmoOwnIdeal.τ).loc Cert.GmoOwnIdeal.main_arg2))
      ∧ θ_run (Cert.GmoOwnRefIdeal.defs (F := Ideal)) (onTc (τ := Cert.GmoOwnRefIdeal.τ) (Cert.GmoOwnRefIdeal.main (F := Ideal))) ⟨m', fun _ => 0, g'⟩ (fun r => ∀ c : Dev Cert.GmoOwnRefIdeal.nD,
          r.2.mem ((c.tc : Thread Cert.GmoOwnRefIdeal.nD Cert.GmoOwnRefIdeal.τ).loc Cert.GmoOwnRefIdeal.main_v10) = v0 c
          ∧ r.2.mem ((c.tc : Thread Cert.GmoOwnRefIdeal.nD Cert.GmoOwnRefIdeal.τ).loc Cert.GmoOwnRefIdeal.main_arg0) = m' ((c.tc : Thread Cert.GmoOwnRefIdeal.nD Cert.GmoOwnRefIdeal.τ).loc Cert.GmoOwnRefIdeal.main_arg0)
          ∧ r.2.mem ((c.tc : Thread Cert.GmoOwnRefIdeal.nD Cert.GmoOwnRefIdeal.τ).loc Cert.GmoOwnRefIdeal.main_arg1) = m' ((c.tc : Thread Cert.GmoOwnRefIdeal.nD Cert.GmoOwnRefIdeal.τ).loc Cert.GmoOwnRefIdeal.main_arg1)
          ∧ r.2.mem ((c.tc : Thread Cert.GmoOwnRefIdeal.nD Cert.GmoOwnRefIdeal.τ).loc Cert.GmoOwnRefIdeal.main_arg2) = m' ((c.tc : Thread Cert.GmoOwnRefIdeal.nD Cert.GmoOwnRefIdeal.τ).loc Cert.GmoOwnRefIdeal.main_arg2))

def preserves_GmiSend_GmiSendIdeal : Prop :=
  True

def algebraic_GmiSendIdeal_GmiSendRefIdeal [hGmiSendIdeal : Cert.GmiSendIdeal.Facts] [hGmiSendRefIdeal : Cert.GmiSendRefIdeal.Facts] : Prop :=
  ∀ (m : (ℓ : Loc Cert.GmiSendIdeal.nD Cert.GmiSendIdeal.τ Cert.GmiSendIdeal.sig) → Buf (Elt Ideal) ℓ) (g : Dev Cert.GmiSendIdeal.nD → PrngReg)
    (m' : (ℓ : Loc Cert.GmiSendRefIdeal.nD Cert.GmiSendRefIdeal.τ Cert.GmiSendRefIdeal.sig) → Buf (Elt Ideal) ℓ) (g' : Dev Cert.GmiSendRefIdeal.nD → PrngReg), Pre_GmiSendIdeal m →
    (∀ c : Dev Cert.GmiSendIdeal.nD,
      m' ((c.tc : Thread Cert.GmiSendRefIdeal.nD Cert.GmiSendRefIdeal.τ).loc Cert.GmiSendRefIdeal.main_arg0) = m ((c.tc : Thread Cert.GmiSendIdeal.nD Cert.GmiSendIdeal.τ).loc Cert.GmiSendIdeal.main_arg0)
      ∧ m' ((c.tc : Thread Cert.GmiSendRefIdeal.nD Cert.GmiSendRefIdeal.τ).loc Cert.GmiSendRefIdeal.main_arg1) = m ((c.tc : Thread Cert.GmiSendIdeal.nD Cert.GmiSendIdeal.τ).loc Cert.GmiSendIdeal.main_arg1)) →
    ∃ (v0 : (c : Dev Cert.GmiSendIdeal.nD) → Buf (Elt Ideal) ((c.tc : Thread Cert.GmiSendIdeal.nD Cert.GmiSendIdeal.τ).loc Cert.GmiSendIdeal.main_v0)),
      θ_run (Cert.GmiSendIdeal.defs (F := Ideal)) (onTc (τ := Cert.GmiSendIdeal.τ) (Cert.GmiSendIdeal.main (F := Ideal))) ⟨m, fun _ => 0, g⟩ (fun r => ∀ c : Dev Cert.GmiSendIdeal.nD,
          r.2.mem ((c.tc : Thread Cert.GmiSendIdeal.nD Cert.GmiSendIdeal.τ).loc Cert.GmiSendIdeal.main_v0) = v0 c
          ∧ r.2.mem ((c.tc : Thread Cert.GmiSendIdeal.nD Cert.GmiSendIdeal.τ).loc Cert.GmiSendIdeal.main_arg0) = m ((c.tc : Thread Cert.GmiSendIdeal.nD Cert.GmiSendIdeal.τ).loc Cert.GmiSendIdeal.main_arg0)
          ∧ r.2.mem ((c.tc : Thread Cert.GmiSendIdeal.nD Cert.GmiSendIdeal.τ).loc Cert.GmiSendIdeal.main_arg1) = m ((c.tc : Thread Cert.GmiSendIdeal.nD Cert.GmiSendIdeal.τ).loc Cert.GmiSendIdeal.main_arg1))
      ∧ θ_run (Cert.GmiSendRefIdeal.defs (F := Ideal)) (onTc (τ := Cert.GmiSendRefIdeal.τ) (Cert.GmiSendRefIdeal.main (F := Ideal))) ⟨m', fun _ => 0, g'⟩ (fun r => ∀ c : Dev Cert.GmiSendRefIdeal.nD,
          r.2.mem ((c.tc : Thread Cert.GmiSendRefIdeal.nD Cert.GmiSendRefIdeal.τ).loc Cert.GmiSendRefIdeal.main_v6) = v0 c
          ∧ r.2.mem ((c.tc : Thread Cert.GmiSendRefIdeal.nD Cert.GmiSendRefIdeal.τ).loc Cert.GmiSendRefIdeal.main_arg0) = m' ((c.tc : Thread Cert.GmiSendRefIdeal.nD Cert.GmiSendRefIdeal.τ).loc Cert.GmiSendRefIdeal.main_arg0)
          ∧ r.2.mem ((c.tc : Thread Cert.GmiSendRefIdeal.nD Cert.GmiSendRefIdeal.τ).loc Cert.GmiSendRefIdeal.main_arg1) = m' ((c.tc : Thread Cert.GmiSendRefIdeal.nD Cert.GmiSendRefIdeal.τ).loc Cert.GmiSendRefIdeal.main_arg1))

def preserves_GmiOwn_GmiOwnIdeal : Prop :=
  True

def algebraic_GmiOwnIdeal_GmiOwnRefIdeal [hGmiOwnIdeal : Cert.GmiOwnIdeal.Facts] [hGmiOwnRefIdeal : Cert.GmiOwnRefIdeal.Facts] : Prop :=
  ∀ (m : (ℓ : Loc Cert.GmiOwnIdeal.nD Cert.GmiOwnIdeal.τ Cert.GmiOwnIdeal.sig) → Buf (Elt Ideal) ℓ) (g : Dev Cert.GmiOwnIdeal.nD → PrngReg)
    (m' : (ℓ : Loc Cert.GmiOwnRefIdeal.nD Cert.GmiOwnRefIdeal.τ Cert.GmiOwnRefIdeal.sig) → Buf (Elt Ideal) ℓ) (g' : Dev Cert.GmiOwnRefIdeal.nD → PrngReg), Pre_GmiOwnIdeal m →
    (∀ c : Dev Cert.GmiOwnIdeal.nD,
      m' ((c.tc : Thread Cert.GmiOwnRefIdeal.nD Cert.GmiOwnRefIdeal.τ).loc Cert.GmiOwnRefIdeal.main_arg0) = m ((c.tc : Thread Cert.GmiOwnIdeal.nD Cert.GmiOwnIdeal.τ).loc Cert.GmiOwnIdeal.main_arg0)
      ∧ m' ((c.tc : Thread Cert.GmiOwnRefIdeal.nD Cert.GmiOwnRefIdeal.τ).loc Cert.GmiOwnRefIdeal.main_arg1) = m ((c.tc : Thread Cert.GmiOwnIdeal.nD Cert.GmiOwnIdeal.τ).loc Cert.GmiOwnIdeal.main_arg1)
      ∧ m' ((c.tc : Thread Cert.GmiOwnRefIdeal.nD Cert.GmiOwnRefIdeal.τ).loc Cert.GmiOwnRefIdeal.main_arg2) = m ((c.tc : Thread Cert.GmiOwnIdeal.nD Cert.GmiOwnIdeal.τ).loc Cert.GmiOwnIdeal.main_arg2)) →
    ∃ (v0 : (c : Dev Cert.GmiOwnIdeal.nD) → Buf (Elt Ideal) ((c.tc : Thread Cert.GmiOwnIdeal.nD Cert.GmiOwnIdeal.τ).loc Cert.GmiOwnIdeal.main_v0)),
      θ_run (Cert.GmiOwnIdeal.defs (F := Ideal)) (onTc (τ := Cert.GmiOwnIdeal.τ) (Cert.GmiOwnIdeal.main (F := Ideal))) ⟨m, fun _ => 0, g⟩ (fun r => ∀ c : Dev Cert.GmiOwnIdeal.nD,
          r.2.mem ((c.tc : Thread Cert.GmiOwnIdeal.nD Cert.GmiOwnIdeal.τ).loc Cert.GmiOwnIdeal.main_v0) = v0 c
          ∧ r.2.mem ((c.tc : Thread Cert.GmiOwnIdeal.nD Cert.GmiOwnIdeal.τ).loc Cert.GmiOwnIdeal.main_arg0) = m ((c.tc : Thread Cert.GmiOwnIdeal.nD Cert.GmiOwnIdeal.τ).loc Cert.GmiOwnIdeal.main_arg0)
          ∧ r.2.mem ((c.tc : Thread Cert.GmiOwnIdeal.nD Cert.GmiOwnIdeal.τ).loc Cert.GmiOwnIdeal.main_arg1) = m ((c.tc : Thread Cert.GmiOwnIdeal.nD Cert.GmiOwnIdeal.τ).loc Cert.GmiOwnIdeal.main_arg1)
          ∧ r.2.mem ((c.tc : Thread Cert.GmiOwnIdeal.nD Cert.GmiOwnIdeal.τ).loc Cert.GmiOwnIdeal.main_arg2) = m ((c.tc : Thread Cert.GmiOwnIdeal.nD Cert.GmiOwnIdeal.τ).loc Cert.GmiOwnIdeal.main_arg2))
      ∧ θ_run (Cert.GmiOwnRefIdeal.defs (F := Ideal)) (onTc (τ := Cert.GmiOwnRefIdeal.τ) (Cert.GmiOwnRefIdeal.main (F := Ideal))) ⟨m', fun _ => 0, g'⟩ (fun r => ∀ c : Dev Cert.GmiOwnRefIdeal.nD,
          r.2.mem ((c.tc : Thread Cert.GmiOwnRefIdeal.nD Cert.GmiOwnRefIdeal.τ).loc Cert.GmiOwnRefIdeal.main_v8) = v0 c
          ∧ r.2.mem ((c.tc : Thread Cert.GmiOwnRefIdeal.nD Cert.GmiOwnRefIdeal.τ).loc Cert.GmiOwnRefIdeal.main_arg0) = m' ((c.tc : Thread Cert.GmiOwnRefIdeal.nD Cert.GmiOwnRefIdeal.τ).loc Cert.GmiOwnRefIdeal.main_arg0)
          ∧ r.2.mem ((c.tc : Thread Cert.GmiOwnRefIdeal.nD Cert.GmiOwnRefIdeal.τ).loc Cert.GmiOwnRefIdeal.main_arg1) = m' ((c.tc : Thread Cert.GmiOwnRefIdeal.nD Cert.GmiOwnRefIdeal.τ).loc Cert.GmiOwnRefIdeal.main_arg1)
          ∧ r.2.mem ((c.tc : Thread Cert.GmiOwnRefIdeal.nD Cert.GmiOwnRefIdeal.τ).loc Cert.GmiOwnRefIdeal.main_arg2) = m' ((c.tc : Thread Cert.GmiOwnRefIdeal.nD Cert.GmiOwnRefIdeal.τ).loc Cert.GmiOwnRefIdeal.main_arg2))

def preserves_GinSend_GinSendIdeal : Prop :=
  True

def algebraic_GinSendIdeal_GinSendRefIdeal [hGinSendIdeal : Cert.GinSendIdeal.Facts] [hGinSendRefIdeal : Cert.GinSendRefIdeal.Facts] : Prop :=
  ∀ (m : (ℓ : Loc Cert.GinSendIdeal.nD Cert.GinSendIdeal.τ Cert.GinSendIdeal.sig) → Buf (Elt Ideal) ℓ) (g : Dev Cert.GinSendIdeal.nD → PrngReg)
    (m' : (ℓ : Loc Cert.GinSendRefIdeal.nD Cert.GinSendRefIdeal.τ Cert.GinSendRefIdeal.sig) → Buf (Elt Ideal) ℓ) (g' : Dev Cert.GinSendRefIdeal.nD → PrngReg), Pre_GinSendIdeal m →
    (∀ c : Dev Cert.GinSendIdeal.nD,
      m' ((c.tc : Thread Cert.GinSendRefIdeal.nD Cert.GinSendRefIdeal.τ).loc Cert.GinSendRefIdeal.main_arg0) = m ((c.tc : Thread Cert.GinSendIdeal.nD Cert.GinSendIdeal.τ).loc Cert.GinSendIdeal.main_arg0)
      ∧ m' ((c.tc : Thread Cert.GinSendRefIdeal.nD Cert.GinSendRefIdeal.τ).loc Cert.GinSendRefIdeal.main_arg1) = m ((c.tc : Thread Cert.GinSendIdeal.nD Cert.GinSendIdeal.τ).loc Cert.GinSendIdeal.main_arg1)) →
    ∃ (v0 : (c : Dev Cert.GinSendIdeal.nD) → Buf (Elt Ideal) ((c.tc : Thread Cert.GinSendIdeal.nD Cert.GinSendIdeal.τ).loc Cert.GinSendIdeal.main_v0)),
      θ_run (Cert.GinSendIdeal.defs (F := Ideal)) (onTc (τ := Cert.GinSendIdeal.τ) (Cert.GinSendIdeal.main (F := Ideal))) ⟨m, fun _ => 0, g⟩ (fun r => ∀ c : Dev Cert.GinSendIdeal.nD,
          r.2.mem ((c.tc : Thread Cert.GinSendIdeal.nD Cert.GinSendIdeal.τ).loc Cert.GinSendIdeal.main_v0) = v0 c
          ∧ r.2.mem ((c.tc : Thread Cert.GinSendIdeal.nD Cert.GinSendIdeal.τ).loc Cert.GinSendIdeal.main_arg0) = m ((c.tc : Thread Cert.GinSendIdeal.nD Cert.GinSendIdeal.τ).loc Cert.GinSendIdeal.main_arg0)
          ∧ r.2.mem ((c.tc : Thread Cert.GinSendIdeal.nD Cert.GinSendIdeal.τ).loc Cert.GinSendIdeal.main_arg1) = m ((c.tc : Thread Cert.GinSendIdeal.nD Cert.GinSendIdeal.τ).loc Cert.GinSendIdeal.main_arg1))
      ∧ θ_run (Cert.GinSendRefIdeal.defs (F := Ideal)) (onTc (τ := Cert.GinSendRefIdeal.τ) (Cert.GinSendRefIdeal.main (F := Ideal))) ⟨m', fun _ => 0, g'⟩ (fun r => ∀ c : Dev Cert.GinSendRefIdeal.nD,
          r.2.mem ((c.tc : Thread Cert.GinSendRefIdeal.nD Cert.GinSendRefIdeal.τ).loc Cert.GinSendRefIdeal.main_v6) = v0 c
          ∧ r.2.mem ((c.tc : Thread Cert.GinSendRefIdeal.nD Cert.GinSendRefIdeal.τ).loc Cert.GinSendRefIdeal.main_arg0) = m' ((c.tc : Thread Cert.GinSendRefIdeal.nD Cert.GinSendRefIdeal.τ).loc Cert.GinSendRefIdeal.main_arg0)
          ∧ r.2.mem ((c.tc : Thread Cert.GinSendRefIdeal.nD Cert.GinSendRefIdeal.τ).loc Cert.GinSendRefIdeal.main_arg1) = m' ((c.tc : Thread Cert.GinSendRefIdeal.nD Cert.GinSendRefIdeal.τ).loc Cert.GinSendRefIdeal.main_arg1))

def preserves_GinOwn_GinOwnIdeal : Prop :=
  True

def algebraic_GinOwnIdeal_GinOwnRefIdeal [hGinOwnIdeal : Cert.GinOwnIdeal.Facts] [hGinOwnRefIdeal : Cert.GinOwnRefIdeal.Facts] : Prop :=
  ∀ (m : (ℓ : Loc Cert.GinOwnIdeal.nD Cert.GinOwnIdeal.τ Cert.GinOwnIdeal.sig) → Buf (Elt Ideal) ℓ) (g : Dev Cert.GinOwnIdeal.nD → PrngReg)
    (m' : (ℓ : Loc Cert.GinOwnRefIdeal.nD Cert.GinOwnRefIdeal.τ Cert.GinOwnRefIdeal.sig) → Buf (Elt Ideal) ℓ) (g' : Dev Cert.GinOwnRefIdeal.nD → PrngReg), Pre_GinOwnIdeal m →
    (∀ c : Dev Cert.GinOwnIdeal.nD,
      m' ((c.tc : Thread Cert.GinOwnRefIdeal.nD Cert.GinOwnRefIdeal.τ).loc Cert.GinOwnRefIdeal.main_arg0) = m ((c.tc : Thread Cert.GinOwnIdeal.nD Cert.GinOwnIdeal.τ).loc Cert.GinOwnIdeal.main_arg0)
      ∧ m' ((c.tc : Thread Cert.GinOwnRefIdeal.nD Cert.GinOwnRefIdeal.τ).loc Cert.GinOwnRefIdeal.main_arg1) = m ((c.tc : Thread Cert.GinOwnIdeal.nD Cert.GinOwnIdeal.τ).loc Cert.GinOwnIdeal.main_arg1)) →
    ∃ (v0 : (c : Dev Cert.GinOwnIdeal.nD) → Buf (Elt Ideal) ((c.tc : Thread Cert.GinOwnIdeal.nD Cert.GinOwnIdeal.τ).loc Cert.GinOwnIdeal.main_v0)),
      θ_run (Cert.GinOwnIdeal.defs (F := Ideal)) (onTc (τ := Cert.GinOwnIdeal.τ) (Cert.GinOwnIdeal.main (F := Ideal))) ⟨m, fun _ => 0, g⟩ (fun r => ∀ c : Dev Cert.GinOwnIdeal.nD,
          r.2.mem ((c.tc : Thread Cert.GinOwnIdeal.nD Cert.GinOwnIdeal.τ).loc Cert.GinOwnIdeal.main_v0) = v0 c
          ∧ r.2.mem ((c.tc : Thread Cert.GinOwnIdeal.nD Cert.GinOwnIdeal.τ).loc Cert.GinOwnIdeal.main_arg0) = m ((c.tc : Thread Cert.GinOwnIdeal.nD Cert.GinOwnIdeal.τ).loc Cert.GinOwnIdeal.main_arg0)
          ∧ r.2.mem ((c.tc : Thread Cert.GinOwnIdeal.nD Cert.GinOwnIdeal.τ).loc Cert.GinOwnIdeal.main_arg1) = m ((c.tc : Thread Cert.GinOwnIdeal.nD Cert.GinOwnIdeal.τ).loc Cert.GinOwnIdeal.main_arg1))
      ∧ θ_run (Cert.GinOwnRefIdeal.defs (F := Ideal)) (onTc (τ := Cert.GinOwnRefIdeal.τ) (Cert.GinOwnRefIdeal.main (F := Ideal))) ⟨m', fun _ => 0, g'⟩ (fun r => ∀ c : Dev Cert.GinOwnRefIdeal.nD,
          r.2.mem ((c.tc : Thread Cert.GinOwnRefIdeal.nD Cert.GinOwnRefIdeal.τ).loc Cert.GinOwnRefIdeal.main_v6) = v0 c
          ∧ r.2.mem ((c.tc : Thread Cert.GinOwnRefIdeal.nD Cert.GinOwnRefIdeal.τ).loc Cert.GinOwnRefIdeal.main_arg0) = m' ((c.tc : Thread Cert.GinOwnRefIdeal.nD Cert.GinOwnRefIdeal.τ).loc Cert.GinOwnRefIdeal.main_arg0)
          ∧ r.2.mem ((c.tc : Thread Cert.GinOwnRefIdeal.nD Cert.GinOwnRefIdeal.τ).loc Cert.GinOwnRefIdeal.main_arg1) = m' ((c.tc : Thread Cert.GinOwnRefIdeal.nD Cert.GinOwnRefIdeal.τ).loc Cert.GinOwnRefIdeal.main_arg1))

def preserves_Bra_BraIdeal : Prop :=
  True

def algebraic_BraIdeal_BraRefIdeal [hBraIdeal : Cert.BraIdeal.Facts] [hBraRefIdeal : Cert.BraRefIdeal.Facts] : Prop :=
  ∀ (m : (ℓ : Loc Cert.BraIdeal.nD Cert.BraIdeal.τ Cert.BraIdeal.sig) → Buf (Elt Ideal) ℓ) (g : Dev Cert.BraIdeal.nD → PrngReg)
    (m' : (ℓ : Loc Cert.BraRefIdeal.nD Cert.BraRefIdeal.τ Cert.BraRefIdeal.sig) → Buf (Elt Ideal) ℓ) (g' : Dev Cert.BraRefIdeal.nD → PrngReg), Pre_BraIdeal m →
    (∀ c : Dev Cert.BraIdeal.nD,
      m' ((c.tc : Thread Cert.BraRefIdeal.nD Cert.BraRefIdeal.τ).loc Cert.BraRefIdeal.main_arg0) = m ((c.tc : Thread Cert.BraIdeal.nD Cert.BraIdeal.τ).loc Cert.BraIdeal.main_arg0)
      ∧ m' ((c.tc : Thread Cert.BraRefIdeal.nD Cert.BraRefIdeal.τ).loc Cert.BraRefIdeal.main_arg1) = m ((c.tc : Thread Cert.BraIdeal.nD Cert.BraIdeal.τ).loc Cert.BraIdeal.main_arg1)) →
    ∃ (v0 : (c : Dev Cert.BraIdeal.nD) → Buf (Elt Ideal) ((c.tc : Thread Cert.BraIdeal.nD Cert.BraIdeal.τ).loc Cert.BraIdeal.main_v0)),
      θ_run (Cert.BraIdeal.defs (F := Ideal)) (onTc (τ := Cert.BraIdeal.τ) (Cert.BraIdeal.main (F := Ideal))) ⟨m, fun _ => 0, g⟩ (fun r => ∀ c : Dev Cert.BraIdeal.nD,
          r.2.mem ((c.tc : Thread Cert.BraIdeal.nD Cert.BraIdeal.τ).loc Cert.BraIdeal.main_v0) = v0 c
          ∧ r.2.mem ((c.tc : Thread Cert.BraIdeal.nD Cert.BraIdeal.τ).loc Cert.BraIdeal.main_arg0) = m ((c.tc : Thread Cert.BraIdeal.nD Cert.BraIdeal.τ).loc Cert.BraIdeal.main_arg0)
          ∧ r.2.mem ((c.tc : Thread Cert.BraIdeal.nD Cert.BraIdeal.τ).loc Cert.BraIdeal.main_arg1) = m ((c.tc : Thread Cert.BraIdeal.nD Cert.BraIdeal.τ).loc Cert.BraIdeal.main_arg1))
      ∧ θ_run (Cert.BraRefIdeal.defs (F := Ideal)) (onTc (τ := Cert.BraRefIdeal.τ) (Cert.BraRefIdeal.main (F := Ideal))) ⟨m', fun _ => 0, g'⟩ (fun r => ∀ c : Dev Cert.BraRefIdeal.nD,
          r.2.mem ((c.tc : Thread Cert.BraRefIdeal.nD Cert.BraRefIdeal.τ).loc Cert.BraRefIdeal.main_v2) = v0 c
          ∧ r.2.mem ((c.tc : Thread Cert.BraRefIdeal.nD Cert.BraRefIdeal.τ).loc Cert.BraRefIdeal.main_arg0) = m' ((c.tc : Thread Cert.BraRefIdeal.nD Cert.BraRefIdeal.τ).loc Cert.BraRefIdeal.main_arg0)
          ∧ r.2.mem ((c.tc : Thread Cert.BraRefIdeal.nD Cert.BraRefIdeal.τ).loc Cert.BraRefIdeal.main_arg1) = m' ((c.tc : Thread Cert.BraRefIdeal.nD Cert.BraRefIdeal.τ).loc Cert.BraRefIdeal.main_arg1))

def preserves_Dob_DobIdeal : Prop :=
  True

def algebraic_DobIdeal_DobRefIdeal [hDobIdeal : Cert.DobIdeal.Facts] [hDobRefIdeal : Cert.DobRefIdeal.Facts] : Prop :=
  ∀ (m : (ℓ : Loc Cert.DobIdeal.nD Cert.DobIdeal.τ Cert.DobIdeal.sig) → Buf (Elt Ideal) ℓ) (g : Dev Cert.DobIdeal.nD → PrngReg)
    (m' : (ℓ : Loc Cert.DobRefIdeal.nD Cert.DobRefIdeal.τ Cert.DobRefIdeal.sig) → Buf (Elt Ideal) ℓ) (g' : Dev Cert.DobRefIdeal.nD → PrngReg), Pre_DobIdeal m →
    (∀ c : Dev Cert.DobIdeal.nD,
      m' ((c.tc : Thread Cert.DobRefIdeal.nD Cert.DobRefIdeal.τ).loc Cert.DobRefIdeal.main_arg0) = m ((c.tc : Thread Cert.DobIdeal.nD Cert.DobIdeal.τ).loc Cert.DobIdeal.main_arg0)
      ∧ m' ((c.tc : Thread Cert.DobRefIdeal.nD Cert.DobRefIdeal.τ).loc Cert.DobRefIdeal.main_arg1) = m ((c.tc : Thread Cert.DobIdeal.nD Cert.DobIdeal.τ).loc Cert.DobIdeal.main_arg1)) →
    ∃ (v0 : (c : Dev Cert.DobIdeal.nD) → Buf (Elt Ideal) ((c.tc : Thread Cert.DobIdeal.nD Cert.DobIdeal.τ).loc Cert.DobIdeal.main_v0)),
      θ_run (Cert.DobIdeal.defs (F := Ideal)) (onTc (τ := Cert.DobIdeal.τ) (Cert.DobIdeal.main (F := Ideal))) ⟨m, fun _ => 0, g⟩ (fun r => ∀ c : Dev Cert.DobIdeal.nD,
          r.2.mem ((c.tc : Thread Cert.DobIdeal.nD Cert.DobIdeal.τ).loc Cert.DobIdeal.main_v0) = v0 c
          ∧ r.2.mem ((c.tc : Thread Cert.DobIdeal.nD Cert.DobIdeal.τ).loc Cert.DobIdeal.main_arg0) = m ((c.tc : Thread Cert.DobIdeal.nD Cert.DobIdeal.τ).loc Cert.DobIdeal.main_arg0)
          ∧ r.2.mem ((c.tc : Thread Cert.DobIdeal.nD Cert.DobIdeal.τ).loc Cert.DobIdeal.main_arg1) = m ((c.tc : Thread Cert.DobIdeal.nD Cert.DobIdeal.τ).loc Cert.DobIdeal.main_arg1))
      ∧ θ_run (Cert.DobRefIdeal.defs (F := Ideal)) (onTc (τ := Cert.DobRefIdeal.τ) (Cert.DobRefIdeal.main (F := Ideal))) ⟨m', fun _ => 0, g'⟩ (fun r => ∀ c : Dev Cert.DobRefIdeal.nD,
          r.2.mem ((c.tc : Thread Cert.DobRefIdeal.nD Cert.DobRefIdeal.τ).loc Cert.DobRefIdeal.main_v4) = v0 c
          ∧ r.2.mem ((c.tc : Thread Cert.DobRefIdeal.nD Cert.DobRefIdeal.τ).loc Cert.DobRefIdeal.main_arg0) = m' ((c.tc : Thread Cert.DobRefIdeal.nD Cert.DobRefIdeal.τ).loc Cert.DobRefIdeal.main_arg0)
          ∧ r.2.mem ((c.tc : Thread Cert.DobRefIdeal.nD Cert.DobRefIdeal.τ).loc Cert.DobRefIdeal.main_arg1) = m' ((c.tc : Thread Cert.DobRefIdeal.nD Cert.DobRefIdeal.τ).loc Cert.DobRefIdeal.main_arg1))

def preserves_Gab_GabIdeal : Prop :=
  True

def algebraic_GabIdeal_GabRefIdeal [hGabIdeal : Cert.GabIdeal.Facts] [hGabRefIdeal : Cert.GabRefIdeal.Facts] : Prop :=
  ∀ (m : (ℓ : Loc Cert.GabIdeal.nD Cert.GabIdeal.τ Cert.GabIdeal.sig) → Buf (Elt Ideal) ℓ) (g : Dev Cert.GabIdeal.nD → PrngReg)
    (m' : (ℓ : Loc Cert.GabRefIdeal.nD Cert.GabRefIdeal.τ Cert.GabRefIdeal.sig) → Buf (Elt Ideal) ℓ) (g' : Dev Cert.GabRefIdeal.nD → PrngReg), Pre_GabIdeal m →
    (∀ c : Dev Cert.GabIdeal.nD,
      m' ((c.tc : Thread Cert.GabRefIdeal.nD Cert.GabRefIdeal.τ).loc Cert.GabRefIdeal.main_arg0) = m ((c.tc : Thread Cert.GabIdeal.nD Cert.GabIdeal.τ).loc Cert.GabIdeal.main_arg0)
      ∧ m' ((c.tc : Thread Cert.GabRefIdeal.nD Cert.GabRefIdeal.τ).loc Cert.GabRefIdeal.main_arg1) = m ((c.tc : Thread Cert.GabIdeal.nD Cert.GabIdeal.τ).loc Cert.GabIdeal.main_arg1)) →
    ∃ (v0 : (c : Dev Cert.GabIdeal.nD) → Buf (Elt Ideal) ((c.tc : Thread Cert.GabIdeal.nD Cert.GabIdeal.τ).loc Cert.GabIdeal.main_v0)),
      θ_run (Cert.GabIdeal.defs (F := Ideal)) (onTc (τ := Cert.GabIdeal.τ) (Cert.GabIdeal.main (F := Ideal))) ⟨m, fun _ => 0, g⟩ (fun r => ∀ c : Dev Cert.GabIdeal.nD,
          r.2.mem ((c.tc : Thread Cert.GabIdeal.nD Cert.GabIdeal.τ).loc Cert.GabIdeal.main_v0) = v0 c
          ∧ r.2.mem ((c.tc : Thread Cert.GabIdeal.nD Cert.GabIdeal.τ).loc Cert.GabIdeal.main_arg0) = m ((c.tc : Thread Cert.GabIdeal.nD Cert.GabIdeal.τ).loc Cert.GabIdeal.main_arg0)
          ∧ r.2.mem ((c.tc : Thread Cert.GabIdeal.nD Cert.GabIdeal.τ).loc Cert.GabIdeal.main_arg1) = m ((c.tc : Thread Cert.GabIdeal.nD Cert.GabIdeal.τ).loc Cert.GabIdeal.main_arg1))
      ∧ θ_run (Cert.GabRefIdeal.defs (F := Ideal)) (onTc (τ := Cert.GabRefIdeal.τ) (Cert.GabRefIdeal.main (F := Ideal))) ⟨m', fun _ => 0, g'⟩ (fun r => ∀ c : Dev Cert.GabRefIdeal.nD,
          r.2.mem ((c.tc : Thread Cert.GabRefIdeal.nD Cert.GabRefIdeal.τ).loc Cert.GabRefIdeal.main_v5) = v0 c
          ∧ r.2.mem ((c.tc : Thread Cert.GabRefIdeal.nD Cert.GabRefIdeal.τ).loc Cert.GabRefIdeal.main_arg0) = m' ((c.tc : Thread Cert.GabRefIdeal.nD Cert.GabRefIdeal.τ).loc Cert.GabRefIdeal.main_arg0)
          ∧ r.2.mem ((c.tc : Thread Cert.GabRefIdeal.nD Cert.GabRefIdeal.τ).loc Cert.GabRefIdeal.main_arg1) = m' ((c.tc : Thread Cert.GabRefIdeal.nD Cert.GabRefIdeal.τ).loc Cert.GabRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v23) = v0 c
          ∧ r.2.mem ((c.tc : Thread Cert.LossRefIdeal.nD Cert.LossRefIdeal.τ).loc Cert.LossRefIdeal.main_v44) = v1 c
          ∧ r.2.mem ((c.tc : Thread Cert.LossRefIdeal.nD Cert.LossRefIdeal.τ).loc Cert.LossRefIdeal.main_v45) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Mrg_MrgIdeal : Prop :=
  True

def algebraic_MrgIdeal_MrgRefIdeal [hMrgIdeal : Cert.MrgIdeal.Facts] [hMrgRefIdeal : Cert.MrgRefIdeal.Facts] : Prop :=
  ∀ (m : (ℓ : Loc Cert.MrgIdeal.nD Cert.MrgIdeal.τ Cert.MrgIdeal.sig) → Buf (Elt Ideal) ℓ) (g : Dev Cert.MrgIdeal.nD → PrngReg)
    (m' : (ℓ : Loc Cert.MrgRefIdeal.nD Cert.MrgRefIdeal.τ Cert.MrgRefIdeal.sig) → Buf (Elt Ideal) ℓ) (g' : Dev Cert.MrgRefIdeal.nD → PrngReg), Pre_MrgIdeal m →
    (∀ c : Dev Cert.MrgIdeal.nD,
      m' ((c.tc : Thread Cert.MrgRefIdeal.nD Cert.MrgRefIdeal.τ).loc Cert.MrgRefIdeal.main_arg0) = m ((c.tc : Thread Cert.MrgIdeal.nD Cert.MrgIdeal.τ).loc Cert.MrgIdeal.main_arg0)
      ∧ m' ((c.tc : Thread Cert.MrgRefIdeal.nD Cert.MrgRefIdeal.τ).loc Cert.MrgRefIdeal.main_arg1) = m ((c.tc : Thread Cert.MrgIdeal.nD Cert.MrgIdeal.τ).loc Cert.MrgIdeal.main_arg1)
      ∧ m' ((c.tc : Thread Cert.MrgRefIdeal.nD Cert.MrgRefIdeal.τ).loc Cert.MrgRefIdeal.main_arg2) = m ((c.tc : Thread Cert.MrgIdeal.nD Cert.MrgIdeal.τ).loc Cert.MrgIdeal.main_arg2)
      ∧ m' ((c.tc : Thread Cert.MrgRefIdeal.nD Cert.MrgRefIdeal.τ).loc Cert.MrgRefIdeal.main_arg3) = m ((c.tc : Thread Cert.MrgIdeal.nD Cert.MrgIdeal.τ).loc Cert.MrgIdeal.main_arg3)) →
    ∃ (v0 : (c : Dev Cert.MrgIdeal.nD) → Buf (Elt Ideal) ((c.tc : Thread Cert.MrgIdeal.nD Cert.MrgIdeal.τ).loc Cert.MrgIdeal.main_v0_0)) (v1 : (c : Dev Cert.MrgIdeal.nD) → Buf (Elt Ideal) ((c.tc : Thread Cert.MrgIdeal.nD Cert.MrgIdeal.τ).loc Cert.MrgIdeal.main_v0_1)),
      θ_run (Cert.MrgIdeal.defs (F := Ideal)) (onTc (τ := Cert.MrgIdeal.τ) (Cert.MrgIdeal.main (F := Ideal))) ⟨m, fun _ => 0, g⟩ (fun r => ∀ c : Dev Cert.MrgIdeal.nD,
          r.2.mem ((c.tc : Thread Cert.MrgIdeal.nD Cert.MrgIdeal.τ).loc Cert.MrgIdeal.main_v0_0) = v0 c
          ∧ r.2.mem ((c.tc : Thread Cert.MrgIdeal.nD Cert.MrgIdeal.τ).loc Cert.MrgIdeal.main_v0_1) = v1 c
          ∧ r.2.mem ((c.tc : Thread Cert.MrgIdeal.nD Cert.MrgIdeal.τ).loc Cert.MrgIdeal.main_arg0) = m ((c.tc : Thread Cert.MrgIdeal.nD Cert.MrgIdeal.τ).loc Cert.MrgIdeal.main_arg0)
          ∧ r.2.mem ((c.tc : Thread Cert.MrgIdeal.nD Cert.MrgIdeal.τ).loc Cert.MrgIdeal.main_arg1) = m ((c.tc : Thread Cert.MrgIdeal.nD Cert.MrgIdeal.τ).loc Cert.MrgIdeal.main_arg1)
          ∧ r.2.mem ((c.tc : Thread Cert.MrgIdeal.nD Cert.MrgIdeal.τ).loc Cert.MrgIdeal.main_arg2) = m ((c.tc : Thread Cert.MrgIdeal.nD Cert.MrgIdeal.τ).loc Cert.MrgIdeal.main_arg2)
          ∧ r.2.mem ((c.tc : Thread Cert.MrgIdeal.nD Cert.MrgIdeal.τ).loc Cert.MrgIdeal.main_arg3) = m ((c.tc : Thread Cert.MrgIdeal.nD Cert.MrgIdeal.τ).loc Cert.MrgIdeal.main_arg3))
      ∧ θ_run (Cert.MrgRefIdeal.defs (F := Ideal)) (onTc (τ := Cert.MrgRefIdeal.τ) (Cert.MrgRefIdeal.main (F := Ideal))) ⟨m', fun _ => 0, g'⟩ (fun r => ∀ c : Dev Cert.MrgRefIdeal.nD,
          r.2.mem ((c.tc : Thread Cert.MrgRefIdeal.nD Cert.MrgRefIdeal.τ).loc Cert.MrgRefIdeal.main_v2) = v0 c
          ∧ r.2.mem ((c.tc : Thread Cert.MrgRefIdeal.nD Cert.MrgRefIdeal.τ).loc Cert.MrgRefIdeal.main_v20) = v1 c
          ∧ r.2.mem ((c.tc : Thread Cert.MrgRefIdeal.nD Cert.MrgRefIdeal.τ).loc Cert.MrgRefIdeal.main_arg0) = m' ((c.tc : Thread Cert.MrgRefIdeal.nD Cert.MrgRefIdeal.τ).loc Cert.MrgRefIdeal.main_arg0)
          ∧ r.2.mem ((c.tc : Thread Cert.MrgRefIdeal.nD Cert.MrgRefIdeal.τ).loc Cert.MrgRefIdeal.main_arg1) = m' ((c.tc : Thread Cert.MrgRefIdeal.nD Cert.MrgRefIdeal.τ).loc Cert.MrgRefIdeal.main_arg1)
          ∧ r.2.mem ((c.tc : Thread Cert.MrgRefIdeal.nD Cert.MrgRefIdeal.τ).loc Cert.MrgRefIdeal.main_arg2) = m' ((c.tc : Thread Cert.MrgRefIdeal.nD Cert.MrgRefIdeal.τ).loc Cert.MrgRefIdeal.main_arg2)
          ∧ r.2.mem ((c.tc : Thread Cert.MrgRefIdeal.nD Cert.MrgRefIdeal.τ).loc Cert.MrgRefIdeal.main_arg3) = m' ((c.tc : Thread Cert.MrgRefIdeal.nD Cert.MrgRefIdeal.τ).loc Cert.MrgRefIdeal.main_arg3))

def preserves_Dmg_DmgIdeal : Prop :=
  True

def algebraic_DmgIdeal_DmgRefIdeal [hDmgIdeal : Cert.DmgIdeal.Facts] [hDmgRefIdeal : Cert.DmgRefIdeal.Facts] : Prop :=
  ∀ (m : (ℓ : Loc Cert.DmgIdeal.nD Cert.DmgIdeal.τ Cert.DmgIdeal.sig) → Buf (Elt Ideal) ℓ) (g : Dev Cert.DmgIdeal.nD → PrngReg)
    (m' : (ℓ : Loc Cert.DmgRefIdeal.nD Cert.DmgRefIdeal.τ Cert.DmgRefIdeal.sig) → Buf (Elt Ideal) ℓ) (g' : Dev Cert.DmgRefIdeal.nD → PrngReg), Pre_DmgIdeal m →
    (∀ c : Dev Cert.DmgIdeal.nD,
      m' ((c.tc : Thread Cert.DmgRefIdeal.nD Cert.DmgRefIdeal.τ).loc Cert.DmgRefIdeal.main_arg0) = m ((c.tc : Thread Cert.DmgIdeal.nD Cert.DmgIdeal.τ).loc Cert.DmgIdeal.main_arg0)
      ∧ m' ((c.tc : Thread Cert.DmgRefIdeal.nD Cert.DmgRefIdeal.τ).loc Cert.DmgRefIdeal.main_arg1) = m ((c.tc : Thread Cert.DmgIdeal.nD Cert.DmgIdeal.τ).loc Cert.DmgIdeal.main_arg1)
      ∧ m' ((c.tc : Thread Cert.DmgRefIdeal.nD Cert.DmgRefIdeal.τ).loc Cert.DmgRefIdeal.main_arg2) = m ((c.tc : Thread Cert.DmgIdeal.nD Cert.DmgIdeal.τ).loc Cert.DmgIdeal.main_arg2)
      ∧ m' ((c.tc : Thread Cert.DmgRefIdeal.nD Cert.DmgRefIdeal.τ).loc Cert.DmgRefIdeal.main_arg3) = m ((c.tc : Thread Cert.DmgIdeal.nD Cert.DmgIdeal.τ).loc Cert.DmgIdeal.main_arg3)
      ∧ m' ((c.tc : Thread Cert.DmgRefIdeal.nD Cert.DmgRefIdeal.τ).loc Cert.DmgRefIdeal.main_arg4) = m ((c.tc : Thread Cert.DmgIdeal.nD Cert.DmgIdeal.τ).loc Cert.DmgIdeal.main_arg4)) →
    ∃ (v0 : (c : Dev Cert.DmgIdeal.nD) → Buf (Elt Ideal) ((c.tc : Thread Cert.DmgIdeal.nD Cert.DmgIdeal.τ).loc Cert.DmgIdeal.main_v0_0)) (v1 : (c : Dev Cert.DmgIdeal.nD) → Buf (Elt Ideal) ((c.tc : Thread Cert.DmgIdeal.nD Cert.DmgIdeal.τ).loc Cert.DmgIdeal.main_v0_1)) (v2 : (c : Dev Cert.DmgIdeal.nD) → Buf (Elt Ideal) ((c.tc : Thread Cert.DmgIdeal.nD Cert.DmgIdeal.τ).loc Cert.DmgIdeal.main_v0_2)) (v3 : (c : Dev Cert.DmgIdeal.nD) → Buf (Elt Ideal) ((c.tc : Thread Cert.DmgIdeal.nD Cert.DmgIdeal.τ).loc Cert.DmgIdeal.main_v0_3)),
      θ_run (Cert.DmgIdeal.defs (F := Ideal)) (onTc (τ := Cert.DmgIdeal.τ) (Cert.DmgIdeal.main (F := Ideal))) ⟨m, fun _ => 0, g⟩ (fun r => ∀ c : Dev Cert.DmgIdeal.nD,
          r.2.mem ((c.tc : Thread Cert.DmgIdeal.nD Cert.DmgIdeal.τ).loc Cert.DmgIdeal.main_v0_0) = v0 c
          ∧ r.2.mem ((c.tc : Thread Cert.DmgIdeal.nD Cert.DmgIdeal.τ).loc Cert.DmgIdeal.main_v0_1) = v1 c
          ∧ r.2.mem ((c.tc : Thread Cert.DmgIdeal.nD Cert.DmgIdeal.τ).loc Cert.DmgIdeal.main_v0_2) = v2 c
          ∧ r.2.mem ((c.tc : Thread Cert.DmgIdeal.nD Cert.DmgIdeal.τ).loc Cert.DmgIdeal.main_v0_3) = v3 c
          ∧ r.2.mem ((c.tc : Thread Cert.DmgIdeal.nD Cert.DmgIdeal.τ).loc Cert.DmgIdeal.main_arg0) = m ((c.tc : Thread Cert.DmgIdeal.nD Cert.DmgIdeal.τ).loc Cert.DmgIdeal.main_arg0)
          ∧ r.2.mem ((c.tc : Thread Cert.DmgIdeal.nD Cert.DmgIdeal.τ).loc Cert.DmgIdeal.main_arg1) = m ((c.tc : Thread Cert.DmgIdeal.nD Cert.DmgIdeal.τ).loc Cert.DmgIdeal.main_arg1)
          ∧ r.2.mem ((c.tc : Thread Cert.DmgIdeal.nD Cert.DmgIdeal.τ).loc Cert.DmgIdeal.main_arg2) = m ((c.tc : Thread Cert.DmgIdeal.nD Cert.DmgIdeal.τ).loc Cert.DmgIdeal.main_arg2)
          ∧ r.2.mem ((c.tc : Thread Cert.DmgIdeal.nD Cert.DmgIdeal.τ).loc Cert.DmgIdeal.main_arg3) = m ((c.tc : Thread Cert.DmgIdeal.nD Cert.DmgIdeal.τ).loc Cert.DmgIdeal.main_arg3)
          ∧ r.2.mem ((c.tc : Thread Cert.DmgIdeal.nD Cert.DmgIdeal.τ).loc Cert.DmgIdeal.main_arg4) = m ((c.tc : Thread Cert.DmgIdeal.nD Cert.DmgIdeal.τ).loc Cert.DmgIdeal.main_arg4))
      ∧ θ_run (Cert.DmgRefIdeal.defs (F := Ideal)) (onTc (τ := Cert.DmgRefIdeal.τ) (Cert.DmgRefIdeal.main (F := Ideal))) ⟨m', fun _ => 0, g'⟩ (fun r => ∀ c : Dev Cert.DmgRefIdeal.nD,
          r.2.mem ((c.tc : Thread Cert.DmgRefIdeal.nD Cert.DmgRefIdeal.τ).loc Cert.DmgRefIdeal.main_v33) = v0 c
          ∧ r.2.mem ((c.tc : Thread Cert.DmgRefIdeal.nD Cert.DmgRefIdeal.τ).loc Cert.DmgRefIdeal.main_v34) = v1 c
          ∧ r.2.mem ((c.tc : Thread Cert.DmgRefIdeal.nD Cert.DmgRefIdeal.τ).loc Cert.DmgRefIdeal.main_v35) = v2 c
          ∧ r.2.mem ((c.tc : Thread Cert.DmgRefIdeal.nD Cert.DmgRefIdeal.τ).loc Cert.DmgRefIdeal.main_v36) = v3 c
          ∧ r.2.mem ((c.tc : Thread Cert.DmgRefIdeal.nD Cert.DmgRefIdeal.τ).loc Cert.DmgRefIdeal.main_arg0) = m' ((c.tc : Thread Cert.DmgRefIdeal.nD Cert.DmgRefIdeal.τ).loc Cert.DmgRefIdeal.main_arg0)
          ∧ r.2.mem ((c.tc : Thread Cert.DmgRefIdeal.nD Cert.DmgRefIdeal.τ).loc Cert.DmgRefIdeal.main_arg1) = m' ((c.tc : Thread Cert.DmgRefIdeal.nD Cert.DmgRefIdeal.τ).loc Cert.DmgRefIdeal.main_arg1)
          ∧ r.2.mem ((c.tc : Thread Cert.DmgRefIdeal.nD Cert.DmgRefIdeal.τ).loc Cert.DmgRefIdeal.main_arg2) = m' ((c.tc : Thread Cert.DmgRefIdeal.nD Cert.DmgRefIdeal.τ).loc Cert.DmgRefIdeal.main_arg2)
          ∧ r.2.mem ((c.tc : Thread Cert.DmgRefIdeal.nD Cert.DmgRefIdeal.τ).loc Cert.DmgRefIdeal.main_arg3) = m' ((c.tc : Thread Cert.DmgRefIdeal.nD Cert.DmgRefIdeal.τ).loc Cert.DmgRefIdeal.main_arg3)
          ∧ r.2.mem ((c.tc : Thread Cert.DmgRefIdeal.nD Cert.DmgRefIdeal.τ).loc Cert.DmgRefIdeal.main_arg4) = m' ((c.tc : Thread Cert.DmgRefIdeal.nD Cert.DmgRefIdeal.τ).loc Cert.DmgRefIdeal.main_arg4))

def Claim : Prop :=
  ∃ (hKernel : Cert.Kernel.Facts) (hKernelIdeal : Cert.KernelIdeal.Facts) (hReferenceIdeal : Cert.ReferenceIdeal.Facts) (hAct : Cert.Act.Facts) (hActIdeal : Cert.ActIdeal.Facts) (hActRefIdeal : Cert.ActRefIdeal.Facts) (hHid : Cert.Hid.Facts) (hHidIdeal : Cert.HidIdeal.Facts) (hHidRefIdeal : Cert.HidRefIdeal.Facts) (hInp : Cert.Inp.Facts) (hInpIdeal : Cert.InpIdeal.Facts) (hInpRefIdeal : Cert.InpRefIdeal.Facts) (hMlp : Cert.Mlp.Facts) (hMlpIdeal : Cert.MlpIdeal.Facts) (hMlpRefIdeal : Cert.MlpRefIdeal.Facts) (hProj : Cert.Proj.Facts) (hProjIdeal : Cert.ProjIdeal.Facts) (hProjRefIdeal : Cert.ProjRefIdeal.Facts) (hGout : Cert.Gout.Facts) (hGoutIdeal : Cert.GoutIdeal.Facts) (hGoutRefIdeal : Cert.GoutRefIdeal.Facts) (hOut : Cert.Out.Facts) (hOutIdeal : Cert.OutIdeal.Facts) (hOutRefIdeal : Cert.OutRefIdeal.Facts) (hGmoSend : Cert.GmoSend.Facts) (hGmoSendIdeal : Cert.GmoSendIdeal.Facts) (hGmoSendRefIdeal : Cert.GmoSendRefIdeal.Facts) (hGmoOwn : Cert.GmoOwn.Facts) (hGmoOwnIdeal : Cert.GmoOwnIdeal.Facts) (hGmoOwnRefIdeal : Cert.GmoOwnRefIdeal.Facts) (hGmiSend : Cert.GmiSend.Facts) (hGmiSendIdeal : Cert.GmiSendIdeal.Facts) (hGmiSendRefIdeal : Cert.GmiSendRefIdeal.Facts) (hGmiOwn : Cert.GmiOwn.Facts) (hGmiOwnIdeal : Cert.GmiOwnIdeal.Facts) (hGmiOwnRefIdeal : Cert.GmiOwnRefIdeal.Facts) (hGinSend : Cert.GinSend.Facts) (hGinSendIdeal : Cert.GinSendIdeal.Facts) (hGinSendRefIdeal : Cert.GinSendRefIdeal.Facts) (hGinOwn : Cert.GinOwn.Facts) (hGinOwnIdeal : Cert.GinOwnIdeal.Facts) (hGinOwnRefIdeal : Cert.GinOwnRefIdeal.Facts) (hBra : Cert.Bra.Facts) (hBraIdeal : Cert.BraIdeal.Facts) (hBraRefIdeal : Cert.BraRefIdeal.Facts) (hDob : Cert.Dob.Facts) (hDobIdeal : Cert.DobIdeal.Facts) (hDobRefIdeal : Cert.DobRefIdeal.Facts) (hGab : Cert.Gab.Facts) (hGabIdeal : Cert.GabIdeal.Facts) (hGabRefIdeal : Cert.GabRefIdeal.Facts) (hLoss : Cert.Loss.Facts) (hLossIdeal : Cert.LossIdeal.Facts) (hLossRefIdeal : Cert.LossRefIdeal.Facts) (hMrg : Cert.Mrg.Facts) (hMrgIdeal : Cert.MrgIdeal.Facts) (hMrgRefIdeal : Cert.MrgRefIdeal.Facts) (hDmg : Cert.Dmg.Facts) (hDmgIdeal : Cert.DmgIdeal.Facts) (hDmgRefIdeal : Cert.DmgRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Act (hAct := hAct)
    ∧ quiescent_ActIdeal (hActIdeal := hActIdeal)
    ∧ quiescent_ActRefIdeal (hActRefIdeal := hActRefIdeal)
    ∧ quiescent_Hid (hHid := hHid)
    ∧ quiescent_HidIdeal (hHidIdeal := hHidIdeal)
    ∧ quiescent_HidRefIdeal (hHidRefIdeal := hHidRefIdeal)
    ∧ quiescent_Inp (hInp := hInp)
    ∧ quiescent_InpIdeal (hInpIdeal := hInpIdeal)
    ∧ quiescent_InpRefIdeal (hInpRefIdeal := hInpRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Proj (hProj := hProj)
    ∧ quiescent_ProjIdeal (hProjIdeal := hProjIdeal)
    ∧ quiescent_ProjRefIdeal (hProjRefIdeal := hProjRefIdeal)
    ∧ quiescent_Gout (hGout := hGout)
    ∧ quiescent_GoutIdeal (hGoutIdeal := hGoutIdeal)
    ∧ quiescent_GoutRefIdeal (hGoutRefIdeal := hGoutRefIdeal)
    ∧ quiescent_Out (hOut := hOut)
    ∧ quiescent_OutIdeal (hOutIdeal := hOutIdeal)
    ∧ quiescent_OutRefIdeal (hOutRefIdeal := hOutRefIdeal)
    ∧ quiescent_GmoSend (hGmoSend := hGmoSend)
    ∧ quiescent_GmoSendIdeal (hGmoSendIdeal := hGmoSendIdeal)
    ∧ quiescent_GmoSendRefIdeal (hGmoSendRefIdeal := hGmoSendRefIdeal)
    ∧ quiescent_GmoOwn (hGmoOwn := hGmoOwn)
    ∧ quiescent_GmoOwnIdeal (hGmoOwnIdeal := hGmoOwnIdeal)
    ∧ quiescent_GmoOwnRefIdeal (hGmoOwnRefIdeal := hGmoOwnRefIdeal)
    ∧ quiescent_GmiSend (hGmiSend := hGmiSend)
    ∧ quiescent_GmiSendIdeal (hGmiSendIdeal := hGmiSendIdeal)
    ∧ quiescent_GmiSendRefIdeal (hGmiSendRefIdeal := hGmiSendRefIdeal)
    ∧ quiescent_GmiOwn (hGmiOwn := hGmiOwn)
    ∧ quiescent_GmiOwnIdeal (hGmiOwnIdeal := hGmiOwnIdeal)
    ∧ quiescent_GmiOwnRefIdeal (hGmiOwnRefIdeal := hGmiOwnRefIdeal)
    ∧ quiescent_GinSend (hGinSend := hGinSend)
    ∧ quiescent_GinSendIdeal (hGinSendIdeal := hGinSendIdeal)
    ∧ quiescent_GinSendRefIdeal (hGinSendRefIdeal := hGinSendRefIdeal)
    ∧ quiescent_GinOwn (hGinOwn := hGinOwn)
    ∧ quiescent_GinOwnIdeal (hGinOwnIdeal := hGinOwnIdeal)
    ∧ quiescent_GinOwnRefIdeal (hGinOwnRefIdeal := hGinOwnRefIdeal)
    ∧ quiescent_Bra (hBra := hBra)
    ∧ quiescent_BraIdeal (hBraIdeal := hBraIdeal)
    ∧ quiescent_BraRefIdeal (hBraRefIdeal := hBraRefIdeal)
    ∧ quiescent_Dob (hDob := hDob)
    ∧ quiescent_DobIdeal (hDobIdeal := hDobIdeal)
    ∧ quiescent_DobRefIdeal (hDobRefIdeal := hDobRefIdeal)
    ∧ quiescent_Gab (hGab := hGab)
    ∧ quiescent_GabIdeal (hGabIdeal := hGabIdeal)
    ∧ quiescent_GabRefIdeal (hGabRefIdeal := hGabRefIdeal)
    ∧ quiescent_Loss (hLoss := hLoss)
    ∧ quiescent_LossIdeal (hLossIdeal := hLossIdeal)
    ∧ quiescent_LossRefIdeal (hLossRefIdeal := hLossRefIdeal)
    ∧ quiescent_Mrg (hMrg := hMrg)
    ∧ quiescent_MrgIdeal (hMrgIdeal := hMrgIdeal)
    ∧ quiescent_MrgRefIdeal (hMrgRefIdeal := hMrgRefIdeal)
    ∧ quiescent_Dmg (hDmg := hDmg)
    ∧ quiescent_DmgIdeal (hDmgIdeal := hDmgIdeal)
    ∧ quiescent_DmgRefIdeal (hDmgRefIdeal := hDmgRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Act_ActIdeal
    ∧ algebraic_ActIdeal_ActRefIdeal (hActIdeal := hActIdeal) (hActRefIdeal := hActRefIdeal)
    ∧ preserves_Hid_HidIdeal
    ∧ algebraic_HidIdeal_HidRefIdeal (hHidIdeal := hHidIdeal) (hHidRefIdeal := hHidRefIdeal)
    ∧ preserves_Inp_InpIdeal
    ∧ algebraic_InpIdeal_InpRefIdeal (hInpIdeal := hInpIdeal) (hInpRefIdeal := hInpRefIdeal)
    ∧ preserves_Mlp_MlpIdeal
    ∧ algebraic_MlpIdeal_MlpRefIdeal (hMlpIdeal := hMlpIdeal) (hMlpRefIdeal := hMlpRefIdeal)
    ∧ preserves_Proj_ProjIdeal
    ∧ algebraic_ProjIdeal_ProjRefIdeal (hProjIdeal := hProjIdeal) (hProjRefIdeal := hProjRefIdeal)
    ∧ preserves_Gout_GoutIdeal
    ∧ algebraic_GoutIdeal_GoutRefIdeal (hGoutIdeal := hGoutIdeal) (hGoutRefIdeal := hGoutRefIdeal)
    ∧ preserves_Out_OutIdeal
    ∧ algebraic_OutIdeal_OutRefIdeal (hOutIdeal := hOutIdeal) (hOutRefIdeal := hOutRefIdeal)
    ∧ preserves_GmoSend_GmoSendIdeal
    ∧ algebraic_GmoSendIdeal_GmoSendRefIdeal (hGmoSendIdeal := hGmoSendIdeal) (hGmoSendRefIdeal := hGmoSendRefIdeal)
    ∧ preserves_GmoOwn_GmoOwnIdeal
    ∧ algebraic_GmoOwnIdeal_GmoOwnRefIdeal (hGmoOwnIdeal := hGmoOwnIdeal) (hGmoOwnRefIdeal := hGmoOwnRefIdeal)
    ∧ preserves_GmiSend_GmiSendIdeal
    ∧ algebraic_GmiSendIdeal_GmiSendRefIdeal (hGmiSendIdeal := hGmiSendIdeal) (hGmiSendRefIdeal := hGmiSendRefIdeal)
    ∧ preserves_GmiOwn_GmiOwnIdeal
    ∧ algebraic_GmiOwnIdeal_GmiOwnRefIdeal (hGmiOwnIdeal := hGmiOwnIdeal) (hGmiOwnRefIdeal := hGmiOwnRefIdeal)
    ∧ preserves_GinSend_GinSendIdeal
    ∧ algebraic_GinSendIdeal_GinSendRefIdeal (hGinSendIdeal := hGinSendIdeal) (hGinSendRefIdeal := hGinSendRefIdeal)
    ∧ preserves_GinOwn_GinOwnIdeal
    ∧ algebraic_GinOwnIdeal_GinOwnRefIdeal (hGinOwnIdeal := hGinOwnIdeal) (hGinOwnRefIdeal := hGinOwnRefIdeal)
    ∧ preserves_Bra_BraIdeal
    ∧ algebraic_BraIdeal_BraRefIdeal (hBraIdeal := hBraIdeal) (hBraRefIdeal := hBraRefIdeal)
    ∧ preserves_Dob_DobIdeal
    ∧ algebraic_DobIdeal_DobRefIdeal (hDobIdeal := hDobIdeal) (hDobRefIdeal := hDobRefIdeal)
    ∧ preserves_Gab_GabIdeal
    ∧ algebraic_GabIdeal_GabRefIdeal (hGabIdeal := hGabIdeal) (hGabRefIdeal := hGabRefIdeal)
    ∧ preserves_Loss_LossIdeal
    ∧ algebraic_LossIdeal_LossRefIdeal (hLossIdeal := hLossIdeal) (hLossRefIdeal := hLossRefIdeal)
    ∧ preserves_Mrg_MrgIdeal
    ∧ algebraic_MrgIdeal_MrgRefIdeal (hMrgIdeal := hMrgIdeal) (hMrgRefIdeal := hMrgRefIdeal)
    ∧ preserves_Dmg_DmgIdeal
    ∧ algebraic_DmgIdeal_DmgRefIdeal (hDmgIdeal := hDmgIdeal) (hDmgRefIdeal := hDmgRefIdeal)
-- ==== Pre_finite.lean ====
abbrev S4096x9728 : Shape := ⟨2, ![4096, 9728]⟩
abbrev S1x64 : Shape := ⟨2, ![1, 64]⟩
abbrev S1x16 : Shape := ⟨2, ![1, 16]⟩
abbrev S4096x1024 : Shape := ⟨2, ![4096, 1024]⟩
abbrev S_ : Shape := ⟨0, ![]⟩

class Facts : Prop where
  bcast_S_S4096x9728 : S_.BroadcastsInDim S4096x9728 (![] : Fin 0 → Fin S4096x9728.rank)
  reducesTo_S4096x9728_S_d0_1 : S4096x9728.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S1x16 : S_.BroadcastsInDim S1x16 (![] : Fin 0 → Fin S1x16.rank)
  reducesTo_S1x16_S_d0_1 : S1x16.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v14 : IVec S_ 1) (main_v15 : FVec F S1x16 .f32) (main_cst_5 : FVec F S_ .f32) : IVec S_ 1 :=
  let main_v16 : FVec F S1x16 .f32 := broadcastInDim S1x16 ![] bcast_S_S1x16 main_cst_5
  let main_v17 : IVec S1x16 1 := cmpf .olt main_v15 main_v16
  let main_c_6 : IVec S_ 1 := constantI S_ 1 1#1
  let main_v18 : IVec S_ 1 := (fun x v => Host.reduce IntOp.andi x v reducesTo_S1x16_S_d0_1 h_S_) main_v17 main_c_6
  let main_v19 : IVec S_ 1 := andi main_v14 main_v18
  let main_v20 : FVec F S4096x1024 .f32 := Host.absf main_arg4
  let main_cst_7 : FVec F S_ .f32 := constant S_ .f32 0x7F800000#32
  let main_v21 : FVec F S4096x1024 .f32 := broadcastInDim S4096x1024 ![] bcast_S_S4096x1024 main_cst_7
  let main_v22 : IVec S4096x1024 1 := cmpf .olt main_v20 main_v21
  let main_c_8 : IVec S_ 1 := constantI S_ 1 1#1
  let main_v23 : IVec S_ 1 := (fun x v => Host.reduce IntOp.andi x v reducesTo_S4096x1024_S_d0_1 h_S_) main_v22 main_c_8
  let main_v24 : IVec S_ 1 := andi main_v19 main_v23
  main_v24

def fn {F : FTy → Type} [FloatOps F] (main_arg0 : FVec F S4096x9728 .f32) (main_arg1 : FVec F S1x64 .f32) (main_arg2 : FVec F S1x64 .f32) (main_arg3 : FVec F S1x16 .f32) (main_arg4 : FVec F S4096x1024 .f32) : IVec S_ 1 :=
  let main_v0 : FVec F S4096x9728 .f32 := Host.absf main_arg0
  let main_cst : FVec F S_ .f32 := constant S_ .f32 0x7F800000#32
  let main_v1 : FVec F S4096x9728 .f32 := broadcastInDim S4096x9728 ![] bcast_S_S4096x9728 main_cst
  let main_v2 : IVec S4096x9728 1 := cmpf .olt main_v0 main_v1
  let main_c : IVec S_ 1 := constantI S_ 1 1#1
  let main_v3 : IVec S_ 1 := (fun x v => Host.reduce IntOp.andi x v reducesTo_S4096x9728_S_d0_1 h_S_) main_v2 main_c
  let main_c_0 : IVec S_ 1 := constantI S_ 1 1#1
  let main_v4 : IVec S_ 1 := andi main_c_0 main_v3
  let main_v5 : FVec F S1x64 .f32 := Host.absf main_arg1
  let main_cst_1 : FVec F S_ .f32 := constant S_ .f32 0x7F800000#32
  let main_v6 : FVec F S1x64 .f32 := broadcastInDim S1x64 ![] bcast_S_S1x64 main_cst_1
  let main_v7 : IVec S1x64 1 := cmpf .olt main_v5 main_v6
  let main_c_2 : IVec S_ 1 := constantI S_ 1 1#1
  let main_v8 : IVec S_ 1 := (fun x v => Host.reduce IntOp.andi x v reducesTo_S1x64_S_d0_1 h_S_) main_v7 main_c_2
  let main_v9 : IVec S_ 1 := andi main_v4 main_v8
  let main_v10 : FVec F S1x64 .f32 := Host.absf main_arg2
  let main_cst_3 : FVec F S_ .f32 := constant S_ .f32 0x7F800000#32
  let main_v11 : FVec F S1x64 .f32 := broadcastInDim S1x64 ![] bcast_S_S1x64 main_cst_3
  let main_v12 : IVec S1x64 1 := cmpf .olt main_v10 main_v11
  let main_c_4 : IVec S_ 1 := constantI S_ 1 1#1
  let main_v13 : IVec S_ 1 := (fun x v => Host.reduce IntOp.andi x v reducesTo_S1x64_S_d0_1 h_S_) main_v12 main_c_4
  let main_v14 : IVec S_ 1 := andi main_v9 main_v13
  let main_v15 : FVec F S1x16 .f32 := Host.absf main_arg3
  let main_cst_5 : FVec F S_ .f32 := constant S_ .f32 0x7F800000#32
  fn_part1 (F := F) main_arg4 main_v14 main_v15 main_cst_5
-- ==== Kernel.lean ====
abbrev S4096x9728 : Shape := ⟨2, ![4096, 9728]⟩
abbrev S1x64 : Shape := ⟨2, ![1, 64]⟩
abbrev S1x16 : Shape := ⟨2, ![1, 16]⟩
abbrev S4096x1024 : Shape := ⟨2, ![4096, 1024]⟩
abbrev S4096x512 : Shape := ⟨2, ![4096, 512]⟩
abbrev S8x128 : Shape := ⟨2, ![8, 128]⟩
abbrev S128x1024 : Shape := ⟨2, ![128, 1024]⟩
abbrev S128x256 : Shape := ⟨2, ![128, 256]⟩
abbrev S128x512 : Shape := ⟨2, ![128, 512]⟩
abbrev S512x256 : Shape := ⟨2, ![512, 256]⟩
abbrev S1x128 : Shape := ⟨2, ![1, 128]⟩
abbrev S128x64 : Shape := ⟨2, ![128, 64]⟩
abbrev S256x64 : Shape := ⟨2, ![256, 64]⟩
abbrev S512x64 : Shape := ⟨2, ![512, 64]⟩
abbrev S256 : Shape := ⟨1, ![256]⟩
abbrev S256x1 : Shape := ⟨2, ![256, 1]⟩
abbrev S512 : Shape := ⟨1, ![512]⟩
abbrev S512x1 : Shape := ⟨2, ![512, 1]⟩
abbrev S1x1 : Shape := ⟨2, ![1, 1]⟩
abbrev S128x1 : Shape := ⟨2, ![128, 1]⟩
abbrev S64 : Shape := ⟨1, ![64]⟩
abbrev S1 : Shape := ⟨1, ![1]⟩

abbrev nBuf : Space → Nat
  | .hbm => 8
  | .vmem => 22
  | .smem => 0
  | _ => 0

abbrev bufTy : (tb : Table) → Fin (tcTables nBuf tb) → BufTy
  | .hbm, ⟨0, _⟩ => ⟨S4096x9728, .f32⟩
  | .hbm, ⟨1, _⟩ => ⟨S1x64, .f32⟩
  | .hbm, ⟨2, _⟩ => ⟨S1x64, .f32⟩
  | .hbm, ⟨3, _⟩ => ⟨S1x16, .f32⟩
  | .hbm, ⟨4, _⟩ => ⟨S4096x1024, .f32⟩
  | .hbm, ⟨5, _⟩ => ⟨S4096x1024, .bf16⟩
  | .hbm, ⟨6, _⟩ => ⟨S4096x512, .bf16⟩
  | .hbm, ⟨7, _⟩ => ⟨S8x128, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S1x64, .f32⟩
  | .local _ .vmem, ⟨11, _⟩ => ⟨S1x64, .f32⟩
  | .local _ .vmem, ⟨12, _⟩ => ⟨S1x16, .f32⟩
  | .local _ .vmem, ⟨13, _⟩ => ⟨S128x1024, .f32⟩
  | .local _ .vmem, ⟨14, _⟩ => ⟨S128x1024, .f32⟩
  | .local _ .vmem, ⟨15, _⟩ => ⟨S128x1024, .bf16⟩
  | .local _ .vmem, ⟨16, _⟩ => ⟨S128x1024, .bf16⟩
  | .local _ .vmem, ⟨17, _⟩ => ⟨S128x512, .bf16⟩
  | .local _ .vmem, ⟨18, _⟩ => ⟨S128x512, .bf16⟩
  | .local _ .vmem, ⟨19, _⟩ => ⟨S8x128, .f32⟩
  | .local _ .vmem, ⟨20, _⟩ => ⟨S128x256, .f32⟩
  | .local _ .vmem, ⟨21, _⟩ => ⟨S128x256, .f32⟩
  | _, _ => ⟨S4096x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c4_i32 : BitVec 32 := 4#32
  let c0_i32 : BitVec 32 := 0#32
  ![v0.toNat, c4_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c20_i32 : BitVec 32 := 20#32
  let c0_i32_0 : BitVec 32 := 0#32
  ![v2.toNat, c20_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c20_i32 : BitVec 32 := 20#32
  let c0_i32 : BitVec 32 := 0#32
  ![v0.toNat, c20_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c21_i32 : BitVec 32 := 21#32
  let c0_i32_0 : BitVec 32 := 0#32
  ![v2.toNat, c21_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c21_i32 : BitVec 32 := 21#32
  let c0_i32 : BitVec 32 := 0#32
  ![v0.toNat, c21_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4096x9728 : Shape := ⟨2, ![4096, 9728]⟩
abbrev S1x64 : Shape := ⟨2, ![1, 64]⟩
abbrev S1x16 : Shape := ⟨2, ![1, 16]⟩
abbrev S4096x1024 : Shape := ⟨2, ![4096, 1024]⟩
abbrev S1x4096x1024 : Shape := ⟨3, ![1, 4096, 1024]⟩
abbrev S4096x256 : Shape := ⟨2, ![4096, 256]⟩
abbrev S1x4096x256 : Shape := ⟨3, ![1, 4096, 256]⟩
abbrev S16 : Shape := ⟨1, ![16]⟩
abbrev S1x4096x4x4x64 : Shape := ⟨5, ![1, 4096, 4, 4, 64]⟩
abbrev S1x4096x4x64 : Shape := ⟨4, ![1, 4096, 4, 64]⟩
abbrev S_ : Shape := ⟨0, ![]⟩
abbrev S1x4096x4x4 : Shape := ⟨4, ![1, 4096, 4, 4]⟩
abbrev S1x4096x4x4x1 : Shape := ⟨5, ![1, 4096, 4, 4, 1]⟩
abbrev S1x1x1x1x64 : Shape := ⟨5, ![1, 1, 1, 1, 64]⟩
abbrev S1x4096x4 : Shape := ⟨3, ![1, 4096, 4]⟩
abbrev S1x4096x4x1 : Shape := ⟨4, ![1, 4096, 4, 1]⟩
abbrev S1x1x1x64 : Shape := ⟨4, ![1, 1, 1, 64]⟩
abbrev S1x32x128x4x4x64 : Shape := ⟨6, ![1, 32, 128, 4, 4, 64]⟩
abbrev S1x32x128x4x64 : Shape := ⟨5, ![1, 32, 128, 4, 64]⟩
abbrev S1x1x128x4x64 : Shape := ⟨5, ![1, 1, 128, 4, 64]⟩
abbrev S1x31x128x4x64 : Shape := ⟨5, ![1, 31, 128, 4, 64]⟩
abbrev S1x32x256x4x64 : Shape := ⟨5, ![1, 32, 256, 4, 64]⟩
abbrev S1x32x4x256x128x4 : Shape := ⟨6, ![1, 32, 4, 256, 128, 4]⟩
abbrev S1x32x4x4x128x256 : Shape := ⟨6, ![1, 32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S4x4 : Shape := ⟨2, ![4, 4]⟩
abbrev S1x1x4x4x1x1 : Shape := ⟨6, ![1, 1, 4, 4, 1, 1]⟩
abbrev S1x32x4x4x128x1 : Shape := ⟨6, ![1, 32, 4, 4, 128, 1]⟩
abbrev S1x32x4x4x128x257 : Shape := ⟨6, ![1, 32, 4, 4, 128, 257]⟩
abbrev S1x32x4x4x128 : Shape := ⟨5, ![1, 32, 4, 4, 128]⟩
abbrev S1x32x4x64x4x128 : Shape := ⟨6, ![1, 32, 4, 64, 4, 128]⟩
abbrev S1x32x4x64x256 : Shape := ⟨5, ![1, 32, 4, 64, 256]⟩
abbrev S32x4x4x128 : Shape := ⟨4, ![32, 4, 4, 128]⟩
abbrev S1x32x4x128x4x64 : Shape := ⟨6, ![1, 32, 4, 128, 4, 64]⟩
abbrev S1x32x4x256x64 : Shape := ⟨5, ![1, 32, 4, 256, 64]⟩
abbrev S64 : Shape := ⟨1, ![64]⟩
abbrev S4096x4 : Shape := ⟨2, ![4096, 4]⟩
abbrev S4096x4x4 : Shape := ⟨3, ![4096, 4, 4]⟩
abbrev S4096x512 : Shape := ⟨2, ![4096, 512]⟩
abbrev S1x128 : Shape := ⟨2, ![1, 128]⟩
abbrev S5x128 : Shape := ⟨2, ![5, 128]⟩
abbrev S8x128 : Shape := ⟨2, ![8, 128]⟩

abbrev nBuf : Space → Nat
  | .hbm => 301
  | .vmem => 0
  | .smem => 0
  | _ => 0

abbrev hbmTy0_0 (i : Nat) : BufTy := match i % 128 with
  | 0 => ⟨S4096x9728, .f32⟩
  | 1 => ⟨S1x64, .f32⟩
  | 2 => ⟨S1x64, .f32⟩
  | 3 => ⟨S1x16, .f32⟩
  | 4 => ⟨S4096x1024, .f32⟩
  | 5 => ⟨S4096x1024, .f32⟩
  | 6 => ⟨S1x4096x1024, .f32⟩
  | 7 => ⟨S4096x256, .f32⟩
  | 8 => ⟨S1x4096x256, .f32⟩
  | 9 => ⟨S4096x256, .f32⟩
  | 10 => ⟨S1x4096x256, .f32⟩
  | 11 => ⟨S16, .f32⟩
  | 12 => ⟨S1x4096x4x4x64, .f32⟩
  | 13 => ⟨S1x4096x4x64, .f32⟩
  | 14 => ⟨S1x4096x4x4x64, .f32⟩
  | 15 => ⟨S_, .f32⟩
  | 16 => ⟨S1x4096x4x4, .f32⟩
  | 17 => ⟨S1x4096x4x4x1, .f32⟩
  | 18 => ⟨S_, .f32⟩
  | 19 => ⟨S1x4096x4x4x1, .f32⟩
  | 20 => ⟨S1x4096x4x4x1, .f32⟩
  | 21 => ⟨S_, .f32⟩
  | 22 => ⟨S1x4096x4x4x1, .f32⟩
  | 23 => ⟨S1x4096x4x4x1, .f32⟩
  | 24 => ⟨S1x4096x4x4x1, .f32⟩
  | 25 => ⟨S1x4096x4x4x1, .f32⟩
  | 26 => ⟨S_, .f32⟩
  | 27 => ⟨S1x4096x4x4x1, .f32⟩
  | 28 => ⟨S1x4096x4x4x1, .f32⟩
  | 29 => ⟨S1x4096x4x4x64, .f32⟩
  | 30 => ⟨S1x4096x4x4x64, .f32⟩
  | 31 => ⟨S1x1x1x1x64, .f32⟩
  | 32 => ⟨S1x4096x4x4x64, .f32⟩
  | 33 => ⟨S1x4096x4x4x64, .f32⟩
  | 34 => ⟨S1x4096x4x64, .f32⟩
  | 35 => ⟨S_, .f32⟩
  | 36 => ⟨S1x4096x4, .f32⟩
  | 37 => ⟨S1x4096x4x1, .f32⟩
  | 38 => ⟨S_, .f32⟩
  | 39 => ⟨S1x4096x4x1, .f32⟩
  | 40 => ⟨S1x4096x4x1, .f32⟩
  | 41 => ⟨S_, .f32⟩
  | 42 => ⟨S1x4096x4x1, .f32⟩
  | 43 => ⟨S1x4096x4x1, .f32⟩
  | 44 => ⟨S1x4096x4x1, .f32⟩
  | 45 => ⟨S1x4096x4x1, .f32⟩
  | 46 => ⟨S_, .f32⟩
  | 47 => ⟨S1x4096x4x1, .f32⟩
  | 48 => ⟨S1x4096x4x1, .f32⟩
  | 49 => ⟨S1x4096x4x64, .f32⟩
  | 50 => ⟨S1x4096x4x64, .f32⟩
  | 51 => ⟨S1x1x1x64, .f32⟩
  | 52 => ⟨S1x4096x4x64, .f32⟩
  | 53 => ⟨S1x4096x4x64, .f32⟩
  | 54 => ⟨S1x4096x4x64, .f32⟩
  | 55 => ⟨S1x32x128x4x4x64, .f32⟩
  | 56 => ⟨S1x32x128x4x64, .f32⟩
  | 57 => ⟨S1x32x128x4x64, .f32⟩
  | 58 => ⟨S1x1x128x4x64, .f32⟩
  | 59 => ⟨S_, .f32⟩
  | 60 => ⟨S1x1x128x4x64, .f32⟩
  | 61 => ⟨S1x31x128x4x64, .f32⟩
  | 62 => ⟨S1x32x128x4x64, .f32⟩
  | 63 => ⟨S_, .f32⟩
  | 64 => ⟨S1x1x128x4x64, .f32⟩
  | 65 => ⟨S1x32x256x4x64, .f32⟩
  | 66 => ⟨S1x1x128x4x64, .f32⟩
  | 67 => ⟨S_, .f32⟩
  | 68 => ⟨S1x1x128x4x64, .f32⟩
  | 69 => ⟨S1x31x128x4x64, .f32⟩
  | 70 => ⟨S1x32x128x4x64, .f32⟩
  | 71 => ⟨S_, .f32⟩
  | 72 => ⟨S1x1x128x4x64, .f32⟩
  | 73 => ⟨S1x32x256x4x64, .f32⟩
  | 74 => ⟨S1x32x4x256x128x4, .f32⟩
  | 75 => ⟨S1x32x4x4x128x256, .f32⟩
  | 76 => ⟨S_, .f32⟩
  | 77 => ⟨S1x32x4x4x128x256, .f32⟩
  | 78 => ⟨S1x32x4x4x128x256, .f32⟩
  | 79 => ⟨S128, .i32⟩
  | 80 => ⟨S128x1, .i32⟩
  | 81 => ⟨S_, .i32⟩
  | 82 => ⟨S128x1, .i32⟩
  | 83 => ⟨S128x1, .i32⟩
  | 84 => ⟨S256, .i32⟩
  | 85 => ⟨S1x256, .i32⟩
  | 86 => ⟨S128x256, .i32⟩
  | 87 => ⟨S128x256, .i32⟩
  | 88 => ⟨S128x256, .i32⟩
  | 89 => ⟨S_, .i32⟩
  | 90 => ⟨S128x256, .i32⟩
  | 91 => ⟨S128x256, .i1⟩
  | 92 => ⟨S_, .i32⟩
  | 93 => ⟨S128x256, .i32⟩
  | 94 => ⟨S128x256, .i1⟩
  | 95 => ⟨S128x256, .i1⟩
  | 96 => ⟨S32, .i32⟩
  | 97 => ⟨S_, .i32⟩
  | 98 => ⟨S32, .i32⟩
  | 99 => ⟨S32, .i1⟩
  | 100 => ⟨S32x1x1, .i1⟩
  | 101 => ⟨S_, .i32⟩
  | 102 => ⟨S1x256, .i32⟩
  | 103 => ⟨S1x256, .i1⟩
  | 104 => ⟨S1x1x256, .i1⟩
  | 105 => ⟨S32x1x256, .i1⟩
  | 106 => ⟨S32x1x256, .i1⟩
  | 107 => ⟨S32x1x256, .i1⟩
  | 108 => ⟨S1x128x256, .i1⟩
  | 109 => ⟨S32x128x256, .i1⟩
  | 110 => ⟨S32x128x256, .i1⟩
  | 111 => ⟨S32x128x256, .i1⟩
  | 112 => ⟨S1x32x1x1x128x256, .i1⟩
  | 113 => ⟨S_, .f32⟩
  | 114 => ⟨S_, .f32⟩
  | 115 => ⟨S1x32x4x4x128x256, .i1⟩
  | 116 => ⟨S1x32x4x4x128x256, .f32⟩
  | 117 => ⟨S1x32x4x4x128x256, .f32⟩
  | 118 => ⟨S_, .f32⟩
  | 119 => ⟨S1x32x4x4x128x256, .f32⟩
  | 120 => ⟨S4x4, .f32⟩
  | 121 => ⟨S1x1x4x4x1x1, .f32⟩
  | 122 => ⟨S1x32x4x4x128x1, .f32⟩
  | 123 => ⟨S1x32x4x4x128x257, .f32⟩
  | 124 => ⟨S_, .f32⟩
  | 125 => ⟨S1x32x4x4x128, .f32⟩
  | 126 => ⟨S1x32x4x4x128x1, .f32⟩
  | 127 => ⟨S1x32x4x4x128x257, .f32⟩
  | _ => ⟨S4096x9728, .f32⟩

abbrev hbmTy0_1 (i : Nat) : BufTy := match i % 128 with
  | 0 => ⟨S1x32x4x4x128x257, .i1⟩
  | 1 => ⟨S1x32x4x4x128x257, .f32⟩
  | 2 => ⟨S_, .f32⟩
  | 3 => ⟨S1x32x4x4x128, .f32⟩
  | 4 => ⟨S_, .f32⟩
  | 5 => ⟨S1x32x4x4x128, .f32⟩
  | 6 => ⟨S1x32x4x4x128, .f32⟩
  | 7 => ⟨S_, .f32⟩
  | 8 => ⟨S1x32x4x4x128, .f32⟩
  | 9 => ⟨S1x32x4x4x128, .i1⟩
  | 10 => ⟨S_, .f32⟩
  | 11 => ⟨S1x32x4x4x128, .f32⟩
  | 12 => ⟨S1x32x4x4x128, .i1⟩
  | 13 => ⟨S_, .f32⟩
  | 14 => ⟨S1x32x4x4x128, .f32⟩
  | 15 => ⟨S_, .f32⟩
  | 16 => ⟨S1x32x4x4x128, .f32⟩
  | 17 => ⟨S_, .f32⟩
  | 18 => ⟨S1x32x4x4x128, .f32⟩
  | 19 => ⟨S1x32x4x4x128, .f32⟩
  | 20 => ⟨S1x32x4x4x128, .f32⟩
  | 21 => ⟨S1x32x4x4x128x1, .f32⟩
  | 22 => ⟨S1x32x4x4x128x257, .f32⟩
  | 23 => ⟨S1x32x4x4x128x257, .f32⟩
  | 24 => ⟨S1x32x4x4x128x257, .f32⟩
  | 25 => ⟨S_, .f32⟩
  | 26 => ⟨S1x32x4x4x128, .f32⟩
  | 27 => ⟨S1x32x4x4x128x1, .f32⟩
  | 28 => ⟨S1x32x4x4x128x257, .f32⟩
  | 29 => ⟨S1x32x4x4x128x257, .f32⟩
  | 30 => ⟨S1x32x4x4x128x1, .f32⟩
  | 31 => ⟨S_, .f32⟩
  | 32 => ⟨S1x32x4x4x128x1, .f32⟩
  | 33 => ⟨S1x32x4x4x128x1, .f32⟩
  | 34 => ⟨S1x32x4x4x128x256, .f32⟩
  | 35 => ⟨S1x32x4x64x4x128, .f32⟩
  | 36 => ⟨S1x32x128x4x4x64, .f32⟩
  | 37 => ⟨S1x4096x1024, .f32⟩
  | 38 => ⟨S1x4096x1024, .f32⟩
  | 39 => ⟨S1x32x128x4x4x64, .f32⟩
  | 40 => ⟨S1x32x4x64x4x128, .f32⟩
  | 41 => ⟨S1x32x4x4x128x256, .f32⟩
  | 42 => ⟨S1x32x4x64x256, .f32⟩
  | 43 => ⟨S1x32x256x4x64, .f32⟩
  | 44 => ⟨S_, .f32⟩
  | 45 => ⟨S1x32x4x4x128x257, .f32⟩
  | 46 => ⟨S1x32x4x4x128x257, .f32⟩
  | 47 => ⟨S1x32x4x4x128x257, .f32⟩
  | 48 => ⟨S1x32x4x4x128x257, .f32⟩
  | 49 => ⟨S_, .f32⟩
  | 50 => ⟨S1x32x4x4x128, .f32⟩
  | 51 => ⟨S1x32x4x4x128x1, .f32⟩
  | 52 => ⟨S1x32x4x4x128x1, .f32⟩
  | 53 => ⟨S1x32x4x4x128x257, .f32⟩
  | 54 => ⟨S1x32x4x4x128x257, .f32⟩
  | 55 => ⟨S_, .f32⟩
  | 56 => ⟨S32x4x4x128, .f32⟩
  | 57 => ⟨S1x32x4x4x128, .f32⟩
  | 58 => ⟨S1x32x4x4x128x257, .f32⟩
  | 59 => ⟨S1x32x4x4x128x257, .f32⟩
  | 60 => ⟨S1x32x4x4x128x257, .f32⟩
  | 61 => ⟨S1x32x4x4x128x256, .f32⟩
  | 62 => ⟨S1x32x4x4x128x1, .f32⟩
  | 63 => ⟨S_, .f32⟩
  | 64 => ⟨S4x4, .f32⟩
  | 65 => ⟨S1x1x4x4x1x1, .f32⟩
  | 66 => ⟨S_, .f32⟩
  | 67 => ⟨S4x4, .f32⟩
  | 68 => ⟨S16, .f32⟩
  | 69 => ⟨S_, .f32⟩
  | 70 => ⟨S1x32x4x4x128x256, .f32⟩
  | 71 => ⟨S1x32x4x4x128x256, .f32⟩
  | 72 => ⟨S_, .f32⟩
  | 73 => ⟨S1x32x4x4x128x256, .f32⟩
  | 74 => ⟨S1x32x4x4x128x256, .f32⟩
  | 75 => ⟨S1x32x4x256x128x4, .f32⟩
  | 76 => ⟨S1x32x4x128x4x64, .f32⟩
  | 77 => ⟨S1x32x128x4x4x64, .f32⟩
  | 78 => ⟨S1x32x4x256x64, .f32⟩
  | 79 => ⟨S1x32x256x4x64, .f32⟩
  | 80 => ⟨S1x32x128x4x64, .f32⟩
  | 81 => ⟨S1x32x128x4x64, .f32⟩
  | 82 => ⟨S1x1x128x4x64, .f32⟩
  | 83 => ⟨S1x31x128x4x64, .f32⟩
  | 84 => ⟨S_, .f32⟩
  | 85 => ⟨S1x32x128x4x64, .f32⟩
  | 86 => ⟨S1x32x128x4x64, .f32⟩
  | 87 => ⟨S1x32x128x4x64, .f32⟩
  | 88 => ⟨S1x32x128x4x64, .f32⟩
  | 89 => ⟨S1x1x128x4x64, .f32⟩
  | 90 => ⟨S1x31x128x4x64, .f32⟩
  | 91 => ⟨S_, .f32⟩
  | 92 => ⟨S1x32x128x4x64, .f32⟩
  | 93 => ⟨S1x32x128x4x64, .f32⟩
  | 94 => ⟨S1x4096x4x64, .f32⟩
  | 95 => ⟨S1x4096x4x64, .f32⟩
  | 96 => ⟨S1x4096x4x4x64, .f32⟩
  | 97 => ⟨S1x4096x256, .f32⟩
  | 98 => ⟨S1x4096x4x64, .f32⟩
  | 99 => ⟨S_, .f32⟩
  | 100 => ⟨S1x64, .f32⟩
  | 101 => ⟨S1x1x1x64, .f32⟩
  | 102 => ⟨S1x4096x4x64, .f32⟩
  | 103 => ⟨S1x4096x4x64, .f32⟩
  | 104 => ⟨S_, .f32⟩
  | 105 => ⟨S64, .f32⟩
  | 106 => ⟨S1x64, .f32⟩
  | 107 => ⟨S1x4096x4x64, .f32⟩
  | 108 => ⟨S_, .f32⟩
  | 109 => ⟨S1x4096x4, .f32⟩
  | 110 => ⟨S1x4096x4x1, .f32⟩
  | 111 => ⟨S1x4096x4x64, .f32⟩
  | 112 => ⟨S1x4096x4x64, .f32⟩
  | 113 => ⟨S1x4096x4x1, .f32⟩
  | 114 => ⟨S_, .f32⟩
  | 115 => ⟨S1x4096x4x1, .f32⟩
  | 116 => ⟨S1x4096x4x1, .f32⟩
  | 117 => ⟨S_, .f32⟩
  | 118 => ⟨S4096x4, .f32⟩
  | 119 => ⟨S1x4096x4, .f32⟩
  | 120 => ⟨S1x4096x4x64, .f32⟩
  | 121 => ⟨S1x4096x4x64, .f32⟩
  | 122 => ⟨S1x4096x4x64, .f32⟩
  | 123 => ⟨S1x4096x4x64, .f32⟩
  | 124 => ⟨S1x4096x4x64, .f32⟩
  | 125 => ⟨S1x4096x4x4x64, .f32⟩
  | 126 => ⟨S_, .f32⟩
  | 127 => ⟨S1x64, .f32⟩
  | _ => ⟨S4096x9728, .f32⟩

abbrev hbmTy0_2 (i : Nat) : BufTy := match i % 128 with
  | 0 => ⟨S1x1x1x1x64, .f32⟩
  | 1 => ⟨S1x4096x4x4x64, .f32⟩
  | 2 => ⟨S1x4096x4x4x64, .f32⟩
  | 3 => ⟨S_, .f32⟩
  | 4 => ⟨S64, .f32⟩
  | 5 => ⟨S1x64, .f32⟩
  | 6 => ⟨S1x4096x4x4x64, .f32⟩
  | 7 => ⟨S_, .f32⟩
  | 8 => ⟨S1x4096x4x4, .f32⟩
  | 9 => ⟨S1x4096x4x4x1, .f32⟩
  | 10 => ⟨S1x4096x4x4x64, .f32⟩
  | 11 => ⟨S1x4096x4x4x64, .f32⟩
  | 12 => ⟨S1x4096x4x4x1, .f32⟩
  | 13 => ⟨S_, .f32⟩
  | 14 => ⟨S1x4096x4x4x1, .f32⟩
  | 15 => ⟨S1x4096x4x4x1, .f32⟩
  | 16 => ⟨S_, .f32⟩
  | 17 => ⟨S4096x4x4, .f32⟩
  | 18 => ⟨S1x4096x4x4, .f32⟩
  | 19 => ⟨S1x4096x4x4x64, .f32⟩
  | 20 => ⟨S1x4096x4x4x64, .f32⟩
  | 21 => ⟨S1x4096x4x4x64, .f32⟩
  | 22 => ⟨S1x4096x4x4x64, .f32⟩
  | 23 => ⟨S1x4096x4x4x64, .f32⟩
  | 24 => ⟨S1x4096x256, .f32⟩
  | 25 => ⟨S1x4096x1024, .f32⟩
  | 26 => ⟨S4096x256, .f32⟩
  | 27 => ⟨S4096x256, .f32⟩
  | 28 => ⟨S4096x512, .f32⟩
  | 29 => ⟨S_, .i32⟩
  | 30 => ⟨S_, .f32⟩
  | 31 => ⟨S1x128, .f32⟩
  | 32 => ⟨S_, .i32⟩
  | 33 => ⟨S_, .f32⟩
  | 34 => ⟨S1x128, .f32⟩
  | 35 => ⟨S1x16, .f32⟩
  | 36 => ⟨S_, .i32⟩
  | 37 => ⟨S_, .f32⟩
  | 38 => ⟨S1x128, .f32⟩
  | 39 => ⟨S_, .f32⟩
  | 40 => ⟨S5x128, .f32⟩
  | 41 => ⟨S8x128, .f32⟩
  | 42 => ⟨S4096x1024, .f32⟩
  | 43 => ⟨S4096x1024, .bf16⟩
  | 44 => ⟨S4096x512, .bf16⟩
  | _ => ⟨S4096x9728, .f32⟩

abbrev hbmTy (i : Nat) : BufTy := match i / 128 with
  | 0 => hbmTy0_0 i
  | 1 => hbmTy0_1 i
  | 2 => hbmTy0_2 i
  | _ => ⟨S4096x9728, .f32⟩

abbrev bufTy : (tb : Table) → Fin (tcTables nBuf tb) → BufTy
  | .hbm, ⟨i, _⟩ => hbmTy i
  | _, _ => ⟨S4096x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_c : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_c_12 : Ref sig .tc := ⟨.hbm, 89, rfl⟩
abbrev main_v70 : Ref sig .tc := ⟨.hbm, 90, rfl⟩
abbrev main_v71 : Ref sig .tc := ⟨.hbm, 91, rfl⟩
abbrev main_c_13 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_c_14 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_c_15 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_16 : Ref sig .tc := ⟨.hbm, 113, rfl⟩
abbrev main_call0_v0 : Ref sig .tc := ⟨.hbm, 114, rfl⟩
abbrev main_v90_1 : Ref sig .tc := ⟨.hbm, 115, rfl⟩
abbrev main_call0_v2 : Ref sig .tc := ⟨.hbm, 116, rfl⟩
abbrev main_v90_0 : Ref sig .tc := ⟨.hbm, 117, rfl⟩
abbrev main_call0_cst : Ref sig .tc := ⟨.hbm, 118, rfl⟩
abbrev main_v90_2 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_17 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_18 : Ref sig .tc := ⟨.hbm, 130, rfl⟩
abbrev main_v100 : Ref sig .tc := ⟨.hbm, 131, rfl⟩
abbrev main_cst_19 : Ref sig .tc := ⟨.hbm, 132, rfl⟩
abbrev main_v101 : Ref sig .tc := ⟨.hbm, 133, rfl⟩
abbrev main_v102 : Ref sig .tc := ⟨.hbm, 134, rfl⟩
abbrev main_cst_20 : Ref sig .tc := ⟨.hbm, 135, rfl⟩
abbrev main_v103 : Ref sig .tc := ⟨.hbm, 136, rfl⟩
abbrev main_v104 : Ref sig .tc := ⟨.hbm, 137, rfl⟩
abbrev main_cst_21 : Ref sig .tc := ⟨.hbm, 138, rfl⟩
abbrev main_v105 : Ref sig .tc := ⟨.hbm, 139, rfl⟩
abbrev main_v106 : Ref sig .tc := ⟨.hbm, 140, rfl⟩
abbrev main_cst_22 : Ref sig .tc := ⟨.hbm, 141, rfl⟩
abbrev main_v107 : Ref sig .tc := ⟨.hbm, 142, rfl⟩
abbrev main_cst_23 : Ref sig .tc := ⟨.hbm, 143, rfl⟩
abbrev main_v108 : Ref sig .tc := ⟨.hbm, 144, rfl⟩
abbrev main_cst_24 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_25 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_26 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_cst_27 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_cst_28 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_cst_29 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_cst_30 : Ref sig .tc := ⟨.hbm, 191, rfl⟩
abbrev main_v149 : Ref sig .tc := ⟨.hbm, 192, rfl⟩
abbrev main_v150 : Ref sig .tc := ⟨.hbm, 193, rfl⟩
abbrev main_cst_31 : Ref sig .tc := ⟨.hbm, 194, rfl⟩
abbrev main_v151 : Ref sig .tc := ⟨.hbm, 195, rfl⟩
abbrev main_v152 : Ref sig .tc := ⟨.hbm, 196, rfl⟩
abbrev main_call1_cst : Ref sig .tc := ⟨.hbm, 197, rfl⟩
abbrev main_call1_v0 : Ref sig .tc := ⟨.hbm, 198, rfl⟩
abbrev main_v153 : Ref sig .tc := ⟨.hbm, 199, rfl⟩
abbrev main_cst_32 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_cst_33 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_cst_34 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_cst_35 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_cst_36 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_cst_37 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_cst_38 : Ref sig .tc := ⟨.hbm, 242, rfl⟩
abbrev main_v190 : Ref sig .tc := ⟨.hbm, 243, rfl⟩
abbrev main_v191 : Ref sig .tc := ⟨.hbm, 244, rfl⟩
abbrev main_cst_39 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_cst_40 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_cst_41 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_cst_42 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_cst_43 : Ref sig .tc := ⟨.hbm, 269, rfl⟩
abbrev main_v212 : Ref sig .tc := ⟨.hbm, 270, rfl⟩
abbrev main_v213 : Ref sig .tc := ⟨.hbm, 271, rfl⟩
abbrev main_cst_44 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_c_45 : Ref sig .tc := ⟨.hbm, 285, rfl⟩
abbrev main_call2_v0 : Ref sig .tc := ⟨.hbm, 286, rfl⟩
abbrev main_v226 : Ref sig .tc := ⟨.hbm, 287, rfl⟩
abbrev main_c_46 : Ref sig .tc := ⟨.hbm, 288, rfl⟩
abbrev main_call3_v0 : Ref sig .tc := ⟨.hbm, 289, rfl⟩
abbrev main_v227 : Ref sig .tc := ⟨.hbm, 290, rfl⟩
abbrev main_v228 : Ref sig .tc := ⟨.hbm, 291, rfl⟩
abbrev main_c_47 : Ref sig .tc := ⟨.hbm, 292, rfl⟩
abbrev main_call4_v0 : Ref sig .tc := ⟨.hbm, 293, rfl⟩
abbrev main_v229 : Ref sig .tc := ⟨.hbm, 294, rfl⟩
abbrev main_cst_48 : Ref sig .tc := ⟨.hbm, 295, rfl⟩
abbrev main_v230 : Ref sig .tc := ⟨.hbm, 296, rfl⟩
abbrev main_v231 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩

abbrev nD : Nat := 1
abbrev τ : Topo := Topo.v7x

variable {F : FTy → Type} [FloatOps F]
-- ==== Act.lean ====
abbrev S4096x2048 : Shape := ⟨2, ![4096, 2048]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ActRefIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Hid.lean ====
abbrev S4096x8192 : Shape := ⟨2, ![4096, 8192]⟩
abbrev S2048x8192 : Shape := ⟨2, ![2048, 8192]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HidRefIdeal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S2048x8192, .f32⟩
  | .hbm, ⟨3, _⟩ => ⟨S_, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Inp.lean ====
abbrev S4096x9728 : Shape := ⟨2, ![4096, 9728]⟩
abbrev S2048x9728 : Shape := ⟨2, ![2048, 9728]⟩
abbrev S4096x2048 : Shape := ⟨2, ![4096, 2048]⟩
abbrev S1024x2432 : Shape := ⟨2, ![1024, 2432]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x9728, .bf16⟩
  | .hbm, ⟨1, _⟩ => ⟨S2048x9728, .bf16⟩
  | .hbm, ⟨2, _⟩ => ⟨S4096x2048, .f32⟩
  | .local _ .vmem, ⟨0, _⟩ => ⟨S1024x2432, .bf16⟩
  | .local _ .vmem, ⟨1, _⟩ => ⟨S1024x2432, .bf16⟩
  | .local _ .vmem, ⟨2, _⟩ => ⟨S1024x2432, .bf16⟩
  | .local _ .vmem, ⟨3, _⟩ => ⟨S1024x2432, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InpRefIdeal.lean ====
abbrev S4096x9728 : Shape := ⟨2, ![4096, 9728]⟩
abbrev S2048x9728 : Shape := ⟨2, ![2048, 9728]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x9728, .bf16⟩
  | .hbm, ⟨1, _⟩ => ⟨S2048x9728, .bf16⟩
  | .hbm, ⟨2, _⟩ => ⟨S2048x9728, .f32⟩
  | .hbm, ⟨3, _⟩ => ⟨S_, .f32⟩
  | .hbm, ⟨4, _⟩ => ⟨S4096x2048, .f32⟩
  | .hbm, ⟨5, _⟩ => ⟨S4096x9728, .f32⟩
  | .hbm, ⟨6, _⟩ => ⟨S4096x9728, .f32⟩
  | .hbm, ⟨7, _⟩ => ⟨S4096x2048, .f32⟩
  | _, _ => ⟨S4096x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Mlp.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .f32⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpRefIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proj.lean ====
abbrev S4096x2048 : Shape := ⟨2, ![4096, 2048]⟩
abbrev S2048x9728 : Shape := ⟨2, ![2048, 9728]⟩
abbrev S4096x9728 : Shape := ⟨2, ![4096, 9728]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x9728, .bf16⟩
  | .hbm, ⟨2, _⟩ => ⟨S4096x9728, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 19, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x2048 : Shape := ⟨2, ![4096, 2048]⟩
abbrev S2048x9728 : Shape := ⟨2, ![2048, 9728]⟩
abbrev S4096x9728 : Shape := ⟨2, ![4096, 9728]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x9728, .bf16⟩
  | .hbm, ⟨2, _⟩ => ⟨S4096x2048, .f32⟩
  | .hbm, ⟨3, _⟩ => ⟨S2048x9728, .f32⟩
  | .hbm, ⟨4, _⟩ => ⟨S4096x9728, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Gout.lean ====
abbrev S4096x2048 : Shape := ⟨2, ![4096, 2048]⟩
abbrev S2048x2048 : Shape := ⟨2, ![2048, 2048]⟩
abbrev S4096x1024 : Shape := ⟨2, ![4096, 1024]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x4096, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GoutRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GmoSend.lean ====
abbrev S4096x8192 : Shape := ⟨2, ![4096, 8192]⟩
abbrev S4096x2048 : Shape := ⟨2, ![4096, 2048]⟩
abbrev S4096x1024 : Shape := ⟨2, ![4096, 1024]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4096x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x4096, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmoSendRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩
abbrev S4x2048x2048 : Shape := ⟨3, ![4, 2048, 2048]⟩
abbrev S4x1024x2048 : Shape := ⟨3, ![4, 1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4096x8192, .f32⟩
  | .hbm, ⟨3, _⟩ => ⟨S_, .f32⟩
  | .hbm, ⟨4, _⟩ => ⟨S8192x2048, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S4x2048x2048, .f32⟩
  | .hbm, ⟨10, _⟩ => ⟨S4x1024x2048, .f32⟩
  | .hbm, ⟨11, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GmoOwn.lean ====
abbrev S4096x8192 : Shape := ⟨2, ![4096, 8192]⟩
abbrev S4096x2048 : Shape := ⟨2, ![4096, 2048]⟩
abbrev S4096x1024 : Shape := ⟨2, ![4096, 1024]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4096x2048, .f32⟩
  | .hbm, ⟨3, _⟩ => ⟨S4096x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S1024x4096, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GmoOwnRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩
abbrev S4x2048x2048 : Shape := ⟨3, ![4, 2048, 2048]⟩
abbrev S4x1024x2048 : Shape := ⟨3, ![4, 1024, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4096x2048, .f32⟩
  | .hbm, ⟨3, _⟩ => ⟨S4096x8192, .f32⟩
  | .hbm, ⟨4, _⟩ => ⟨S_, .f32⟩
  | .hbm, ⟨5, _⟩ => ⟨S8192x2048, .f32⟩
  | .hbm, ⟨6, _⟩ => ⟨S4096x2048, .f32⟩
  | .hbm, ⟨7, _⟩ => ⟨S4096x2048, .f32⟩
  | .hbm, ⟨8, _⟩ => ⟨S2048x8192, .f32⟩
  | .hbm, ⟨9, _⟩ => ⟨S8192x2048, .f32⟩
  | .hbm, ⟨10, _⟩ => ⟨S4x2048x2048, .f32⟩
  | .hbm, ⟨11, _⟩ => ⟨S4x1024x2048, .f32⟩
  | .hbm, ⟨12, _⟩ => ⟨S4096x2048, .f32⟩
  | .hbm, ⟨13, _⟩ => ⟨S4096x2048, .f32⟩
  | .hbm, ⟨14, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== GmiSend.lean ====
abbrev S4096x2048 : Shape := ⟨2, ![4096, 2048]⟩
abbrev S4096x8192 : Shape := ⟨2, ![4096, 8192]⟩
abbrev S1024x8192 : Shape := ⟨2, ![1024, 8192]⟩
abbrev S4096x1024 : Shape := ⟨2, ![4096, 1024]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S1024x8192, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | .local _ .vmem, ⟨5, _⟩ => ⟨S1024x4096, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmiSendRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S1024x8192 : Shape := ⟨2, ![1024, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .f32⟩
  | .hbm, ⟨3, _⟩ => ⟨S_, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S1024x8192, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GmiOwn.lean ====
abbrev S4096x2048 : Shape := ⟨2, ![4096, 2048]⟩
abbrev S4096x8192 : Shape := ⟨2, ![4096, 8192]⟩
abbrev S1024x8192 : Shape := ⟨2, ![1024, 8192]⟩
abbrev S4096x1024 : Shape := ⟨2, ![4096, 1024]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S1024x8192, .f32⟩
  | .hbm, ⟨3, _⟩ => ⟨S1024x8192, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | .local _ .vmem, ⟨7, _⟩ => ⟨S1024x4096, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GmiOwnRefIdeal.lean ====
abbrev S4096x2048 : Shape := ⟨2, ![4096, 2048]⟩
abbrev S4096x8192 : Shape := ⟨2, ![4096, 8192]⟩
abbrev S1024x8192 : Shape := ⟨2, ![1024, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S1024x8192, .f32⟩
  | .hbm, ⟨3, _⟩ => ⟨S4096x2048, .f32⟩
  | .hbm, ⟨4, _⟩ => ⟨S_, .f32⟩
  | .hbm, ⟨5, _⟩ => ⟨S2048x8192, .f32⟩
  | .hbm, ⟨6, _⟩ => ⟨S4096x8192, .f32⟩
  | .hbm, ⟨7, _⟩ => ⟨S4096x8192, .f32⟩
  | .hbm, ⟨8, _⟩ => ⟨S8192x2048, .f32⟩
  | .hbm, ⟨9, _⟩ => ⟨S2048x8192, .f32⟩
  | .hbm, ⟨10, _⟩ => ⟨S1024x8192, .f32⟩
  | .hbm, ⟨11, _⟩ => ⟨S1024x8192, .f32⟩
  | .hbm, ⟨12, _⟩ => ⟨S1024x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== GinSend.lean ====
abbrev S4096x2048 : Shape := ⟨2, ![4096, 2048]⟩
abbrev S4096x9728 : Shape := ⟨2, ![4096, 9728]⟩
abbrev S1024x9728 : Shape := ⟨2, ![1024, 9728]⟩
abbrev S4096x1024 : Shape := ⟨2, ![4096, 1024]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x9728, .bf16⟩
  | .hbm, ⟨2, _⟩ => ⟨S1024x9728, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | .local _ .vmem, ⟨5, _⟩ => ⟨S1024x4096, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 19, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GinSendRefIdeal.lean ====
abbrev S4096x2048 : Shape := ⟨2, ![4096, 2048]⟩
abbrev S4096x9728 : Shape := ⟨2, ![4096, 9728]⟩
abbrev S_ : Shape := ⟨0, ![]⟩
abbrev S2048x9728 : Shape := ⟨2, ![2048, 9728]⟩
abbrev S9728x2048 : Shape := ⟨2, ![9728, 2048]⟩
abbrev S1024x9728 : Shape := ⟨2, ![1024, 9728]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x9728, .bf16⟩
  | .hbm, ⟨2, _⟩ => ⟨S4096x2048, .f32⟩
  | .hbm, ⟨3, _⟩ => ⟨S_, .f32⟩
  | .hbm, ⟨4, _⟩ => ⟨S2048x9728, .f32⟩
  | .hbm, ⟨5, _⟩ => ⟨S4096x9728, .f32⟩
  | .hbm, ⟨6, _⟩ => ⟨S4096x9728, .f32⟩
  | .hbm, ⟨7, _⟩ => ⟨S9728x2048, .f32⟩
  | .hbm, ⟨8, _⟩ => ⟨S2048x9728, .f32⟩
  | .hbm, ⟨9, _⟩ => ⟨S1024x9728, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GinOwn.lean ====
abbrev S4096x2048 : Shape := ⟨2, ![4096, 2048]⟩
abbrev S4096x9728 : Shape := ⟨2, ![4096, 9728]⟩
abbrev S1024x9728 : Shape := ⟨2, ![1024, 9728]⟩
abbrev S4096x1024 : Shape := ⟨2, ![4096, 1024]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x9728, .bf16⟩
  | .hbm, ⟨2, _⟩ => ⟨S1024x9728, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | .local _ .vmem, ⟨5, _⟩ => ⟨S1024x4096, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 19, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GinOwnRefIdeal.lean ====
abbrev S4096x2048 : Shape := ⟨2, ![4096, 2048]⟩
abbrev S4096x9728 : Shape := ⟨2, ![4096, 9728]⟩
abbrev S_ : Shape := ⟨0, ![]⟩
abbrev S2048x9728 : Shape := ⟨2, ![2048, 9728]⟩
abbrev S9728x2048 : Shape := ⟨2, ![9728, 2048]⟩
abbrev S1024x9728 : Shape := ⟨2, ![1024, 9728]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x9728, .bf16⟩
  | .hbm, ⟨2, _⟩ => ⟨S4096x2048, .f32⟩
  | .hbm, ⟨3, _⟩ => ⟨S_, .f32⟩
  | .hbm, ⟨4, _⟩ => ⟨S2048x9728, .f32⟩
  | .hbm, ⟨5, _⟩ => ⟨S4096x9728, .f32⟩
  | .hbm, ⟨6, _⟩ => ⟨S4096x9728, .f32⟩
  | .hbm, ⟨7, _⟩ => ⟨S9728x2048, .f32⟩
  | .hbm, ⟨8, _⟩ => ⟨S2048x9728, .f32⟩
  | .hbm, ⟨9, _⟩ => ⟨S1024x9728, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Bra.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BraRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dob.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DobRefIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S1024x2048, .f32⟩
  | .hbm, ⟨3, _⟩ => ⟨S_, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Gab.lean ====
abbrev S4096x1024 : Shape := ⟨2, ![4096, 1024]⟩
abbrev S4096x2048 : Shape := ⟨2, ![4096, 2048]⟩
abbrev S1024x2048 : Shape := ⟨2, ![1024, 2048]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | .local _ .vmem, ⟨5, _⟩ => ⟨S1024x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GabRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S_, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Loss.lean ====
abbrev S4096x8192 : Shape := ⟨2, ![4096, 8192]⟩
abbrev S8192x2048 : Shape := ⟨2, ![8192, 2048]⟩
abbrev S4096x2048 : Shape := ⟨2, ![4096, 2048]⟩
abbrev S8x2048 : Shape := ⟨2, ![8, 2048]⟩
abbrev S64x2048 : Shape := ⟨2, ![64, 2048]⟩
abbrev S512x2048 : Shape := ⟨2, ![512, 2048]⟩
abbrev S2048x1024 : Shape := ⟨2, ![2048, 1024]⟩
abbrev S512x1024 : Shape := ⟨2, ![512, 1024]⟩
abbrev S8x1024 : Shape := ⟨2, ![8, 1024]⟩
abbrev S1x1024 : Shape := ⟨2, ![1, 1024]⟩
abbrev S1024 : Shape := ⟨1, ![1024]⟩

abbrev nBuf : Space → Nat
  | .hbm => 8
  | .vmem => 17
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .hbm, ⟨4, _⟩ => ⟨S8x2048, .f32⟩
  | .hbm, ⟨5, _⟩ => ⟨S4096x2048, .f32⟩
  | .hbm, ⟨6, _⟩ => ⟨S4096x2048, .bf16⟩
  | .hbm, ⟨7, _⟩ => ⟨S64x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S8x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | .local _ .vmem, ⟨15, _⟩ => ⟨S8x1024, .f32⟩
  | .local _ .vmem, ⟨16, _⟩ => ⟨S512x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== LossRefIdeal.lean ====
abbrev S4096x8192 : Shape := ⟨2, ![4096, 8192]⟩
abbrev S8192x2048 : Shape := ⟨2, ![8192, 2048]⟩
abbrev S4096x2048 : Shape := ⟨2, ![4096, 2048]⟩
abbrev S8x2048 : Shape := ⟨2, ![8, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S8x512x2048 : Shape := ⟨3, ![8, 512, 2048]⟩
abbrev S8x1x2048 : Shape := ⟨3, ![8, 1, 2048]⟩
abbrev S8x2x2048 : Shape := ⟨3, ![8, 2, 2048]⟩
abbrev S8x6x2048 : Shape := ⟨3, ![8, 6, 2048]⟩
abbrev S8x8x2048 : Shape := ⟨3, ![8, 8, 2048]⟩
abbrev S64x2048 : Shape := ⟨2, ![64, 2048]⟩

abbrev nBuf : Space → Nat
  | .hbm => 62
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .hbm, ⟨4, _⟩ => ⟨S8x2048, .f32⟩
  | .hbm, ⟨5, _⟩ => ⟨S4096x8192, .f32⟩
  | .hbm, ⟨6, _⟩ => ⟨S8192x2048, .f32⟩
  | .hbm, ⟨7, _⟩ => ⟨S4096x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096x2048, .f32⟩
  | .hbm, ⟨36, _⟩ => ⟨S4096x2048, .f32⟩
  | .hbm, ⟨37, _⟩ => ⟨S1x2048, .f32⟩
  | .hbm, ⟨38, _⟩ => ⟨S2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S8x512x2048, .f32⟩
  | .hbm, ⟨49, _⟩ => ⟨S_, .f32⟩
  | .hbm, ⟨50, _⟩ => ⟨S8x2048, .f32⟩
  | .hbm, ⟨51, _⟩ => ⟨S8x512x2048, .f32⟩
  | .hbm, ⟨52, _⟩ => ⟨S_, .f32⟩
  | .hbm, ⟨53, _⟩ => ⟨S8x2048, .f32⟩
  | .hbm, ⟨54, _⟩ => ⟨S8x1x2048, .f32⟩
  | .hbm, ⟨55, _⟩ => ⟨S8x1x2048, .f32⟩
  | .hbm, ⟨56, _⟩ => ⟨S8x2x2048, .f32⟩
  | .hbm, ⟨57, _⟩ => ⟨S_, .f32⟩
  | .hbm, ⟨58, _⟩ => ⟨S8x6x2048, .f32⟩
  | .hbm, ⟨59, _⟩ => ⟨S8x8x2048, .f32⟩
  | .hbm, ⟨60, _⟩ => ⟨S4096x2048, .bf16⟩
  | .hbm, ⟨61, _⟩ => ⟨S64x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Mrg.lean ====
abbrev S4096x1024 : Shape := ⟨2, ![4096, 1024]⟩
abbrev S1024x2048 : Shape := ⟨2, ![1024, 2048]⟩
abbrev S4096x9728 : Shape := ⟨2, ![4096, 9728]⟩
abbrev S4096x2048 : Shape := ⟨2, ![4096, 2048]⟩
abbrev S1024x1024 : Shape := ⟨2, ![1024, 1024]⟩
abbrev S1024x512 : Shape := ⟨2, ![1024, 512]⟩

abbrev nBuf : Space → Nat
  | .hbm => 6
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x9728, .f32⟩
  | .hbm, ⟨3, _⟩ => ⟨S4096x2048, .f32⟩
  | .hbm, ⟨4, _⟩ => ⟨S4096x2048, .f32⟩
  | .hbm, ⟨5, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.addi c15_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== MrgRefIdeal.lean ====
abbrev S4096x1024 : Shape := ⟨2, ![4096, 1024]⟩
abbrev S1024x2048 : Shape := ⟨2, ![1024, 2048]⟩
abbrev S4096x9728 : Shape := ⟨2, ![4096, 9728]⟩
abbrev S4096x2048 : Shape := ⟨2, ![4096, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x9728, .f32⟩
  | .hbm, ⟨3, _⟩ => ⟨S4096x2048, .f32⟩
  | .hbm, ⟨4, _⟩ => ⟨S4096x1024, .f32⟩
  | .hbm, ⟨5, _⟩ => ⟨S1024x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Dmg.lean ====
abbrev S4096x2048 : Shape := ⟨2, ![4096, 2048]⟩
abbrev S2048x2048 : Shape := ⟨2, ![2048, 2048]⟩
abbrev S4096x9728 : Shape := ⟨2, ![4096, 9728]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 9
  | .vmem => 20
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x9728, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.addi c15_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== DmgRefIdeal.lean ====
abbrev S4096x2048 : Shape := ⟨2, ![4096, 2048]⟩
abbrev S2048x2048 : Shape := ⟨2, ![2048, 2048]⟩
abbrev S4096x9728 : Shape := ⟨2, ![4096, 9728]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x9728, .f32⟩
  | .hbm, ⟨3, _⟩ => ⟨S4096x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .bf16⟩
  | .hbm, ⟨45, _⟩ => ⟨S4096x2048, .bf16⟩
  | .hbm, ⟨46, _⟩ => ⟨S4096x2048, .bf16⟩
  | .hbm, ⟨47, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Proof.Cond.lean ====
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The three conditions of the body, on the grid's one coordinate: the first block, a block of queries, the point after the
    last block. -/

/-- The body's first conditional: the point is the first. -/
abbrev cond0 (i : grid0.Coords) : Prop := k0_cond1 i = 1#1
/-- The body's second conditional: the point has a block of queries. -/
abbrev cond1 (i : grid0.Coords) : Prop := k0_cond2 i = 1#1
/-- The body's third conditional: the point comes after the last block. -/
abbrev cond2 (i : grid0.Coords) : Prop := k0_cond3 i = 1#1

/-- The first conditional holds at point 0 only. -/
theorem cond0_iff : ∀ t : Fin cfg0.N, cond0 (grid0.coords t) ↔ t.val = 0 :=
  (by decide +kernel : ∀ t : Fin grid0.N, cond0 (grid0.coords t) ↔ t.val = 0)
/-- The second conditional holds before point 32. -/
theorem cond1_iff : ∀ t : Fin cfg0.N, cond1 (grid0.coords t) ↔ t.val < 32 :=
  (by decide +kernel : ∀ t : Fin grid0.N, cond1 (grid0.coords t) ↔ t.val < 32)
/-- The third conditional holds at point 32 only. -/
theorem cond2_iff : ∀ t : Fin cfg0.N, cond2 (grid0.coords t) ↔ t.val = 32 :=
  (by decide +kernel : ∀ t : Fin grid0.N, cond2 (grid0.coords t) ↔ t.val = 32)

end Cert.KernelIdeal.Swa

end
-- ==== Proof.RunB.lean ====
module

public import proofs.«01_k».proof.Proof.Cond

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at a point with a block of queries after the first: the carried sums and the small gradients come in at known
    contents. What each buffer ends with is the list of pieces the run finds. -/
noncomputable def runB (c : Dev nD) (i : grid0.Coords)
  (a1 : Memref sig .tc .vmem S128x1024 .f32) (h1 : a1.IsWhole)
  (a2 : Memref sig .tc .vmem S128x256 .f32) (h2 : a2.IsWhole)
  (a3 : Memref sig .tc .vmem S128x256 .f32) (h3 : a3.IsWhole)
  (a4 : Memref sig .tc .vmem S128x256 .f32) (h4 : a4.IsWhole)
  (a5 : Memref sig .tc .vmem S128x256 .f32) (h5 : a5.IsWhole)
  (a6 : Memref sig .tc .vmem S1x64 .f32) (h6 : a6.IsWhole)
  (a7 : Memref sig .tc .vmem S1x64 .f32) (h7 : a7.IsWhole)
  (a8 : Memref sig .tc .vmem S1x16 .f32) (h8 : a8.IsWhole)
  (a9 : Memref sig .tc .vmem S128x1024 .f32) (h9 : a9.IsWhole)
  (a10 : Memref sig .tc .vmem S128x1024 .bf16) (h10 : a10.IsWhole)
  (a11 : Memref sig .tc .vmem S128x512 .bf16) (h11 : a11.IsWhole)
  (a12 : Memref sig .tc .vmem S8x128 .f32) (h12 : a12.IsWhole)
  (a13 : Memref sig .tc .vmem S128x256 .f32) (h13 : a13.IsWhole)
  (a14 : Memref sig .tc .vmem S128x256 .f32) (h14 : a14.IsWhole)
  (hc0 : ¬cond0 i) (hc1 : cond1 i) (hc2 : ¬cond2 i)
  (x0 : Vec F S128x1024 .f32) (x1 x2 x3 x4 : Vec F S128x256 .f32) (x5 x6 : Vec F S1x64 .f32) (x7 : Vec F S1x16 .f32) (x8 : Vec F S128x1024 .f32) (y11 : Vec F S8x128 .f32) (yS0 : Vec F S128x256 .f32) (yS1 : Vec F S128x256 .f32) :
    Σ' (L9 : List (View.Piece (Elt F) S128x1024 .bf16)), Σ' (L10 : List (View.Piece (Elt F) S128x512 .bf16)), Σ' (L11 : List (View.Piece (Elt F) S8x128 .f32)), Σ' (LS0 : List (View.Piece (Elt F) S128x256 .f32)), { LS1 : List (View.Piece (Elt F) S128x256 .f32) //
      ∀ (E : Set ℕ) (K : PUnit → sProp 𝕄),
        iprop(owns (c : Thread nD τ) a1 fullShare x0
          ∗ owns (c : Thread nD τ) a2 fullShare x1
          ∗ owns (c : Thread nD τ) a3 fullShare x2
          ∗ owns (c : Thread nD τ) a4 fullShare x3
          ∗ owns (c : Thread nD τ) a5 fullShare x4
          ∗ owns (c : Thread nD τ) a6 fullShare x5
          ∗ owns (c : Thread nD τ) a7 fullShare x6
          ∗ owns (c : Thread nD τ) a8 fullShare x7
          ∗ owns (c : Thread nD τ) a9 fullShare x8
          ∗ (∃ d, owns (c : Thread nD τ) a10 fullShare d)
          ∗ (∃ d, owns (c : Thread nD τ) a11 fullShare d)
          ∗ owns (c : Thread nD τ) a12 fullShare y11
          ∗ owns (c : Thread nD τ) a13 fullShare yS0
          ∗ owns (c : Thread nD τ) a14 fullShare yS1
            ∗ (iprop(owns (c : Thread nD τ) a1 fullShare x0
            ∗ owns (c : Thread nD τ) a2 fullShare x1
            ∗ owns (c : Thread nD τ) a3 fullShare x2
            ∗ owns (c : Thread nD τ) a4 fullShare x3
            ∗ owns (c : Thread nD τ) a5 fullShare x4
            ∗ owns (c : Thread nD τ) a6 fullShare x5
            ∗ owns (c : Thread nD τ) a7 fullShare x6
            ∗ owns (c : Thread nD τ) a8 fullShare x7
            ∗ owns (c : Thread nD τ) a9 fullShare x8
            ∗ (∃ f, a10.view.loc (c : Thread nD τ) ↦[a10.view.set]{fullShare} a10.view.writes (Elt F) f L9)
            ∗ (∃ f, a11.view.loc (c : Thread nD τ) ↦[a11.view.set]{fullShare} a11.view.writes (Elt F) f L10)
            ∗ (a12.view.loc (c : Thread nD τ) ↦[a12.view.set]{fullShare} a12.view.writes (Elt F) (h12.unread y11) L11)
            ∗ (∃ f, a13.view.loc (c : Thread nD τ) ↦[a13.view.set]{fullShare} a13.view.writes (Elt F) f LS0)
            ∗ (∃ f, a14.view.loc (c : Thread nD τ) ↦[a14.view.set]{fullShare} a14.view.writes (Elt F) f LS1)) -∗ K ⟨⟩))
          ⊢ wp frame (wpE (defs₀ (F := F)) Variants.none c none) E
              (cc0_swa_bwd i a1 h1 a2 h2 a3 h3 a4 h4 a5 h5 a6 h6 a7 h7 a8 h8 a9 h9 a10 h10 a11 h11 a12 h12 a13 h13 a14 h14) K } := by
  refine ⟨?_, ?_, ?_, ?_, ?_,  fun E K => ?run⟩
  case run =>
    simp only [cc0_swa_bwd_eq_skeleton]; unfold cc0_swa_bwd_skel
    simp only [k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%fS0, %hfS0, HS0⟩, ⟨%fS1, %hfS1, HS1⟩, Hk⟩
    obtain rfl := h1.eq_unread hf0
    obtain rfl := h2.eq_unread hf1
    obtain rfl := h3.eq_unread hf2
    obtain rfl := h4.eq_unread hf3
    obtain rfl := h5.eq_unread hf4
    obtain rfl := h6.eq_unread hf5
    obtain rfl := h7.eq_unread hf6
    obtain rfl := h8.eq_unread hf7
    obtain rfl := h9.eq_unread hf8
    obtain rfl := h12.eq_unread hf11
    obtain rfl := h13.eq_unread hfS0
    obtain rfl := h14.eq_unread hfS1
    sl_exec (disch := first | sl_exact hc0 | sl_exact hc1 | sl_exact hc2)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    isplitl [H7]
    · iexists _; isplitr; · ipureintro; exact h8.read_unread _
      iexact H7
    isplitl [H8]
    · iexists _; isplitr; · ipureintro; exact h9.read_unread _
      iexact H8
    isplitl [H9]
    · iexists _; iexact H9
    isplitl [H10]
    · iexists _; iexact H10
    isplitl [H11]
    · iexact H11
    isplitl [HS0]
    · iexists _; iexact HS0
    iexists _; iexact HS1

end Cert.KernelIdeal.Swa

end
-- ==== Proof.RunA.lean ====
module

public import proofs.«01_k».proof.Proof.RunB

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at the first point: it clears the carried sums and the small gradients, then does its block. What each buffer
    ends with is the list of pieces the run finds. -/
noncomputable def runA (c : Dev nD) (i : grid0.Coords)
  (a1 : Memref sig .tc .vmem S128x1024 .f32) (h1 : a1.IsWhole)
  (a2 : Memref sig .tc .vmem S128x256 .f32) (h2 : a2.IsWhole)
  (a3 : Memref sig .tc .vmem S128x256 .f32) (h3 : a3.IsWhole)
  (a4 : Memref sig .tc .vmem S128x256 .f32) (h4 : a4.IsWhole)
  (a5 : Memref sig .tc .vmem S128x256 .f32) (h5 : a5.IsWhole)
  (a6 : Memref sig .tc .vmem S1x64 .f32) (h6 : a6.IsWhole)
  (a7 : Memref sig .tc .vmem S1x64 .f32) (h7 : a7.IsWhole)
  (a8 : Memref sig .tc .vmem S1x16 .f32) (h8 : a8.IsWhole)
  (a9 : Memref sig .tc .vmem S128x1024 .f32) (h9 : a9.IsWhole)
  (a10 : Memref sig .tc .vmem S128x1024 .bf16) (h10 : a10.IsWhole)
  (a11 : Memref sig .tc .vmem S128x512 .bf16) (h11 : a11.IsWhole)
  (a12 : Memref sig .tc .vmem S8x128 .f32) (h12 : a12.IsWhole)
  (a13 : Memref sig .tc .vmem S128x256 .f32) (h13 : a13.IsWhole)
  (a14 : Memref sig .tc .vmem S128x256 .f32) (h14 : a14.IsWhole)
  (hc0 : cond0 i) (hc1 : cond1 i) (hc2 : ¬cond2 i)
  (x0 : Vec F S128x1024 .f32) (x1 x2 x3 x4 : Vec F S128x256 .f32) (x5 x6 : Vec F S1x64 .f32) (x7 : Vec F S1x16 .f32) (x8 : Vec F S128x1024 .f32)  :
    Σ' (L9 : List (View.Piece (Elt F) S128x1024 .bf16)), Σ' (L10 : List (View.Piece (Elt F) S128x512 .bf16)), Σ' (L11 : List (View.Piece (Elt F) S8x128 .f32)), Σ' (LS0 : List (View.Piece (Elt F) S128x256 .f32)), { LS1 : List (View.Piece (Elt F) S128x256 .f32) //
      ∀ (E : Set ℕ) (K : PUnit → sProp 𝕄),
        iprop(owns (c : Thread nD τ) a1 fullShare x0
          ∗ owns (c : Thread nD τ) a2 fullShare x1
          ∗ owns (c : Thread nD τ) a3 fullShare x2
          ∗ owns (c : Thread nD τ) a4 fullShare x3
          ∗ owns (c : Thread nD τ) a5 fullShare x4
          ∗ owns (c : Thread nD τ) a6 fullShare x5
          ∗ owns (c : Thread nD τ) a7 fullShare x6
          ∗ owns (c : Thread nD τ) a8 fullShare x7
          ∗ owns (c : Thread nD τ) a9 fullShare x8
          ∗ (∃ d, owns (c : Thread nD τ) a10 fullShare d)
          ∗ (∃ d, owns (c : Thread nD τ) a11 fullShare d)
          ∗ (∃ d, owns (c : Thread nD τ) a12 fullShare d)
          ∗ (∃ d, owns (c : Thread nD τ) a13 fullShare d)
          ∗ (∃ d, owns (c : Thread nD τ) a14 fullShare d)
            ∗ (iprop(owns (c : Thread nD τ) a1 fullShare x0
            ∗ owns (c : Thread nD τ) a2 fullShare x1
            ∗ owns (c : Thread nD τ) a3 fullShare x2
            ∗ owns (c : Thread nD τ) a4 fullShare x3
            ∗ owns (c : Thread nD τ) a5 fullShare x4
            ∗ owns (c : Thread nD τ) a6 fullShare x5
            ∗ owns (c : Thread nD τ) a7 fullShare x6
            ∗ owns (c : Thread nD τ) a8 fullShare x7
            ∗ owns (c : Thread nD τ) a9 fullShare x8
            ∗ (∃ f, a10.view.loc (c : Thread nD τ) ↦[a10.view.set]{fullShare} a10.view.writes (Elt F) f L9)
            ∗ (∃ f, a11.view.loc (c : Thread nD τ) ↦[a11.view.set]{fullShare} a11.view.writes (Elt F) f L10)
            ∗ (∃ f, a12.view.loc (c : Thread nD τ) ↦[a12.view.set]{fullShare} a12.view.writes (Elt F) f L11)
            ∗ (∃ f, a13.view.loc (c : Thread nD τ) ↦[a13.view.set]{fullShare} a13.view.writes (Elt F) f LS0)
            ∗ (∃ f, a14.view.loc (c : Thread nD τ) ↦[a14.view.set]{fullShare} a14.view.writes (Elt F) f LS1)) -∗ K ⟨⟩))
          ⊢ wp frame (wpE (defs₀ (F := F)) Variants.none c none) E
              (cc0_swa_bwd i a1 h1 a2 h2 a3 h3 a4 h4 a5 h5 a6 h6 a7 h7 a8 h8 a9 h9 a10 h10 a11 h11 a12 h12 a13 h13 a14 h14) K } := by
  refine ⟨?_, ?_, ?_, ?_, ?_,  fun E K => ?run⟩
  case run =>
    simp only [cc0_swa_bwd_eq_skeleton]; unfold cc0_swa_bwd_skel
    simp only [k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%dS0, %fS0, -, HS0⟩, ⟨%dS1, %fS1, -, HS1⟩, Hk⟩
    obtain rfl := h1.eq_unread hf0
    obtain rfl := h2.eq_unread hf1
    obtain rfl := h3.eq_unread hf2
    obtain rfl := h4.eq_unread hf3
    obtain rfl := h5.eq_unread hf4
    obtain rfl := h6.eq_unread hf5
    obtain rfl := h7.eq_unread hf6
    obtain rfl := h8.eq_unread hf7
    obtain rfl := h9.eq_unread hf8
    sl_exec (disch := first | sl_exact hc0 | sl_exact hc1 | sl_exact hc2)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    isplitl [H7]
    · iexists _; isplitr; · ipureintro; exact h8.read_unread _
      iexact H7
    isplitl [H8]
    · iexists _; isplitr; · ipureintro; exact h9.read_unread _
      iexact H8
    isplitl [H9]
    · iexists _; iexact H9
    isplitl [H10]
    · iexists _; iexact H10
    isplitl [H11]
    · iexists _; iexact H11
    isplitl [HS0]
    · iexists _; iexact HS0
    iexists _; iexact HS1

end Cert.KernelIdeal.Swa

end
-- ==== Proof.RunC.lean ====
module

public import proofs.«01_k».proof.Proof.RunA

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at the point after the last block: it only writes the carried sums out. -/
noncomputable def runC (c : Dev nD) (i : grid0.Coords)
  (a1 : Memref sig .tc .vmem S128x1024 .f32) (h1 : a1.IsWhole)
  (a2 : Memref sig .tc .vmem S128x256 .f32) (h2 : a2.IsWhole)
  (a3 : Memref sig .tc .vmem S128x256 .f32) (h3 : a3.IsWhole)
  (a4 : Memref sig .tc .vmem S128x256 .f32) (h4 : a4.IsWhole)
  (a5 : Memref sig .tc .vmem S128x256 .f32) (h5 : a5.IsWhole)
  (a6 : Memref sig .tc .vmem S1x64 .f32) (h6 : a6.IsWhole)
  (a7 : Memref sig .tc .vmem S1x64 .f32) (h7 : a7.IsWhole)
  (a8 : Memref sig .tc .vmem S1x16 .f32) (h8 : a8.IsWhole)
  (a9 : Memref sig .tc .vmem S128x1024 .f32) (h9 : a9.IsWhole)
  (a10 : Memref sig .tc .vmem S128x1024 .bf16) (h10 : a10.IsWhole)
  (a11 : Memref sig .tc .vmem S128x512 .bf16) (h11 : a11.IsWhole)
  (a12 : Memref sig .tc .vmem S8x128 .f32) (h12 : a12.IsWhole)
  (a13 : Memref sig .tc .vmem S128x256 .f32) (h13 : a13.IsWhole)
  (a14 : Memref sig .tc .vmem S128x256 .f32) (h14 : a14.IsWhole)
  (hc0 : ¬cond0 i) (hc1 : ¬cond1 i) (hc2 : cond2 i)
  (x0 : Vec F S128x1024 .f32) (x1 x2 x3 x4 : Vec F S128x256 .f32) (x5 x6 : Vec F S1x64 .f32) (x7 : Vec F S1x16 .f32) (x8 : Vec F S128x1024 .f32) (y9 : Vec F S128x1024 .bf16) (y11 : Vec F S8x128 .f32) (yS0 : Vec F S128x256 .f32) (yS1 : Vec F S128x256 .f32) :
    { L10 : List (View.Piece (Elt F) S128x512 .bf16) //
      ∀ (E : Set ℕ) (K : PUnit → sProp 𝕄),
        iprop(owns (c : Thread nD τ) a1 fullShare x0
          ∗ owns (c : Thread nD τ) a2 fullShare x1
          ∗ owns (c : Thread nD τ) a3 fullShare x2
          ∗ owns (c : Thread nD τ) a4 fullShare x3
          ∗ owns (c : Thread nD τ) a5 fullShare x4
          ∗ owns (c : Thread nD τ) a6 fullShare x5
          ∗ owns (c : Thread nD τ) a7 fullShare x6
          ∗ owns (c : Thread nD τ) a8 fullShare x7
          ∗ owns (c : Thread nD τ) a9 fullShare x8
          ∗ owns (c : Thread nD τ) a10 fullShare y9
          ∗ (∃ d, owns (c : Thread nD τ) a11 fullShare d)
          ∗ owns (c : Thread nD τ) a12 fullShare y11
          ∗ owns (c : Thread nD τ) a13 fullShare yS0
          ∗ owns (c : Thread nD τ) a14 fullShare yS1
            ∗ (iprop(owns (c : Thread nD τ) a1 fullShare x0
            ∗ owns (c : Thread nD τ) a2 fullShare x1
            ∗ owns (c : Thread nD τ) a3 fullShare x2
            ∗ owns (c : Thread nD τ) a4 fullShare x3
            ∗ owns (c : Thread nD τ) a5 fullShare x4
            ∗ owns (c : Thread nD τ) a6 fullShare x5
            ∗ owns (c : Thread nD τ) a7 fullShare x6
            ∗ owns (c : Thread nD τ) a8 fullShare x7
            ∗ owns (c : Thread nD τ) a9 fullShare x8
            ∗ owns (c : Thread nD τ) a10 fullShare y9
            ∗ (∃ f, a11.view.loc (c : Thread nD τ) ↦[a11.view.set]{fullShare} a11.view.writes (Elt F) f L10)
            ∗ owns (c : Thread nD τ) a12 fullShare y11
            ∗ owns (c : Thread nD τ) a13 fullShare yS0
            ∗ owns (c : Thread nD τ) a14 fullShare yS1) -∗ K ⟨⟩))
          ⊢ wp frame (wpE (defs₀ (F := F)) Variants.none c none) E
              (cc0_swa_bwd i a1 h1 a2 h2 a3 h3 a4 h4 a5 h5 a6 h6 a7 h7 a8 h8 a9 h9 a10 h10 a11 h11 a12 h12 a13 h13 a14 h14) K } := by
  refine ⟨?_,  fun E K => ?run⟩
  case run =>
    simp only [cc0_swa_bwd_eq_skeleton]; unfold cc0_swa_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%fS0, %hfS0, HS0⟩, ⟨%fS1, %hfS1, HS1⟩, Hk⟩
    obtain rfl := h1.eq_unread hf0
    obtain rfl := h2.eq_unread hf1
    obtain rfl := h3.eq_unread hf2
    obtain rfl := h4.eq_unread hf3
    obtain rfl := h5.eq_unread hf4
    obtain rfl := h6.eq_unread hf5
    obtain rfl := h7.eq_unread hf6
    obtain rfl := h8.eq_unread hf7
    obtain rfl := h9.eq_unread hf8
    obtain rfl := h10.eq_unread hf9
    obtain rfl := h12.eq_unread hf11
    obtain rfl := h13.eq_unread hfS0
    obtain rfl := h14.eq_unread hfS1
    sl_exec (disch := first | sl_exact hc0 | sl_exact hc1 | sl_exact hc2)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    isplitl [H7]
    · iexists _; isplitr; · ipureintro; exact h8.read_unread _
      iexact H7
    isplitl [H8]
    · iexists _; isplitr; · ipureintro; exact h9.read_unread _
      iexact H8
    isplitl [H9]
    · iexists _; isplitr; · ipureintro; exact h10.read_unread _
      iexact H9
    isplitl [H10]
    · iexists _; iexact H10
    isplitl [H11]
    · iexists _; isplitr; · ipureintro; exact h12.read_unread _
      iexact H11
    isplitl [HS0]
    · iexists _; isplitr; · ipureintro; exact h13.read_unread _
      iexact HS0
    iexists _; isplitr; · ipureintro; exact h14.read_unread _
    iexact HS1

end Cert.KernelIdeal.Swa

end
-- ==== Proof.Stage.lean ====
module

public import proofs.«01_k».proof.Proof.RunC
public import Idealize.ShloMosaic.Lib.WholeRead

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL.Sem

variable {F : FTy → Type} [FloatOps F] [Named F]

/-! ## What one point of the grid computes

One point takes a block of 128 queries with its own block of keys and values and the block before it. The sixteen
query heads form four groups of four; a group shares one head of keys and values. Inside a group the four query heads
are stacked to 512 rows, and the two blocks of keys to 256 rows. -/

/-- What the body reads at a point: the columns of its blocks, head by head, the two gains, and the mask it makes. -/
structure Leaves (F : FTy → Type) where
  q : Fin 16 → FVec F S128x64 .f32
  kp : Fin 4 → FVec F S128x64 .f32
  kc : Fin 4 → FVec F S128x64 .f32
  vp : Fin 4 → FVec F S128x64 .f32
  vc : Fin 4 → FVec F S128x64 .f32
  qg : FVec F S1x64 .f32
  kg : FVec F S1x64 .f32
  s : Fin 16 → FVec F S1x1 .f32
  d : Fin 16 → FVec F S128x64 .f32
  mask : IVec S512x256 1

/-- The query head `4j + g`. -/
abbrev hd (j g : Fin 4) : Fin 16 := ⟨4 * j.val + g.val, by omega⟩

def stack2 (a b : FVec F S128x64 .f32) : FVec F S256x64 .f32 :=
  concatenate S256x64 0 [⟨S128x64, a⟩, ⟨S128x64, b⟩] concatenates_S128x64_S128x64_S256x64_d0

def stack4 (f : Fin 4 → FVec F S128x64 .f32) : FVec F S512x64 .f32 :=
  concatenate S512x64 0 [⟨S128x64, f 0⟩, ⟨S128x64, f 1⟩, ⟨S128x64, f 2⟩, ⟨S128x64, f 3⟩]
    concatenates_S128x64_S128x64_S128x64_S128x64_S512x64_d0

def sinkPart (x : FVec F S1x1 .f32) : FVec F S128x1 .f32 :=
  broadcastTo S128x1 (shapeCast S1x1 x shapeCasts_S1x1_S1x1) broadcasts_S1x1_S128x1

def stackS (f : Fin 4 → FVec F S1x1 .f32) : FVec F S512x1 .f32 :=
  concatenate S512x1 0 [⟨S128x1, sinkPart (f 0)⟩, ⟨S128x1, sinkPart (f 1)⟩, ⟨S128x1, sinkPart (f 2)⟩,
    ⟨S128x1, sinkPart (f 3)⟩] concatenates_S128x1_S128x1_S128x1_S128x1_S512x1_d0

/-- The sums along the rows of 64. -/
def rowSum256 (x : FVec F S256x64 .f32) : FVec F S256x1 .f32 :=
  shapeCast S256x1 (multiReduction .add [1] S256 x 0x00000000#32 reduces_S256x64_S256 (.inl rfl) rfl)
    shapeCasts_S256_S256x1

def rowSum512 (x : FVec F S512x64 .f32) : FVec F S512x1 .f32 :=
  shapeCast S512x1 (multiReduction .add [1] S512 x 0x00000000#32 reduces_S512x64_S512 (.inl rfl) rfl)
    shapeCasts_S512_S512x1

/-- One over the root mean square of each row. -/
def rinv256 (x : FVec F S256x64 .f32) : FVec F S256x1 .f32 :=
  rsqrt (addf (divf (rowSum256 (mulf x x)) (broadcast S256x1 (Scalar.ofBits .f32 0x42800000#32)))
    (broadcast S256x1 (Scalar.ofBits .f32 0x358637BD#32)))

def rinv512 (x : FVec F S512x64 .f32) : FVec F S512x1 .f32 :=
  rsqrt (addf (divf (rowSum512 (mulf x x)) (broadcast S512x1 (Scalar.ofBits .f32 0x42800000#32)))
    (broadcast S512x1 (Scalar.ofBits .f32 0x358637BD#32)))

def unit256 (x : FVec F S256x64 .f32) : FVec F S256x64 .f32 :=
  mulf x (broadcastTo S256x64 (rinv256 x) broadcasts_S256x1_S256x64)

def unit512 (x : FVec F S512x64 .f32) : FVec F S512x64 .f32 :=
  mulf x (broadcastTo S512x64 (rinv512 x) broadcasts_S512x1_S512x64)

def gain256 (x : FVec F S256x64 .f32) (g : FVec F S1x64 .f32) : FVec F S256x64 .f32 :=
  mulf x (broadcastTo S256x64 g broadcasts_S1x64_S256x64)

def gain512 (x : FVec F S512x64 .f32) (g : FVec F S1x64 .f32) : FVec F S512x64 .f32 :=
  mulf x (broadcastTo S512x64 g broadcasts_S1x64_S512x64)

/-- The product of 512 rows with 256 rows, over the 64 columns. -/
def dotRR (x : FVec F S512x64 .f32) (y : FVec F S256x64 .f32) : FVec F S512x256 .f32 :=
  matmul dot_S512x64_S256x64_S512x256_1_1_0_0_n_n none (truncf .bf16 x bitsLt_bf16_f32)
    (truncf .bf16 y bitsLt_bf16_f32) (constant S512x256 .f32 0x00000000#32)

/-- The product of a 512×256 matrix with 256 rows. -/
def dotRC (x : FVec F S512x256 .f32) (y : FVec F S256x64 .f32) : FVec F S512x64 .f32 :=
  matmul dot_S512x256_S256x64_S512x64_1_0_0_1_n_n none (truncf .bf16 x bitsLt_bf16_f32)
    (truncf .bf16 y bitsLt_bf16_f32) (constant S512x64 .f32 0x00000000#32)

/-- The product of the transpose of a 512×256 matrix with 512 rows. -/
def dotCC (x : FVec F S512x256 .f32) (y : FVec F S512x64 .f32) : FVec F S256x64 .f32 :=
  matmul dot_S512x256_S512x64_S256x64_0_0_1_1_n_n none (truncf .bf16 x bitsLt_bf16_f32)
    (truncf .bf16 y bitsLt_bf16_f32) (constant S256x64 .f32 0x00000000#32)

def scoreOf (m : IVec S512x256 1) (qh : FVec F S512x64 .f32) (kh : FVec F S256x64 .f32) : FVec F S512x256 .f32 :=
  select m (mulf (dotRR qh kh) (broadcast S512x256 (Scalar.ofBits .f32 0x3E000000#32)))
    (broadcast S512x256 (Named.named κ "mask" 0xF149F2CA#32))

def topOf (s : FVec F S512x256 .f32) (sk : FVec F S512x1 .f32) : FVec F S512x1 .f32 :=
  maximumf (shapeCast S512x1
    (multiReduction .maximumf [1] S512 s 0xFF800000#32 reduces_S512x256_S512 (.inl rfl) rfl) shapeCasts_S512_S512x1) sk

def expOf (s : FVec F S512x256 .f32) (sk : FVec F S512x1 .f32) : FVec F S512x256 .f32 :=
  exp (subf s (broadcastTo S512x256 (topOf s sk) broadcasts_S512x1_S512x256))

def expSinkOf (s : FVec F S512x256 .f32) (sk : FVec F S512x1 .f32) : FVec F S512x1 .f32 :=
  exp (subf sk (topOf s sk))

def invOf (s : FVec F S512x256 .f32) (sk : FVec F S512x1 .f32) : FVec F S512x1 .f32 :=
  divf (broadcast S512x1 (Scalar.ofBits .f32 0x3F800000#32))
    (addf (shapeCast S512x1
      (multiReduction .add [1] S512 (expOf s sk) 0x00000000#32 reduces_S512x256_S512 (.inl rfl) rfl)
      shapeCasts_S512_S512x1) (expSinkOf s sk))

def probOf (s : FVec F S512x256 .f32) (sk : FVec F S512x1 .f32) : FVec F S512x256 .f32 :=
  mulf (expOf s sk) (broadcastTo S512x256 (invOf s sk) broadcasts_S512x1_S512x256)

def probSinkOf (s : FVec F S512x256 .f32) (sk : FVec F S512x1 .f32) : FVec F S512x1 .f32 :=
  mulf (expSinkOf s sk) (invOf s sk)

def dscoreOf (p dp : FVec F S512x256 .f32) (dl : FVec F S512x1 .f32) : FVec F S512x256 .f32 :=
  mulf p (subf dp (broadcastTo S512x256 dl broadcasts_S512x1_S512x256))

def dsinkOf (ps dl : FVec F S512x1 .f32) : FVec F S512x1 .f32 :=
  mulf (subf (broadcast S512x1 (Scalar.ofBits .f32 0x00000000#32)) ps) dl

def back256 (dy x : FVec F S256x64 .f32) (g : FVec F S1x64 .f32) : FVec F S256x64 .f32 :=
  mulf (broadcastTo S256x64 (rinv256 x) broadcasts_S256x1_S256x64)
    (subf (gain256 dy g) (mulf (unit256 x) (broadcastTo S256x64
      (divf (rowSum256 (mulf (gain256 dy g) (unit256 x))) (broadcast S256x1 (Scalar.ofBits .f32 0x42800000#32)))
      broadcasts_S256x1_S256x64)))

def back512 (dy x : FVec F S512x64 .f32) (g : FVec F S1x64 .f32) : FVec F S512x64 .f32 :=
  mulf (broadcastTo S512x64 (rinv512 x) broadcasts_S512x1_S512x64)
    (subf (gain512 dy g) (mulf (unit512 x) (broadcastTo S512x64
      (divf (rowSum512 (mulf (gain512 dy g) (unit512 x))) (broadcast S512x1 (Scalar.ofBits .f32 0x42800000#32)))
      broadcasts_S512x1_S512x64)))

def gainSum256 (dy xn : FVec F S256x64 .f32) : FVec F S1x64 .f32 :=
  shapeCast S1x64 (multiReduction .add [0] S64 (mulf dy xn) 0x00000000#32 reduces_S256x64_S64 (.inl rfl) rfl)
    shapeCasts_S64_S1x64

def gainSum512 (dy xn : FVec F S512x64 .f32) : FVec F S1x64 .f32 :=
  shapeCast S1x64 (multiReduction .add [0] S64 (mulf dy xn) 0x00000000#32 reduces_S512x64_S64 (.inl rfl) rfl)
    shapeCasts_S64_S1x64

/-- The sum of 128 rows, put in one lane of a row of 128. -/
def laneOf (w : BitVec 32) (x : FVec F S128x1 .f32) : FVec F S1x128 .f32 :=
  select (cmpi .eq (iota .tc S1x128 32 [1] iota_S1x128_d1_w32) (broadcast S1x128 w))
    (broadcastTo S1x128 (shapeCast S1x1 (shapeCast S1x1
      (multiReduction .add [0] S1 x 0x00000000#32 reduces_S128x1_S1 (.inl rfl) rfl) shapeCasts_S1_S1x1)
      shapeCasts_S1x1_S1x1) broadcasts_S1x1_S1x128) (broadcast S1x128 (Scalar.ofBits .f32 0x00000000#32))

def cut512 (o : Fin 4) (x : FVec F S512x64 .f32) : FVec F S128x64 .f32 :=
  extractStridedSlice S128x64 ![128 * o.val, 0] x (by fin_cases o <;> decide +kernel)

def cutS (o : Fin 4) (x : FVec F S512x1 .f32) : FVec F S128x1 .f32 :=
  extractStridedSlice S128x1 ![128 * o.val, 0] x (by fin_cases o <;> decide +kernel)

def cut256 (o : Fin 2) (x : FVec F S256x64 .f32) : FVec F S128x64 .f32 :=
  extractStridedSlice S128x64 ![128 * o.val, 0] x (by fin_cases o <;> decide +kernel)

namespace Leaves

variable (L : Leaves F) (j : Fin 4)

def kcat : FVec F S256x64 .f32 := stack2 (L.kp j) (L.kc j)
def vcat : FVec F S256x64 .f32 := stack2 (L.vp j) (L.vc j)
def qcat : FVec F S512x64 .f32 := stack4 fun g => L.q (hd j g)
def dcat : FVec F S512x64 .f32 := stack4 fun g => L.d (hd j g)
def scat : FVec F S512x1 .f32 := stackS fun g => L.s (hd j g)
def kh : FVec F S256x64 .f32 := gain256 (unit256 (L.kcat j)) L.kg
def qh : FVec F S512x64 .f32 := gain512 (unit512 (L.qcat j)) L.qg
def score : FVec F S512x256 .f32 := scoreOf L.mask (L.qh j) (L.kh j)
def prob : FVec F S512x256 .f32 := probOf (L.score j) (L.scat j)
def probSink : FVec F S512x1 .f32 := probSinkOf (L.score j) (L.scat j)
def out : FVec F S512x64 .f32 := dotRC (L.prob j) (L.vcat j)
def dprob : FVec F S512x256 .f32 := dotRR (L.dcat j) (L.vcat j)
def dv : FVec F S256x64 .f32 := dotCC (L.prob j) (L.dcat j)
def delta : FVec F S512x1 .f32 := rowSum512 (mulf (L.dcat j) (L.out j))
def ds : FVec F S512x256 .f32 := dscoreOf (L.prob j) (L.dprob j) (L.delta j)
def dsink : FVec F S512x1 .f32 := dsinkOf (L.probSink j) (L.delta j)
def dqh : FVec F S512x64 .f32 :=
  mulf (dotRC (L.ds j) (L.kh j)) (broadcast S512x64 (Scalar.ofBits .f32 0x3E000000#32))
def dkh : FVec F S256x64 .f32 :=
  mulf (dotCC (L.ds j) (L.qh j)) (broadcast S256x64 (Scalar.ofBits .f32 0x3E000000#32))
def dq : FVec F S512x64 .f32 := back512 (L.dqh j) (L.qcat j) L.qg
def dk : FVec F S256x64 .f32 := back256 (L.dkh j) (L.kcat j) L.kg
def dqg : FVec F S1x64 .f32 := gainSum512 (L.dqh j) (unit512 (L.qcat j))
def dkg : FVec F S1x64 .f32 := gainSum256 (L.dkh j) (unit256 (L.kcat j))

/-- The word of the lane of query head `4j + g`. -/
def laneWord (j g : Fin 4) : BitVec 32 := BitVec.ofNat 32 (4 * j.val + g.val)

/-- The gradient of the four sinks of the group, in the lanes of their heads. -/
def dsinkRow : FVec F S1x128 .f32 :=
  addf (addf (addf (addf (broadcast S1x128 (Scalar.ofBits .f32 0x00000000#32))
    (laneOf (laneWord j 0) (cutS 0 (L.dsink j)))) (laneOf (laneWord j 1) (cutS 1 (L.dsink j))))
    (laneOf (laneWord j 2) (cutS 2 (L.dsink j)))) (laneOf (laneWord j 3) (cutS 3 (L.dsink j)))

/-- What is stored for the queries of head `4j + g`. -/
def dqPiece (g : Fin 4) : FVec F S128x64 .bf16 := truncf .bf16 (cut512 g (L.dq j)) bitsLt_bf16_f32

/-- What is stored for the block before: what that block has carried, and this point's part. -/
def dkPiece (c : FVec F S128x64 .f32) : FVec F S128x64 .bf16 :=
  truncf .bf16 (addf c (cut256 0 (L.dk j))) bitsLt_bf16_f32

def dvPiece (c : FVec F S128x64 .f32) : FVec F S128x64 .bf16 :=
  truncf .bf16 (addf c (cut256 0 (L.dv j))) bitsLt_bf16_f32

def ckPiece : FVec F S128x64 .f32 := shapeCast S128x64 (cut256 1 (L.dk j)) shapeCasts_S128x64_S128x64
def cvPiece : FVec F S128x64 .f32 := shapeCast S128x64 (cut256 1 (L.dv j)) shapeCasts_S128x64_S128x64

def dqgAll (old : FVec F S1x64 .f32) : FVec F S1x64 .f32 :=
  addf (shapeCast S1x64 old shapeCasts_S1x64_S1x64) (addf (addf (addf (L.dqg 0) (L.dqg 1)) (L.dqg 2)) (L.dqg 3))
def dkgAll (old : FVec F S1x64 .f32) : FVec F S1x64 .f32 :=
  addf (shapeCast S1x64 old shapeCasts_S1x64_S1x64) (addf (addf (addf (L.dkg 0) (L.dkg 1)) (L.dkg 2)) (L.dkg 3))
def dsAll (old : FVec F S1x128 .f32) : FVec F S1x128 .f32 :=
  addf (shapeCast S1x128 old shapeCasts_S1x128_S1x128)
    (addf (addf (addf (L.dsinkRow 0) (L.dsinkRow 1)) (L.dsinkRow 2)) (L.dsinkRow 3))

end Leaves

/-! ## The blocks' columns -/

theorem inb256 (j : Fin 4) : ∀ d, (![0, 64 * j.val] : Fin 2 → ℕ) d + S128x64.size d ≤ S128x256.size d := by
  fin_cases j <;> decide +kernel
theorem inb1024 (a : Fin 16) : ∀ d, (![0, 64 * a.val] : Fin 2 → ℕ) d + S128x64.size d ≤ S128x1024.size d := by
  fin_cases a <;> decide +kernel
theorem inb16 (a : Fin 16) : ∀ d, (![0, a.val] : Fin 2 → ℕ) d + S1x1.size d ≤ S1x16.size d := by
  fin_cases a <;> decide +kernel
theorem inb64 : ∀ d, (![0, 0] : Fin 2 → ℕ) d + S1x64.size d ≤ S1x64.size d := by decide +kernel

def rK (j : Fin 4) : Rect S128x256 := Rect.unit ![0, 64 * j.val] S128x64.size (inb256 j)
def rQ (a : Fin 16) : Rect S128x1024 := Rect.unit ![0, 64 * a.val] S128x64.size (inb1024 a)
def rS (a : Fin 16) : Rect S1x16 := Rect.unit ![0, a.val] S1x1.size (inb16 a)
def rG : Rect S1x64 := Rect.unit ![0, 0] S1x64.size inb64

/-- What the body reads of blocks with the given contents. -/
def leavesOf (n : BitVec 32) (x0 : Vec F S128x1024 .f32) (x1 x2 x3 x4 : Vec F S128x256 .f32) (x5 x6 : Vec F S1x64 .f32)
    (x7 : Vec F S1x16 .f32) (x8 : Vec F S128x1024 .f32) : Leaves F where
  q a := View.ld x0 (rQ a)
  kp j := View.ld x1 (rK j)
  kc j := View.ld x2 (rK j)
  vp j := View.ld x3 (rK j)
  vc j := View.ld x4 (rK j)
  qg := View.ld x5 rG
  kg := View.ld x6 rG
  s a := View.ld x7 (rS a)
  d a := View.ld x8 (rQ a)
  mask := k0_pay7 n

/-- The same, as reads of whole buffers that hold those contents. -/
def leavesAt (n : BitVec 32)
    {a1 : Memref sig .tc .vmem S128x1024 .f32} (h1 : a1.IsWhole) {a2 : Memref sig .tc .vmem S128x256 .f32} (h2 : a2.IsWhole)
    {a3 : Memref sig .tc .vmem S128x256 .f32} (h3 : a3.IsWhole) {a4 : Memref sig .tc .vmem S128x256 .f32} (h4 : a4.IsWhole)
    {a5 : Memref sig .tc .vmem S128x256 .f32} (h5 : a5.IsWhole) {a6 : Memref sig .tc .vmem S1x64 .f32} (h6 : a6.IsWhole)
    {a7 : Memref sig .tc .vmem S1x64 .f32} (h7 : a7.IsWhole) {a8 : Memref sig .tc .vmem S1x16 .f32} (h8 : a8.IsWhole)
    {a9 : Memref sig .tc .vmem S128x1024 .f32} (h9 : a9.IsWhole)
    (x0 : Vec F S128x1024 .f32) (x1 x2 x3 x4 : Vec F S128x256 .f32) (x5 x6 : Vec F S1x64 .f32)
    (x7 : Vec F S1x16 .f32) (x8 : Vec F S128x1024 .f32) : Leaves F where
  q a := View.readAt (Elt F) a1.view (rQ a).toLoadRect (h1.unread x0)
  kp j := View.readAt (Elt F) a2.view (rK j).toLoadRect (h2.unread x1)
  kc j := View.readAt (Elt F) a3.view (rK j).toLoadRect (h3.unread x2)
  vp j := View.readAt (Elt F) a4.view (rK j).toLoadRect (h4.unread x3)
  vc j := View.readAt (Elt F) a5.view (rK j).toLoadRect (h5.unread x4)
  qg := View.readAt (Elt F) a6.view rG.toLoadRect (h6.unread x5)
  kg := View.readAt (Elt F) a7.view rG.toLoadRect (h7.unread x6)
  s a := View.readAt (Elt F) a8.view (rS a).toLoadRect (h8.unread x7)
  d a := View.readAt (Elt F) a9.view (rQ a).toLoadRect (h9.unread x8)
  mask := k0_pay7 n

theorem leavesAt_eq (n : BitVec 32)
    {a1 : Memref sig .tc .vmem S128x1024 .f32} (h1 : a1.IsWhole) {a2 : Memref sig .tc .vmem S128x256 .f32} (h2 : a2.IsWhole)
    {a3 : Memref sig .tc .vmem S128x256 .f32} (h3 : a3.IsWhole) {a4 : Memref sig .tc .vmem S128x256 .f32} (h4 : a4.IsWhole)
    {a5 : Memref sig .tc .vmem S128x256 .f32} (h5 : a5.IsWhole) {a6 : Memref sig .tc .vmem S1x64 .f32} (h6 : a6.IsWhole)
    {a7 : Memref sig .tc .vmem S1x64 .f32} (h7 : a7.IsWhole) {a8 : Memref sig .tc .vmem S1x16 .f32} (h8 : a8.IsWhole)
    {a9 : Memref sig .tc .vmem S128x1024 .f32} (h9 : a9.IsWhole)
    (x0 : Vec F S128x1024 .f32) (x1 x2 x3 x4 : Vec F S128x256 .f32) (x5 x6 : Vec F S1x64 .f32)
    (x7 : Vec F S1x16 .f32) (x8 : Vec F S128x1024 .f32) :
    leavesAt n h1 h2 h3 h4 h5 h6 h7 h8 h9 x0 x1 x2 x3 x4 x5 x6 x7 x8
      = leavesOf n x0 x1 x2 x3 x4 x5 x6 x7 x8 := by
  unfold leavesAt leavesOf
  congr 1 <;> first
    | rfl
    | (funext a y; exact Memref.IsWhole.readAt_unread _ _ _ _)
    | (funext y; exact Memref.IsWhole.readAt_unread _ _ _ _)

end Cert.KernelIdeal.Swa
-- ==== Proof.Pieces.lean ====
module

public import proofs.«01_k».proof.Proof.Stage
public import Idealize.ShloMosaic.Lib.WritesUnit
public import Idealize.ShloMosaic.Lib.Pipeline.ValueKit.Tiles

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL.Sem

variable {F : FTy → Type} [FloatOps F] [Named F]

/-! ## The stores of one point, as lists of pieces, newest first -/

theorem inb512 (a : Fin 8) : ∀ d, (![0, 64 * a.val] : Fin 2 → ℕ) d + S128x64.size d ≤ S128x512.size d := by
  fin_cases a <;> decide +kernel
theorem inbM01 (a : Fin 2) : ∀ d, (![a.val, 0] : Fin 2 → ℕ) d + S1x64.size d ≤ S8x128.size d := by
  fin_cases a <;> decide +kernel
theorem inbM2 : ∀ d, (![2, 0] : Fin 2 → ℕ) d + S1x128.size d ≤ S8x128.size d := by decide +kernel
theorem inbFK : ∀ d, (![0, 0] : Fin 2 → ℕ) d + (![128, 256] : Fin 2 → ℕ) d ≤ S128x256.size d := by decide +kernel
theorem inbFM : ∀ d, (![0, 0] : Fin 2 → ℕ) d + (![8, 128] : Fin 2 → ℕ) d ≤ S8x128.size d := by decide +kernel

def rKV (a : Fin 8) : Rect S128x512 := Rect.unit ![0, 64 * a.val] S128x64.size (inb512 a)
def rM (a : Fin 2) : Rect S8x128 := Rect.unit ![a.val, 0] S1x64.size (inbM01 a)
def rM2 : Rect S8x128 := Rect.unit ![2, 0] S1x128.size inbM2
def fullK : Rect S128x256 := Rect.unit ![0, 0] ![128, 256] inbFK
def fullM : Rect S8x128 := Rect.unit ![0, 0] ![8, 128] inbFM

def qPiece (L : Leaves F) (j g : Fin 4) : View.Piece (Elt F) S128x1024 .bf16 := ⟨rQ (hd j g), L.dqPiece j g⟩

def qPieces (L : Leaves F) : List (View.Piece (Elt F) S128x1024 .bf16) :=
  [qPiece L 3 3, qPiece L 3 2, qPiece L 3 1, qPiece L 3 0, qPiece L 2 3, qPiece L 2 2, qPiece L 2 1, qPiece L 2 0,
   qPiece L 1 3, qPiece L 1 2, qPiece L 1 1, qPiece L 1 0, qPiece L 0 3, qPiece L 0 2, qPiece L 0 1, qPiece L 0 0]

def kvPieces (L : Leaves F) (ck cv : Fin 4 → FVec F S128x64 .f32) : List (View.Piece (Elt F) S128x512 .bf16) :=
  [⟨rKV 7, L.dvPiece 3 (cv 3)⟩, ⟨rKV 3, L.dkPiece 3 (ck 3)⟩, ⟨rKV 6, L.dvPiece 2 (cv 2)⟩, ⟨rKV 2, L.dkPiece 2 (ck 2)⟩,
   ⟨rKV 5, L.dvPiece 1 (cv 1)⟩, ⟨rKV 1, L.dkPiece 1 (ck 1)⟩, ⟨rKV 4, L.dvPiece 0 (cv 0)⟩, ⟨rKV 0, L.dkPiece 0 (ck 0)⟩]

def ckPieces (L : Leaves F) : List (View.Piece (Elt F) S128x256 .f32) :=
  [⟨rK 3, L.ckPiece 3⟩, ⟨rK 2, L.ckPiece 2⟩, ⟨rK 1, L.ckPiece 1⟩, ⟨rK 0, L.ckPiece 0⟩]

def cvPieces (L : Leaves F) : List (View.Piece (Elt F) S128x256 .f32) :=
  [⟨rK 3, L.cvPiece 3⟩, ⟨rK 2, L.cvPiece 2⟩, ⟨rK 1, L.cvPiece 1⟩, ⟨rK 0, L.cvPiece 0⟩]

def smPieces (L : Leaves F) (g0 g1 : FVec F S1x64 .f32) (g2 : FVec F S1x128 .f32) :
    List (View.Piece (Elt F) S8x128 .f32) :=
  [⟨rM2, L.dsAll g2⟩, ⟨rM 1, L.dkgAll g1⟩, ⟨rM 0, L.dqgAll g0⟩]

theorem cover_q (L : Leaves F) (y : S128x1024.Idx) : ∃ p ∈ qPieces L, y ∈ p.1.set :=
  View.cover_of_tiledL (qPieces L) S128x64.size (by rfl) y
theorem cover_kv (L : Leaves F) (ck cv : Fin 4 → FVec F S128x64 .f32) (y : S128x512.Idx) :
    ∃ p ∈ kvPieces L ck cv, y ∈ p.1.set :=
  View.cover_of_tiledL (kvPieces L ck cv) S128x64.size (by rfl) y
theorem cover_ck (L : Leaves F) (y : S128x256.Idx) : ∃ p ∈ ckPieces L, y ∈ p.1.set :=
  View.cover_of_tiledL (ckPieces L) S128x64.size (by rfl) y
theorem cover_cv (L : Leaves F) (y : S128x256.Idx) : ∃ p ∈ cvPieces L, y ∈ p.1.set :=
  View.cover_of_tiledL (cvPieces L) S128x64.size (by rfl) y

/-! ## What the stores leave -/

/-- The gradient of the queries. -/
def dqV (L : Leaves F) : Vec F S128x1024 .bf16 := View.canon (qPieces L)
/-- The gradient of the keys and values of the block before, from what that block has carried. -/
def dkvV (L : Leaves F) (ck cv : Vec F S128x256 .f32) : Vec F S128x512 .bf16 :=
  View.canon (kvPieces L (fun j => View.ld ck (rK j)) (fun j => View.ld cv (rK j)))
/-- What this block carries on. -/
def ckV (L : Leaves F) : Vec F S128x256 .f32 := View.canon (ckPieces L)
def cvV (L : Leaves F) : Vec F S128x256 .f32 := View.canon (cvPieces L)
/-- The small gradients, over what they were. -/
def smV (L : Leaves F) (X : Vec F S8x128 .f32) : Vec F S8x128 .f32 :=
  View.canon (smPieces L (View.ld X (rM 0)) (View.ld X (rM 1)) (View.ld X rM2) ++ [⟨fullM, X⟩])

/-- Pieces behind a list that covers do not show. -/
theorem canon_append {s : Shape} {e : EltTy} : ∀ (L M : List (View.Piece (Elt F) s e)) (y : s.Idx), (∃ p ∈ L, y ∈ p.1.set) →
    View.canon (L ++ M) y = View.canon L y
  | [], _, _, h => by obtain ⟨_, hm, _⟩ := h; exact absurd hm List.not_mem_nil
  | p :: L, M, y, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · rw [List.cons_append, View.canon_cons_of_not_mem p _ hy, View.canon_cons_of_not_mem p _ hy]
      refine canon_append L M y ?_
      obtain ⟨p', hm, hy'⟩ := h
      rcases List.mem_cons.mp hm with rfl | hm
      · exact absurd hy' hy
      · exact ⟨p', hm, hy'⟩

/-- Stores over contents held whole read as the stores over one store of the whole. -/
theorem read_writes_over {κ : Kind} {sp : Space} {s : Shape} {e : EltTy} (v : View sig κ sp s e) (f : v.ty.Contents (Elt F))
    (R : Rect s) (X : R.shape.Idx → Elt F e) (hR : ∀ x, v.read (Elt F) f (R.emb x) = X x) (y : s.Idx) (hy : y ∈ R.set) :
    ∀ L : List (View.Piece (Elt F) s e), v.read (Elt F) (v.writes (Elt F) f L) y = View.canon (L ++ [⟨R, X⟩]) y
  | [] => by
    obtain ⟨x, rfl⟩ : ∃ x, R.emb x = y := R.exists_idx_of_mem hy
    rw [View.writes_nil, List.nil_append, View.canon_cons_emb, hR]
  | p :: L => by
    by_cases hp : y ∈ p.1.set
    · obtain ⟨r, w⟩ := p
      obtain ⟨x, rfl⟩ : ∃ x, r.emb x = y := r.exists_idx_of_mem hp
      rw [List.cons_append, View.read_writes_cons_emb, View.canon_cons_emb]
    · have hp' : y ∉ Finset.univ.map p.1.emb := by rwa [Rect.map_emb_univ]
      rw [View.writes_cons, View.read_slice_write_of_not_mem p.1 _ _ _ hp', List.cons_append,
        View.canon_cons_of_not_mem p _ hp]
      exact read_writes_over v f R X hR y hy L

theorem mem_fullM (y : S8x128.Idx) : y ∈ fullM.set := by
  rw [fullM, Rect.mem_set_unit]
  intro a
  have := (y a).isLt
  fin_cases a
  · exact ⟨Nat.zero_le _, by simpa using this⟩
  · exact ⟨Nat.zero_le _, by simpa using this⟩

theorem mem_fullK (y : S128x256.Idx) : y ∈ fullK.set := by
  rw [fullK, Rect.mem_set_unit]
  intro a
  have := (y a).isLt
  fin_cases a
  · exact ⟨Nat.zero_le _, by simpa using this⟩
  · exact ⟨Nat.zero_le _, by simpa using this⟩

theorem fullM_emb (y : S8x128.Idx) : fullM.emb (show fullM.shape.Idx from y) = y := by
  funext a; apply Fin.ext
  fin_cases a
  · show 0 + 1 * (y 0).val = (y 0).val; omega
  · show 0 + 1 * (y 1).val = (y 1).val; omega

theorem fullK_emb (y : S128x256.Idx) : fullK.emb (show fullK.shape.Idx from y) = y := by
  funext a; apply Fin.ext
  fin_cases a
  · show 0 + 1 * (y 0).val = (y 0).val; omega
  · show 0 + 1 * (y 1).val = (y 1).val; omega

theorem canon_fullK (X : Vec F S128x256 .f32) (y : S128x256.Idx) :
    View.canon [(⟨fullK, X⟩ : View.Piece (Elt F) S128x256 .f32)] y = X y :=
  (congrArg _ (fullK_emb y).symm).trans (View.canon_cons_emb (Val := Elt F) (e := .f32) fullK X [] y)

theorem canon_fullM (X : Vec F S8x128 .f32) (y : S8x128.Idx) :
    View.canon [(⟨fullM, X⟩ : View.Piece (Elt F) S8x128 .f32)] y = X y :=
  (congrArg _ (fullM_emb y).symm).trans (View.canon_cons_emb (Val := Elt F) (e := .f32) fullM X [] y)

/-- Two heads' columns do not meet. -/
theorem rK_disj (j j' : Fin 4) (h : j ≠ j') (x : (rK j).shape.Idx) : (rK j).idx x ∉ (rK j').set := by
  rw [rK, Rect.mem_set_unit]
  intro hall
  have h1 := hall 1
  have hx : (x 1).val < 64 := (x 1).isLt
  have e : ((rK j).idx x 1).val = 64 * j.val + 1 * (x 1).val := rfl
  have h2 : 64 * j'.val ≤ ((rK j).idx x 1).val ∧ ((rK j).idx x 1).val < 64 * j'.val + 64 := h1
  have : j.val ≠ j'.val := fun e => h (Fin.ext e)
  omega

/-- A head's columns under a fill of the whole and stores to other heads' columns read the fill. -/
theorem readCov_fill {κ : Kind} {sp : Space} (v : View sig κ sp S128x256 .f32) (X : Vec F S128x256 .f32) (j : Fin 4)
    (L : List (View.Piece (Elt F) S128x256 .f32)) (hL : ∀ p ∈ L, ∃ j', j ≠ j' ∧ p.1 = rK j') :
    v.readCov (L ++ [⟨fullK, X⟩]) (rK j).toLoadRect = View.ld X (rK j) := by
  rw [View.readCov_eq_canon']
  funext x
  show View.canon _ ((rK j).idx x) = X ((rK j).idx x)
  induction L with
  | nil => exact canon_fullK X _
  | cons p L ih =>
    obtain ⟨j', hj, hp⟩ := hL p List.mem_cons_self
    rw [List.cons_append, View.canon_cons_of_not_mem p _ (by rw [hp]; exact rK_disj j j' hj x)]
    exact ih fun q hq => hL q (List.mem_cons_of_mem _ hq)

theorem ld_canon_rows {R : Rect S8x128} (X : Vec F S8x128 .f32) (L : List (View.Piece (Elt F) S8x128 .f32))
    (hL : ∀ p ∈ L, ∀ x : R.shape.Idx, R.idx x ∉ p.1.set) {κ : Kind} {sp : Space} (v : View sig κ sp S8x128 .f32) :
    v.readCov (L ++ [⟨fullM, X⟩]) R.toLoadRect = View.ld X R := by
  rw [View.readCov_eq_canon']
  funext x
  show View.canon _ (R.idx x) = X (R.idx x)
  induction L with
  | nil => exact canon_fullM X _
  | cons p L ih =>
    rw [List.cons_append, View.canon_cons_of_not_mem p _ (hL p List.mem_cons_self x)]
    exact ih fun q hq => hL q (List.mem_cons_of_mem _ hq)

end Cert.KernelIdeal.Swa
-- ==== Proof.LinkA.lean ====
module

public import proofs.«01_k».proof.Proof.Pieces

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The stores of the carried sums before head `j` reads them, over the zeros. -/
def ckBefore (L : Leaves F) : Fin 4 → List (View.Piece (Elt F) S128x256 .f32)
  | 0 => []
  | 1 => [⟨rK 0, L.ckPiece 0⟩]
  | 2 => [⟨rK 1, L.ckPiece 1⟩, ⟨rK 0, L.ckPiece 0⟩]
  | 3 => [⟨rK 2, L.ckPiece 2⟩, ⟨rK 1, L.ckPiece 1⟩, ⟨rK 0, L.ckPiece 0⟩]

def cvBefore (L : Leaves F) : Fin 4 → List (View.Piece (Elt F) S128x256 .f32)
  | 0 => []
  | 1 => [⟨rK 0, L.cvPiece 0⟩]
  | 2 => [⟨rK 1, L.cvPiece 1⟩, ⟨rK 0, L.cvPiece 0⟩]
  | 3 => [⟨rK 2, L.cvPiece 2⟩, ⟨rK 1, L.cvPiece 1⟩, ⟨rK 0, L.cvPiece 0⟩]

theorem ckBefore_ne (L : Leaves F) (j : Fin 4) : ∀ p ∈ ckBefore L j, ∃ j', j ≠ j' ∧ p.1 = rK j' := by
  fin_cases j <;> intro p hp <;> simp only [ckBefore, List.mem_cons, List.not_mem_nil, or_false] at hp <;>
    rcases hp with rfl | rfl | rfl <;> exact ⟨_, by decide, rfl⟩

theorem cvBefore_ne (L : Leaves F) (j : Fin 4) : ∀ p ∈ cvBefore L j, ∃ j', j ≠ j' ∧ p.1 = rK j' := by
  fin_cases j <;> intro p hp <;> simp only [cvBefore, List.mem_cons, List.not_mem_nil, or_false] at hp <;>
    rcases hp with rfl | rfl | rfl <;> exact ⟨_, by decide, rfl⟩

/-- Different rows of the small gradients do not meet. -/
theorem rM_row (R : Rect S8x128) (o : ℕ) (off size : Fin 2 → ℕ) (inb) (hR : R = Rect.unit off size inb) (ho : off 0 = o) (hs : size 0 = 1)
    (R' : Rect S8x128) (off' size' : Fin 2 → ℕ) (inb') (hR' : R' = Rect.unit off' size' inb') (hs' : size' 0 = 1) (hne : off' 0 ≠ o)
    (x : R.shape.Idx) : R.idx x ∉ R'.set := by
  subst hR; subst hR'
  rw [Rect.mem_set_unit]
  intro hall
  have h1 := hall 0
  have hx : (x 0).val < size 0 := (x 0).isLt
  have e : ((Rect.unit (s := S8x128) off size inb).idx x 0).val = off 0 + 1 * (x 0).val := rfl
  omega

set_option maxHeartbeats 20000000 in
/-- The pieces run A stores into the query gradients are the stages' values, at the body's own reads. -/
theorem runA_q (c : Dev nD) (i : grid0.Coords)
  (a1 : Memref sig .tc .vmem S128x1024 .f32) (h1 : a1.IsWhole)
  (a2 : Memref sig .tc .vmem S128x256 .f32) (h2 : a2.IsWhole)
  (a3 : Memref sig .tc .vmem S128x256 .f32) (h3 : a3.IsWhole)
  (a4 : Memref sig .tc .vmem S128x256 .f32) (h4 : a4.IsWhole)
  (a5 : Memref sig .tc .vmem S128x256 .f32) (h5 : a5.IsWhole)
  (a6 : Memref sig .tc .vmem S1x64 .f32) (h6 : a6.IsWhole)
  (a7 : Memref sig .tc .vmem S1x64 .f32) (h7 : a7.IsWhole)
  (a8 : Memref sig .tc .vmem S1x16 .f32) (h8 : a8.IsWhole)
  (a9 : Memref sig .tc .vmem S128x1024 .f32) (h9 : a9.IsWhole)
  (a10 : Memref sig .tc .vmem S128x1024 .bf16) (h10 : a10.IsWhole)
  (a11 : Memref sig .tc .vmem S128x512 .bf16) (h11 : a11.IsWhole)
  (a12 : Memref sig .tc .vmem S8x128 .f32) (h12 : a12.IsWhole)
  (a13 : Memref sig .tc .vmem S128x256 .f32) (h13 : a13.IsWhole)
  (a14 : Memref sig .tc .vmem S128x256 .f32) (h14 : a14.IsWhole)
  (hc0 : cond0 i) (hc1 : cond1 i) (hc2 : ¬cond2 i)
  (x0 : Vec F S128x1024 .f32) (x1 x2 x3 x4 : Vec F S128x256 .f32) (x5 x6 : Vec F S1x64 .f32) (x7 : Vec F S1x16 .f32) (x8 : Vec F S128x1024 .f32) :
  (runA c i a1 h1 a2 h2 a3 h3 a4 h4 a5 h5 a6 h6 a7 h7 a8 h8 a9 h9 a10 h10 a11 h11 a12 h12 a13 h13 a14 h14 hc0 hc1 hc2 x0 x1 x2 x3 x4 x5 x6 x7 x8).1 = qPieces (leavesAt (BitVec.ofNat 32 (i 0)) h1 h2 h3 h4 h5 h6 h7 h8 h9 x0 x1 x2 x3 x4 x5 x6 x7 x8) :=
  rfl

set_option maxHeartbeats 20000000 in
/-- The pieces run A stores into the key and value gradients are the stages' values, at the body's own reads. -/
theorem runA_kv (c : Dev nD) (i : grid0.Coords)
  (a1 : Memref sig .tc .vmem S128x1024 .f32) (h1 : a1.IsWhole)
  (a2 : Memref sig .tc .vmem S128x256 .f32) (h2 : a2.IsWhole)
  (a3 : Memref sig .tc .vmem S128x256 .f32) (h3 : a3.IsWhole)
  (a4 : Memref sig .tc .vmem S128x256 .f32) (h4 : a4.IsWhole)
  (a5 : Memref sig .tc .vmem S128x256 .f32) (h5 : a5.IsWhole)
  (a6 : Memref sig .tc .vmem S1x64 .f32) (h6 : a6.IsWhole)
  (a7 : Memref sig .tc .vmem S1x64 .f32) (h7 : a7.IsWhole)
  (a8 : Memref sig .tc .vmem S1x16 .f32) (h8 : a8.IsWhole)
  (a9 : Memref sig .tc .vmem S128x1024 .f32) (h9 : a9.IsWhole)
  (a10 : Memref sig .tc .vmem S128x1024 .bf16) (h10 : a10.IsWhole)
  (a11 : Memref sig .tc .vmem S128x512 .bf16) (h11 : a11.IsWhole)
  (a12 : Memref sig .tc .vmem S8x128 .f32) (h12 : a12.IsWhole)
  (a13 : Memref sig .tc .vmem S128x256 .f32) (h13 : a13.IsWhole)
  (a14 : Memref sig .tc .vmem S128x256 .f32) (h14 : a14.IsWhole)
  (hc0 : cond0 i) (hc1 : cond1 i) (hc2 : ¬cond2 i)
  (x0 : Vec F S128x1024 .f32) (x1 x2 x3 x4 : Vec F S128x256 .f32) (x5 x6 : Vec F S1x64 .f32) (x7 : Vec F S1x16 .f32) (x8 : Vec F S128x1024 .f32) :
  (runA c i a1 h1 a2 h2 a3 h3 a4 h4 a5 h5 a6 h6 a7 h7 a8 h8 a9 h9 a10 h10 a11 h11 a12 h12 a13 h13 a14 h14 hc0 hc1 hc2 x0 x1 x2 x3 x4 x5 x6 x7 x8).2.1 = kvPieces (leavesAt (BitVec.ofNat 32 (i 0)) h1 h2 h3 h4 h5 h6 h7 h8 h9 x0 x1 x2 x3 x4 x5 x6 x7 x8)
      ![a13.view.readCov (ckBefore (leavesAt (BitVec.ofNat 32 (i 0)) h1 h2 h3 h4 h5 h6 h7 h8 h9 x0 x1 x2 x3 x4 x5 x6 x7 x8) 0 ++ ([⟨fullK, k0_pay1⟩] : List (View.Piece (Elt F) S128x256 .f32))) (rK 0).toLoadRect,
        a13.view.readCov (ckBefore (leavesAt (BitVec.ofNat 32 (i 0)) h1 h2 h3 h4 h5 h6 h7 h8 h9 x0 x1 x2 x3 x4 x5 x6 x7 x8) 1 ++ ([⟨fullK, k0_pay1⟩] : List (View.Piece (Elt F) S128x256 .f32))) (rK 1).toLoadRect,
        a13.view.readCov (ckBefore (leavesAt (BitVec.ofNat 32 (i 0)) h1 h2 h3 h4 h5 h6 h7 h8 h9 x0 x1 x2 x3 x4 x5 x6 x7 x8) 2 ++ ([⟨fullK, k0_pay1⟩] : List (View.Piece (Elt F) S128x256 .f32))) (rK 2).toLoadRect,
        a13.view.readCov (ckBefore (leavesAt (BitVec.ofNat 32 (i 0)) h1 h2 h3 h4 h5 h6 h7 h8 h9 x0 x1 x2 x3 x4 x5 x6 x7 x8) 3 ++ ([⟨fullK, k0_pay1⟩] : List (View.Piece (Elt F) S128x256 .f32))) (rK 3).toLoadRect]
      ![a14.view.readCov (cvBefore (leavesAt (BitVec.ofNat 32 (i 0)) h1 h2 h3 h4 h5 h6 h7 h8 h9 x0 x1 x2 x3 x4 x5 x6 x7 x8) 0 ++ ([⟨fullK, k0_pay1⟩] : List (View.Piece (Elt F) S128x256 .f32))) (rK 0).toLoadRect,
        a14.view.readCov (cvBefore (leavesAt (BitVec.ofNat 32 (i 0)) h1 h2 h3 h4 h5 h6 h7 h8 h9 x0 x1 x2 x3 x4 x5 x6 x7 x8) 1 ++ ([⟨fullK, k0_pay1⟩] : List (View.Piece (Elt F) S128x256 .f32))) (rK 1).toLoadRect,
        a14.view.readCov (cvBefore (leavesAt (BitVec.ofNat 32 (i 0)) h1 h2 h3 h4 h5 h6 h7 h8 h9 x0 x1 x2 x3 x4 x5 x6 x7 x8) 2 ++ ([⟨fullK, k0_pay1⟩] : List (View.Piece (Elt F) S128x256 .f32))) (rK 2).toLoadRect,
        a14.view.readCov (cvBefore (leavesAt (BitVec.ofNat 32 (i 0)) h1 h2 h3 h4 h5 h6 h7 h8 h9 x0 x1 x2 x3 x4 x5 x6 x7 x8) 3 ++ ([⟨fullK, k0_pay1⟩] : List (View.Piece (Elt F) S128x256 .f32))) (rK 3).toLoadRect] :=
  rfl

set_option maxHeartbeats 20000000 in
/-- The pieces run A stores into the carried key sums are the stages' values, at the body's own reads. -/
theorem runA_ck (c : Dev nD) (i : grid0.Coords)
  (a1 : Memref sig .tc .vmem S128x1024 .f32) (h1 : a1.IsWhole)
  (a2 : Memref sig .tc .vmem S128x256 .f32) (h2 : a2.IsWhole)
  (a3 : Memref sig .tc .vmem S128x256 .f32) (h3 : a3.IsWhole)
  (a4 : Memref sig .tc .vmem S128x256 .f32) (h4 : a4.IsWhole)
  (a5 : Memref sig .tc .vmem S128x256 .f32) (h5 : a5.IsWhole)
  (a6 : Memref sig .tc .vmem S1x64 .f32) (h6 : a6.IsWhole)
  (a7 : Memref sig .tc .vmem S1x64 .f32) (h7 : a7.IsWhole)
  (a8 : Memref sig .tc .vmem S1x16 .f32) (h8 : a8.IsWhole)
  (a9 : Memref sig .tc .vmem S128x1024 .f32) (h9 : a9.IsWhole)
  (a10 : Memref sig .tc .vmem S128x1024 .bf16) (h10 : a10.IsWhole)
  (a11 : Memref sig .tc .vmem S128x512 .bf16) (h11 : a11.IsWhole)
  (a12 : Memref sig .tc .vmem S8x128 .f32) (h12 : a12.IsWhole)
  (a13 : Memref sig .tc .vmem S128x256 .f32) (h13 : a13.IsWhole)
  (a14 : Memref sig .tc .vmem S128x256 .f32) (h14 : a14.IsWhole)
  (hc0 : cond0 i) (hc1 : cond1 i) (hc2 : ¬cond2 i)
  (x0 : Vec F S128x1024 .f32) (x1 x2 x3 x4 : Vec F S128x256 .f32) (x5 x6 : Vec F S1x64 .f32) (x7 : Vec F S1x16 .f32) (x8 : Vec F S128x1024 .f32) :
  (runA c i a1 h1 a2 h2 a3 h3 a4 h4 a5 h5 a6 h6 a7 h7 a8 h8 a9 h9 a10 h10 a11 h11 a12 h12 a13 h13 a14 h14 hc0 hc1 hc2 x0 x1 x2 x3 x4 x5 x6 x7 x8).2.2.2.1 = ckPieces (leavesAt (BitVec.ofNat 32 (i 0)) h1 h2 h3 h4 h5 h6 h7 h8 h9 x0 x1 x2 x3 x4 x5 x6 x7 x8) ++ ([⟨fullK, k0_pay1⟩] : List (View.Piece (Elt F) S128x256 .f32)) :=
  rfl

set_option maxHeartbeats 20000000 in
/-- The pieces run A stores into the carried value sums are the stages' values, at the body's own reads. -/
theorem runA_cv (c : Dev nD) (i : grid0.Coords)
  (a1 : Memref sig .tc .vmem S128x1024 .f32) (h1 : a1.IsWhole)
  (a2 : Memref sig .tc .vmem S128x256 .f32) (h2 : a2.IsWhole)
  (a3 : Memref sig .tc .vmem S128x256 .f32) (h3 : a3.IsWhole)
  (a4 : Memref sig .tc .vmem S128x256 .f32) (h4 : a4.IsWhole)
  (a5 : Memref sig .tc .vmem S128x256 .f32) (h5 : a5.IsWhole)
  (a6 : Memref sig .tc .vmem S1x64 .f32) (h6 : a6.IsWhole)
  (a7 : Memref sig .tc .vmem S1x64 .f32) (h7 : a7.IsWhole)
  (a8 : Memref sig .tc .vmem S1x16 .f32) (h8 : a8.IsWhole)
  (a9 : Memref sig .tc .vmem S128x1024 .f32) (h9 : a9.IsWhole)
  (a10 : Memref sig .tc .vmem S128x1024 .bf16) (h10 : a10.IsWhole)
  (a11 : Memref sig .tc .vmem S128x512 .bf16) (h11 : a11.IsWhole)
  (a12 : Memref sig .tc .vmem S8x128 .f32) (h12 : a12.IsWhole)
  (a13 : Memref sig .tc .vmem S128x256 .f32) (h13 : a13.IsWhole)
  (a14 : Memref sig .tc .vmem S128x256 .f32) (h14 : a14.IsWhole)
  (hc0 : cond0 i) (hc1 : cond1 i) (hc2 : ¬cond2 i)
  (x0 : Vec F S128x1024 .f32) (x1 x2 x3 x4 : Vec F S128x256 .f32) (x5 x6 : Vec F S1x64 .f32) (x7 : Vec F S1x16 .f32) (x8 : Vec F S128x1024 .f32) :
  (runA c i a1 h1 a2 h2 a3 h3 a4 h4 a5 h5 a6 h6 a7 h7 a8 h8 a9 h9 a10 h10 a11 h11 a12 h12 a13 h13 a14 h14 hc0 hc1 hc2 x0 x1 x2 x3 x4 x5 x6 x7 x8).2.2.2.2.1 = cvPieces (leavesAt (BitVec.ofNat 32 (i 0)) h1 h2 h3 h4 h5 h6 h7 h8 h9 x0 x1 x2 x3 x4 x5 x6 x7 x8) ++ ([⟨fullK, k0_pay1⟩] : List (View.Piece (Elt F) S128x256 .f32)) :=
  rfl

end Cert.KernelIdeal.Swa
-- ==== Proof.SmallA.lean ====
module

public import proofs.«01_k».proof.Proof.Pieces

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 20000000 in
/-- The pieces run A stores into the small gradients are the stages' values, at the body's own reads. -/
theorem runA_sm (c : Dev nD) (i : grid0.Coords)
  (a1 : Memref sig .tc .vmem S128x1024 .f32) (h1 : a1.IsWhole)
  (a2 : Memref sig .tc .vmem S128x256 .f32) (h2 : a2.IsWhole)
  (a3 : Memref sig .tc .vmem S128x256 .f32) (h3 : a3.IsWhole)
  (a4 : Memref sig .tc .vmem S128x256 .f32) (h4 : a4.IsWhole)
  (a5 : Memref sig .tc .vmem S128x256 .f32) (h5 : a5.IsWhole)
  (a6 : Memref sig .tc .vmem S1x64 .f32) (h6 : a6.IsWhole)
  (a7 : Memref sig .tc .vmem S1x64 .f32) (h7 : a7.IsWhole)
  (a8 : Memref sig .tc .vmem S1x16 .f32) (h8 : a8.IsWhole)
  (a9 : Memref sig .tc .vmem S128x1024 .f32) (h9 : a9.IsWhole)
  (a10 : Memref sig .tc .vmem S128x1024 .bf16) (h10 : a10.IsWhole)
  (a11 : Memref sig .tc .vmem S128x512 .bf16) (h11 : a11.IsWhole)
  (a12 : Memref sig .tc .vmem S8x128 .f32) (h12 : a12.IsWhole)
  (a13 : Memref sig .tc .vmem S128x256 .f32) (h13 : a13.IsWhole)
  (a14 : Memref sig .tc .vmem S128x256 .f32) (h14 : a14.IsWhole)
  (hc0 : cond0 i) (hc1 : cond1 i) (hc2 : ¬cond2 i)
  (x0 : Vec F S128x1024 .f32) (x1 x2 x3 x4 : Vec F S128x256 .f32) (x5 x6 : Vec F S1x64 .f32) (x7 : Vec F S1x16 .f32) (x8 : Vec F S128x1024 .f32) :
  (∃ g0 g1 g2, (runA c i a1 h1 a2 h2 a3 h3 a4 h4 a5 h5 a6 h6 a7 h7 a8 h8 a9 h9 a10 h10 a11 h11 a12 h12 a13 h13 a14 h14 hc0 hc1 hc2 x0 x1 x2 x3 x4 x5 x6 x7 x8).2.2.1 = smPieces (leavesAt (BitVec.ofNat 32 (i 0)) h1 h2 h3 h4 h5 h6 h7 h8 h9 x0 x1 x2 x3 x4 x5 x6 x7 x8) g0 g1 g2 ++ ([⟨fullM, k0_pay3⟩] : List (View.Piece (Elt F) S8x128 .f32))
      ∧ g0 = a12.view.readCov ([] ++ ([⟨fullM, k0_pay3⟩] : List (View.Piece (Elt F) S8x128 .f32))) (rM 0).toLoadRect
      ∧ g1 = a12.view.readCov ([⟨rM 0, (leavesAt (BitVec.ofNat 32 (i 0)) h1 h2 h3 h4 h5 h6 h7 h8 h9 x0 x1 x2 x3 x4 x5 x6 x7 x8).dqgAll g0⟩] ++ ([⟨fullM, k0_pay3⟩] : List (View.Piece (Elt F) S8x128 .f32))) (rM 1).toLoadRect
      ∧ g2 = a12.view.readCov ([⟨rM 1, (leavesAt (BitVec.ofNat 32 (i 0)) h1 h2 h3 h4 h5 h6 h7 h8 h9 x0 x1 x2 x3 x4 x5 x6 x7 x8).dkgAll g1⟩, ⟨rM 0, (leavesAt (BitVec.ofNat 32 (i 0)) h1 h2 h3 h4 h5 h6 h7 h8 h9 x0 x1 x2 x3 x4 x5 x6 x7 x8).dqgAll g0⟩] ++ ([⟨fullM, k0_pay3⟩] : List (View.Piece (Elt F) S8x128 .f32))) rM2.toLoadRect) :=
  ⟨_, _, _, rfl, rfl, rfl, rfl⟩

end Cert.KernelIdeal.Swa
-- ==== Proof.BodyA.lean ====
module

public import proofs.«01_k».proof.Proof.LinkA
public import proofs.«01_k».proof.Proof.SmallA

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The body at the first point: what each buffer then holds. -/
theorem bodyA (c : Dev nD) (i : grid0.Coords)
  (a1 : Memref sig .tc .vmem S128x1024 .f32) (h1 : a1.IsWhole)
  (a2 : Memref sig .tc .vmem S128x256 .f32) (h2 : a2.IsWhole)
  (a3 : Memref sig .tc .vmem S128x256 .f32) (h3 : a3.IsWhole)
  (a4 : Memref sig .tc .vmem S128x256 .f32) (h4 : a4.IsWhole)
  (a5 : Memref sig .tc .vmem S128x256 .f32) (h5 : a5.IsWhole)
  (a6 : Memref sig .tc .vmem S1x64 .f32) (h6 : a6.IsWhole)
  (a7 : Memref sig .tc .vmem S1x64 .f32) (h7 : a7.IsWhole)
  (a8 : Memref sig .tc .vmem S1x16 .f32) (h8 : a8.IsWhole)
  (a9 : Memref sig .tc .vmem S128x1024 .f32) (h9 : a9.IsWhole)
  (a10 : Memref sig .tc .vmem S128x1024 .bf16) (h10 : a10.IsWhole)
  (a11 : Memref sig .tc .vmem S128x512 .bf16) (h11 : a11.IsWhole)
  (a12 : Memref sig .tc .vmem S8x128 .f32) (h12 : a12.IsWhole)
  (a13 : Memref sig .tc .vmem S128x256 .f32) (h13 : a13.IsWhole)
  (a14 : Memref sig .tc .vmem S128x256 .f32) (h14 : a14.IsWhole)
  (hc0 : cond0 i) (hc1 : cond1 i) (hc2 : ¬cond2 i)
  (x0 : Vec F S128x1024 .f32) (x1 x2 x3 x4 : Vec F S128x256 .f32) (x5 x6 : Vec F S1x64 .f32) (x7 : Vec F S1x16 .f32) (x8 : Vec F S128x1024 .f32) (E : Set ℕ) (K : PUnit → sProp 𝕄) :
  iprop(
    owns (c : Thread nD τ) a1 fullShare x0
    ∗ owns (c : Thread nD τ) a2 fullShare x1
    ∗ owns (c : Thread nD τ) a3 fullShare x2
    ∗ owns (c : Thread nD τ) a4 fullShare x3
    ∗ owns (c : Thread nD τ) a5 fullShare x4
    ∗ owns (c : Thread nD τ) a6 fullShare x5
    ∗ owns (c : Thread nD τ) a7 fullShare x6
    ∗ owns (c : Thread nD τ) a8 fullShare x7
    ∗ owns (c : Thread nD τ) a9 fullShare x8
    ∗ (∃ d, owns (c : Thread nD τ) a10 fullShare d)
    ∗ (∃ d, owns (c : Thread nD τ) a11 fullShare d)
    ∗ (∃ d, owns (c : Thread nD τ) a12 fullShare d)
    ∗ (∃ d, owns (c : Thread nD τ) a13 fullShare d)
    ∗ (∃ d, owns (c : Thread nD τ) a14 fullShare d)
    ∗ (iprop(
    owns (c : Thread nD τ) a1 fullShare x0
    ∗ owns (c : Thread nD τ) a2 fullShare x1
    ∗ owns (c : Thread nD τ) a3 fullShare x2
    ∗ owns (c : Thread nD τ) a4 fullShare x3
    ∗ owns (c : Thread nD τ) a5 fullShare x4
    ∗ owns (c : Thread nD τ) a6 fullShare x5
    ∗ owns (c : Thread nD τ) a7 fullShare x6
    ∗ owns (c : Thread nD τ) a8 fullShare x7
    ∗ owns (c : Thread nD τ) a9 fullShare x8
    ∗ owns (c : Thread nD τ) a10 fullShare (dqV (leavesOf (BitVec.ofNat 32 (i 0)) x0 x1 x2 x3 x4 x5 x6 x7 x8))
    ∗ owns (c : Thread nD τ) a11 fullShare (dkvV (leavesOf (BitVec.ofNat 32 (i 0)) x0 x1 x2 x3 x4 x5 x6 x7 x8) k0_pay1 k0_pay1)
    ∗ owns (c : Thread nD τ) a12 fullShare (smV (leavesOf (BitVec.ofNat 32 (i 0)) x0 x1 x2 x3 x4 x5 x6 x7 x8) k0_pay3)
    ∗ owns (c : Thread nD τ) a13 fullShare (ckV (leavesOf (BitVec.ofNat 32 (i 0)) x0 x1 x2 x3 x4 x5 x6 x7 x8))
    ∗ owns (c : Thread nD τ) a14 fullShare (cvV (leavesOf (BitVec.ofNat 32 (i 0)) x0 x1 x2 x3 x4 x5 x6 x7 x8))) -∗ K ⟨⟩))
  ⊢ wp frame (wpE (defs₀ (F := F)) Variants.none c none) E
      (cc0_swa_bwd i a1 h1 a2 h2 a3 h3 a4 h4 a5 h5 a6 h6 a7 h7 a8 h8 a9 h9 a10 h10 a11 h11 a12 h12 a13 h13 a14 h14) K := by
  have E9 := runA_q c i a1 h1 a2 h2 a3 h3 a4 h4 a5 h5 a6 h6 a7 h7 a8 h8 a9 h9 a10 h10 a11 h11 a12 h12 a13 h13 a14 h14 hc0 hc1 hc2 x0 x1 x2 x3 x4 x5 x6 x7 x8
  have E10 := runA_kv c i a1 h1 a2 h2 a3 h3 a4 h4 a5 h5 a6 h6 a7 h7 a8 h8 a9 h9 a10 h10 a11 h11 a12 h12 a13 h13 a14 h14 hc0 hc1 hc2 x0 x1 x2 x3 x4 x5 x6 x7 x8
  have ES0 := runA_ck c i a1 h1 a2 h2 a3 h3 a4 h4 a5 h5 a6 h6 a7 h7 a8 h8 a9 h9 a10 h10 a11 h11 a12 h12 a13 h13 a14 h14 hc0 hc1 hc2 x0 x1 x2 x3 x4 x5 x6 x7 x8
  have ES1 := runA_cv c i a1 h1 a2 h2 a3 h3 a4 h4 a5 h5 a6 h6 a7 h7 a8 h8 a9 h9 a10 h10 a11 h11 a12 h12 a13 h13 a14 h14 hc0 hc1 hc2 x0 x1 x2 x3 x4 x5 x6 x7 x8
  obtain ⟨g0, g1, g2, E11, eg0, eg1, eg2⟩ := runA_sm c i a1 h1 a2 h2 a3 h3 a4 h4 a5 h5 a6 h6 a7 h7 a8 h8 a9 h9 a10 h10 a11 h11 a12 h12 a13 h13 a14 h14 hc0 hc1 hc2 x0 x1 x2 x3 x4 x5 x6 x7 x8
  have k0 : ∀ j, a13.view.readCov (ckBefore (leavesAt (BitVec.ofNat 32 (i 0)) h1 h2 h3 h4 h5 h6 h7 h8 h9 x0 x1 x2 x3 x4 x5 x6 x7 x8) j ++ ([⟨fullK, k0_pay1⟩] : List (View.Piece (Elt F) S128x256 .f32))) (rK j).toLoadRect = View.ld k0_pay1 (rK j) :=
    fun j => readCov_fill _ _ _ _ (ckBefore_ne _ j)
  have k1 : ∀ j, a14.view.readCov (cvBefore (leavesAt (BitVec.ofNat 32 (i 0)) h1 h2 h3 h4 h5 h6 h7 h8 h9 x0 x1 x2 x3 x4 x5 x6 x7 x8) j ++ ([⟨fullK, k0_pay1⟩] : List (View.Piece (Elt F) S128x256 .f32))) (rK j).toLoadRect = View.ld k0_pay1 (rK j) :=
    fun j => readCov_fill _ _ _ _ (cvBefore_ne _ j)
  rw [ld_canon_rows (R := rM 0) k0_pay3 [] (fun p hp => absurd hp List.not_mem_nil)] at eg0
  rw [ld_canon_rows (R := rM 1) k0_pay3 _ (fun p hp x => by
    obtain rfl := List.mem_singleton.mp hp
    exact rM_row (rM 1) 1 ![((1 : Fin 2) : ℕ), 0] S1x64.size (inbM01 1) rfl rfl rfl (rM 0) ![((0 : Fin 2) : ℕ), 0] S1x64.size (inbM01 0) rfl rfl (by decide) x)] at eg1
  rw [ld_canon_rows (R := rM2) k0_pay3 _ (fun p hp x => by
    rcases List.mem_cons.mp hp with rfl | hp
    · exact rM_row rM2 2 ![2, 0] S1x128.size inbM2 rfl rfl rfl (rM 1) ![((1 : Fin 2) : ℕ), 0] S1x64.size (inbM01 1) rfl rfl (by decide) x
    · obtain rfl := List.mem_singleton.mp hp
      exact rM_row rM2 2 ![2, 0] S1x128.size inbM2 rfl rfl rfl (rM 0) ![((0 : Fin 2) : ℕ), 0] S1x64.size (inbM01 0) rfl rfl (by decide) x)] at eg2
  have rows : ∀ X Y : Vec F S128x256 .f32, X = k0_pay1 → Y = k0_pay1 → _ = kvPieces _ (fun j => View.ld X (rK j)) (fun j => View.ld Y (rK j)) :=
    fun X Y hX hY => by
      subst hX; subst hY
      exact E10.trans (congrArg₂ (kvPieces _) (funext fun j => by fin_cases j; exacts [k0 0, k0 1, k0 2, k0 3])
        (funext fun j => by fin_cases j; exacts [k1 0, k1 1, k1 2, k1 3]))
  replace E10 := rows k0_pay1 k0_pay1 rfl rfl
  rw [eg0, eg1, eg2] at E11
  rw [leavesAt_eq] at E9 E10 E11 ES0 ES1
  have run := (runA c i a1 h1 a2 h2 a3 h3 a4 h4 a5 h5 a6 h6 a7 h7 a8 h8 a9 h9 a10 h10 a11 h11 a12 h12 a13 h13 a14 h14 hc0 hc1 hc2 x0 x1 x2 x3 x4 x5 x6 x7 x8).2.2.2.2.2 E K
  iintro ⟨H0, H1, H2, H3, H4, H5, H6, H7, H8, H9, H10, H11, HS0, HS1, HK⟩
  iapply run
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  iintro ⟨H0, H1, H2, H3, H4, H5, H6, H7, H8, ⟨%e9, H9⟩, ⟨%e10, H10⟩, ⟨%e11, H11⟩, ⟨%es0, HS0⟩, ⟨%es1, HS1⟩⟩
  iapply HK
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro
    rw [E9]
    exact View.read_writes_eq_canon _ _ _ (cover_q _)
  isplitl [H10]
  · unfold owns; iexists _; isplitr
    swap; · iexact H10
    ipureintro
    rw [E10]
    exact View.read_writes_eq_canon _ _ _ (cover_kv _ _ _)
  isplitl [H11]
  · unfold owns; iexists _; isplitr
    swap; · iexact H11
    ipureintro
    rw [E11]
    exact View.read_writes_eq_canon _ _ _ fun y => ⟨_, List.mem_append_right _ (List.mem_singleton_self _), mem_fullM y⟩
  isplitl [HS0]
  · unfold owns; iexists _; isplitr
    swap; · iexact HS0
    ipureintro
    rw [ES0]
    exact funext fun y => (View.read_writes_apply_eq_canon _ _ y _ ⟨_, List.mem_append_right _ (List.mem_singleton_self _), mem_fullK y⟩).trans (canon_append _ _ y (cover_ck _ y))
  · unfold owns; iexists _; isplitr
    swap; · iexact HS1
    ipureintro
    rw [ES1]
    exact funext fun y => (View.read_writes_apply_eq_canon _ _ y _ ⟨_, List.mem_append_right _ (List.mem_singleton_self _), mem_fullK y⟩).trans (canon_append _ _ y (cover_cv _ y))

end Cert.KernelIdeal.Swa
-- ==== Proof.LinkB.lean ====
module

public import proofs.«01_k».proof.Proof.Pieces

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 20000000 in
/-- The pieces run B stores into the query gradients are the stages' values, at the body's own reads. -/
theorem runB_q (c : Dev nD) (i : grid0.Coords)
  (a1 : Memref sig .tc .vmem S128x1024 .f32) (h1 : a1.IsWhole)
  (a2 : Memref sig .tc .vmem S128x256 .f32) (h2 : a2.IsWhole)
  (a3 : Memref sig .tc .vmem S128x256 .f32) (h3 : a3.IsWhole)
  (a4 : Memref sig .tc .vmem S128x256 .f32) (h4 : a4.IsWhole)
  (a5 : Memref sig .tc .vmem S128x256 .f32) (h5 : a5.IsWhole)
  (a6 : Memref sig .tc .vmem S1x64 .f32) (h6 : a6.IsWhole)
  (a7 : Memref sig .tc .vmem S1x64 .f32) (h7 : a7.IsWhole)
  (a8 : Memref sig .tc .vmem S1x16 .f32) (h8 : a8.IsWhole)
  (a9 : Memref sig .tc .vmem S128x1024 .f32) (h9 : a9.IsWhole)
  (a10 : Memref sig .tc .vmem S128x1024 .bf16) (h10 : a10.IsWhole)
  (a11 : Memref sig .tc .vmem S128x512 .bf16) (h11 : a11.IsWhole)
  (a12 : Memref sig .tc .vmem S8x128 .f32) (h12 : a12.IsWhole)
  (a13 : Memref sig .tc .vmem S128x256 .f32) (h13 : a13.IsWhole)
  (a14 : Memref sig .tc .vmem S128x256 .f32) (h14 : a14.IsWhole)
  (hc0 : ¬cond0 i) (hc1 : cond1 i) (hc2 : ¬cond2 i)
  (x0 : Vec F S128x1024 .f32) (x1 x2 x3 x4 : Vec F S128x256 .f32) (x5 x6 : Vec F S1x64 .f32) (x7 : Vec F S1x16 .f32) (x8 : Vec F S128x1024 .f32)
  (y11 : Vec F S8x128 .f32) (yS0 yS1 : Vec F S128x256 .f32) :
  (runB c i a1 h1 a2 h2 a3 h3 a4 h4 a5 h5 a6 h6 a7 h7 a8 h8 a9 h9 a10 h10 a11 h11 a12 h12 a13 h13 a14 h14 hc0 hc1 hc2 x0 x1 x2 x3 x4 x5 x6 x7 x8 y11 yS0 yS1).1 = qPieces (leavesAt (BitVec.ofNat 32 (i 0)) h1 h2 h3 h4 h5 h6 h7 h8 h9 x0 x1 x2 x3 x4 x5 x6 x7 x8) :=
  rfl

set_option maxHeartbeats 20000000 in
/-- The pieces run B stores into the key and value gradients are the stages' values, at the body's own reads. -/
theorem runB_kv (c : Dev nD) (i : grid0.Coords)
  (a1 : Memref sig .tc .vmem S128x1024 .f32) (h1 : a1.IsWhole)
  (a2 : Memref sig .tc .vmem S128x256 .f32) (h2 : a2.IsWhole)
  (a3 : Memref sig .tc .vmem S128x256 .f32) (h3 : a3.IsWhole)
  (a4 : Memref sig .tc .vmem S128x256 .f32) (h4 : a4.IsWhole)
  (a5 : Memref sig .tc .vmem S128x256 .f32) (h5 : a5.IsWhole)
  (a6 : Memref sig .tc .vmem S1x64 .f32) (h6 : a6.IsWhole)
  (a7 : Memref sig .tc .vmem S1x64 .f32) (h7 : a7.IsWhole)
  (a8 : Memref sig .tc .vmem S1x16 .f32) (h8 : a8.IsWhole)
  (a9 : Memref sig .tc .vmem S128x1024 .f32) (h9 : a9.IsWhole)
  (a10 : Memref sig .tc .vmem S128x1024 .bf16) (h10 : a10.IsWhole)
  (a11 : Memref sig .tc .vmem S128x512 .bf16) (h11 : a11.IsWhole)
  (a12 : Memref sig .tc .vmem S8x128 .f32) (h12 : a12.IsWhole)
  (a13 : Memref sig .tc .vmem S128x256 .f32) (h13 : a13.IsWhole)
  (a14 : Memref sig .tc .vmem S128x256 .f32) (h14 : a14.IsWhole)
  (hc0 : ¬cond0 i) (hc1 : cond1 i) (hc2 : ¬cond2 i)
  (x0 : Vec F S128x1024 .f32) (x1 x2 x3 x4 : Vec F S128x256 .f32) (x5 x6 : Vec F S1x64 .f32) (x7 : Vec F S1x16 .f32) (x8 : Vec F S128x1024 .f32)
  (y11 : Vec F S8x128 .f32) (yS0 yS1 : Vec F S128x256 .f32) :
  (runB c i a1 h1 a2 h2 a3 h3 a4 h4 a5 h5 a6 h6 a7 h7 a8 h8 a9 h9 a10 h10 a11 h11 a12 h12 a13 h13 a14 h14 hc0 hc1 hc2 x0 x1 x2 x3 x4 x5 x6 x7 x8 y11 yS0 yS1).2.1 = kvPieces (leavesAt (BitVec.ofNat 32 (i 0)) h1 h2 h3 h4 h5 h6 h7 h8 h9 x0 x1 x2 x3 x4 x5 x6 x7 x8)
      (fun j => View.readAt (Elt F) a13.view (rK j).toLoadRect (h13.unread yS0))
      (fun j => View.readAt (Elt F) a14.view (rK j).toLoadRect (h14.unread yS1)) :=
  rfl

set_option maxHeartbeats 20000000 in
/-- The pieces run B stores into the carried key sums are the stages' values, at the body's own reads. -/
theorem runB_ck (c : Dev nD) (i : grid0.Coords)
  (a1 : Memref sig .tc .vmem S128x1024 .f32) (h1 : a1.IsWhole)
  (a2 : Memref sig .tc .vmem S128x256 .f32) (h2 : a2.IsWhole)
  (a3 : Memref sig .tc .vmem S128x256 .f32) (h3 : a3.IsWhole)
  (a4 : Memref sig .tc .vmem S128x256 .f32) (h4 : a4.IsWhole)
  (a5 : Memref sig .tc .vmem S128x256 .f32) (h5 : a5.IsWhole)
  (a6 : Memref sig .tc .vmem S1x64 .f32) (h6 : a6.IsWhole)
  (a7 : Memref sig .tc .vmem S1x64 .f32) (h7 : a7.IsWhole)
  (a8 : Memref sig .tc .vmem S1x16 .f32) (h8 : a8.IsWhole)
  (a9 : Memref sig .tc .vmem S128x1024 .f32) (h9 : a9.IsWhole)
  (a10 : Memref sig .tc .vmem S128x1024 .bf16) (h10 : a10.IsWhole)
  (a11 : Memref sig .tc .vmem S128x512 .bf16) (h11 : a11.IsWhole)
  (a12 : Memref sig .tc .vmem S8x128 .f32) (h12 : a12.IsWhole)
  (a13 : Memref sig .tc .vmem S128x256 .f32) (h13 : a13.IsWhole)
  (a14 : Memref sig .tc .vmem S128x256 .f32) (h14 : a14.IsWhole)
  (hc0 : ¬cond0 i) (hc1 : cond1 i) (hc2 : ¬cond2 i)
  (x0 : Vec F S128x1024 .f32) (x1 x2 x3 x4 : Vec F S128x256 .f32) (x5 x6 : Vec F S1x64 .f32) (x7 : Vec F S1x16 .f32) (x8 : Vec F S128x1024 .f32)
  (y11 : Vec F S8x128 .f32) (yS0 yS1 : Vec F S128x256 .f32) :
  (runB c i a1 h1 a2 h2 a3 h3 a4 h4 a5 h5 a6 h6 a7 h7 a8 h8 a9 h9 a10 h10 a11 h11 a12 h12 a13 h13 a14 h14 hc0 hc1 hc2 x0 x1 x2 x3 x4 x5 x6 x7 x8 y11 yS0 yS1).2.2.2.1 = ckPieces (leavesAt (BitVec.ofNat 32 (i 0)) h1 h2 h3 h4 h5 h6 h7 h8 h9 x0 x1 x2 x3 x4 x5 x6 x7 x8) :=
  rfl

set_option maxHeartbeats 20000000 in
/-- The pieces run B stores into the carried value sums are the stages' values, at the body's own reads. -/
theorem runB_cv (c : Dev nD) (i : grid0.Coords)
  (a1 : Memref sig .tc .vmem S128x1024 .f32) (h1 : a1.IsWhole)
  (a2 : Memref sig .tc .vmem S128x256 .f32) (h2 : a2.IsWhole)
  (a3 : Memref sig .tc .vmem S128x256 .f32) (h3 : a3.IsWhole)
  (a4 : Memref sig .tc .vmem S128x256 .f32) (h4 : a4.IsWhole)
  (a5 : Memref sig .tc .vmem S128x256 .f32) (h5 : a5.IsWhole)
  (a6 : Memref sig .tc .vmem S1x64 .f32) (h6 : a6.IsWhole)
  (a7 : Memref sig .tc .vmem S1x64 .f32) (h7 : a7.IsWhole)
  (a8 : Memref sig .tc .vmem S1x16 .f32) (h8 : a8.IsWhole)
  (a9 : Memref sig .tc .vmem S128x1024 .f32) (h9 : a9.IsWhole)
  (a10 : Memref sig .tc .vmem S128x1024 .bf16) (h10 : a10.IsWhole)
  (a11 : Memref sig .tc .vmem S128x512 .bf16) (h11 : a11.IsWhole)
  (a12 : Memref sig .tc .vmem S8x128 .f32) (h12 : a12.IsWhole)
  (a13 : Memref sig .tc .vmem S128x256 .f32) (h13 : a13.IsWhole)
  (a14 : Memref sig .tc .vmem S128x256 .f32) (h14 : a14.IsWhole)
  (hc0 : ¬cond0 i) (hc1 : cond1 i) (hc2 : ¬cond2 i)
  (x0 : Vec F S128x1024 .f32) (x1 x2 x3 x4 : Vec F S128x256 .f32) (x5 x6 : Vec F S1x64 .f32) (x7 : Vec F S1x16 .f32) (x8 : Vec F S128x1024 .f32)
  (y11 : Vec F S8x128 .f32) (yS0 yS1 : Vec F S128x256 .f32) :
  (runB c i a1 h1 a2 h2 a3 h3 a4 h4 a5 h5 a6 h6 a7 h7 a8 h8 a9 h9 a10 h10 a11 h11 a12 h12 a13 h13 a14 h14 hc0 hc1 hc2 x0 x1 x2 x3 x4 x5 x6 x7 x8 y11 yS0 yS1).2.2.2.2.1 = cvPieces (leavesAt (BitVec.ofNat 32 (i 0)) h1 h2 h3 h4 h5 h6 h7 h8 h9 x0 x1 x2 x3 x4 x5 x6 x7 x8) :=
  rfl

end Cert.KernelIdeal.Swa
-- ==== Proof.SmallB.lean ====
module

public import proofs.«01_k».proof.Proof.Pieces

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 20000000 in
/-- The pieces run B stores into the small gradients are the stages' values, at the body's own reads. -/
theorem runB_sm (c : Dev nD) (i : grid0.Coords)
  (a1 : Memref sig .tc .vmem S128x1024 .f32) (h1 : a1.IsWhole)
  (a2 : Memref sig .tc .vmem S128x256 .f32) (h2 : a2.IsWhole)
  (a3 : Memref sig .tc .vmem S128x256 .f32) (h3 : a3.IsWhole)
  (a4 : Memref sig .tc .vmem S128x256 .f32) (h4 : a4.IsWhole)
  (a5 : Memref sig .tc .vmem S128x256 .f32) (h5 : a5.IsWhole)
  (a6 : Memref sig .tc .vmem S1x64 .f32) (h6 : a6.IsWhole)
  (a7 : Memref sig .tc .vmem S1x64 .f32) (h7 : a7.IsWhole)
  (a8 : Memref sig .tc .vmem S1x16 .f32) (h8 : a8.IsWhole)
  (a9 : Memref sig .tc .vmem S128x1024 .f32) (h9 : a9.IsWhole)
  (a10 : Memref sig .tc .vmem S128x1024 .bf16) (h10 : a10.IsWhole)
  (a11 : Memref sig .tc .vmem S128x512 .bf16) (h11 : a11.IsWhole)
  (a12 : Memref sig .tc .vmem S8x128 .f32) (h12 : a12.IsWhole)
  (a13 : Memref sig .tc .vmem S128x256 .f32) (h13 : a13.IsWhole)
  (a14 : Memref sig .tc .vmem S128x256 .f32) (h14 : a14.IsWhole)
  (hc0 : ¬cond0 i) (hc1 : cond1 i) (hc2 : ¬cond2 i)
  (x0 : Vec F S128x1024 .f32) (x1 x2 x3 x4 : Vec F S128x256 .f32) (x5 x6 : Vec F S1x64 .f32) (x7 : Vec F S1x16 .f32) (x8 : Vec F S128x1024 .f32)
  (y11 : Vec F S8x128 .f32) (yS0 yS1 : Vec F S128x256 .f32) :
  (runB c i a1 h1 a2 h2 a3 h3 a4 h4 a5 h5 a6 h6 a7 h7 a8 h8 a9 h9 a10 h10 a11 h11 a12 h12 a13 h13 a14 h14 hc0 hc1 hc2 x0 x1 x2 x3 x4 x5 x6 x7 x8 y11 yS0 yS1).2.2.1 = smPieces (leavesAt (BitVec.ofNat 32 (i 0)) h1 h2 h3 h4 h5 h6 h7 h8 h9 x0 x1 x2 x3 x4 x5 x6 x7 x8)
      (View.readAt (Elt F) a12.view (rM 0).toLoadRect (h12.unread y11))
      (View.readAt (Elt F) a12.view (rM 1).toLoadRect (h12.unread y11))
      (View.readAt (Elt F) a12.view rM2.toLoadRect (h12.unread y11)) :=
  rfl

end Cert.KernelIdeal.Swa
-- ==== Proof.BodyB.lean ====
module

public import proofs.«01_k».proof.Proof.LinkB
public import proofs.«01_k».proof.Proof.SmallB

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The body at a point after the first, before the last: what each buffer then holds. -/
theorem bodyB (c : Dev nD) (i : grid0.Coords)
  (a1 : Memref sig .tc .vmem S128x1024 .f32) (h1 : a1.IsWhole)
  (a2 : Memref sig .tc .vmem S128x256 .f32) (h2 : a2.IsWhole)
  (a3 : Memref sig .tc .vmem S128x256 .f32) (h3 : a3.IsWhole)
  (a4 : Memref sig .tc .vmem S128x256 .f32) (h4 : a4.IsWhole)
  (a5 : Memref sig .tc .vmem S128x256 .f32) (h5 : a5.IsWhole)
  (a6 : Memref sig .tc .vmem S1x64 .f32) (h6 : a6.IsWhole)
  (a7 : Memref sig .tc .vmem S1x64 .f32) (h7 : a7.IsWhole)
  (a8 : Memref sig .tc .vmem S1x16 .f32) (h8 : a8.IsWhole)
  (a9 : Memref sig .tc .vmem S128x1024 .f32) (h9 : a9.IsWhole)
  (a10 : Memref sig .tc .vmem S128x1024 .bf16) (h10 : a10.IsWhole)
  (a11 : Memref sig .tc .vmem S128x512 .bf16) (h11 : a11.IsWhole)
  (a12 : Memref sig .tc .vmem S8x128 .f32) (h12 : a12.IsWhole)
  (a13 : Memref sig .tc .vmem S128x256 .f32) (h13 : a13.IsWhole)
  (a14 : Memref sig .tc .vmem S128x256 .f32) (h14 : a14.IsWhole)
  (hc0 : ¬cond0 i) (hc1 : cond1 i) (hc2 : ¬cond2 i)
  (x0 : Vec F S128x1024 .f32) (x1 x2 x3 x4 : Vec F S128x256 .f32) (x5 x6 : Vec F S1x64 .f32) (x7 : Vec F S1x16 .f32) (x8 : Vec F S128x1024 .f32)
  (y11 : Vec F S8x128 .f32) (yS0 yS1 : Vec F S128x256 .f32) (E : Set ℕ) (K : PUnit → sProp 𝕄) :
  iprop(
    owns (c : Thread nD τ) a1 fullShare x0
    ∗ owns (c : Thread nD τ) a2 fullShare x1
    ∗ owns (c : Thread nD τ) a3 fullShare x2
    ∗ owns (c : Thread nD τ) a4 fullShare x3
    ∗ owns (c : Thread nD τ) a5 fullShare x4
    ∗ owns (c : Thread nD τ) a6 fullShare x5
    ∗ owns (c : Thread nD τ) a7 fullShare x6
    ∗ owns (c : Thread nD τ) a8 fullShare x7
    ∗ owns (c : Thread nD τ) a9 fullShare x8
    ∗ (∃ d, owns (c : Thread nD τ) a10 fullShare d)
    ∗ (∃ d, owns (c : Thread nD τ) a11 fullShare d)
    ∗ owns (c : Thread nD τ) a12 fullShare y11
    ∗ owns (c : Thread nD τ) a13 fullShare yS0
    ∗ owns (c : Thread nD τ) a14 fullShare yS1
    ∗ (iprop(
    owns (c : Thread nD τ) a1 fullShare x0
    ∗ owns (c : Thread nD τ) a2 fullShare x1
    ∗ owns (c : Thread nD τ) a3 fullShare x2
    ∗ owns (c : Thread nD τ) a4 fullShare x3
    ∗ owns (c : Thread nD τ) a5 fullShare x4
    ∗ owns (c : Thread nD τ) a6 fullShare x5
    ∗ owns (c : Thread nD τ) a7 fullShare x6
    ∗ owns (c : Thread nD τ) a8 fullShare x7
    ∗ owns (c : Thread nD τ) a9 fullShare x8
    ∗ owns (c : Thread nD τ) a10 fullShare (dqV (leavesOf (BitVec.ofNat 32 (i 0)) x0 x1 x2 x3 x4 x5 x6 x7 x8))
    ∗ owns (c : Thread nD τ) a11 fullShare (dkvV (leavesOf (BitVec.ofNat 32 (i 0)) x0 x1 x2 x3 x4 x5 x6 x7 x8) yS0 yS1)
    ∗ owns (c : Thread nD τ) a12 fullShare (smV (leavesOf (BitVec.ofNat 32 (i 0)) x0 x1 x2 x3 x4 x5 x6 x7 x8) y11)
    ∗ owns (c : Thread nD τ) a13 fullShare (ckV (leavesOf (BitVec.ofNat 32 (i 0)) x0 x1 x2 x3 x4 x5 x6 x7 x8))
    ∗ owns (c : Thread nD τ) a14 fullShare (cvV (leavesOf (BitVec.ofNat 32 (i 0)) x0 x1 x2 x3 x4 x5 x6 x7 x8))) -∗ K ⟨⟩))
  ⊢ wp frame (wpE (defs₀ (F := F)) Variants.none c none) E
      (cc0_swa_bwd i a1 h1 a2 h2 a3 h3 a4 h4 a5 h5 a6 h6 a7 h7 a8 h8 a9 h9 a10 h10 a11 h11 a12 h12 a13 h13 a14 h14) K := by
  have E9 := runB_q c i a1 h1 a2 h2 a3 h3 a4 h4 a5 h5 a6 h6 a7 h7 a8 h8 a9 h9 a10 h10 a11 h11 a12 h12 a13 h13 a14 h14 hc0 hc1 hc2 x0 x1 x2 x3 x4 x5 x6 x7 x8 y11 yS0 yS1
  have E10 := runB_kv c i a1 h1 a2 h2 a3 h3 a4 h4 a5 h5 a6 h6 a7 h7 a8 h8 a9 h9 a10 h10 a11 h11 a12 h12 a13 h13 a14 h14 hc0 hc1 hc2 x0 x1 x2 x3 x4 x5 x6 x7 x8 y11 yS0 yS1
  have E11 := runB_sm c i a1 h1 a2 h2 a3 h3 a4 h4 a5 h5 a6 h6 a7 h7 a8 h8 a9 h9 a10 h10 a11 h11 a12 h12 a13 h13 a14 h14 hc0 hc1 hc2 x0 x1 x2 x3 x4 x5 x6 x7 x8 y11 yS0 yS1
  have ES0 := runB_ck c i a1 h1 a2 h2 a3 h3 a4 h4 a5 h5 a6 h6 a7 h7 a8 h8 a9 h9 a10 h10 a11 h11 a12 h12 a13 h13 a14 h14 hc0 hc1 hc2 x0 x1 x2 x3 x4 x5 x6 x7 x8 y11 yS0 yS1
  have ES1 := runB_cv c i a1 h1 a2 h2 a3 h3 a4 h4 a5 h5 a6 h6 a7 h7 a8 h8 a9 h9 a10 h10 a11 h11 a12 h12 a13 h13 a14 h14 hc0 hc1 hc2 x0 x1 x2 x3 x4 x5 x6 x7 x8 y11 yS0 yS1
  have k0 : (fun j => View.readAt (Elt F) a13.view (rK j).toLoadRect (h13.unread yS0)) = fun j => View.ld yS0 (rK j) :=
    funext fun j => funext fun y => Memref.IsWhole.readAt_unread _ _ _ _
  have k1 : (fun j => View.readAt (Elt F) a14.view (rK j).toLoadRect (h14.unread yS1)) = fun j => View.ld yS1 (rK j) :=
    funext fun j => funext fun y => Memref.IsWhole.readAt_unread _ _ _ _
  have g0 : View.readAt (Elt F) a12.view (rM 0).toLoadRect (h12.unread y11) = View.ld y11 (rM 0) :=
    funext fun y => Memref.IsWhole.readAt_unread _ _ _ _
  have g1 : View.readAt (Elt F) a12.view (rM 1).toLoadRect (h12.unread y11) = View.ld y11 (rM 1) :=
    funext fun y => Memref.IsWhole.readAt_unread _ _ _ _
  have g2 : View.readAt (Elt F) a12.view rM2.toLoadRect (h12.unread y11) = View.ld y11 rM2 :=
    funext fun y => Memref.IsWhole.readAt_unread _ _ _ _
  rw [leavesAt_eq] at E9 E10 E11 ES0 ES1
  rw [k0, k1] at E10
  rw [g0, g1, g2] at E11
  have run := (runB c i a1 h1 a2 h2 a3 h3 a4 h4 a5 h5 a6 h6 a7 h7 a8 h8 a9 h9 a10 h10 a11 h11 a12 h12 a13 h13 a14 h14 hc0 hc1 hc2 x0 x1 x2 x3 x4 x5 x6 x7 x8 y11 yS0 yS1).2.2.2.2.2 E K
  iintro ⟨H0, H1, H2, H3, H4, H5, H6, H7, H8, H9, H10, H11, HS0, HS1, HK⟩
  iapply run
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  iintro ⟨H0, H1, H2, H3, H4, H5, H6, H7, H8, ⟨%e9, H9⟩, ⟨%e10, H10⟩, H11, ⟨%es0, HS0⟩, ⟨%es1, HS1⟩⟩
  iapply HK
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro
    rw [E9]
    exact View.read_writes_eq_canon _ _ _ (cover_q _)
  isplitl [H10]
  · unfold owns; iexists _; isplitr
    swap; · iexact H10
    ipureintro
    rw [E10]
    exact View.read_writes_eq_canon _ _ _ (cover_kv _ _ _)
  isplitl [H11]
  · unfold owns; iexists _; isplitr
    swap; · iexact H11
    ipureintro
    rw [E11]
    exact funext fun y => read_writes_over _ _ fullM y11 (fun x => (congrFun (h12.read_unread y11) _).trans (congrArg y11 (fullM_emb x))) y (mem_fullM y) _
  isplitl [HS0]
  · unfold owns; iexists _; isplitr
    swap; · iexact HS0
    ipureintro
    rw [ES0]
    exact View.read_writes_eq_canon _ _ _ (cover_ck _)
  · unfold owns; iexists _; isplitr
    swap; · iexact HS1
    ipureintro
    rw [ES1]
    exact View.read_writes_eq_canon _ _ _ (cover_cv _)

end Cert.KernelIdeal.Swa
-- ==== Proof.BodyC.lean ====
module

public import proofs.«01_k».proof.Proof.Pieces

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem inbH (a : Fin 2) : ∀ d, (![0, 256 * a.val] : Fin 2 → ℕ) d + S128x256.size d ≤ S128x512.size d := by
  fin_cases a <;> decide +kernel

/-- One half of the columns of the gradient of the keys and values. -/
def rH (a : Fin 2) : Rect S128x512 := Rect.unit ![0, 256 * a.val] S128x256.size (inbH a)

def tailPieces (ck cv : FVec F S128x256 .f32) : List (View.Piece (Elt F) S128x512 .bf16) :=
  [⟨rH 1, truncf .bf16 cv bitsLt_bf16_f32⟩, ⟨rH 0, truncf .bf16 ck bitsLt_bf16_f32⟩]

theorem cover_tail (ck cv : FVec F S128x256 .f32) (y : S128x512.Idx) : ∃ p ∈ tailPieces ck cv, y ∈ p.1.set :=
  View.cover_of_tiledL (tailPieces ck cv) S128x256.size (by rfl) y

/-- What the last point leaves: the carried sums themselves. -/
def tailV (ck cv : Vec F S128x256 .f32) : Vec F S128x512 .bf16 := View.canon (tailPieces ck cv)

theorem runC_pieces (c : Dev nD) (i : grid0.Coords)
  (a1 : Memref sig .tc .vmem S128x1024 .f32) (h1 : a1.IsWhole)
  (a2 : Memref sig .tc .vmem S128x256 .f32) (h2 : a2.IsWhole)
  (a3 : Memref sig .tc .vmem S128x256 .f32) (h3 : a3.IsWhole)
  (a4 : Memref sig .tc .vmem S128x256 .f32) (h4 : a4.IsWhole)
  (a5 : Memref sig .tc .vmem S128x256 .f32) (h5 : a5.IsWhole)
  (a6 : Memref sig .tc .vmem S1x64 .f32) (h6 : a6.IsWhole)
  (a7 : Memref sig .tc .vmem S1x64 .f32) (h7 : a7.IsWhole)
  (a8 : Memref sig .tc .vmem S1x16 .f32) (h8 : a8.IsWhole)
  (a9 : Memref sig .tc .vmem S128x1024 .f32) (h9 : a9.IsWhole)
  (a10 : Memref sig .tc .vmem S128x1024 .bf16) (h10 : a10.IsWhole)
  (a11 : Memref sig .tc .vmem S128x512 .bf16) (h11 : a11.IsWhole)
  (a12 : Memref sig .tc .vmem S8x128 .f32) (h12 : a12.IsWhole)
  (a13 : Memref sig .tc .vmem S128x256 .f32) (h13 : a13.IsWhole)
  (a14 : Memref sig .tc .vmem S128x256 .f32) (h14 : a14.IsWhole)
  (hc0 : ¬cond0 i) (hc1 : ¬cond1 i) (hc2 : cond2 i)
  (x0 : Vec F S128x1024 .f32) (x1 x2 x3 x4 : Vec F S128x256 .f32) (x5 x6 : Vec F S1x64 .f32) (x7 : Vec F S1x16 .f32) (x8 : Vec F S128x1024 .f32)
  (y9 : Vec F S128x1024 .bf16) (y11 : Vec F S8x128 .f32) (yS0 yS1 : Vec F S128x256 .f32) :
  (runC c i a1 h1 a2 h2 a3 h3 a4 h4 a5 h5 a6 h6 a7 h7 a8 h8 a9 h9 a10 h10 a11 h11 a12 h12 a13 h13 a14 h14 hc0 hc1 hc2 x0 x1 x2 x3 x4 x5 x6 x7 x8 y9 y11 yS0 yS1).1 = tailPieces
      (View.readAt (Elt F) a13.view fullK.toLoadRect (h13.unread yS0))
      (View.readAt (Elt F) a14.view fullK.toLoadRect (h14.unread yS1)) := rfl

set_option maxHeartbeats 4000000 in
/-- The body at the last point. -/
theorem bodyC (c : Dev nD) (i : grid0.Coords)
  (a1 : Memref sig .tc .vmem S128x1024 .f32) (h1 : a1.IsWhole)
  (a2 : Memref sig .tc .vmem S128x256 .f32) (h2 : a2.IsWhole)
  (a3 : Memref sig .tc .vmem S128x256 .f32) (h3 : a3.IsWhole)
  (a4 : Memref sig .tc .vmem S128x256 .f32) (h4 : a4.IsWhole)
  (a5 : Memref sig .tc .vmem S128x256 .f32) (h5 : a5.IsWhole)
  (a6 : Memref sig .tc .vmem S1x64 .f32) (h6 : a6.IsWhole)
  (a7 : Memref sig .tc .vmem S1x64 .f32) (h7 : a7.IsWhole)
  (a8 : Memref sig .tc .vmem S1x16 .f32) (h8 : a8.IsWhole)
  (a9 : Memref sig .tc .vmem S128x1024 .f32) (h9 : a9.IsWhole)
  (a10 : Memref sig .tc .vmem S128x1024 .bf16) (h10 : a10.IsWhole)
  (a11 : Memref sig .tc .vmem S128x512 .bf16) (h11 : a11.IsWhole)
  (a12 : Memref sig .tc .vmem S8x128 .f32) (h12 : a12.IsWhole)
  (a13 : Memref sig .tc .vmem S128x256 .f32) (h13 : a13.IsWhole)
  (a14 : Memref sig .tc .vmem S128x256 .f32) (h14 : a14.IsWhole)
  (hc0 : ¬cond0 i) (hc1 : ¬cond1 i) (hc2 : cond2 i)
  (x0 : Vec F S128x1024 .f32) (x1 x2 x3 x4 : Vec F S128x256 .f32) (x5 x6 : Vec F S1x64 .f32) (x7 : Vec F S1x16 .f32) (x8 : Vec F S128x1024 .f32)
  (y9 : Vec F S128x1024 .bf16) (y11 : Vec F S8x128 .f32) (yS0 yS1 : Vec F S128x256 .f32) (E : Set ℕ) (K : PUnit → sProp 𝕄) :
  iprop(
    owns (c : Thread nD τ) a1 fullShare x0
    ∗ owns (c : Thread nD τ) a2 fullShare x1
    ∗ owns (c : Thread nD τ) a3 fullShare x2
    ∗ owns (c : Thread nD τ) a4 fullShare x3
    ∗ owns (c : Thread nD τ) a5 fullShare x4
    ∗ owns (c : Thread nD τ) a6 fullShare x5
    ∗ owns (c : Thread nD τ) a7 fullShare x6
    ∗ owns (c : Thread nD τ) a8 fullShare x7
    ∗ owns (c : Thread nD τ) a9 fullShare x8
    ∗ owns (c : Thread nD τ) a10 fullShare y9
    ∗ (∃ d, owns (c : Thread nD τ) a11 fullShare d)
    ∗ owns (c : Thread nD τ) a12 fullShare y11
    ∗ owns (c : Thread nD τ) a13 fullShare yS0
    ∗ owns (c : Thread nD τ) a14 fullShare yS1
    ∗ (iprop(
    owns (c : Thread nD τ) a1 fullShare x0
    ∗ owns (c : Thread nD τ) a2 fullShare x1
    ∗ owns (c : Thread nD τ) a3 fullShare x2
    ∗ owns (c : Thread nD τ) a4 fullShare x3
    ∗ owns (c : Thread nD τ) a5 fullShare x4
    ∗ owns (c : Thread nD τ) a6 fullShare x5
    ∗ owns (c : Thread nD τ) a7 fullShare x6
    ∗ owns (c : Thread nD τ) a8 fullShare x7
    ∗ owns (c : Thread nD τ) a9 fullShare x8
    ∗ owns (c : Thread nD τ) a10 fullShare y9
    ∗ owns (c : Thread nD τ) a11 fullShare (tailV yS0 yS1)
    ∗ owns (c : Thread nD τ) a12 fullShare y11
    ∗ owns (c : Thread nD τ) a13 fullShare yS0
    ∗ owns (c : Thread nD τ) a14 fullShare yS1) -∗ K ⟨⟩))
  ⊢ wp frame (wpE (defs₀ (F := F)) Variants.none c none) E
      (cc0_swa_bwd i a1 h1 a2 h2 a3 h3 a4 h4 a5 h5 a6 h6 a7 h7 a8 h8 a9 h9 a10 h10 a11 h11 a12 h12 a13 h13 a14 h14) K := by
  have e10 := runC_pieces c i a1 h1 a2 h2 a3 h3 a4 h4 a5 h5 a6 h6 a7 h7 a8 h8 a9 h9 a10 h10 a11 h11 a12 h12 a13 h13 a14 h14 hc0 hc1 hc2 x0 x1 x2 x3 x4 x5 x6 x7 x8 y9 y11 yS0 yS1
  have k0 : View.readAt (Elt F) a13.view fullK.toLoadRect (h13.unread yS0) = yS0 :=
    funext fun y => (Memref.IsWhole.readAt_unread _ _ _ _).trans (congrArg yS0 (fullK_emb y))
  have k1 : View.readAt (Elt F) a14.view fullK.toLoadRect (h14.unread yS1) = yS1 :=
    funext fun y => (Memref.IsWhole.readAt_unread _ _ _ _).trans (congrArg yS1 (fullK_emb y))
  rw [k0, k1] at e10
  have run := (runC c i a1 h1 a2 h2 a3 h3 a4 h4 a5 h5 a6 h6 a7 h7 a8 h8 a9 h9 a10 h10 a11 h11 a12 h12 a13 h13 a14 h14 hc0 hc1 hc2 x0 x1 x2 x3 x4 x5 x6 x7 x8 y9 y11 yS0 yS1).2 E K
  rw [e10] at run
  iintro ⟨H0, H1, H2, H3, H4, H5, H6, H7, H8, H9, H10, H11, HS0, HS1, HK⟩
  iapply run
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  iintro ⟨H0, H1, H2, H3, H4, H5, H6, H7, H8, H9, ⟨%e10, H10⟩, H11, HS0, HS1⟩
  iapply HK
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro
    exact View.read_writes_eq_canon _ _ _ (cover_tail _ _)
  isplitl [H11]; · iexact H11
  isplitl [HS0]; · iexact HS0
  iexact HS1

end Cert.KernelIdeal.Swa
-- ==== Proof.Dats.lean ====
module

public import proofs.«01_k».proof.Proof.BodyC
public import proofs.«01_k».proof.Proof.Gen.KernelIdeal.Frame
public import Idealize.ShloMosaic.Lib.Pipeline.TableIdle

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## What the buffers hold after each point -/

/-- What the body reads at point `t`. -/
def leafAt (c : Dev nD) (t : Fin cfg0.N) : Leaves F :=
  leavesOf (BitVec.ofNat 32 (grid0.coords t 0)) (X0_0 m c t) (iblk m c 1 t) (iblk m c 2 t) (iblk m c 3 t) (iblk m c 4 t)
    (iblk m c 5 t) (iblk m c 6 t) (iblk m c 7 t) (iblk m c 8 t)

/-- The three outputs' buffers and the two carried sums. -/
structure Held (F : FTy → Type) where
  dq : Vec F S128x1024 .bf16
  dkv : Vec F S128x512 .bf16
  sm : Vec F S8x128 .f32
  ck : Vec F S128x256 .f32
  cv : Vec F S128x256 .f32

/-- One point's work over what the point before left. -/
def Held.step (p : Held F) (L : Leaves F) : Held F :=
  ⟨dqV L, dkvV L p.ck p.cv, smV L p.sm, ckV L, cvV L⟩

/-- The last point stores the carried sums and keeps the rest. -/
def Held.close (p : Held F) : Held F := ⟨p.dq, tailV p.ck p.cv, p.sm, p.ck, p.cv⟩

/-- What is held before the first point, as far as the first point's results go. -/
def Held.init (p : Vec F S128x1024 .bf16) (q : Vec F S128x512 .bf16) : Held F := ⟨p, q, k0_pay3, k0_pay1, k0_pay1⟩

def heldAt (c : Dev nD) : (n : ℕ) → n < cfg0.N → Held F
  | 0, hn => (Held.init (dqV (leafAt m c ⟨0, hn⟩)) (tailV k0_pay1 k0_pay1)).step (leafAt m c ⟨0, hn⟩)
  | n + 1, hn =>
    if n + 1 < 32 then (heldAt c n (Nat.lt_of_succ_lt hn)).step (leafAt m c ⟨n + 1, hn⟩)
    else (heldAt c n (Nat.lt_of_succ_lt hn)).close

/-- What the point before left. -/
abbrev heldBefore (c : Dev nD) (t : Fin cfg0.N) : Held F :=
  heldAt m c (t.val - 1) (Nat.lt_of_le_of_lt (Nat.sub_le _ _) t.isLt)

theorem heldAt_B (c : Dev nD) (t : Fin cfg0.N) (h0 : t.val ≠ 0) (h1 : t.val < 32) :
    heldAt m c t.val t.isLt = (heldBefore m c t).step (leafAt m c t) := by
  obtain ⟨n, hn⟩ := t
  cases n with
  | zero => exact absurd rfl h0
  | succ n => exact if_pos h1

theorem heldAt_C (c : Dev nD) (t : Fin cfg0.N) (h0 : t.val ≠ 0) (h1 : ¬t.val < 32) :
    heldAt m c t.val t.isLt = (heldBefore m c t).close := by
  obtain ⟨n, hn⟩ := t
  cases n with
  | zero => exact absurd rfl h0
  | succ n => exact if_neg h1

abbrev scA : Memref sig .tc .vmem S128x256 .f32 := Memref.whole cc0_scratch0
abbrev scB : Memref sig .tc .vmem S128x256 .f32 := Memref.whole cc0_scratch1

theorem ΦA_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

/-- What holds between points: the carried sums as the point before left them. -/
def Inv (c : Dev nD) : (n : ℕ) → n ≤ cfg0.N → sProp 𝕄
  | 0, _ => Pipeline.ΦA spec0 c
  | n + 1, hn => iprop(iprop(owns (c : Thread nD τ) scA fullShare (heldAt m c n hn).ck
      ∗ owns (c : Thread nD τ) scB fullShare (heldAt m c n hn).cv) ∗ (∃ r, prngReg c r))

theorem Inv_zero (c : Dev nD) (n : ℕ) (h : n ≤ cfg0.N) (hz : n = 0) : Inv m c n h = Pipeline.ΦA spec0 c := by
  subst hz; rfl

theorem Inv_pos (c : Dev nD) (n : ℕ) (h : n ≤ cfg0.N) (hz : n ≠ 0) :
    Inv m c n h = iprop(iprop(owns (c : Thread nD τ) scA fullShare (heldAt m c (n - 1) (by omega)).ck
      ∗ owns (c : Thread nD τ) scB fullShare (heldAt m c (n - 1) (by omega)).cv) ∗ (∃ r, prngReg c r)) := by
  cases n with
  | zero => exact absurd rfl hz
  | succ n => rfl

/-- The proof data of the region: the arrays as it finds them, and what each buffer holds after each point. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (heldAt m c t.val t.isLt).dq
    | ⟨10, _⟩ => (heldAt m c t.val t.isLt).dkv
    | ⟨11, _⟩ => (heldAt m c t.val t.isLt).sm
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (heldAt m c t.val t.isLt).dq := by dsimp only [dats]
theorem after_10 (c : Dev nD) (t : Fin cfg0.N) : (dats m 0 c).after 10 t = (heldAt m c t.val t.isLt).dkv := by dsimp only [dats]
theorem after_11 (c : Dev nD) (t : Fin cfg0.N) : (dats m 0 c).after 11 t = (heldAt m c t.val t.isLt).sm := by dsimp only [dats]

theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-! ## The outputs' buffers between points -/

theorem idle9 : ∀ t : Fin cfg0.N, cfg0.idle 9 (grid0.coords t) = true → t.val = 32 := by decide +kernel
theorem idle11 : ∀ t : Fin cfg0.N, cfg0.idle 11 (grid0.coords t) = true → t.val = 32 := by decide +kernel
theorem fresh9 : ∀ t : Fin cfg0.N, t.val = 32 → cfg0.fresh 9 t.val = false := by decide +kernel
theorem fresh11 : ∀ t : Fin cfg0.N, t.val ≠ 0 → cfg0.fresh 11 t.val = false := by decide +kernel
theorem stored9 : ∀ t : Fin cfg0.N, cfg0.idle 9 (grid0.coords t) = false ∨ (cfg0.win 9).flush t = true := by decide +kernel
theorem stored10 : ∀ t : Fin cfg0.N, cfg0.idle 10 (grid0.coords t) = false ∨ (cfg0.win 10).flush t = true := by decide +kernel
theorem stored11 : ∀ t : Fin cfg0.N, cfg0.idle 11 (grid0.coords t) = false ∨ (cfg0.win 11).flush t = true := by decide +kernel

theorem leaves_out (c : Dev nD) (w : Fin cfg0.W) (t : Fin cfg0.N)
    (h : cfg0.idle w (grid0.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [show cfg0.idle w (cfg0.grid.coords t) = false from h]
  · rw [h]; cases cfg0.idle w (cfg0.grid.coords t) <;> rfl

theorem keep9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t h0 hi _
  rw [after_9, after_9, heldAt_C m c t h0 (by have := idle9 t hi; omega)]
  rfl

theorem keep11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t h0 hi _
  rw [after_11, after_11, heldAt_C m c t h0 (by have := idle11 t hi; omega)]
  rfl

theorem before_9 (c : Dev nD) (t : Fin cfg0.N) (h : t.val = 32) (d) : (dats m 0 c).before 9 t d = (heldBefore m c t).dq := by
  rw [Dat.before_out_traj _ 9 rfl (fun _ _ => rfl) (keep9 m c) t.val t rfl d,
    if_neg (by rw [fresh9 t h]; exact Bool.false_ne_true)]
  dsimp only [dats]

theorem before_11 (c : Dev nD) (t : Fin cfg0.N) (h : t.val ≠ 0) (d) : (dats m 0 c).before 11 t d = (heldBefore m c t).sm := by
  rw [Dat.before_out_traj _ 11 rfl (fun _ _ => rfl) (keep11 m c) t.val t rfl d,
    if_neg (by rw [fresh11 t h]; exact Bool.false_ne_true)]
  dsimp only [dats]

end Cert.KernelIdeal.Swa
-- ==== Proof.BodyOb.lean ====
module

public import proofs.«01_k».proof.Proof.BodyA
public import proofs.«01_k».proof.Proof.BodyB
public import proofs.«01_k».proof.Proof.Dats

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))

/-- What it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- What it gives back, with the contents named. -/
theorem bodyPost_eq (c : Dev nD) (t : Fin cfg0.N) : bodyPost m c t
    = iprop(iprop(iprop(owns (c : Thread nD τ) scA fullShare (heldAt m c t.val t.isLt).ck
      ∗ owns (c : Thread nD τ) scB fullShare (heldAt m c t.val t.isLt).cv) ∗ (∃ r, prngReg c r))
    ∗ (dats m 0 c).owesAt () t.castSucc
    ∗ owns (c : Thread nD τ) (win0_0.stage (cfg0.slots t 0)) fullShare (X0_0 m c t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (iblk m c 6 t)
    ∗ owns (c : Thread nD τ) (win0_7.stage (cfg0.slots t 7)) fullShare (iblk m c 7 t)
    ∗ owns (c : Thread nD τ) (win0_8.stage (cfg0.slots t 8)) fullShare (iblk m c 8 t)
    ∗ owns (c : Thread nD τ) (win0_9.stage (cfg0.slots t 9)) fullShare (heldAt m c t.val t.isLt).dq
    ∗ owns (c : Thread nD τ) (win0_10.stage (cfg0.slots t 10)) fullShare (heldAt m c t.val t.isLt).dkv
    ∗ owns (c : Thread nD τ) (win0_11.stage (cfg0.slots t 11)) fullShare (heldAt m c t.val t.isLt).sm) := by
  unfold bodyPost
  rw [show (dats m 0 c).owesAt () t.succ = (dats m 0 c).owesAt () t.castSucc from rfl]
  rw [show (dats m 0 c).Φ t.succ = Inv m c (t.val + 1) t.isLt from rfl]
  rw [leaves_out m c 0 t (.inl rfl), leaves_out m c 1 t (.inl rfl), leaves_out m c 2 t (.inl rfl), leaves_out m c 3 t (.inl rfl), leaves_out m c 4 t (.inl rfl), leaves_out m c 5 t (.inl rfl), leaves_out m c 6 t (.inl rfl), leaves_out m c 7 t (.inl rfl), leaves_out m c 8 t (.inl rfl),
    leaves_out m c 9 t (stored9 t), leaves_out m c 10 t (stored10 t), leaves_out m c 11 t (stored11 t)]
  rw [after_0, after_1, after_2, after_3, after_4, after_5, after_6, after_7, after_8, after_9, after_10, after_11]
  rfl

set_option maxHeartbeats 4000000 in
theorem sound_A (c : Dev nD) (t : Fin cfg0.N) (h0 : t.val = 0) :
    bodyPre m c t ⊢ wp frame (wpE (defs₀ (F := F)) Variants.none c none) Set.univ (bodyAt0 t) (fun _ => bodyPost m c t) := by
  have hN : t.val < 33 := lt_of_lt_of_eq t.isLt (show cfg0.N = 33 from N_0)
  have hH : heldAt m c t.val t.isLt = (Held.init (dqV (leafAt m c t)) (tailV k0_pay1 k0_pay1)).step (leafAt m c t) := by
    obtain ⟨n, hn⟩ := t
    simp only at h0
    subst h0
    rfl
  simp only [bodyPost_eq]
  rw [hH]
  unfold bodyPre bodyAt0
  simp only [before_0, before_1, before_2, before_3, before_4, before_5, before_6, before_7, before_8]
  rw [Inv_castSucc m c t, Inv_zero m c _ _ h0, ΦA_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (bodyA c (grid0.coords t) _ _ _ _ _ _ _ _ _ _ _ _ _ _ _ _ _ _ _ _ _ _ _ _ _ _ _ _ ((cond0_iff t).mpr h0) ((cond1_iff t).mpr (by omega))
    (fun h => by have := (cond2_iff t).mp h; omega) (X0_0 m c t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [HS0]; · iexact HS0
  isplitl [HS1]; · iexact HS1
  iintro ⟨H0, H1, H2, H3, H4, H5, H6, H7, H8, H9, H10, H11, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 4000000 in
theorem sound_B (c : Dev nD) (t : Fin cfg0.N) (h0 : t.val ≠ 0) (h1 : t.val < 32) :
    bodyPre m c t ⊢ wp frame (wpE (defs₀ (F := F)) Variants.none c none) Set.univ (bodyAt0 t) (fun _ => bodyPost m c t) := by
  simp only [bodyPost_eq]
  rw [heldAt_B m c t h0 h1]
  unfold bodyPre bodyAt0
  simp only [before_0, before_1, before_2, before_3, before_4, before_5, before_6, before_7, before_8, before_11 m c t h0]
  rw [Inv_castSucc m c t, Inv_pos m c _ _ h0]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (bodyB c (grid0.coords t) _ _ _ _ _ _ _ _ _ _ _ _ _ _ _ _ _ _ _ _ _ _ _ _ _ _ _ _ (fun h => h0 ((cond0_iff t).mp h)) ((cond1_iff t).mpr h1)
    (fun h => by have := (cond2_iff t).mp h; omega) (X0_0 m c t) (iblk m c 1 t) (iblk m c 2 t) (iblk m c 3 t) (iblk m c 4 t) (iblk m c 5 t) (iblk m c 6 t) (iblk m c 7 t) (iblk m c 8 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  isplitl [HS0]; · iexact HS0
  isplitl [HS1]; · iexact HS1
  iintro ⟨H0, H1, H2, H3, H4, H5, H6, H7, H8, H9, H10, H11, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 4000000 in
theorem sound_C (c : Dev nD) (t : Fin cfg0.N) (h0 : t.val ≠ 0) (h1 : ¬t.val < 32) :
    bodyPre m c t ⊢ wp frame (wpE (defs₀ (F := F)) Variants.none c none) Set.univ (bodyAt0 t) (fun _ => bodyPost m c t) := by
  have hN : t.val < 33 := lt_of_lt_of_eq t.isLt (show cfg0.N = 33 from N_0)
  have h2 : t.val = 32 := by omega
  simp only [bodyPost_eq]
  rw [heldAt_C m c t h0 h1]
  unfold bodyPre bodyAt0
  simp only [before_0, before_1, before_2, before_3, before_4, before_5, before_6, before_7, before_8, before_11 m c t h0, before_9 m c t h2]
  rw [Inv_castSucc m c t, Inv_pos m c _ _ h0]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (bodyC c (grid0.coords t) _ _ _ _ _ _ _ _ _ _ _ _ _ _ _ _ _ _ _ _ _ _ _ _ _ _ _ _ (fun h => h0 ((cond0_iff t).mp h)) (fun h => h1 ((cond1_iff t).mp h))
    ((cond2_iff t).mpr h2) (X0_0 m c t) (iblk m c 1 t) (iblk m c 2 t) (iblk m c 3 t) (iblk m c 4 t) (iblk m c 5 t) (iblk m c 6 t) (iblk m c 7 t) (iblk m c 8 t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [HS0]; · iexact HS0
  isplitl [HS1]; · iexact HS1
  iintro ⟨H0, H1, H2, H3, H4, H5, H6, H7, H8, H9, H10, H11, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t h0
  by_cases h1 : t.val < 32
  · exact sound_B m c t h0 h1
  · exact sound_C m c t h0 h1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Inv m c 0 (Nat.zero_le _) from rfl, Inv_zero m c 0 _ rfl]

theorem hout (c : Dev nD) : (dats m 0 c).Φ (Fin.last cfg0.N) ⊢ Pipeline.ΦA spec0 c := by
  rw [show (dats m 0 c).Φ (Fin.last cfg0.N) = Inv m c cfg0.N (le_refl _) from rfl,
    Inv_pos m c _ _ (by have : cfg0.N = 33 := N_0; omega), ΦA_eq]
  iintro ⟨⟨HS0, HS1⟩, Hg⟩
  isplitl [HS0 HS1]
  · isplitl [HS0]
    · iexists _; iexact HS0
    · iexists _; iexact HS1
  · iexact Hg

set_option backward.isDefEq.respectTransparency.types false in
/-- Every run of the program ends, with the arrays at what the proof data says and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The program ends with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Swa
-- ==== Proof.FrameP.lean ====
module

public import proofs.«01_k».proof.Proof.BodyOb
public import proofs.«01_k».proof.Proof.Gen.Kernel
public import proofs.«01_k».proof.Defs
public import Idealize.ShloMosaic.PureOps.BitExact

@[expose] public section

set_option maxRecDepth 65536

noncomputable section

namespace Cert.Proof

open Idealize.ShloMosaic Idealize.SL.Sem

/-- The bit patterns' own reading of a named constant: what its pattern denotes. -/
@[reducible] def plainNamed : Named Bits := ⟨fun _ _ {φ} bits => Scalar.ofBits φ bits⟩

set_option maxHeartbeats 20000000 in
/-- The body as it stands is the idealized one's text read at the bit patterns. -/
theorem body_eq : @Cert.Kernel.cc0_swa_bwd Bits _ _ = @Cert.KernelIdeal.cc0_swa_bwd Bits _ plainNamed _ := rfl

theorem defs0_eq : Cert.Kernel.defs₀ (F := Bits) = @Cert.KernelIdeal.defs₀ Bits _ plainNamed _ := by
  unfold Cert.Kernel.defs₀ Cert.KernelIdeal.defs₀
  refine congrArg Defs.onTc (funext fun l => funext fun a => ?_)
  match l, a with
  | 0, (t, s) => rfl

theorem defs_eq : Cert.Kernel.defs (F := Bits) = @Cert.KernelIdeal.defs Bits _ plainNamed _ := by
  unfold Cert.Kernel.defs Cert.KernelIdeal.defs
  rw [defs0_eq]
  rfl

/-- The program as it stands ends with its arguments as they were and every counter at zero. -/
theorem frame_k : Cert.quiescent_Kernel := by
  intro m g _
  rw [defs_eq]
  exact @Cert.KernelIdeal.Swa.frame Bits _ plainNamed m g

end Cert.Proof
-- ==== Proof.Model.lean ====
module

public import Idealize.ShloMosaic.Lib.Pointwise
public import Idealize.ShloMosaic.Lib.IdealHost

@[expose] public section

noncomputable section

namespace Cert.Swa

open Idealize.ShloMosaic

/-! ## The attention's gradients over the reals

Token `t`, key head `j`, query head `g` of the group of `j`, channel `e`. Tokens come in blocks of 128; the queries of
block `n` see the keys of block `n` and of the block before, 256 columns `c`. -/

/-- The arguments as real numbers. -/
structure In where
  P : ℕ → ℕ → ℝ
  qg : ℕ → ℝ
  kg : ℕ → ℝ
  sk : ℕ → ℝ
  D : ℕ → ℕ → ℝ

/-- The constant under the root, as the programs write it. -/
def eps : ℝ := (Ideal.ofBits .f32 0x358637BD#32).toReal

theorem eps_eq : Ideal.ofBits .f32 0x358637BD#32 = ((eps : ℝ) : EReal) := by
  have h : Ideal.ofBits .f32 0x358637BD#32 = (((8796093 : ℝ) * (2 : ℝ) ^ (-43 : ℤ) : ℝ) : EReal) := by
    simp [Ideal.ofBits, Ideal.ieee]
  rw [eps, h, EReal.toReal_coe]

theorem eps_pos : 0 < eps := by
  have h : Ideal.ofBits .f32 0x358637BD#32 = (((8796093 : ℝ) * (2 : ℝ) ^ (-43 : ℤ) : ℝ) : EReal) := by
    simp [Ideal.ofBits, Ideal.ieee]
  rw [eps, h, EReal.toReal_coe]
  positivity

theorem c64_eq : Ideal.ofBits .f32 0x42800000#32 = ((64 : ℝ) : EReal) := by
  simp [Ideal.ofBits, Ideal.ieee]
  rw [← EReal.coe_mul]; norm_num
theorem c8_eq : Ideal.ofBits .f32 0x3E000000#32 = ((1 / 8 : ℝ) : EReal) := by
  simp [Ideal.ofBits, Ideal.ieee]
  rw [← EReal.coe_mul]; norm_num
theorem cmh_eq : Ideal.ofBits .f32 0xBF000000#32 = ((-(1 / 2) : ℝ) : EReal) := by
  simp [Ideal.ofBits, Ideal.ieee]
  rw [← EReal.coe_mul]; norm_num
theorem cbot_eq : Ideal.ofBits .f32 0xFF800000#32 = (⊥ : EReal) := by
  simp [Ideal.ofBits, Ideal.ieee]

/-- The mean square of a row of 64, and the constant. -/
def msq (x : ℕ → ℝ) : ℝ := (∑ e : Fin 64, x e * x e) / 64 + eps
def rin (x : ℕ → ℝ) : ℝ := (Real.sqrt (msq x))⁻¹

theorem msq_pos (x : ℕ → ℝ) : 0 < msq x := by
  have : 0 ≤ ∑ e : Fin 64, x e * x e := Finset.sum_nonneg fun e _ => mul_self_nonneg _
  have := eps_pos
  unfold msq
  positivity

/-- The derivative of the normalised row times the gain, from the derivative of the result. -/
def back (dy x g : ℕ → ℝ) (e : ℕ) : ℝ :=
  rin x * (dy e * g e - x e * rin x * ((∑ e' : Fin 64, dy e' * g e' * (x e' * rin x)) / 64))

theorem back_add (a b x g : ℕ → ℝ) (e : ℕ) : back (fun e => a e + b e) x g e = back a x g e + back b x g e := by
  have : ∑ e' : Fin 64, (a e' + b e') * g e' * (x e' * rin x)
      = (∑ e' : Fin 64, a e' * g e' * (x e' * rin x)) + ∑ e' : Fin 64, b e' * g e' * (x e' * rin x) := by
    rw [← Finset.sum_add_distrib]
    exact Finset.sum_congr rfl fun _ _ => by ring
  unfold back
  rw [this]
  ring

/-- The token of column `c` of block `n`. -/
def tok (n c : ℕ) : ℕ := if c < 128 then 128 * (n - 1) + c else 128 * n + (c - 128)

/-- Query `i` of block `n` sees column `c`. -/
def See (n i c : ℕ) : Prop := (c ≤ i + 128 ∧ i < c) ∧ (128 ≤ c ∨ 0 < n)

instance (n i c : ℕ) : Decidable (See n i c) := by unfold See; infer_instance

namespace In

variable (I : In)

def Q (t j g e : ℕ) : ℝ := I.P t (4096 + 256 * j + 64 * g + e)
def K (t j e : ℕ) : ℝ := I.P t (5120 + 64 * j + e)
def Vv (t j e : ℕ) : ℝ := I.P t (5376 + 64 * j + e)
def G (t j g e : ℕ) : ℝ := I.D t (256 * j + 64 * g + e)

def kn (t j e : ℕ) : ℝ := I.K t j e * rin (I.K t j)
def kh (t j e : ℕ) : ℝ := I.kn t j e * I.kg e
def qn (t j g e : ℕ) : ℝ := I.Q t j g e * rin (I.Q t j g)
def qh (t j g e : ℕ) : ℝ := I.qn t j g e * I.qg e

/-- The scores of query `(n, i)` of head `(j, g)`. -/
def sc (n j g i c : ℕ) : ℝ := (∑ e : Fin 64, I.qh (128 * n + i) j g e * I.kh (tok n c) j e) * (1 / 8)
def w (n j g i c : ℕ) : ℝ := if See n i c then Real.exp (I.sc n j g i c) else 0
def ws (j g : ℕ) : ℝ := Real.exp (I.sk (4 * j + g))
def Z (n j g i : ℕ) : ℝ := (∑ c : Fin 256, I.w n j g i c) + I.ws j g
def p (n j g i c : ℕ) : ℝ := I.w n j g i c / I.Z n j g i
def ps (n j g i : ℕ) : ℝ := I.ws j g / I.Z n j g i
def dp (n j g i c : ℕ) : ℝ := ∑ e : Fin 64, I.G (128 * n + i) j g e * I.Vv (tok n c) j e
def dl (n j g i : ℕ) : ℝ := ∑ c : Fin 256, I.p n j g i c * I.dp n j g i c
def ds (n j g i c : ℕ) : ℝ := I.p n j g i c * (I.dp n j g i c - I.dl n j g i)
def dqh (n j g i e : ℕ) : ℝ := (∑ c : Fin 256, I.ds n j g i c * I.kh (tok n c) j e) * (1 / 8)
def dkh (n j c e : ℕ) : ℝ :=
  (∑ g : Fin 4, ∑ i : Fin 128, I.ds n j g i c * I.qh (128 * n + i) j g e) * (1 / 8)
def dv (n j c e : ℕ) : ℝ := ∑ g : Fin 4, ∑ i : Fin 128, I.p n j g i c * I.G (128 * n + i) j g e

/-- What the keys and values of block `n` get: from its own queries and from the next block's. -/
def dkT (n j i e : ℕ) : ℝ := I.dkh n j (128 + i) e + if n < 31 then I.dkh (n + 1) j i e else 0
def dvT (n j i e : ℕ) : ℝ := I.dv n j (128 + i) e + if n < 31 then I.dv (n + 1) j i e else 0

/-- The gradients. -/
def gq (t c : ℕ) : ℝ :=
  back (I.dqh (t / 128) (c / 256) (c / 64 % 4) (t % 128)) (I.Q t (c / 256) (c / 64 % 4)) I.qg (c % 64)
def gk (t c : ℕ) : ℝ := back (I.dkT (t / 128) (c / 64) (t % 128)) (I.K t (c / 64)) I.kg (c % 64)
def gv (t c : ℕ) : ℝ := I.dvT (t / 128) (c / 64) (t % 128) (c % 64)
def gqg (e : ℕ) : ℝ := ∑ n : Fin 32, ∑ j : Fin 4, ∑ g : Fin 4, ∑ i : Fin 128,
  I.dqh n j g i e * I.qn (128 * n + i) j g e
def gkg (e : ℕ) : ℝ := ∑ n : Fin 32, ∑ j : Fin 4, ∑ i : Fin 128, I.dkT n j i e * I.kn (128 * n + i) j e
def gs (j g : ℕ) : ℝ := ∑ n : Fin 32, ∑ i : Fin 128, -(I.ps n j g i * I.dl n j g i)

theorem w_nonneg (n j g i c : ℕ) : 0 ≤ I.w n j g i c := by
  unfold w; split_ifs
  · exact (Real.exp_pos _).le
  · exact le_rfl

theorem Z_pos (n j g i : ℕ) : 0 < I.Z n j g i :=
  add_pos_of_nonneg_of_pos (Finset.sum_nonneg fun _ _ => I.w_nonneg _ _ _ _ _) (Real.exp_pos _)

theorem p_unseen (n j g i c : ℕ) (h : ¬See n i c) : I.p n j g i c = 0 := by
  unfold p w; rw [if_neg h, zero_div]

theorem ds_unseen (n j g i c : ℕ) (h : ¬See n i c) : I.ds n j g i c = 0 := by
  unfold ds; rw [I.p_unseen n j g i c h, zero_mul]

theorem not_see_zero (i c : ℕ) (h : c < 128) : ¬See 0 i c := by unfold See; omega

end In

/-- A sum over 512 rows, by head and query. -/
theorem sum_rows (f : ℕ → ℕ → ℝ) : ∑ r : Fin 512, f (r.val / 128) (r.val % 128) = ∑ g : Fin 4, ∑ i : Fin 128, f g i := by
  rw [← Fintype.sum_prod_type' (f := fun (g : Fin 4) (i : Fin 128) => f g i),
    ← (finProdFinEquiv (m := 4) (n := 128)).sum_comp]
  refine Finset.sum_congr rfl fun x _ => ?_
  obtain ⟨a, b⟩ := x
  have h : (finProdFinEquiv (a, b) : Fin (4 * 128)).val = b.val + 128 * a.val := rfl
  show f ((finProdFinEquiv (a, b) : Fin (4 * 128)).val / 128) ((finProdFinEquiv (a, b) : Fin (4 * 128)).val % 128) = _
  rw [h, show (b.val + 128 * a.val) / 128 = a.val by omega, show (b.val + 128 * a.val) % 128 = b.val by omega]

end Cert.Swa
-- ==== Proof.KOps.lean ====
module

public import proofs.«01_k».proof.Proof.Stage
public import proofs.«01_k».proof.Proof.Model
public import Idealize.ShloMosaic.Lib.Pointwise

@[expose] public section

set_option maxRecDepth 16384

noncomputable section

namespace Cert.KernelIdeal.Swa

open Cert.KernelIdeal Cert.KernelIdeal.Gen Cert.Swa
open Idealize.ShloMosaic Idealize.ShloMosaic.TcCoe Idealize.ShloMosaic.Tactic

/-- A matrix whose entries are real: the entry at row `r` and column `c` is `f r c`. -/
def Rep {a b : ℕ} {t : FTy} (x : FVec Ideal ⟨2, ![a, b]⟩ t) (f : ℕ → ℕ → ℝ) : Prop :=
  ∀ i, x i = ((f (i 0).val (i 1).val : ℝ) : EReal)

theorem coe_sum {n : ℕ} (f : Fin n → ℝ) : (∑ k, ((f k : ℝ) : EReal)) = ((∑ k, f k : ℝ) : EReal) := by
  induction n with
  | zero => simp
  | succ n ih => rw [Fin.sum_univ_succ, Fin.sum_univ_succ, ih, EReal.coe_add]

theorem coe_div (x : ℝ) {y : ℝ} (h : y ≠ 0) : Ideal.div (x : EReal) (y : EReal) = ((x / y : ℝ) : EReal) := by
  rw [Ideal.div_coe h, ← EReal.coe_mul]
  congr 1
  ring

theorem rsqrt_pos {x : ℝ} (h : 0 < x) : Ideal.rsqrt (x : EReal) = (((Real.sqrt x)⁻¹ : ℝ) : EReal) := by
  rw [Ideal.rsqrt_coe, if_neg (not_lt.mpr h.le), if_neg h.ne']

section Ops

variable {f g : ℕ → ℕ → ℝ} {M : ℕ → ℕ → Prop} [∀ r c, Decidable (M r c)]

theorem rep_mulf {a b : ℕ} {x y : FVec Ideal ⟨2, ![a, b]⟩ .f32} (hx : Rep x f) (hy : Rep y g) :
    Rep (mulf x y) fun r c => f r c * g r c := fun i => by
  rw [EReal.coe_mul, ← hx i, ← hy i]; rfl

theorem rep_addf {a b : ℕ} {x y : FVec Ideal ⟨2, ![a, b]⟩ .f32} (hx : Rep x f) (hy : Rep y g) :
    Rep (addf x y) fun r c => f r c + g r c := fun i => by
  rw [EReal.coe_add, ← hx i, ← hy i]; rfl

theorem Rep.congr {a b : ℕ} {x : FVec Ideal ⟨2, ![a, b]⟩ .f32} (hx : Rep x f)
    (h : ∀ r < a, ∀ c < b, f r c = g r c) : Rep x g := fun i => by
  rw [hx i, h _ (i 0).isLt _ (i 1).isLt]

theorem rep_dotRR {x : FVec Ideal S512x64 .f32} {y : FVec Ideal S256x64 .f32} (hx : Rep x f) (hy : Rep y g) :
    Rep (dotRR x y) fun r c => ∑ e : Fin 64, f r e * g c e := by
  intro i
  idx_vars i
  pointwise [dotRR, hx _, hy _]
  simp only [← EReal.coe_mul, coe_sum]

theorem rep_dotRC {x : FVec Ideal S512x256 .f32} {y : FVec Ideal S256x64 .f32} (hx : Rep x f) (hy : Rep y g) :
    Rep (dotRC x y) fun r e => ∑ c : Fin 256, f r c * g c e := by
  intro i
  idx_vars i
  pointwise [dotRC, hx _, hy _]
  simp only [← EReal.coe_mul, coe_sum]

theorem rep_dotCC {x : FVec Ideal S512x256 .f32} {y : FVec Ideal S512x64 .f32} (hx : Rep x f) (hy : Rep y g) :
    Rep (dotCC x y) fun c e => ∑ r : Fin 512, f r c * g r e := by
  intro i
  idx_vars i
  pointwise [dotCC, hx _, hy _]
  simp only [← EReal.coe_mul, coe_sum]

theorem rep_rowSum512 {x : FVec Ideal S512x64 .f32} (hx : Rep x f) : Rep (rowSum512 x) fun r _ => ∑ e : Fin 64, f r e := by
  intro i
  idx_vars i
  pointwise [rowSum512, hx _]
  rw [coe_sum]

theorem rep_rowSum256 {x : FVec Ideal S256x64 .f32} (hx : Rep x f) : Rep (rowSum256 x) fun r _ => ∑ e : Fin 64, f r e := by
  intro i
  idx_vars i
  pointwise [rowSum256, hx _]
  rw [coe_sum]

theorem rep_stack2 {x y : FVec Ideal S128x64 .f32} (hx : Rep x f) (hy : Rep y g) :
    Rep (stack2 x y) fun r e => if r < 128 then f r e else g (r - 128) e := by
  intro i
  idx_vars i
  pointwise [stack2, hx _, hy _]
  split_ifs <;> rfl

theorem rep_stack4 {x : Fin 4 → FVec Ideal S128x64 .f32} {h : ℕ → ℕ → ℕ → ℝ} (hx : ∀ g : Fin 4, Rep (x g) (h g)) :
    Rep (stack4 x) fun r e => h (r / 128) (r % 128) e := by
  intro i
  idx_vars i
  pointwise [stack4, hx _ _]
  have h0 := i0.isLt
  split_ifs
  · rw [show i0.val / 128 = 0 by omega, show i0.val % 128 = i0.val by omega]
  · rw [show i0.val / 128 = 1 by omega, show i0.val % 128 = i0.val - 128 by omega]
  · rw [show i0.val / 128 = 2 by omega, show i0.val % 128 = i0.val - 128 - 128 by omega]
  · rw [show i0.val / 128 = 3 by omega, show i0.val % 128 = i0.val - 128 - 128 - 128 by omega]

theorem rep_stackS {x : Fin 4 → FVec Ideal S1x1 .f32} {h : ℕ → ℝ} (hx : ∀ g : Fin 4, Rep (x g) fun _ _ => h g) :
    Rep (stackS x) fun r _ => h (r / 128) := by
  intro i
  idx_vars i
  pointwise [stackS, sinkPart, hx _ _]
  have h0 := i0.isLt
  split_ifs
  · rw [show i0.val / 128 = 0 by omega]
  · rw [show i0.val / 128 = 1 by omega]
  · rw [show i0.val / 128 = 2 by omega]
  · rw [show i0.val / 128 = 3 by omega]

theorem rep_rinv512 {x : FVec Ideal S512x64 .f32} (hx : Rep x f) : Rep (rinv512 x) fun r _ => rin (f r) := by
  intro i
  have h := rep_rowSum512 (rep_mulf hx hx) i
  idx_vars i
  pointwise [rinv512, h]
  rw [c64_eq, eps_eq, coe_div _ (by norm_num), ← EReal.coe_add]
  exact rsqrt_pos (msq_pos (f i0))

theorem rep_rinv256 {x : FVec Ideal S256x64 .f32} (hx : Rep x f) : Rep (rinv256 x) fun r _ => rin (f r) := by
  intro i
  have h := rep_rowSum256 (rep_mulf hx hx) i
  idx_vars i
  pointwise [rinv256, h]
  rw [c64_eq, eps_eq, coe_div _ (by norm_num), ← EReal.coe_add]
  exact rsqrt_pos (msq_pos (f i0))

theorem rep_unit512 {x : FVec Ideal S512x64 .f32} (hx : Rep x f) : Rep (unit512 x) fun r e => f r e * rin (f r) := by
  intro i
  idx_vars i
  pointwise [unit512, hx _, rep_rinv512 hx _]
  rw [EReal.coe_mul]

theorem rep_unit256 {x : FVec Ideal S256x64 .f32} (hx : Rep x f) : Rep (unit256 x) fun r e => f r e * rin (f r) := by
  intro i
  idx_vars i
  pointwise [unit256, hx _, rep_rinv256 hx _]
  rw [EReal.coe_mul]

theorem rep_gain512 {x : FVec Ideal S512x64 .f32} {y : FVec Ideal S1x64 .f32} {a : ℕ → ℝ} (hx : Rep x f)
    (hy : Rep y fun _ => a) : Rep (gain512 x y) fun r e => f r e * a e := by
  intro i
  idx_vars i
  pointwise [gain512, hx _, hy _]
  rw [EReal.coe_mul]

theorem rep_gain256 {x : FVec Ideal S256x64 .f32} {y : FVec Ideal S1x64 .f32} {a : ℕ → ℝ} (hx : Rep x f)
    (hy : Rep y fun _ => a) : Rep (gain256 x y) fun r e => f r e * a e := by
  intro i
  idx_vars i
  pointwise [gain256, hx _, hy _]
  rw [EReal.coe_mul]

theorem rep_back512 {dy x : FVec Ideal S512x64 .f32} {y : FVec Ideal S1x64 .f32} {a : ℕ → ℝ} (hd : Rep dy g)
    (hx : Rep x f) (hy : Rep y fun _ => a) : Rep (back512 dy x y) fun r => back (g r) (f r) a := by
  intro i
  have h := fun i => rep_rowSum512 (rep_mulf (rep_gain512 hd hy) (rep_unit512 hx)) i
  idx_vars i
  pointwise [back512, h _, rep_rinv512 hx _, rep_gain512 hd hy _, rep_unit512 hx _]
  rw [c64_eq, coe_div _ (by norm_num), ← EReal.coe_mul, ← EReal.coe_sub, ← EReal.coe_mul]
  rfl

theorem rep_back256 {dy x : FVec Ideal S256x64 .f32} {y : FVec Ideal S1x64 .f32} {a : ℕ → ℝ} (hd : Rep dy g)
    (hx : Rep x f) (hy : Rep y fun _ => a) : Rep (back256 dy x y) fun r => back (g r) (f r) a := by
  intro i
  have h := fun i => rep_rowSum256 (rep_mulf (rep_gain256 hd hy) (rep_unit256 hx)) i
  idx_vars i
  pointwise [back256, h _, rep_rinv256 hx _, rep_gain256 hd hy _, rep_unit256 hx _]
  rw [c64_eq, coe_div _ (by norm_num), ← EReal.coe_mul, ← EReal.coe_sub, ← EReal.coe_mul]
  rfl

theorem rep_gainSum512 {x y : FVec Ideal S512x64 .f32} (hx : Rep x f) (hy : Rep y g) :
    Rep (gainSum512 x y) fun _ e => ∑ r : Fin 512, f r e * g r e := by
  intro i
  idx_vars i
  pointwise [gainSum512, hx _, hy _]
  simp only [← EReal.coe_mul, coe_sum]

theorem rep_gainSum256 {x y : FVec Ideal S256x64 .f32} (hx : Rep x f) (hy : Rep y g) :
    Rep (gainSum256 x y) fun _ e => ∑ r : Fin 256, f r e * g r e := by
  intro i
  idx_vars i
  pointwise [gainSum256, hx _, hy _]
  simp only [← EReal.coe_mul, coe_sum]

theorem rep_eighth {a b : ℕ} {x : FVec Ideal ⟨2, ![a, b]⟩ .f32} (hx : Rep x f) :
    Rep (mulf x (broadcast ⟨2, ![a, b]⟩ (Scalar.ofBits .f32 0x3E000000#32))) fun r c => f r c * (1 / 8) := fun i => by
  rw [EReal.coe_mul, ← hx i, ← c8_eq]; rfl

/-! ### The softmax -/

/-- Scores: real where seen, minus infinity elsewhere. -/
def RepM (x : FVec Ideal S512x256 .f32) (M : ℕ → ℕ → Prop) [∀ r c, Decidable (M r c)] (f : ℕ → ℕ → ℝ) : Prop :=
  ∀ i, x i = if M (i 0).val (i 1).val then ((f (i 0).val (i 1).val : ℝ) : EReal) else ⊥

theorem rep_scoreOf {m : IVec S512x256 1} {x : FVec Ideal S512x64 .f32} {y : FVec Ideal S256x64 .f32}
    (hm : ∀ i, m i = 1#1 ↔ M (i 0).val (i 1).val) (hx : Rep x f) (hy : Rep y g) :
    RepM (scoreOf m x y) M fun r c => (∑ e : Fin 64, f r e * g c e) * (1 / 8) := by
  intro i
  have h := rep_eighth (rep_dotRR hx hy) i
  show Scalar.select (m i) (mulf (dotRR x y) _ i) (Named.named κ "mask" 0xF149F2CA#32) = _
  rw [h, IdealRules.named_const.ideal_named_scalar (κ := κ) (name := "mask") _ ⊥ rfl]
  unfold Scalar.select
  by_cases hM : M (i 0).val (i 1).val
  · rw [if_pos hM]; exact if_pos ((hm i).mpr hM)
  · rw [if_neg hM]; exact if_neg fun h => hM ((hm i).mp h)

/-- The largest score of a row, the sink's among them, is real. -/
theorem real_top {n : ℕ} (s : Fin n → EReal) (b : EReal) (hb : b ≠ ⊤) (hs : ∀ c, s c ≠ ⊤) (k : ℝ) :
    ∃ m : ℝ, max (Finset.univ.fold max b s) (k : EReal) = (m : EReal) := by
  have h1 : max (Finset.univ.fold max b s) (k : EReal) ≠ ⊤ := by
    refine (max_lt ((Finset.fold_max_lt _).mpr ⟨hb.lt_top, fun c _ => (hs c).lt_top⟩) (EReal.coe_lt_top k)).ne
  have h2 : max (Finset.univ.fold max b s) (k : EReal) ≠ ⊥ := fun h => by
    have := le_max_right (Finset.univ.fold max b s) (k : EReal)
    rw [h, le_bot_iff] at this
    exact EReal.coe_ne_bot k this
  exact ⟨_, (EReal.coe_toReal h1 h2).symm⟩

theorem exp_shift (P : Prop) [Decidable P] (x m : ℝ) :
    Ideal.exp ((if P then (x : EReal) else ⊥) - (m : EReal))
      = (((if P then Real.exp x else 0) * Real.exp (-m) : ℝ) : EReal) := by
  split_ifs
  · rw [← EReal.coe_sub, Ideal.exp_coe, sub_eq_add_neg, Real.exp_add]
  · rw [EReal.bot_sub, Ideal.exp_bot, zero_mul, EReal.coe_zero]

variable {s : FVec Ideal S512x256 .f32} {sk : FVec Ideal S512x1 .f32} {a : ℕ → ℝ}

theorem rep_topOf (hs : RepM s M f) (hk : Rep sk fun r _ => a r) : ∃ m : ℕ → ℝ, Rep (topOf s sk) fun r _ => m r := by
  have h : ∀ r : Fin 512, ∃ m : ℝ, topOf s sk (ix2 r 0) = (m : EReal) := fun r => by
    pointwise [topOf, hk _]
    rw [cbot_eq]
    exact real_top _ _ bot_ne_top (fun c => by
      rw [hs]
      split_ifs
      · exact EReal.coe_ne_top _
      · exact bot_ne_top) _
  choose m hm using h
  refine ⟨fun r => if hr : r < 512 then m ⟨r, hr⟩ else 0, fun i => ?_⟩
  idx_vars i
  obtain rfl : i1 = 0 := Subsingleton.elim _ _
  rw [hm]
  show _ = ((if hr : i0.val < 512 then m ⟨i0.val, hr⟩ else 0 : ℝ) : EReal)
  rw [dif_pos i0.isLt]

/-- The weight of a column, the sum of a row's, and the two parts of the softmax. -/
def wOf (M : ℕ → ℕ → Prop) [∀ r c, Decidable (M r c)] (f : ℕ → ℕ → ℝ) (r c : ℕ) : ℝ := if M r c then Real.exp (f r c) else 0
def zOf (M : ℕ → ℕ → Prop) [∀ r c, Decidable (M r c)] (f : ℕ → ℕ → ℝ) (a : ℕ → ℝ) (r : ℕ) : ℝ :=
  (∑ c : Fin 256, wOf M f r c) + Real.exp (a r)

theorem zOf_pos (M : ℕ → ℕ → Prop) [∀ r c, Decidable (M r c)] (f : ℕ → ℕ → ℝ) (a : ℕ → ℝ) (r : ℕ) : 0 < zOf M f a r :=
  add_pos_of_nonneg_of_pos (Finset.sum_nonneg fun c _ => by
    unfold wOf; split_ifs
    · exact (Real.exp_pos _).le
    · exact le_rfl) (Real.exp_pos _)

theorem rep_exps (hs : RepM s M f) (hk : Rep sk fun r _ => a r) : ∃ m : ℕ → ℝ,
    Rep (expOf s sk) (fun r c => wOf M f r c * Real.exp (-m r)) ∧
    Rep (expSinkOf s sk) (fun r _ => Real.exp (a r) * Real.exp (-m r)) ∧
    Rep (invOf s sk) (fun r _ => 1 / (zOf M f a r * Real.exp (-m r))) := by
  obtain ⟨m, hm⟩ := rep_topOf hs hk
  have h1 : Rep (expOf s sk) (fun r c => wOf M f r c * Real.exp (-m r)) := fun i => by
    have h2 := hs i
    idx_vars i
    pointwise [expOf, hm _, h2]
    exact exp_shift _ _ _
  have h2 : Rep (expSinkOf s sk) (fun r _ => Real.exp (a r) * Real.exp (-m r)) := fun i => by
    idx_vars i
    pointwise [expSinkOf, hm _, hk _]
    rw [← EReal.coe_sub, Ideal.exp_coe, sub_eq_add_neg, Real.exp_add]
  refine ⟨m, h1, h2, fun i => ?_⟩
  idx_vars i
  pointwise [invOf, h1 _, h2 _]
  rw [coe_sum, ← EReal.coe_add, ← Finset.sum_mul, ← add_mul]
  exact coe_div 1 (mul_pos (zOf_pos M f a i0) (Real.exp_pos _)).ne'

theorem rep_probOf (hs : RepM s M f) (hk : Rep sk fun r _ => a r) :
    Rep (probOf s sk) fun r c => wOf M f r c / zOf M f a r := by
  obtain ⟨m, h1, -, h3⟩ := rep_exps hs hk
  intro i
  have hz := (zOf_pos M f a (i 0).val).ne'
  have he := (Real.exp_pos (-m (i 0).val)).ne'
  idx_vars i
  pointwise [probOf, h1 _, h3 _]
  rw [← EReal.coe_mul]
  congr 1
  field_simp

theorem rep_probSinkOf (hs : RepM s M f) (hk : Rep sk fun r _ => a r) :
    Rep (probSinkOf s sk) fun r _ => Real.exp (a r) / zOf M f a r := by
  obtain ⟨m, -, h2, h3⟩ := rep_exps hs hk
  intro i
  have hz := (zOf_pos M f a (i 0).val).ne'
  have he := (Real.exp_pos (-m (i 0).val)).ne'
  idx_vars i
  pointwise [probSinkOf, h2 _, h3 _]
  rw [← EReal.coe_mul]
  congr 1
  field_simp

theorem rep_dscoreOf {p dp : FVec Ideal S512x256 .f32} {dl : FVec Ideal S512x1 .f32} (hp : Rep p f) (hd : Rep dp g)
    (hl : Rep dl fun r _ => a r) : Rep (dscoreOf p dp dl) fun r c => f r c * (g r c - a r) := by
  intro i
  idx_vars i
  pointwise [dscoreOf, hp _, hd _, hl _]
  rw [← EReal.coe_sub, ← EReal.coe_mul]

theorem rep_dsinkOf {ps dl : FVec Ideal S512x1 .f32} {b : ℕ → ℝ} (hp : Rep ps fun r _ => b r)
    (hl : Rep dl fun r _ => a r) : Rep (dsinkOf ps dl) fun r _ => -(b r * a r) := by
  intro i
  idx_vars i
  pointwise [dsinkOf, hp _, hl _]
  rw [show (0 : EReal) = ((0 : ℝ) : EReal) from rfl, ← EReal.coe_sub, ← EReal.coe_mul]
  congr 1
  ring

theorem word_eq (a b : ℕ) (ha : a < 128) (hb : b < 128) :
    IntOp.cmpi .eq (BitVec.ofNat 32 a) (BitVec.ofNat 32 b) = if a = b then 1#1 else 0#1 := by
  have h : BitVec.ofNat 32 a = BitVec.ofNat 32 b ↔ a = b := by
    constructor
    · intro h
      have := congrArg BitVec.toNat h
      rw [BitVec.toNat_ofNat, BitVec.toNat_ofNat] at this
      omega
    · rintro rfl; rfl
  by_cases hab : a = b
  · subst hab; simp [IntOp.cmpi]
  · rw [if_neg hab]
    show BitVec.ofBool (BitVec.ofNat 32 a == BitVec.ofNat 32 b) = 0#1
    rw [beq_eq_false_iff_ne.mpr (mt h.mp hab)]; rfl

theorem rep_laneOf {x : FVec Ideal S128x1 .f32} (n : ℕ) (hn : n < 128) (hx : Rep x fun r _ => a r) :
    Rep (laneOf (BitVec.ofNat 32 n) x) fun _ c => if c = n then ∑ r : Fin 128, a r else 0 := by
  intro i
  idx_vars i
  pointwise [laneOf, hx _]
  rw [coe_sum, word_eq i1.val n (by omega) hn]
  unfold Scalar.select
  show _ = ((if i1.val = n then ∑ r : Fin 128, a r else 0 : ℝ) : EReal)
  by_cases h : i1.val = n
  · rw [if_pos h, if_pos h]; rfl
  · rw [if_neg h, if_neg h]; rfl

theorem rep_cut512 (o : Fin 4) {x : FVec Ideal S512x64 .f32} (hx : Rep x f) :
    Rep (cut512 o x) fun r c => f (128 * o.val + r) c := by
  intro i
  idx_vars i
  pointwise [cut512, hx _]

theorem rep_cutS (o : Fin 4) {x : FVec Ideal S512x1 .f32} (hx : Rep x fun r _ => a r) :
    Rep (cutS o x) fun r _ => a (128 * o.val + r) := by
  intro i
  idx_vars i
  pointwise [cutS, hx _]

theorem rep_cut256 (o : Fin 2) {x : FVec Ideal S256x64 .f32} (hx : Rep x f) :
    Rep (cut256 o x) fun r c => f (128 * o.val + r) c := by
  intro i
  idx_vars i
  pointwise [cut256, hx _]

end Ops

/-- The remainder the program takes of a row's number. -/
def rem128 (v : BitVec 32) : BitVec 32 :=
  Scalar.select (IntOp.andi (IntOp.xori (IntOp.cmpi .slt (IntOp.remsi .vector v
      (Scalar.select (Scalar.cmpi .eq 128#32 0#32) 1#32 128#32)) 0#32)
      (Scalar.cmpi .slt (Scalar.select (Scalar.cmpi .eq 128#32 0#32) 1#32 128#32) 0#32))
    (IntOp.cmpi .ne (IntOp.remsi .vector v (Scalar.select (Scalar.cmpi .eq 128#32 0#32) 1#32 128#32)) 0#32))
    (IntOp.addi (IntOp.remsi .vector v (Scalar.select (Scalar.cmpi .eq 128#32 0#32) 1#32 128#32))
      (Scalar.select (Scalar.cmpi .eq 128#32 0#32) 1#32 128#32))
    (IntOp.remsi .vector v (Scalar.select (Scalar.cmpi .eq 128#32 0#32) 1#32 128#32))

theorem rem128_eq : ∀ r : Fin 512, rem128 (BitVec.ofNat 32 r.val) = BitVec.ofNat 32 (r.val % 128) := by decide +kernel

/-- Whether a word lies between 0 and 127. -/
def band (d : BitVec 32) : BitVec 1 := IntOp.andi (IntOp.cmpi .sge d 0#32) (IntOp.cmpi .slt d 128#32)

theorem band_pos : ∀ d : Fin 256, band (BitVec.ofNat 32 d.val) = if d.val < 128 then 1#1 else 0#1 := by decide +kernel
theorem band_neg : ∀ d : Fin 256, 0 < d.val → band (-BitVec.ofNat 32 d.val) = 0#1 := by decide +kernel

theorem band_eq (r c : ℕ) (hr : r < 128) (hc : c < 256) :
    band (IntOp.subi (IntOp.addi (BitVec.ofNat 32 r) 128#32) (BitVec.ofNat 32 c)) = if c ≤ r + 128 ∧ r < c then 1#1 else 0#1 := by
  by_cases h : c ≤ r + 128
  · have e : IntOp.subi (IntOp.addi (BitVec.ofNat 32 r) 128#32) (BitVec.ofNat 32 c) = BitVec.ofNat 32 (r + 128 - c) := by
      show BitVec.ofNat 32 r + 128#32 - BitVec.ofNat 32 c = _
      apply BitVec.eq_of_toNat_eq
      rw [BitVec.toNat_sub, BitVec.toNat_add, BitVec.toNat_ofNat, BitVec.toNat_ofNat, BitVec.toNat_ofNat, BitVec.toNat_ofNat]
      omega
    by_cases h2 : r < c
    · rw [e, band_pos ⟨r + 128 - c, by omega⟩, if_pos (by simp only; omega), if_pos ⟨h, h2⟩]
    · by_cases h3 : r + 128 - c < 256
      · rw [e, band_pos ⟨r + 128 - c, h3⟩, if_neg (by simp only; omega), if_neg (by omega)]
      · omega
  · have e : IntOp.subi (IntOp.addi (BitVec.ofNat 32 r) 128#32) (BitVec.ofNat 32 c) = -BitVec.ofNat 32 (c - (r + 128)) := by
      show BitVec.ofNat 32 r + 128#32 - BitVec.ofNat 32 c = _
      apply BitVec.eq_of_toNat_eq
      rw [BitVec.toNat_sub, BitVec.toNat_add, BitVec.toNat_neg, BitVec.toNat_ofNat, BitVec.toNat_ofNat, BitVec.toNat_ofNat,
        BitVec.toNat_ofNat]
      omega
    rw [e, band_neg ⟨c - (r + 128), by omega⟩ (by simp only; omega), if_neg (by omega)]

theorem late_eq : ∀ c : Fin 256, IntOp.cmpi .sge (BitVec.ofNat 32 c.val) 128#32 = if 128 ≤ c.val then 1#1 else 0#1 := by
  decide +kernel
theorem notFirst_eq : ∀ n : Fin 33, Scalar.cmpi .sgt (BitVec.ofNat 32 n.val) 0#32 = if 0 < n.val then 1#1 else 0#1 := by
  decide +kernel

/-- Row `r` of a group's 512, and column `c`: whether the query sees it. -/
theorem mask_iff (n : ℕ) (hn : n < 33) (i : S512x256.Idx) :
    k0_pay7 (BitVec.ofNat 32 n) i = 1#1 ↔ See n ((i 0).val % 128) (i 1).val := by
  idx_vars i
  pointwise [k0_pay7]
  change IntOp.andi (band (IntOp.subi (IntOp.addi (rem128 (BitVec.ofNat 32 i0.val)) 128#32) (BitVec.ofNat 32 i1.val)))
    _ = 1#1 ↔ _
  rw [rem128_eq, band_eq _ _ (by omega) i1.isLt, late_eq, notFirst_eq ⟨n, hn⟩]
  unfold See
  by_cases h1 : i1.val ≤ i0.val % 128 + 128 ∧ i0.val % 128 < i1.val <;> by_cases h2 : 128 ≤ i1.val <;>
    by_cases h3 : 0 < n <;> simp [h1, h2, h3, IntOp.andi, IntOp.ori]

end Cert.KernelIdeal.Swa
-- ==== Proof.RVal.lean ====
module

public import proofs.«01_k».proof.Proof.KOps
public import proofs.«01_k».proof.Proof.Gen.ReferenceIdeal.Read

@[expose] public section

set_option maxRecDepth 16384

noncomputable section

namespace Cert.ReferenceIdeal.Swa

open Cert.ReferenceIdeal Cert.ReferenceIdeal.Gen Cert.ReferenceIdeal.Read Cert.Swa
open Cert.KernelIdeal.Swa (band_eq late_eq notFirst_eq Rep coe_sum coe_div rsqrt_pos real_top exp_shift)
open Idealize.ShloMosaic Idealize.ShloMosaic.TcCoe Idealize.ShloMosaic.Tactic

variable {I : In}
variable {x0 : FVec Ideal ⟨2, ![4096, 9728]⟩ .f32} {x1 x2 : FVec Ideal ⟨2, ![1, 64]⟩ .f32}
  {x3 : FVec Ideal ⟨2, ![1, 16]⟩ .f32} {x4 : FVec Ideal ⟨2, ![4096, 1024]⟩ .f32}

/-! ## Queries, keys, values and their norms -/

theorem r7 (h0 : Rep x0 I.P) : ∀ i, val_main_v7 (F := Ideal) x0 i
    = ((I.Q (i 1).val (i 2).val (i 3).val (i 4).val : ℝ) : EReal) := by
  intro i
  idx_vars i
  pointwise [val_main_v7, val_main_v1, val_main_v0, h0 _]
  unfold In.Q
  congr 2
  omega

theorem r8 (h0 : Rep x0 I.P) : ∀ i, val_main_v8 (F := Ideal) x0 i
    = ((I.K (i 1).val (i 2).val (i 3).val : ℝ) : EReal) := by
  intro i
  idx_vars i
  pointwise [val_main_v8, val_main_v3, val_main_v2, h0 _]
  unfold In.K
  congr 2
  omega

theorem r44 (h0 : Rep x0 I.P) : ∀ i, val_main_v44 (F := Ideal) x0 i
    = ((I.Vv (128 * (i 1).val + (i 2).val) (i 3).val (i 4).val : ℝ) : EReal) := by
  intro i
  idx_vars i
  pointwise [val_main_v44, val_main_v41, val_main_v5, val_main_v4, h0 _]
  unfold In.Vv
  congr 2 <;> omega

theorem r15 (h0 : Rep x0 I.P) : ∀ i, val_main_v15 (F := Ideal) x0 i
    = ((msq (I.Q (i 1).val (i 2).val (i 3).val) : ℝ) : EReal) := by
  intro i
  idx_vars i
  pointwise [val_main_v15, val_main_v14, val_main_cst_1, val_main_v13, val_main_v12, val_main_cst_0, val_main_v11,
    val_main_v10, val_main_cst, val_main_v9, r7 h0 _]
  simp only [← EReal.coe_mul, coe_sum]
  rw [c64_eq, eps_eq, coe_div _ (by norm_num), ← EReal.coe_add]
  rfl

theorem r16 (h0 : Rep x0 I.P) : ∀ i, val_main_v16 (F := Ideal) x0 i
    = ((rin (I.Q (i 1).val (i 2).val (i 3).val) : ℝ) : EReal) := by
  intro i
  idx_vars i
  pointwise [val_main_v16, r15 h0 _]
  exact rsqrt_pos (msq_pos _)

theorem r19 (h0 : Rep x0 I.P) : ∀ i, val_main_v19 (F := Ideal) x0 i
    = ((-(1 / 2) * (rin (I.Q (i 1).val (i 2).val (i 3).val) / msq (I.Q (i 1).val (i 2).val (i 3).val)) : ℝ) : EReal) := by
  intro i
  idx_vars i
  pointwise [val_main_v19, val_main_v18, val_main_cst_2, val_main_v17, r16 h0 _, r15 h0 _]
  rw [cmh_eq, coe_div _ (msq_pos _).ne', ← EReal.coe_mul]

theorem r21 (h0 : Rep x0 I.P) : ∀ i, val_main_v21 (F := Ideal) x0 i
    = ((I.qn (i 1).val (i 2).val (i 3).val (i 4).val : ℝ) : EReal) := by
  intro i
  idx_vars i
  pointwise [val_main_v21, val_main_v20, r7 h0 _, r16 h0 _]
  rw [← EReal.coe_mul]
  rfl

theorem r24 (h0 : Rep x0 I.P) (h1 : Rep x1 fun _ => I.qg) : ∀ i, val_main_v24 (F := Ideal) x0 x1 i
    = ((I.qh (i 1).val (i 2).val (i 3).val (i 4).val : ℝ) : EReal) := by
  intro i
  idx_vars i
  pointwise [val_main_v24, val_main_v23, val_main_v22, r21 h0 _, h1 _]
  rw [← EReal.coe_mul]
  rfl

theorem r42 (h0 : Rep x0 I.P) (h1 : Rep x1 fun _ => I.qg) : ∀ i, val_main_v42 (F := Ideal) x0 x1 i
    = ((I.qh (128 * (i 1).val + (i 2).val) (i 3).val (i 4).val (i 5).val : ℝ) : EReal) := by
  intro i
  idx_vars i
  pointwise [val_main_v42, r24 h0 h1 _]
  congr 2 <;> omega

theorem r31 (h0 : Rep x0 I.P) : ∀ i, val_main_v31 (F := Ideal) x0 i
    = ((msq (I.K (i 1).val (i 2).val) : ℝ) : EReal) := by
  intro i
  idx_vars i
  pointwise [val_main_v31, val_main_v30, val_main_cst_5, val_main_v29, val_main_v28, val_main_cst_4, val_main_v27,
    val_main_v26, val_main_cst_3, val_main_v25, r8 h0 _]
  simp only [← EReal.coe_mul, coe_sum]
  rw [c64_eq, eps_eq, coe_div _ (by norm_num), ← EReal.coe_add]
  rfl

theorem r32 (h0 : Rep x0 I.P) : ∀ i, val_main_v32 (F := Ideal) x0 i
    = ((rin (I.K (i 1).val (i 2).val) : ℝ) : EReal) := by
  intro i
  idx_vars i
  pointwise [val_main_v32, r31 h0 _]
  exact rsqrt_pos (msq_pos _)

theorem r35 (h0 : Rep x0 I.P) : ∀ i, val_main_v35 (F := Ideal) x0 i
    = ((-(1 / 2) * (rin (I.K (i 1).val (i 2).val) / msq (I.K (i 1).val (i 2).val)) : ℝ) : EReal) := by
  intro i
  idx_vars i
  pointwise [val_main_v35, val_main_v34, val_main_cst_6, val_main_v33, r32 h0 _, r31 h0 _]
  rw [cmh_eq, coe_div _ (msq_pos _).ne', ← EReal.coe_mul]

theorem r37 (h0 : Rep x0 I.P) : ∀ i, val_main_v37 (F := Ideal) x0 i
    = ((I.kn (i 1).val (i 2).val (i 3).val : ℝ) : EReal) := by
  intro i
  idx_vars i
  pointwise [val_main_v37, val_main_v36, r8 h0 _, r32 h0 _]
  rw [← EReal.coe_mul]
  rfl

theorem r43 (h0 : Rep x0 I.P) (h2 : Rep x2 fun _ => I.kg) : ∀ i, val_main_v43 (F := Ideal) x0 x2 i
    = ((I.kh (128 * (i 1).val + (i 2).val) (i 3).val (i 4).val : ℝ) : EReal) := by
  intro i
  idx_vars i
  pointwise [val_main_v43, val_main_v40, val_main_v39, val_main_v38, r37 h0 _, h2 _]
  rw [← EReal.coe_mul]
  unfold In.kh
  rw [Nat.mul_comm]

/-! ## The windows of 256 columns -/

/-- A window's entry: zero where block 0 has no block before it. -/
def win (f : ℕ → ℝ) (n c : ℕ) : ℝ := if 128 ≤ c ∨ 0 < n then f (tok n c) else 0

theorem win_eq (f : ℕ → ℝ) (n c : ℕ) :
    (if h : c < 128 then if h : n < 1 then (0 : EReal) else ((f (128 * (n - 1) + c) : ℝ) : EReal)
      else ((f (128 * n + (c - 128)) : ℝ) : EReal)) = ((win f n c : ℝ) : EReal) := by
  unfold win tok
  by_cases h : c < 128
  · by_cases h' : n < 1
    · rw [dif_pos h, dif_pos h', if_neg (by omega)]; rfl
    · rw [dif_pos h, dif_neg h', if_pos (by omega), if_pos h]
  · rw [dif_neg h, if_pos (by omega), if_neg h]

theorem r50 (h0 : Rep x0 I.P) (h2 : Rep x2 fun _ => I.kg) : ∀ i, val_main_v50 (F := Ideal) x0 x2 i
    = ((win (fun t => I.kh t (i 3).val (i 4).val) (i 1).val (i 2).val : ℝ) : EReal) := by
  intro i
  idx_vars i
  pointwise [val_main_v50, val_main_v48, val_main_v47, val_main_v46, val_main_cst_7, r43 h0 h2 _]
  exact win_eq (fun t => I.kh t i3 i4) _ _

theorem r56 (h0 : Rep x0 I.P) : ∀ i, val_main_v56 (F := Ideal) x0 i
    = ((win (fun t => I.Vv t (i 3).val (i 4).val) (i 1).val (i 2).val : ℝ) : EReal) := by
  intro i
  idx_vars i
  pointwise [val_main_v56, val_main_v54, val_main_v53, val_main_v52, val_main_cst_9, r44 h0 _]
  exact win_eq (fun t => I.Vv t i3 i4) _ _

theorem win_see (f : ℕ → ℝ) {n i c : ℕ} (h : See n i c) : win f n c = f (tok n c) := if_pos h.2

theorem r60 (h0 : Rep x0 I.P) (h1 : Rep x1 fun _ => I.qg) (h2 : Rep x2 fun _ => I.kg) : ∀ i, val_main_v60 (F := Ideal) x0 x1 x2 i
    = (((∑ e : Fin 64, I.qh (128 * (i 1).val + (i 4).val) (i 2).val (i 3).val e * win (fun t => I.kh t (i 2).val e) (i 1).val (i 5).val) * (1 / 8) : ℝ) : EReal) := by
  intro i
  idx_vars i
  pointwise [val_main_v60, val_main_v59, val_main_cst_11, val_main_v58, val_main_v57, r50 h0 h2 _, r42 h0 h1 _]
  simp only [← EReal.coe_mul, coe_sum]
  rw [c8_eq, ← EReal.coe_mul]
  simp only [mul_comm (win _ _ _)]

theorem mask (i : S1x32x4x4x128x256.Idx) : val_main_v90_1 (F := Ideal) i = 1#1 ↔ See (i 1).val (i 4).val (i 5).val := by
  idx_vars i
  pointwise [val_main_v90_1, val_main_v89, val_main_v88, val_main_v87, val_main_v86, val_main_v85, val_main_v84, val_main_v83,
    val_main_v82, val_main_v81, val_main_v80, val_main_v79, val_main_v78, val_main_v77, val_main_v76, val_main_v75, val_main_v74,
    val_main_v73, val_main_v72, val_main_v71, val_main_v70, val_main_v69, val_main_v68, val_main_v67, val_main_v66, val_main_v65,
    val_main_v64, val_main_v63, val_main_v62, val_main_v61, val_main_c, val_main_c_12, val_main_c_13, val_main_c_14, val_main_c_15]
  have hb := band_eq i4 i5 i4.isLt i5.isLt
  have hl := late_eq i5
  have hf : IntOp.cmpi .sgt (BitVec.ofNat 32 i1.val) 0#32 = if 0 < i1.val then 1#1 else 0#1 :=
    notFirst_eq ⟨i1.val, by omega⟩
  unfold Cert.KernelIdeal.Swa.band at hb
  rw [hb, hl, hf]
  unfold See
  by_cases h1 : i5.val ≤ i4.val + 128 ∧ i4.val < i5.val <;> by_cases h2 : 128 ≤ i5.val <;>
    by_cases h3 : 0 < i1.val <;> simp [h1, h2, h3, IntOp.andi, IntOp.ori]

end Cert.ReferenceIdeal.Swa
-- ==== Proof.RSoft.lean ====
module

public import proofs.«01_k».proof.Proof.RVal
public import proofs.«01_k».proof.Proof.Gen.ReferenceIdeal.Read

@[expose] public section

set_option maxRecDepth 16384

noncomputable section

namespace Cert.ReferenceIdeal.Swa

open Cert.ReferenceIdeal Cert.ReferenceIdeal.Gen Cert.ReferenceIdeal.Read Cert.Swa
open Cert.KernelIdeal.Swa (band_eq late_eq notFirst_eq Rep coe_sum coe_div rsqrt_pos real_top exp_shift)
open Idealize.ShloMosaic Idealize.ShloMosaic.TcCoe Idealize.ShloMosaic.Tactic

variable {I : In}
variable {x0 : FVec Ideal ⟨2, ![4096, 9728]⟩ .f32} {x1 x2 : FVec Ideal ⟨2, ![1, 64]⟩ .f32}
  {x3 : FVec Ideal ⟨2, ![1, 16]⟩ .f32} {x4 : FVec Ideal ⟨2, ![4096, 1024]⟩ .f32}

/-! ## The softmax -/

theorem r90 (h0 : Rep x0 I.P) (h1 : Rep x1 fun _ => I.qg) (h2 : Rep x2 fun _ => I.kg) : ∀ i, val_main_v90_0 (F := Ideal) x0 x1 x2 i
    = if See (i 1).val (i 4).val (i 5).val then ((I.sc (i 1).val (i 2).val (i 3).val (i 4).val (i 5).val : ℝ) : EReal) else ⊥ := by
  intro i
  have hm := mask i
  idx_vars i
  pointwise [val_main_v90_0, val_main_call0_v2, val_main_call0_v0, val_main_cst_16, r60 h0 h1 h2 _]
  rw [show id (constant (F := Ideal) S_ .f32 0xFF800000#32) ix0 = (⊥ : EReal) from cbot_eq]
  unfold Scalar.select
  by_cases h : See i1.val i4.val i5.val
  · rw [if_pos h]
    refine (if_pos (hm.mpr h)).trans ?_
    simp only [win_see _ h]
    rfl
  · rw [if_neg h]
    exact if_neg fun e => h (hm.mp e)

/-- The row of 257: the seen scores, and the sink's. -/
def top (I : In) (n j g i c : ℕ) : EReal :=
  if c < 256 then if See n i c then ((I.sc n j g i c : ℝ) : EReal) else ⊥ else ((I.sk (4 * j + g) : ℝ) : EReal)

theorem r94 (h0 : Rep x0 I.P) (h1 : Rep x1 fun _ => I.qg) (h2 : Rep x2 fun _ => I.kg) (h3 : Rep x3 fun _ => I.sk) :
    ∀ i, val_main_v94 (F := Ideal) x0 x1 x2 x3 i = top I (i 1).val (i 2).val (i 3).val (i 4).val (i 5).val := by
  intro i
  idx_vars i
  pointwise [val_main_v94, val_main_v93, val_main_v92, val_main_v91, val_main_v6, h3 _, r90 h0 h1 h2 _]
  unfold top
  rw [Nat.mul_comm 4]
  by_cases h : i5.val < 256
  · rw [dif_pos h, if_pos h]
  · rw [dif_neg h, if_neg h]

/-- The weights of the row of 257. -/
def wx (I : In) (n j g i c : ℕ) : ℝ := if c < 256 then I.w n j g i c else I.ws j g

theorem wx_sum (n j g i : ℕ) : ∑ c : Fin 257, wx I n j g i c = I.Z n j g i := by
  rw [Fin.sum_univ_castSucc]
  unfold In.Z wx
  refine congrArg₂ (· + ·) (Finset.sum_congr rfl fun c _ => if_pos c.isLt) ?_
  exact if_neg (lt_irrefl 256)

theorem top_ne (n j g i c : ℕ) : top I n j g i c ≠ ⊤ := by
  unfold top
  split_ifs
  · exact EReal.coe_ne_top _
  · exact bot_ne_top
  · exact EReal.coe_ne_top _

/-- A maximum over entries none of which is infinite above, one of them real, is real. -/
theorem hostMax_real {s t u : Shape} {axes : List (Fin s.rank)} (x : FVec Ideal s .f32) (init : FVec Ideal u .f32)
    (h : s.ReducesTo axes t) (hu : 0 < u.numel) (j : t.Idx) (hb : init (Shape.Idx.first hu) ≠ ⊤) (hs : ∀ i, x i ≠ ⊤)
    (i0 : s.Idx) (hi : h.drop i0 = j) (k : ℝ) (hk : x i0 = (k : EReal)) :
    ∃ m : ℝ, Host.reduce FloatOps.maximumf x init h hu j = (m : EReal) := by
  pointwise
  have h1 : Finset.fold max (init (Shape.Idx.first hu)) x {i | h.drop i = j} ≠ (⊤ : EReal) :=
    ((Finset.fold_max_lt _).mpr ⟨hb.lt_top, fun c _ => (hs c).lt_top⟩).ne
  have h2 : Finset.fold max (init (Shape.Idx.first hu)) x {i | h.drop i = j} ≠ (⊥ : EReal) := fun e => by
    have h3 : (k : EReal) ≤ Finset.fold max (init (Shape.Idx.first hu)) x {i | h.drop i = j} :=
      (Finset.le_fold_max _).mpr (Or.inr ⟨i0, by simpa using hi, hk.ge⟩)
    rw [e, le_bot_iff] at h3
    exact EReal.coe_ne_bot k h3
  exact ⟨_, (EReal.coe_toReal h1 h2).symm⟩

theorem drop6 (n : Fin 32) (j g : Fin 4) (i : Fin 128) (c : Fin 257) (a : Fin 1) :
    (reducesTo_S1x32x4x4x128x257_S1x32x4x4x128_d5).drop (ix6 a n j g i c) = ix5 a n j g i := by
  funext b
  apply Fin.ext
  match b with
  | ⟨0, _⟩ => rfl
  | ⟨1, _⟩ => rfl
  | ⟨2, _⟩ => rfl
  | ⟨3, _⟩ => rfl
  | ⟨4, _⟩ => rfl

theorem r95 (h0 : Rep x0 I.P) (h1 : Rep x1 fun _ => I.qg) (h2 : Rep x2 fun _ => I.kg) (h3 : Rep x3 fun _ => I.sk)
    (i : S1x32x4x4x128.Idx) : ∃ m : ℝ, val_main_v95 (F := Ideal) x0 x1 x2 x3 i = (m : EReal) := by
  idx_vars i
  unfold val_main_v95
  have hb : (val_main_cst_17 (F := Ideal)) (Shape.Idx.first h_S_) ≠ (⊤ : EReal) := by
    rw [show (val_main_cst_17 (F := Ideal)) (Shape.Idx.first h_S_) = (⊥ : EReal) from cbot_eq]
    exact bot_ne_top
  exact hostMax_real _ _ _ _ _ hb (fun i => by rw [r94 h0 h1 h2 h3 i]; exact top_ne _ _ _ _ _)
    (ix6 i0 i1 i2 i3 i4 256) (drop6 i1 i2 i3 i4 256 i0) _ ((r94 h0 h1 h2 h3 _).trans (if_neg (lt_irrefl 256)))

theorem r102 (h0 : Rep x0 I.P) (h1 : Rep x1 fun _ => I.qg) (h2 : Rep x2 fun _ => I.kg) (h3 : Rep x3 fun _ => I.sk)
    (i : S1x32x4x4x128.Idx) : ∃ m : ℝ, val_main_v102 (F := Ideal) x0 x1 x2 x3 i = (m : EReal) := by
  obtain ⟨m, hm⟩ := r95 h0 h1 h2 h3 i
  refine ⟨m, ?_⟩
  rw [val_main_v102_apply, hm, show val_main_v101 (F := Ideal) i = (⊥ : EReal) from cbot_eq]
  exact max_bot_left _

/-- What is subtracted from a row. -/
def sh (x0 : FVec Ideal ⟨2, ![4096, 9728]⟩ .f32) (x1 x2 : FVec Ideal ⟨2, ![1, 64]⟩ .f32)
  (x3 : FVec Ideal ⟨2, ![1, 16]⟩ .f32) (n j g i : ℕ) : ℝ :=
  if h : n < 32 ∧ j < 4 ∧ g < 4 ∧ i < 128 then
    (val_main_v102 (F := Ideal) x0 x1 x2 x3 (ix5 0 ⟨n, h.1⟩ ⟨j, h.2.1⟩ ⟨g, h.2.2.1⟩ ⟨i, h.2.2.2⟩)).toReal
  else 0

theorem r102' (h0 : Rep x0 I.P) (h1 : Rep x1 fun _ => I.qg) (h2 : Rep x2 fun _ => I.kg) (h3 : Rep x3 fun _ => I.sk) :
    ∀ i, val_main_v102 (F := Ideal) x0 x1 x2 x3 i = ((sh x0 x1 x2 x3 (i 1).val (i 2).val (i 3).val (i 4).val : ℝ) : EReal) := by
  intro i
  obtain ⟨m, hm⟩ := r102 h0 h1 h2 h3 i
  idx_vars i
  obtain rfl : i0 = 0 := Subsingleton.elim _ _
  unfold sh
  rw [dif_pos (show i1.val < 32 ∧ i2.val < 4 ∧ i3.val < 4 ∧ i4.val < 128 from ⟨i1.isLt, i2.isLt, i3.isLt, i4.isLt⟩)]
  show _ = (((val_main_v102 (F := Ideal) x0 x1 x2 x3 (ix5 0 i1 i2 i3 i4)).toReal : ℝ) : EReal)
  rw [hm, EReal.toReal_coe]

theorem exp_top (n j g i c : ℕ) (m : ℝ) : Ideal.exp (top I n j g i c - (m : EReal)) = ((wx I n j g i c * Real.exp (-m) : ℝ) : EReal) := by
  unfold top wx
  by_cases h : c < 256
  · rw [if_pos h, if_pos h]
    exact exp_shift _ _ _
  · rw [if_neg h, if_neg h, ← EReal.coe_sub, Ideal.exp_coe, sub_eq_add_neg, Real.exp_add]
    rfl

theorem r115 (h0 : Rep x0 I.P) (h1 : Rep x1 fun _ => I.qg) (h2 : Rep x2 fun _ => I.kg) (h3 : Rep x3 fun _ => I.sk) :
    ∀ i, val_main_v115 (F := Ideal) x0 x1 x2 x3 i
      = ((wx I (i 1).val (i 2).val (i 3).val (i 4).val (i 5).val * Real.exp (-sh x0 x1 x2 x3 (i 1).val (i 2).val (i 3).val (i 4).val) : ℝ) : EReal) := by
  intro i
  idx_vars i
  pointwise [val_main_v115, val_main_v114, val_main_v113, val_main_v112, r94 h0 h1 h2 h3 _, r102' h0 h1 h2 h3 _]
  exact exp_top _ _ _ _ _ _

theorem r117 (h0 : Rep x0 I.P) (h1 : Rep x1 fun _ => I.qg) (h2 : Rep x2 fun _ => I.kg) (h3 : Rep x3 fun _ => I.sk) :
    ∀ i, val_main_v117 (F := Ideal) x0 x1 x2 x3 i
      = ((I.Z (i 1).val (i 2).val (i 3).val (i 4).val * Real.exp (-sh x0 x1 x2 x3 (i 1).val (i 2).val (i 3).val (i 4).val) : ℝ) : EReal) := by
  intro i
  idx_vars i
  pointwise [val_main_v117, val_main_v116_apply, val_main_cst_25, r115 h0 h1 h2 h3 _]
  rw [coe_sum, ← Finset.sum_mul, wx_sum]

theorem Ze_pos (n j g i : ℕ) (m : ℝ) : 0 < I.Z n j g i * Real.exp (-m) := mul_pos (I.Z_pos _ _ _ _) (Real.exp_pos _)

theorem r123 (h0 : Rep x0 I.P) (h1 : Rep x1 fun _ => I.qg) (h2 : Rep x2 fun _ => I.kg) (h3 : Rep x3 fun _ => I.sk) :
    ∀ i, val_main_v123 (F := Ideal) x0 x1 x2 x3 i
      = ((I.p (i 1).val (i 2).val (i 3).val (i 4).val (i 5).val : ℝ) : EReal) := by
  intro i
  idx_vars i
  pointwise [val_main_v123, val_main_v119, val_main_v118, r115 h0 h1 h2 h3 _, r117 h0 h1 h2 h3 _]
  rw [coe_div _ (Ze_pos _ _ _ _ _).ne', mul_div_mul_right _ _ (Real.exp_pos _).ne']
  unfold wx
  rw [if_pos i5.isLt]
  rfl

theorem r122 (h0 : Rep x0 I.P) (h1 : Rep x1 fun _ => I.qg) (h2 : Rep x2 fun _ => I.kg) (h3 : Rep x3 fun _ => I.sk) :
    ∀ i, val_main_v122 (F := Ideal) x0 x1 x2 x3 i
      = ((1 / (I.Z (i 1).val (i 2).val (i 3).val (i 4).val * Real.exp (-sh x0 x1 x2 x3 (i 1).val (i 2).val (i 3).val (i 4).val)
        * (I.Z (i 1).val (i 2).val (i 3).val (i 4).val * Real.exp (-sh x0 x1 x2 x3 (i 1).val (i 2).val (i 3).val (i 4).val))) : ℝ) : EReal) := by
  intro i
  idx_vars i
  pointwise [val_main_v122, val_main_v121, val_main_cst_26, val_main_v120, r117 h0 h1 h2 h3 _]
  rw [← EReal.coe_mul]
  exact coe_div 1 (mul_pos (Ze_pos _ _ _ _ _) (Ze_pos _ _ _ _ _)).ne'

/-! ## The derivatives -/

theorem r129 (h4 : Rep x4 I.D) : ∀ i, val_main_v129 (F := Ideal) x4 i
    = ((I.G (128 * (i 1).val + (i 5).val) (i 2).val (i 4).val (i 3).val : ℝ) : EReal) := by
  intro i
  idx_vars i
  pointwise [val_main_v129, val_main_v128, val_main_v127, h4 _]
  unfold In.G
  congr 2 <;> omega

/-- The derivative of a probability, zero where there is no value row. -/
def dpR (I : In) (n j g i c : ℕ) : ℝ := ∑ e : Fin 64, I.G (128 * n + i) j g e * win (fun t => I.Vv t j e) n c

theorem dpR_see {n i c : ℕ} (h : See n i c) (j g : ℕ) : dpR I n j g i c = I.dp n j g i c := by
  unfold dpR
  simp only [win_see _ h]
  rfl

theorem p_dpR (n j g i c : ℕ) : I.p n j g i c * dpR I n j g i c = I.p n j g i c * I.dp n j g i c := by
  by_cases h : See n i c
  · rw [dpR_see h]
  · rw [I.p_unseen _ _ _ _ _ h, zero_mul, zero_mul]

theorem r130 (h0 : Rep x0 I.P) (h4 : Rep x4 I.D) : ∀ i, val_main_v130 (F := Ideal) x0 x4 i
    = ((dpR I (i 1).val (i 2).val (i 3).val (i 4).val (i 5).val : ℝ) : EReal) := by
  intro i
  idx_vars i
  pointwise [val_main_v130, r129 h4 _, r56 h0 _]
  simp only [← EReal.coe_mul, coe_sum]
  rfl

/-- The row of 257's. -/
def dpx (I : In) (n j g i c : ℕ) : ℝ := if c < 256 then dpR I n j g i c else 0

theorem r133 (h0 : Rep x0 I.P) (h4 : Rep x4 I.D) : ∀ i, val_main_v133 (F := Ideal) x0 x4 i
    = ((dpx I (i 1).val (i 2).val (i 3).val (i 4).val (i 5).val : ℝ) : EReal) := by
  intro i
  idx_vars i
  pointwise [val_main_v133, val_main_cst_27, r130 h0 h4 _]
  unfold dpx
  by_cases h : i5.val < 256
  · rw [dif_pos h, if_pos h]
  · rw [dif_neg h, if_neg h]; rfl

theorem dl_sum (n j g i : ℕ) : ∑ c : Fin 257, dpx I n j g i c * wx I n j g i c = I.dl n j g i * I.Z n j g i := by
  rw [Fin.sum_univ_castSucc]
  unfold In.dl
  rw [Finset.sum_mul]
  have : dpx I n j g i (Fin.last 256).val = 0 := if_neg (lt_irrefl 256)
  rw [this, zero_mul, add_zero]
  refine Finset.sum_congr rfl fun c _ => ?_
  have hz := (I.Z_pos n j g i).ne'
  have e1 : dpx I n j g i (Fin.castSucc c).val = dpR I n j g i c := if_pos c.isLt
  have e2 : wx I n j g i (Fin.castSucc c).val = I.w n j g i c := if_pos c.isLt
  rw [e1, e2, ← p_dpR]
  unfold In.p
  field_simp

theorem r139 (h0 : Rep x0 I.P) (h1 : Rep x1 fun _ => I.qg) (h2 : Rep x2 fun _ => I.kg) (h3 : Rep x3 fun _ => I.sk) (h4 : Rep x4 I.D) :
    ∀ i, val_main_v139 (F := Ideal) x0 x1 x2 x3 x4 i
      = ((-(I.dl (i 1).val (i 2).val (i 3).val (i 4).val
        / (I.Z (i 1).val (i 2).val (i 3).val (i 4).val * Real.exp (-sh x0 x1 x2 x3 (i 1).val (i 2).val (i 3).val (i 4).val))) : ℝ) : EReal) := by
  intro i
  idx_vars i
  pointwise [val_main_v139, val_main_v138, val_main_v137_apply, val_main_cst_28, val_main_v136, val_main_v135, val_main_v134,
    r133 h0 h4 _, r122 h0 h1 h2 h3 _, r115 h0 h1 h2 h3 _]
  simp only [← EReal.coe_mul, coe_sum]
  rw [← EReal.coe_neg]
  congr 2
  have hz := (I.Z_pos i1 i2 i3 i4).ne'
  have he := (Real.exp_pos (-sh x0 x1 x2 x3 i1.val i2.val i3.val i4.val)).ne'
  generalize Real.exp (-sh x0 x1 x2 x3 i1.val i2.val i3.val i4.val) = e at he ⊢
  have hs := dl_sum (I := I) i1 i2 i3 i4
  have : ∀ k : Fin 257, dpx I i1 i2 i3 i4 k * (1 / (I.Z i1 i2 i3 i4 * e * (I.Z i1 i2 i3 i4 * e))) * (wx I i1 i2 i3 i4 k * e)
      = dpx I i1 i2 i3 i4 k * wx I i1 i2 i3 i4 k * (e / (I.Z i1 i2 i3 i4 * e * (I.Z i1 i2 i3 i4 * e))) := fun k => by ring
  rw [Finset.sum_congr rfl fun k _ => this k, ← Finset.sum_mul, hs]
  field_simp

end Cert.ReferenceIdeal.Swa
-- ==== Proof.RGrad.lean ====
module

public import proofs.«01_k».proof.Proof.RSoft
public import proofs.«01_k».proof.Proof.Gen.ReferenceIdeal.Read

@[expose] public section

set_option maxRecDepth 16384

noncomputable section

namespace Cert.ReferenceIdeal.Swa

open Cert.ReferenceIdeal Cert.ReferenceIdeal.Gen Cert.ReferenceIdeal.Read Cert.Swa
open Cert.KernelIdeal.Swa (band_eq late_eq notFirst_eq Rep coe_sum coe_div rsqrt_pos real_top exp_shift)
open Idealize.ShloMosaic Idealize.ShloMosaic.TcCoe Idealize.ShloMosaic.Tactic

variable {I : In}
variable {x0 : FVec Ideal ⟨2, ![4096, 9728]⟩ .f32} {x1 x2 : FVec Ideal ⟨2, ![1, 64]⟩ .f32}
  {x3 : FVec Ideal ⟨2, ![1, 16]⟩ .f32} {x4 : FVec Ideal ⟨2, ![4096, 1024]⟩ .f32}

/-! ## Sums over several axes -/

theorem hostSum {s t u : Shape} {axes : List (Fin s.rank)} (x : FVec Ideal s .f32) (init : FVec Ideal u .f32)
    (h : s.ReducesTo axes t) (hu : 0 < u.numel) (j : t.Idx) (h0 : init (Shape.Idx.first hu) = 0) {κ : Type} [Fintype κ]
    (g : κ → s.Idx) (hg : Function.Injective g) (hp : ∀ i, h.drop i = j ↔ ∃ k, g k = i) :
    Host.reduceAdd x init h hu j = ∑ k, x (g k) := by
  rw [ValueIdx.hostReduceAdd_apply, h0]
  unfold Ideal.hostReduceAdd
  rw [zero_add]
  exact Finset.sum_filter_eq_sum_of_fiber _ g hg hp x

theorem inj_unit {α : Type} (g : Unit → α) : Function.Injective g := fun _ _ _ => rfl

theorem zero_word : FloatOps.ofBits (F := Ideal) .f32 0x00000000#32 = 0 := Ideal.ofBits_zero_f32

theorem r142 (h0 : Rep x0 I.P) (h1 : Rep x1 fun _ => I.qg) (h2 : Rep x2 fun _ => I.kg) (h3 : Rep x3 fun _ => I.sk) (h4 : Rep x4 I.D) :
    ∀ i, val_main_v142 (F := Ideal) x0 x1 x2 x3 x4 i
      = ((-(I.dl (i 0).val (i 1).val (i 2).val (i 3).val
        / (I.Z (i 0).val (i 1).val (i 2).val (i 3).val * Real.exp (-sh x0 x1 x2 x3 (i 0).val (i 1).val (i 2).val (i 3).val))) : ℝ) : EReal) := by
  intro i
  idx_vars i
  unfold val_main_v142
  rw [hostSum _ _ reducesTo_S1x32x4x4x128x1_S32x4x4x128_d0_5 _ _ zero_word (fun _ : Unit => ix6 0 i0 i1 i2 i3 0) (inj_unit _)]
  · rw [Finset.univ_unique, Finset.sum_singleton]
    exact r139 h0 h1 h2 h3 h4 _
  · intro i
    constructor
    · intro e
      refine ⟨(), ?_⟩
      funext a; apply Fin.ext
      match a with
      | ⟨0, _⟩ => have : (i 0).val < 1 := (i 0).isLt; show 0 = (i 0).val; omega
      | ⟨1, _⟩ => exact (congrArg Fin.val (congrFun e 0)).symm
      | ⟨2, _⟩ => exact (congrArg Fin.val (congrFun e 1)).symm
      | ⟨3, _⟩ => exact (congrArg Fin.val (congrFun e 2)).symm
      | ⟨4, _⟩ => exact (congrArg Fin.val (congrFun e 3)).symm
      | ⟨5, _⟩ => have : (i 5).val < 1 := (i 5).isLt; show 0 = (i 5).val; omega
    · rintro ⟨k, rfl⟩
      funext b
      apply Fin.ext
      match b with
      | ⟨0, _⟩ => rfl
      | ⟨1, _⟩ => rfl
      | ⟨2, _⟩ => rfl
      | ⟨3, _⟩ => rfl

theorem r146 (h0 : Rep x0 I.P) (h1 : Rep x1 fun _ => I.qg) (h2 : Rep x2 fun _ => I.kg) (h3 : Rep x3 fun _ => I.sk) (h4 : Rep x4 I.D) :
    ∀ i, val_main_v146 (F := Ideal) x0 x1 x2 x3 x4 i
      = (((dpx I (i 1).val (i 2).val (i 3).val (i 4).val (i 5).val - I.dl (i 1).val (i 2).val (i 3).val (i 4).val)
        * (wx I (i 1).val (i 2).val (i 3).val (i 4).val (i 5).val / I.Z (i 1).val (i 2).val (i 3).val (i 4).val) : ℝ) : EReal) := by
  intro i
  idx_vars i
  pointwise [val_main_v146, val_main_v145, val_main_v144, val_main_v143, val_main_v141, val_main_v140, r142 h0 h1 h2 h3 h4 _,
    r133 h0 h4 _, r117 h0 h1 h2 h3 _, r115 h0 h1 h2 h3 _]
  rw [coe_div _ (Ze_pos _ _ _ _ _).ne', ← EReal.coe_add, ← EReal.coe_mul]
  congr 1
  have hz := (I.Z_pos i1 i2 i3 i4).ne'
  have he := (Real.exp_pos (-sh x0 x1 x2 x3 i1.val i2.val i3.val i4.val)).ne'
  field_simp
  try ring

theorem r153 (h0 : Rep x0 I.P) (h1 : Rep x1 fun _ => I.qg) (h2 : Rep x2 fun _ => I.kg) (h3 : Rep x3 fun _ => I.sk) (h4 : Rep x4 I.D) :
    ∀ i, val_main_v153 (F := Ideal) x0 x1 x2 x3 x4 i
      = ((I.ds (i 1).val (i 2).val (i 3).val (i 4).val (i 5).val : ℝ) : EReal) := by
  intro i
  have hm := mask i
  idx_vars i
  pointwise [val_main_v153, val_main_call1_v0, val_main_call1_cst, val_main_v147, r146 h0 h1 h2 h3 h4 _]
  unfold Scalar.select
  by_cases h : See i1.val i4.val i5.val
  · refine (if_pos (hm.mpr h)).trans ?_
    congr 1
    unfold dpx wx
    rw [if_pos i5.isLt, if_pos i5.isLt, dpR_see h]
    exact mul_comm _ _
  · refine (if_neg fun e => h (hm.mp e)).trans ?_
    rw [I.ds_unseen _ _ _ _ _ h]
    rfl

theorem r155 (h0 : Rep x0 I.P) (h1 : Rep x1 fun _ => I.qg) (h2 : Rep x2 fun _ => I.kg) (h3 : Rep x3 fun _ => I.sk) (h4 : Rep x4 I.D) :
    ∀ i, val_main_v155 (F := Ideal) x0 x1 x2 x3 x4 i
      = ((I.ds (i 1).val (i 2).val (i 3).val (i 4).val (i 5).val * (1 / 8) : ℝ) : EReal) := by
  intro i
  idx_vars i
  pointwise [val_main_v155, val_main_v154, val_main_cst_32, r153 h0 h1 h2 h3 h4 _]
  rw [c8_eq, ← EReal.coe_mul]

theorem ds_win (f : ℕ → ℝ) (n j g i c : ℕ) : I.ds n j g i c * win f n c = I.ds n j g i c * f (tok n c) := by
  by_cases h : See n i c
  · rw [win_see _ h]
  · rw [I.ds_unseen _ _ _ _ _ h, zero_mul, zero_mul]

theorem r175 (h0 : Rep x0 I.P) (h1 : Rep x1 fun _ => I.qg) (h2 : Rep x2 fun _ => I.kg) (h3 : Rep x3 fun _ => I.sk) (h4 : Rep x4 I.D) :
    ∀ i, val_main_v175 (F := Ideal) x0 x1 x2 x3 x4 i
      = ((I.dqh ((i 1).val / 128) (i 2).val (i 3).val ((i 1).val % 128) (i 4).val : ℝ) : EReal) := by
  intro i
  idx_vars i
  pointwise [val_main_v175, val_main_v158, val_main_v157, val_main_v156, r155 h0 h1 h2 h3 h4 _, r50 h0 h2 _]
  simp only [← EReal.coe_mul, coe_sum]
  congr 1
  unfold In.dqh
  rw [Finset.sum_mul]
  refine Finset.sum_congr rfl fun c _ => ?_
  rw [← ds_win (I := I) (fun t => I.kh t i2 i4)]
  ring

theorem r160 (h0 : Rep x0 I.P) (h1 : Rep x1 fun _ => I.qg) (h2 : Rep x2 fun _ => I.kg) (h3 : Rep x3 fun _ => I.sk) (h4 : Rep x4 I.D) :
    ∀ i, val_main_v160 (F := Ideal) x0 x1 x2 x3 x4 i
      = ((I.dkh (i 1).val (i 3).val (i 2).val (i 4).val : ℝ) : EReal) := by
  intro i
  idx_vars i
  pointwise [val_main_v160, val_main_v159, val_main_v156, r155 h0 h1 h2 h3 h4 _, r42 h0 h1 _]
  simp only [← EReal.coe_mul, coe_sum]
  congr 1
  unfold In.dkh
  rw [Finset.sum_comm, Finset.sum_mul]
  refine Finset.sum_congr rfl fun g _ => ?_
  rw [Finset.sum_mul]
  refine Finset.sum_congr rfl fun c _ => ?_
  ring

theorem r132 (h0 : Rep x0 I.P) (h1 : Rep x1 fun _ => I.qg) (h2 : Rep x2 fun _ => I.kg) (h3 : Rep x3 fun _ => I.sk) (h4 : Rep x4 I.D) :
    ∀ i, val_main_v132 (F := Ideal) x0 x1 x2 x3 x4 i
      = ((I.dv (i 1).val (i 3).val (i 2).val (i 4).val : ℝ) : EReal) := by
  intro i
  idx_vars i
  pointwise [val_main_v132, val_main_v131, r129 h4 _, r123 h0 h1 h2 h3 _]
  simp only [← EReal.coe_mul, coe_sum]
  congr 1
  unfold In.dv
  refine Finset.sum_congr rfl fun g _ => Finset.sum_congr rfl fun c _ => ?_
  ring

theorem r174 (h0 : Rep x0 I.P) (h1 : Rep x1 fun _ => I.qg) (h2 : Rep x2 fun _ => I.kg) (h3 : Rep x3 fun _ => I.sk) (h4 : Rep x4 I.D) :
    ∀ i, val_main_v174 (F := Ideal) x0 x1 x2 x3 x4 i
      = ((I.dkT ((i 1).val / 128) (i 2).val ((i 1).val % 128) (i 3).val : ℝ) : EReal) := by
  intro i
  idx_vars i
  pointwise [val_main_v174, val_main_v172, val_main_v171, val_main_cst_34, val_main_v170, val_main_v168, val_main_v167, r160 h0 h1 h2 h3 h4 _]
  unfold In.dkT
  rw [EReal.coe_add, Nat.add_comm 1]
  by_cases h : i1.val / 128 < 31
  · rw [dif_pos ⟨h, Nat.mod_lt _ (by omega)⟩, if_pos h]
  · rw [dif_neg fun e => h e.1, if_neg h]; rfl

theorem r224 (h0 : Rep x0 I.P) (h1 : Rep x1 fun _ => I.qg) (h2 : Rep x2 fun _ => I.kg) (h3 : Rep x3 fun _ => I.sk) (h4 : Rep x4 I.D) :
    ∀ i, val_main_v224 (F := Ideal) x0 x1 x2 x3 x4 i = ((I.gv (i 0).val (i 1).val : ℝ) : EReal) := by
  intro i
  idx_vars i
  pointwise [val_main_v224, val_main_v176, val_main_v173, val_main_v166, val_main_v165, val_main_cst_33, val_main_v164, val_main_v162, val_main_v161, r132 h0 h1 h2 h3 h4 _]
  unfold In.gv In.dvT
  rw [EReal.coe_add, Nat.add_comm 1]
  by_cases h : i0.val / 128 < 31
  · rw [dif_pos ⟨h, Nat.mod_lt _ (by omega), by omega, by omega⟩, if_pos h]
  · rw [dif_neg fun e => h e.1, if_neg h]; rfl

end Cert.ReferenceIdeal.Swa
-- ==== Proof.KVal.lean ====
module

public import proofs.«01_k».proof.Proof.KOps
public import proofs.«01_k».proof.Proof.BodyC
public import Idealize.ShloMosaic.Lib.Pipeline.Value

@[expose] public section

set_option maxRecDepth 16384

noncomputable section

namespace Cert.KernelIdeal.Swa

open Cert.KernelIdeal Cert.KernelIdeal.Gen Cert.Swa
open Idealize.ShloMosaic Idealize.ShloMosaic.TcCoe Idealize.ShloMosaic.Tactic

/-- What a point reads at block `n` is block `n` of the arguments. -/
structure LeafVal (I : In) (n : ℕ) (L : Leaves Ideal) : Prop where
  q : ∀ j g : Fin 4, Rep (L.q (hd j g)) fun i e => I.Q (128 * n + i) j g e
  d : ∀ j g : Fin 4, Rep (L.d (hd j g)) fun i e => I.G (128 * n + i) j g e
  kp : ∀ j : Fin 4, Rep (L.kp j) fun i e => I.K (128 * (n - 1) + i) j e
  kc : ∀ j : Fin 4, Rep (L.kc j) fun i e => I.K (128 * n + i) j e
  vp : ∀ j : Fin 4, Rep (L.vp j) fun i e => I.Vv (128 * (n - 1) + i) j e
  vc : ∀ j : Fin 4, Rep (L.vc j) fun i e => I.Vv (128 * n + i) j e
  qg : Rep L.qg fun _ e => I.qg e
  kg : Rep L.kg fun _ e => I.kg e
  s : ∀ j g : Fin 4, Rep (L.s (hd j g)) fun _ _ => I.sk (4 * j + g)
  mask : ∀ i, L.mask i = 1#1 ↔ See n ((i 0).val % 128) (i 1).val

namespace LeafVal

variable {I : In} {n : ℕ} {L : Leaves Ideal} (h : LeafVal I n L) (j : Fin 4)

theorem kcat (h : LeafVal I n L) : Rep (L.kcat j) fun c e => I.K (tok n c) j e :=
  (rep_stack2 (h.kp j) (h.kc j)).congr fun c _ e _ => by
    unfold tok
    split_ifs <;> rfl

theorem vcat (h : LeafVal I n L) : Rep (L.vcat j) fun c e => I.Vv (tok n c) j e :=
  (rep_stack2 (h.vp j) (h.vc j)).congr fun c _ e _ => by
    unfold tok
    split_ifs <;> rfl

theorem qcat (h : LeafVal I n L) : Rep (L.qcat j) fun r e => I.Q (128 * n + r % 128) j (r / 128) e :=
  rep_stack4 (h := fun g i e => I.Q (128 * n + i) j g e) fun g => h.q j g

theorem dcat (h : LeafVal I n L) : Rep (L.dcat j) fun r e => I.G (128 * n + r % 128) j (r / 128) e :=
  rep_stack4 (h := fun g i e => I.G (128 * n + i) j g e) fun g => h.d j g

theorem scat (h : LeafVal I n L) : Rep (L.scat j) fun r _ => I.sk (4 * j + r / 128) :=
  rep_stackS (h := fun g => I.sk (4 * j + g)) fun g => h.s j g

theorem kn (h : LeafVal I n L) : Rep (unit256 (L.kcat j)) fun c e => I.kn (tok n c) j e := rep_unit256 (h.kcat j)
theorem kh (h : LeafVal I n L) : Rep (L.kh j) fun c e => I.kh (tok n c) j e := rep_gain256 (h.kn j) h.kg
theorem qn (h : LeafVal I n L) : Rep (unit512 (L.qcat j)) fun r e => I.qn (128 * n + r % 128) j (r / 128) e :=
  rep_unit512 (h.qcat j)
theorem qh (h : LeafVal I n L) : Rep (L.qh j) fun r e => I.qh (128 * n + r % 128) j (r / 128) e :=
  rep_gain512 (h.qn j) h.qg

theorem score (h : LeafVal I n L) :
    RepM (L.score j) (fun r c => See n (r % 128) c) fun r c => I.sc n j (r / 128) (r % 128) c :=
  rep_scoreOf (M := fun r c => See n (r % 128) c) h.mask (h.qh j) (h.kh j)

theorem prob (h : LeafVal I n L) : Rep (L.prob j) fun r c => I.p n j (r / 128) (r % 128) c :=
  rep_probOf (h.score j) (h.scat j)
theorem probSink (h : LeafVal I n L) : Rep (L.probSink j) fun r _ => I.ps n j (r / 128) (r % 128) :=
  rep_probSinkOf (h.score j) (h.scat j)
theorem dprob (h : LeafVal I n L) : Rep (L.dprob j) fun r c => I.dp n j (r / 128) (r % 128) c :=
  rep_dotRR (h.dcat j) (h.vcat j)

theorem dv (h : LeafVal I n L) : Rep (L.dv j) fun c e => I.dv n j c e :=
  (rep_dotCC (h.prob j) (h.dcat j)).congr fun c _ e _ =>
    sum_rows fun g i => I.p n j g i c * I.G (128 * n + i) j g e

theorem delta (h : LeafVal I n L) : Rep (L.delta j) fun r _ => I.dl n j (r / 128) (r % 128) :=
  (rep_rowSum512 (rep_mulf (h.dcat j) (rep_dotRC (h.prob j) (h.vcat j)))).congr fun r _ _ _ => by
    show ∑ e : Fin 64, I.G (128 * n + r % 128) j (r / 128) e
        * ∑ c : Fin 256, I.p n j (r / 128) (r % 128) c * I.Vv (tok n c) j e
      = ∑ c : Fin 256, I.p n j (r / 128) (r % 128) c
        * ∑ e : Fin 64, I.G (128 * n + r % 128) j (r / 128) e * I.Vv (tok n c) j e
    simp only [Finset.mul_sum]
    rw [Finset.sum_comm]
    exact Finset.sum_congr rfl fun _ _ => Finset.sum_congr rfl fun _ _ => by ring

theorem ds (h : LeafVal I n L) : Rep (L.ds j) fun r c => I.ds n j (r / 128) (r % 128) c :=
  rep_dscoreOf (h.prob j) (h.dprob j) (h.delta j)
theorem dsink (h : LeafVal I n L) :
    Rep (L.dsink j) fun r _ => -(I.ps n j (r / 128) (r % 128) * I.dl n j (r / 128) (r % 128)) :=
  rep_dsinkOf (h.probSink j) (h.delta j)
theorem dqh (h : LeafVal I n L) : Rep (L.dqh j) fun r e => I.dqh n j (r / 128) (r % 128) e :=
  rep_eighth (rep_dotRC (h.ds j) (h.kh j))
theorem dkh (h : LeafVal I n L) : Rep (L.dkh j) fun c e => I.dkh n j c e :=
  (rep_eighth (rep_dotCC (h.ds j) (h.qh j))).congr fun c _ e _ =>
    congrArg (· * (1 / 8 : ℝ)) (sum_rows fun g i => I.ds n j g i c * I.qh (128 * n + i) j g e)

theorem dq (h : LeafVal I n L) :
    Rep (L.dq j) fun r => back (I.dqh n j (r / 128) (r % 128)) (I.Q (128 * n + r % 128) j (r / 128)) I.qg :=
  rep_back512 (h.dqh j) (h.qcat j) h.qg
theorem dk (h : LeafVal I n L) : Rep (L.dk j) fun c => back (I.dkh n j c) (I.K (tok n c) j) I.kg :=
  rep_back256 (h.dkh j) (h.kcat j) h.kg

theorem dqg (h : LeafVal I n L) : Rep (L.dqg j) fun _ e =>
    ∑ g : Fin 4, ∑ i : Fin 128, I.dqh n j g i e * I.qn (128 * n + i) j g e :=
  (rep_gainSum512 (h.dqh j) (h.qn j)).congr fun _ _ e _ =>
    sum_rows fun g i => I.dqh n j g i e * I.qn (128 * n + i) j g e
theorem dkg (h : LeafVal I n L) : Rep (L.dkg j) fun _ e => ∑ c : Fin 256, I.dkh n j c e * I.kn (tok n c) j e :=
  rep_gainSum256 (h.dkh j) (h.kn j)

theorem lane (h : LeafVal I n L) (g : Fin 4) : Rep (laneOf (Leaves.laneWord j g) (cutS g (L.dsink j))) fun _ c =>
    if c = 4 * j.val + g.val then ∑ i : Fin 128, -(I.ps n j g i * I.dl n j g i) else 0 :=
  (rep_laneOf (4 * j.val + g.val) (by omega) (rep_cutS g (h.dsink j))).congr fun _ _ c _ => by
    split_ifs
    · refine Finset.sum_congr rfl fun i _ => ?_
      rw [show (128 * g.val + i.val) / 128 = g.val by omega, show (128 * g.val + i.val) % 128 = i.val by omega]
    · rfl

theorem dsinkRow (h : LeafVal I n L) : Rep (L.dsinkRow j) fun _ c =>
    ∑ g : Fin 4, if c = 4 * j.val + g.val then ∑ i : Fin 128, -(I.ps n j g i * I.dl n j g i) else 0 := by
  have h0 : Rep (broadcast S1x128 (Scalar.ofBits (F := Ideal) .f32 0x00000000#32)) fun _ _ => 0 := fun i => by
    show Ideal.ofBits .f32 0x00000000#32 = _
    rw [Ideal.ofBits_zero_f32]; rfl
  refine (rep_addf (rep_addf (rep_addf (rep_addf h0 (h.lane j 0)) (h.lane j 1)) (h.lane j 2)) (h.lane j 3)).congr
    fun _ _ c _ => ?_
  rw [Fin.sum_univ_four, zero_add]

end LeafVal

/-! ## The blocks a point stores -/

section Blocks

variable {I : In} {n : ℕ} {L : Leaves Ideal}

theorem rep_truncf {a b : ℕ} {x : FVec Ideal ⟨2, ![a, b]⟩ .f32} {f : ℕ → ℕ → ℝ} (hx : Rep x f) :
    Rep (truncf .bf16 x bitsLt_bf16_f32) f := fun i => hx i

theorem rep_dqV (h : LeafVal I n L) : Rep (t := .bf16) (dqV L) fun i c =>
    back (I.dqh n (c / 256) (c / 64 % 4) i) (I.Q (128 * n + i) (c / 256) (c / 64 % 4)) I.qg (c % 64) := by
  have key : ∀ (j g : Fin 4) (x : S128x64.Idx), L.dqPiece j g x =
      (((fun i c => back (I.dqh n (c / 256) (c / 64 % 4) i) (I.Q (128 * n + i) (c / 256) (c / 64 % 4)) I.qg (c % 64))
        ((rQ (hd j g)).emb x 0).val ((rQ (hd j g)).emb x 1).val : ℝ) : EReal) := fun j g x => by
    have hx : (x 1).val < 64 := (x 1).isLt
    have hx0 : (x 0).val < 128 := (x 0).isLt
    have e := rep_truncf (rep_cut512 g (h.dq j)) x
    have e0 : ((rQ (hd j g)).emb x 0).val = (x 0).val := (Nat.zero_add _).trans (Nat.one_mul _)
    have e1 : ((rQ (hd j g)).emb x 1).val = 64 * (4 * j.val + g.val) + (x 1).val :=
      congrArg (64 * (4 * j.val + g.val) + ·) (Nat.one_mul _)
    refine e.trans ?_
    rw [e0, e1]
    simp only
    rw [show (128 * g.val + (x 0).val) / 128 = g.val by omega, show (128 * g.val + (x 0).val) % 128 = (x 0).val by omega,
      show (64 * (4 * j.val + g.val) + (x 1).val) / 256 = j.val by omega,
      show (64 * (4 * j.val + g.val) + (x 1).val) / 64 % 4 = g.val by omega,
      show (64 * (4 * j.val + g.val) + (x 1).val) % 64 = (x 1).val by omega]
  intro y
  refine View.canon_apply_of_pieces (Val := Elt Ideal) (e := .bf16) (fun y => (((fun i c => back (I.dqh n (c / 256) (c / 64 % 4) i)
    (I.Q (128 * n + i) (c / 256) (c / 64 % 4)) I.qg (c % 64)) (y 0).val (y 1).val : ℝ) : EReal)) (qPieces L) ?_ y (cover_q L y)
  intro p hp
  simp only [qPieces, List.mem_cons, List.not_mem_nil, or_false] at hp
  rcases hp with rfl | rfl | rfl | rfl | rfl | rfl | rfl | rfl | rfl | rfl | rfl | rfl | rfl | rfl | rfl | rfl <;>
    exact key _ _

/-- What block `n` carries on of the gradients of its keys and values. -/
def ckM (I : In) (n i c : ℕ) : ℝ := back (I.dkh n (c / 64) (128 + i)) (I.K (128 * n + i) (c / 64)) I.kg (c % 64)
def cvM (I : In) (n i c : ℕ) : ℝ := I.dv n (c / 64) (128 + i) (c % 64)

theorem rK_emb (j : Fin 4) (x : S128x64.Idx) :
    ((rK j).emb x 0).val = (x 0).val ∧ ((rK j).emb x 1).val = 64 * j.val + (x 1).val :=
  ⟨(Nat.zero_add _).trans (Nat.one_mul _), congrArg (64 * j.val + ·) (Nat.one_mul _)⟩

theorem rKV_emb (a : Fin 8) (x : S128x64.Idx) :
    ((rKV a).emb x 0).val = (x 0).val ∧ ((rKV a).emb x 1).val = 64 * a.val + (x 1).val :=
  ⟨(Nat.zero_add _).trans (Nat.one_mul _), congrArg (64 * a.val + ·) (Nat.one_mul _)⟩

theorem rep_ckV (h : LeafVal I n L) : Rep (t := .f32) (ckV L) (ckM I n) := by
  have key : ∀ (j : Fin 4) (x : S128x64.Idx), L.ckPiece j x =
      ((ckM I n ((rK j).emb x 0).val ((rK j).emb x 1).val : ℝ) : EReal) := fun j x => by
    have hx : (x 1).val < 64 := (x 1).isLt
    have e := rep_cut256 1 (h.dk j) x
    have e2 : L.ckPiece j x = cut256 1 (L.dk j) x := by
      unfold Leaves.ckPiece
      idx_vars x
      pointwise
    rw [e2, e, (rK_emb j x).1, (rK_emb j x).2]
    unfold ckM tok
    simp only
    rw [show (64 * j.val + (x 1).val) / 64 = j.val by omega, show (64 * j.val + (x 1).val) % 64 = (x 1).val by omega,
      if_neg (by show ¬128 * 1 + _ < 128; omega)]
    rw [show 128 * ((1 : Fin 2) : ℕ) + (x 0).val = 128 + (x 0).val from rfl, Nat.add_sub_cancel_left]
  intro y
  refine View.canon_apply_of_pieces (Val := Elt Ideal) (e := .f32)
    (fun y => ((ckM I n (y 0).val (y 1).val : ℝ) : EReal)) (ckPieces L) ?_ y (cover_ck L y)
  intro p hp
  simp only [ckPieces, List.mem_cons, List.not_mem_nil, or_false] at hp
  rcases hp with rfl | rfl | rfl | rfl <;> exact key _

theorem rep_cvV (h : LeafVal I n L) : Rep (t := .f32) (cvV L) (cvM I n) := by
  have key : ∀ (j : Fin 4) (x : S128x64.Idx), L.cvPiece j x =
      ((cvM I n ((rK j).emb x 0).val ((rK j).emb x 1).val : ℝ) : EReal) := fun j x => by
    have hx : (x 1).val < 64 := (x 1).isLt
    have e := rep_cut256 1 (h.dv j) x
    have e2 : L.cvPiece j x = cut256 1 (L.dv j) x := by
      unfold Leaves.cvPiece
      idx_vars x
      pointwise
    rw [e2, e, (rK_emb j x).1, (rK_emb j x).2]
    unfold cvM
    rw [show (64 * j.val + (x 1).val) / 64 = j.val by omega, show (64 * j.val + (x 1).val) % 64 = (x 1).val by omega]
    rfl
  intro y
  refine View.canon_apply_of_pieces (Val := Elt Ideal) (e := .f32)
    (fun y => ((cvM I n (y 0).val (y 1).val : ℝ) : EReal)) (cvPieces L) ?_ y (cover_cv L y)
  intro p hp
  simp only [cvPieces, List.mem_cons, List.not_mem_nil, or_false] at hp
  rcases hp with rfl | rfl | rfl | rfl <;> exact key _

/-- The block of keys and values a point stores: carried `a`, `b`, and this point's part of the block before. -/
theorem rep_dkvV (h : LeafVal I n L) {ck cv : FVec Ideal S128x256 .f32} {a b : ℕ → ℕ → ℝ} (ha : Rep ck a) (hb : Rep cv b) :
    Rep (t := .bf16) (dkvV (F := Ideal) L ck cv) fun i c =>
      if c < 256 then a i c + back (I.dkh n (c / 64) i) (I.K (128 * (n - 1) + i) (c / 64)) I.kg (c % 64)
      else b i (c - 256) + I.dv n ((c - 256) / 64) i ((c - 256) % 64) := by
  have key1 : ∀ (j : Fin 4) (x : S128x64.Idx), L.dkPiece j (View.ld (Val := Elt Ideal) (e' := .f32) ck (rK j)) x =
      ((a (x 0).val (64 * j.val + (x 1).val)
        + back (I.dkh n j (x 0).val) (I.K (128 * (n - 1) + (x 0).val) j) I.kg (x 1).val : ℝ) : EReal) := fun j x => by
    have hx0 : (x 0).val < 128 := (x 0).isLt
    have e := rep_cut256 0 (h.dk j) x
    have e2 : View.ld (Val := Elt Ideal) (e' := .f32) ck (rK j) x = ((a (x 0).val (64 * j.val + (x 1).val) : ℝ) : EReal) := by
      show ck ((rK j).emb x) = _
      rw [ha, (rK_emb j x).1, (rK_emb j x).2]
    show (View.ld (Val := Elt Ideal) (e' := .f32) ck (rK j) x : EReal) + cut256 0 (L.dk j) x = _
    rw [e, e2, EReal.coe_add]
    unfold tok
    simp only
    rw [show 128 * ((0 : Fin 2) : ℕ) + (x 0).val = (x 0).val from Nat.zero_add _, if_pos hx0]
  have key2 : ∀ (j : Fin 4) (x : S128x64.Idx), L.dvPiece j (View.ld (Val := Elt Ideal) (e' := .f32) cv (rK j)) x =
      ((b (x 0).val (64 * j.val + (x 1).val) + I.dv n j (x 0).val (x 1).val : ℝ) : EReal) := fun j x => by
    have e := rep_cut256 0 (h.dv j) x
    have e2 : View.ld (Val := Elt Ideal) (e' := .f32) cv (rK j) x = ((b (x 0).val (64 * j.val + (x 1).val) : ℝ) : EReal) := by
      show cv ((rK j).emb x) = _
      rw [hb, (rK_emb j x).1, (rK_emb j x).2]
    show (View.ld (Val := Elt Ideal) (e' := .f32) cv (rK j) x : EReal) + cut256 0 (L.dv j) x = _
    rw [e, e2, EReal.coe_add]
    simp only
    rw [show 128 * ((0 : Fin 2) : ℕ) + (x 0).val = (x 0).val from Nat.zero_add _]
  have k1 : ∀ (j : Fin 4) (h8 : j.val < 8) (x : S128x64.Idx), L.dkPiece j (View.ld (Val := Elt Ideal) (e' := .f32) ck (rK j)) x =
      (((fun i c => if c < 256 then a i c + back (I.dkh n (c / 64) i) (I.K (128 * (n - 1) + i) (c / 64)) I.kg (c % 64)
        else b i (c - 256) + I.dv n ((c - 256) / 64) i ((c - 256) % 64))
        ((rKV ⟨j.val, h8⟩).emb x 0).val ((rKV ⟨j.val, h8⟩).emb x 1).val : ℝ) : EReal) := fun j h8 x => by
    have hx : (x 1).val < 64 := (x 1).isLt
    rw [key1, (rKV_emb _ x).1, (rKV_emb _ x).2]
    simp only
    rw [if_pos (by omega), show (64 * j.val + (x 1).val) / 64 = j.val by omega,
      show (64 * j.val + (x 1).val) % 64 = (x 1).val by omega]
  have k2 : ∀ (j : Fin 4) (h8 : 4 + j.val < 8) (x : S128x64.Idx), L.dvPiece j (View.ld (Val := Elt Ideal) (e' := .f32) cv (rK j)) x =
      (((fun i c => if c < 256 then a i c + back (I.dkh n (c / 64) i) (I.K (128 * (n - 1) + i) (c / 64)) I.kg (c % 64)
        else b i (c - 256) + I.dv n ((c - 256) / 64) i ((c - 256) % 64))
        ((rKV ⟨4 + j.val, h8⟩).emb x 0).val ((rKV ⟨4 + j.val, h8⟩).emb x 1).val : ℝ) : EReal) := fun j h8 x => by
    have hx : (x 1).val < 64 := (x 1).isLt
    rw [key2, (rKV_emb _ x).1, (rKV_emb _ x).2]
    simp only
    rw [if_neg (by omega), show 64 * (4 + j.val) + (x 1).val - 256 = 64 * j.val + (x 1).val by omega,
      show (64 * j.val + (x 1).val) / 64 = j.val by omega, show (64 * j.val + (x 1).val) % 64 = (x 1).val by omega]
  intro y
  refine View.canon_apply_of_pieces (Val := Elt Ideal) (e := .bf16)
    (fun y => (((fun i c => if c < 256 then a i c + back (I.dkh n (c / 64) i) (I.K (128 * (n - 1) + i) (c / 64)) I.kg (c % 64)
        else b i (c - 256) + I.dv n ((c - 256) / 64) i ((c - 256) % 64)) (y 0).val (y 1).val : ℝ) : EReal))
    (kvPieces L _ _) ?_ y (cover_kv L _ _ y)
  intro p hp
  simp only [kvPieces, List.mem_cons, List.not_mem_nil, or_false] at hp
  rcases hp with rfl | rfl | rfl | rfl | rfl | rfl | rfl | rfl
  · exact k2 3 (by decide)
  · exact k1 3 (by decide)
  · exact k2 2 (by decide)
  · exact k1 2 (by decide)
  · exact k2 1 (by decide)
  · exact k1 1 (by decide)
  · exact k2 0 (by decide)
  · exact k1 0 (by decide)

theorem rep_tailV {ck cv : FVec Ideal S128x256 .f32} {a b : ℕ → ℕ → ℝ} (ha : Rep ck a) (hb : Rep cv b) :
    Rep (t := .bf16) (tailV (F := Ideal) ck cv) fun i c => if c < 256 then a i c else b i (c - 256) := by
  intro y
  refine View.canon_apply_of_pieces (Val := Elt Ideal) (e := .bf16)
    (fun y => (((fun i c => if c < 256 then a i c else b i (c - 256)) (y 0).val (y 1).val : ℝ) : EReal))
    (tailPieces (F := Ideal) ck cv) ?_ y (cover_tail (F := Ideal) ck cv y)
  intro p hp
  simp only [tailPieces, List.mem_cons, List.not_mem_nil, or_false] at hp
  rcases hp with rfl | rfl
  · intro (x : S128x256.Idx)
    have e0 : ((rH 1).emb x 0).val = (x 0).val := (Nat.zero_add _).trans (Nat.one_mul _)
    have e1 : ((rH 1).emb x 1).val = 256 + (x 1).val := congrArg (256 + ·) (Nat.one_mul _)
    have := hb x
    show cv x = _
    rw [e0, e1, this]
    simp only
    rw [if_neg (by omega), Nat.add_sub_cancel_left]
  · intro (x : S128x256.Idx)
    have hx : (x 1).val < 256 := (x 1).isLt
    have e0 : ((rH 0).emb x 0).val = (x 0).val := (Nat.zero_add _).trans (Nat.one_mul _)
    have e1 : ((rH 0).emb x 1).val = (x 1).val := (Nat.zero_add _).trans (Nat.one_mul _)
    have := ha x
    show ck x = _
    rw [e0, e1, this]
    simp only
    rw [if_pos hx]

/-- What a point adds to the small gradients. -/
def smInc (I : In) (n r c : ℕ) : ℝ :=
  if r = 0 then (if c < 64 then ∑ j : Fin 4, ∑ g : Fin 4, ∑ i : Fin 128, I.dqh n j g i c * I.qn (128 * n + i) j g c else 0)
  else if r = 1 then (if c < 64 then ∑ j : Fin 4, ∑ k : Fin 256, I.dkh n j k c * I.kn (tok n k) j c else 0)
  else if r = 2 then ∑ j : Fin 4, ∑ g : Fin 4, if c = 4 * j.val + g.val then ∑ i : Fin 128, -(I.ps n j g i * I.dl n j g i) else 0
  else 0

theorem exists_emb {s : Shape} (r : Rect s) {y : s.Idx} (h : y ∈ r.set) : ∃ x, r.emb x = y := r.exists_idx_of_mem h

theorem canon_head {s : Shape} (r : Rect s) (w : r.shape.Idx → Elt Ideal .f32) (M : List (View.Piece (Elt Ideal) s .f32))
    (x : r.shape.Idx) : View.canon (⟨r, w⟩ :: M) (r.emb x) = w x := View.canon_cons_emb r w M x

theorem canon_skip {s : Shape} (r : Rect s) (w : r.shape.Idx → Elt Ideal .f32) (M : List (View.Piece (Elt Ideal) s .f32))
    {y : s.Idx} (h : y ∉ r.set) : View.canon (⟨r, w⟩ :: M) y = View.canon M y := View.canon_cons_of_not_mem _ M h

theorem rM_emb (b : Fin 2) (x : S1x64.Idx) : ((rM b).emb x 0).val = b.val ∧ ((rM b).emb x 1).val = (x 1).val := by
  have : (x 0).val < 1 := (x 0).isLt
  exact ⟨by show b.val + 1 * (x 0).val = _; omega, by show 0 + 1 * (x 1).val = _; omega⟩

theorem rM2_emb (x : S1x128.Idx) : (rM2.emb x 0).val = 2 ∧ (rM2.emb x 1).val = (x 1).val := by
  have : (x 0).val < 1 := (x 0).isLt
  exact ⟨by show 2 + 1 * (x 0).val = _; omega, by show 0 + 1 * (x 1).val = _; omega⟩

theorem rep_smV (h : LeafVal I n L) {X : FVec Ideal S8x128 .f32} {a : ℕ → ℕ → ℝ} (ha : Rep X a) :
    Rep (t := .f32) (smV (F := Ideal) L X) fun r c => a r c + smInc I n r c := by
  intro y
  have e0 : ∀ (X : FVec Ideal S1x64 .f32) (x : S1x64.Idx), shapeCast S1x64 X shapeCasts_S1x64_S1x64 x = X x := fun X x => by
    idx_vars x
    pointwise
  have e2 : ∀ (X : FVec Ideal S1x128 .f32) (x : S1x128.Idx), shapeCast S1x128 X shapeCasts_S1x128_S1x128 x = X x := fun X x => by
    idx_vars x
    pointwise
  have v0 : ∀ (g : FVec Ideal S1x64 .f32) (x : S1x64.Idx), L.dqgAll g x = g x + ((∑ j : Fin 4, ∑ g : Fin 4, ∑ i : Fin 128,
      I.dqh n j g i (x 1).val * I.qn (128 * n + i) j g (x 1).val : ℝ) : EReal) := fun g x => by
    show shapeCast S1x64 g _ x + (((L.dqg 0 x + L.dqg 1 x) + L.dqg 2 x) + L.dqg 3 x : EReal) = _
    rw [e0, h.dqg 0 x, h.dqg 1 x, h.dqg 2 x, h.dqg 3 x, Fin.sum_univ_four, EReal.coe_add, EReal.coe_add, EReal.coe_add]
  have v1 : ∀ (g : FVec Ideal S1x64 .f32) (x : S1x64.Idx), L.dkgAll g x = g x + ((∑ j : Fin 4, ∑ k : Fin 256,
      I.dkh n j k (x 1).val * I.kn (tok n k) j (x 1).val : ℝ) : EReal) := fun g x => by
    show shapeCast S1x64 g _ x + (((L.dkg 0 x + L.dkg 1 x) + L.dkg 2 x) + L.dkg 3 x : EReal) = _
    rw [e0, h.dkg 0 x, h.dkg 1 x, h.dkg 2 x, h.dkg 3 x, Fin.sum_univ_four, EReal.coe_add, EReal.coe_add, EReal.coe_add]
  have v2 : ∀ (g : FVec Ideal S1x128 .f32) (x : S1x128.Idx), L.dsAll g x = g x + ((∑ j : Fin 4, ∑ g : Fin 4,
      if (x 1).val = 4 * j.val + g.val then ∑ i : Fin 128, -(I.ps n j g i * I.dl n j g i) else 0 : ℝ) : EReal) := fun g x => by
    show shapeCast S1x128 g _ x + (((L.dsinkRow 0 x + L.dsinkRow 1 x) + L.dsinkRow 2 x) + L.dsinkRow 3 x : EReal) = _
    rw [e2, h.dsinkRow 0 x, h.dsinkRow 1 x, h.dsinkRow 2 x, h.dsinkRow 3 x, Fin.sum_univ_four (f := fun j : Fin 4 => _),
      EReal.coe_add, EReal.coe_add, EReal.coe_add]
  unfold smV smPieces
  simp only [List.cons_append, List.nil_append]
  by_cases h2 : y ∈ rM2.set
  · obtain ⟨x, hx⟩ := exists_emb rM2 h2
    have hv := (canon_head rM2 (L.dsAll (View.ld (Val := Elt Ideal) (e' := .f32) X rM2))
      [⟨rM 1, L.dkgAll (View.ld (Val := Elt Ideal) (e' := .f32) X (rM 1))⟩, ⟨rM 0, L.dqgAll (View.ld (Val := Elt Ideal) (e' := .f32) X (rM 0))⟩, ⟨fullM, X⟩] x).trans (v2 _ x)
    rw [hx] at hv
    refine hv.trans ?_
    have h3 : View.ld (Val := Elt Ideal) (e' := .f32) X rM2 x = X y := congrArg X hx
    have h4 := rM2_emb x
    rw [hx] at h4
    rw [h3, ha, h4.1, h4.2, ← EReal.coe_add]
    rfl
  refine (canon_skip rM2 _ _ h2).trans ?_
  by_cases h1 : y ∈ (rM 1).set
  · obtain ⟨x, hx⟩ := exists_emb (rM 1) h1
    have hv := (canon_head (rM 1) (L.dkgAll (View.ld (Val := Elt Ideal) (e' := .f32) X (rM 1))) [⟨rM 0, L.dqgAll (View.ld (Val := Elt Ideal) (e' := .f32) X (rM 0))⟩, ⟨fullM, X⟩] x).trans
      (v1 _ x)
    rw [hx] at hv
    refine hv.trans ?_
    have h3 : View.ld (Val := Elt Ideal) (e' := .f32) X (rM 1) x = X y := congrArg X hx
    have h4 := rM_emb 1 x
    rw [hx] at h4
    have hc : (y 1).val < 64 := h4.2 ▸ (x 1).isLt
    have h5 : (y 0).val = 1 := h4.1
    rw [h3, ha, ← h4.2, ← EReal.coe_add]
    unfold smInc
    rw [if_neg (by omega), if_pos h5, if_pos hc]
  refine (canon_skip (rM 1) _ _ h1).trans ?_
  by_cases h0 : y ∈ (rM 0).set
  · obtain ⟨x, hx⟩ := exists_emb (rM 0) h0
    have hv := (canon_head (rM 0) (L.dqgAll (View.ld (Val := Elt Ideal) (e' := .f32) X (rM 0))) [⟨fullM, X⟩] x).trans (v0 _ x)
    rw [hx] at hv
    refine hv.trans ?_
    have h3 : View.ld (Val := Elt Ideal) (e' := .f32) X (rM 0) x = X y := congrArg X hx
    have h4 := rM_emb 0 x
    rw [hx] at h4
    have hc : (y 1).val < 64 := h4.2 ▸ (x 1).isLt
    have h5 : (y 0).val = 0 := h4.1
    rw [h3, ha, ← h4.2, ← EReal.coe_add]
    unfold smInc
    rw [if_pos h5, if_pos hc]
  refine (canon_skip (rM 0) _ _ h0).trans ((canon_fullM (F := Ideal) X y).trans ?_)
  have hy1 : (y 1).val < 128 := (y 1).isLt
  have m2 : (y 0).val ≠ 2 := fun hy => h2 (Rect.mem_set_unit.mpr fun a => by
    fin_cases a
    · show 2 ≤ (y 0).val ∧ (y 0).val < 2 + 1; omega
    · show 0 ≤ (y 1).val ∧ (y 1).val < 0 + 128; omega)
  have m01 : ∀ b : Fin 2, y ∉ (rM b).set → (y 0).val = b.val → ¬(y 1).val < 64 := fun b hb hy hlt => hb (Rect.mem_set_unit.mpr fun a => by
    fin_cases a
    · show b.val ≤ (y 0).val ∧ (y 0).val < b.val + 1; omega
    · show 0 ≤ (y 1).val ∧ (y 1).val < 0 + 64; omega)
  have hz : smInc I n (y 0).val (y 1).val = 0 := by
    unfold smInc
    by_cases c0 : (y 0).val = 0
    · rw [if_pos c0, if_neg (m01 0 h0 c0)]
    by_cases c1 : (y 0).val = 1
    · rw [if_neg c0, if_pos c1, if_neg (m01 1 h1 c1)]
    rw [if_neg c0, if_neg c1, if_neg m2]
  rw [ha, hz, add_zero]

end Blocks

end Cert.KernelIdeal.Swa
-- ==== Proof.KArr.lean ====
module

public import proofs.«01_k».proof.Proof.KVal
public import proofs.«01_k».proof.Proof.Dats
public import Idealize.ShloMosaic.Lib.Pipeline.ValueKit

@[expose] public section

set_option maxRecDepth 16384

noncomputable section

namespace Cert.KernelIdeal.Swa

open Cert.KernelIdeal Cert.KernelIdeal.Gen Cert.Swa
open Idealize.ShloMosaic Idealize.ShloMosaic.TcCoe Idealize.ShloMosaic.Tactic Idealize.SL.Sem
open Idealize.ShloMosaic.Pipeline (Dat Cfg Window)

/-- The arguments are real and are the model's. -/
structure ArgVal (I : In) (x0 : FVec Ideal S4096x9728 .f32) (x1 x2 : FVec Ideal S1x64 .f32) (x3 : FVec Ideal S1x16 .f32)
    (x4 : FVec Ideal S4096x1024 .f32) : Prop where
  P : Rep x0 I.P
  qg : Rep x1 fun _ => I.qg
  kg : Rep x2 fun _ => I.kg
  sk : Rep x3 fun _ => I.sk
  D : Rep x4 I.D

variable (m : (ℓ : Loc nD τ sig) → Buf (Elt Ideal) ℓ) (c : Dev nD) {I : In}

theorem index_facts : ∀ t : Fin cfg0.N, grid0.coords t 0 = t.val ∧
    (cfg0.win 0).index t 0 = min t.val 31 ∧ (cfg0.win 0).index t 1 = 4 ∧
    (cfg0.win 1).index t 0 = min t.val 31 - 1 ∧ (cfg0.win 1).index t 1 = 20 ∧
    (cfg0.win 2).index t 0 = min t.val 31 ∧ (cfg0.win 2).index t 1 = 20 ∧
    (cfg0.win 3).index t 0 = min t.val 31 - 1 ∧ (cfg0.win 3).index t 1 = 21 ∧
    (cfg0.win 4).index t 0 = min t.val 31 ∧ (cfg0.win 4).index t 1 = 21 ∧
    (cfg0.win 8).index t 0 = min t.val 31 ∧ (cfg0.win 8).index t 1 = 0 ∧
    (cfg0.win 9).index t 0 = min t.val 31 ∧ (cfg0.win 9).index t 1 = 0 ∧
    (cfg0.win 10).index t 0 = t.val - 1 ∧ (cfg0.win 10).index t 1 = 0 := by decide +kernel

/-- The launch memory holds the model's arguments. -/
abbrev MemVal (I : In) : Prop :=
  ArgVal I (m ((c : Thread nD τ).loc main_arg0)) (m ((c : Thread nD τ).loc main_arg1))
    (m ((c : Thread nD τ).loc main_arg2)) (m ((c : Thread nD τ).loc main_arg3)) (m ((c : Thread nD τ).loc main_arg4))

theorem rep_X0 (h : MemVal m c I) (t : Fin cfg0.N) (ht : t.val < 32) :
    Rep (a := 128) (b := 1024) (t := .f32) (X0_0 m c t) fun i e => I.P (128 * t.val + i) (4096 + e) := by
  intro (y : S128x1024.Idx)
  obtain ⟨-, h1, h2, -⟩ := index_facts t
  unfold X0_0 Pipeline.Window.fill
  rw [dif_pos (moved0_0 t y)]
  show m ((c : Thread nD τ).loc main_arg0) (((cfg0.win 0).blk t).view.emb _) = _
  rw [h.P]
  blk_simp [h1, h2]
  rw [show min t.val 31 * 128 = 128 * t.val by omega]

theorem rep_iblk1 (h : MemVal m c I) (t : Fin cfg0.N) (ht : t.val < 32) :
    Rep (a := 128) (b := 256) (t := .f32) (iblk m c 1 t) fun i e => I.P (128 * (t.val - 1) + i) (5120 + e) := by
  intro (y : S128x256.Idx)
  obtain ⟨-, -, -, h1, h2, -⟩ := index_facts t
  show m ((c : Thread nD τ).loc main_arg0) (((cfg0.win 1).blk t).view.emb y) = _
  rw [h.P]
  blk_simp [h1, h2]
  rw [show (min t.val 31 - 1) * 128 = 128 * (t.val - 1) by omega]

theorem rep_iblk2 (h : MemVal m c I) (t : Fin cfg0.N) (ht : t.val < 32) :
    Rep (a := 128) (b := 256) (t := .f32) (iblk m c 2 t) fun i e => I.P (128 * t.val + i) (5120 + e) := by
  intro (y : S128x256.Idx)
  obtain ⟨-, -, -, -, -, h1, h2, -⟩ := index_facts t
  show m ((c : Thread nD τ).loc main_arg0) (((cfg0.win 2).blk t).view.emb y) = _
  rw [h.P]
  blk_simp [h1, h2]
  rw [show min t.val 31 * 128 = 128 * t.val by omega]

theorem rep_iblk3 (h : MemVal m c I) (t : Fin cfg0.N) (ht : t.val < 32) :
    Rep (a := 128) (b := 256) (t := .f32) (iblk m c 3 t) fun i e => I.P (128 * (t.val - 1) + i) (5376 + e) := by
  intro (y : S128x256.Idx)
  obtain ⟨-, -, -, -, -, -, -, h1, h2, -⟩ := index_facts t
  show m ((c : Thread nD τ).loc main_arg0) (((cfg0.win 3).blk t).view.emb y) = _
  rw [h.P]
  blk_simp [h1, h2]
  rw [show (min t.val 31 - 1) * 128 = 128 * (t.val - 1) by omega]

theorem rep_iblk4 (h : MemVal m c I) (t : Fin cfg0.N) (ht : t.val < 32) :
    Rep (a := 128) (b := 256) (t := .f32) (iblk m c 4 t) fun i e => I.P (128 * t.val + i) (5376 + e) := by
  intro (y : S128x256.Idx)
  obtain ⟨-, -, -, -, -, -, -, -, -, h1, h2, -⟩ := index_facts t
  show m ((c : Thread nD τ).loc main_arg0) (((cfg0.win 4).blk t).view.emb y) = _
  rw [h.P]
  blk_simp [h1, h2]
  rw [show min t.val 31 * 128 = 128 * t.val by omega]

theorem rep_iblk8 (h : MemVal m c I) (t : Fin cfg0.N) (ht : t.val < 32) :
    Rep (a := 128) (b := 1024) (t := .f32) (iblk m c 8 t) fun i e => I.D (128 * t.val + i) e := by
  intro (y : S128x1024.Idx)
  obtain ⟨-, -, -, -, -, -, -, -, -, -, -, h1, h2, -⟩ := index_facts t
  show m ((c : Thread nD τ).loc main_arg4) (((cfg0.win 8).blk t).view.emb y) = _
  rw [h.D]
  blk_simp [h1, h2]
  rw [show min t.val 31 * 128 = 128 * t.val by omega]

theorem index_one : ∀ t : Fin cfg0.N, (cfg0.win 5).index t 1 = 0 ∧ (cfg0.win 6).index t 1 = 0 ∧ (cfg0.win 7).index t 1 = 0 := by
  decide +kernel

theorem rep_iblk5 (h : MemVal m c I) (t : Fin cfg0.N) :
    Rep (a := 1) (b := 64) (t := .f32) (iblk m c 5 t) fun _ e => I.qg e := by
  intro (y : S1x64.Idx)
  show m ((c : Thread nD τ).loc main_arg1) (((cfg0.win 5).blk t).view.emb y) = _
  rw [h.qg]
  have h1 : win0_5.index t 1 = 0 := (index_one t).1
  blk_simp
  rw [h1, Nat.zero_mul, Nat.zero_add]

theorem rep_iblk6 (h : MemVal m c I) (t : Fin cfg0.N) :
    Rep (a := 1) (b := 64) (t := .f32) (iblk m c 6 t) fun _ e => I.kg e := by
  intro (y : S1x64.Idx)
  show m ((c : Thread nD τ).loc main_arg2) (((cfg0.win 6).blk t).view.emb y) = _
  rw [h.kg]
  have h1 : win0_6.index t 1 = 0 := (index_one t).2.1
  blk_simp
  rw [h1, Nat.zero_mul, Nat.zero_add]

theorem rep_iblk7 (h : MemVal m c I) (t : Fin cfg0.N) :
    Rep (a := 1) (b := 16) (t := .f32) (iblk m c 7 t) fun _ e => I.sk e := by
  intro (y : S1x16.Idx)
  show m ((c : Thread nD τ).loc main_arg3) (((cfg0.win 7).blk t).view.emb y) = _
  rw [h.sk]
  have h1 : win0_7.index t 1 = 0 := (index_one t).2.2
  blk_simp
  rw [h1, Nat.zero_mul, Nat.zero_add]

theorem leafVal (h : MemVal m c I) (t : Fin cfg0.N) (ht : t.val < 32) : LeafVal I t.val (leafAt m c t) where
  q j g := fun x => by
    refine (rep_X0 m c h t ht ((rQ (hd j g)).emb x)).trans ?_
    have e0 : ((rQ (hd j g)).emb x 0).val = (x 0).val := (Nat.zero_add _).trans (Nat.one_mul _)
    have e1 : ((rQ (hd j g)).emb x 1).val = 64 * (4 * j.val + g.val) + (x 1).val :=
      congrArg (64 * (4 * j.val + g.val) + ·) (Nat.one_mul _)
    beta_reduce
    rw [e0, e1, show 4096 + (64 * (4 * j.val + g.val) + (x 1).val) = 4096 + 256 * j.val + 64 * g.val + (x 1).val by omega]
    rfl
  d j g := fun x => by
    refine (rep_iblk8 m c h t ht ((rQ (hd j g)).emb x)).trans ?_
    have e0 : ((rQ (hd j g)).emb x 0).val = (x 0).val := (Nat.zero_add _).trans (Nat.one_mul _)
    have e1 : ((rQ (hd j g)).emb x 1).val = 64 * (4 * j.val + g.val) + (x 1).val :=
      congrArg (64 * (4 * j.val + g.val) + ·) (Nat.one_mul _)
    beta_reduce
    rw [e0, e1, show 64 * (4 * j.val + g.val) + (x 1).val = 256 * j.val + 64 * g.val + (x 1).val by omega]
    rfl
  kp j := fun x => by
    refine (rep_iblk1 m c h t ht ((rK j).emb x)).trans ?_
    beta_reduce
    rw [(rK_emb j x).1, (rK_emb j x).2, ← Nat.add_assoc]
    rfl
  kc j := fun x => by
    refine (rep_iblk2 m c h t ht ((rK j).emb x)).trans ?_
    beta_reduce
    rw [(rK_emb j x).1, (rK_emb j x).2, ← Nat.add_assoc]
    rfl
  vp j := fun x => by
    refine (rep_iblk3 m c h t ht ((rK j).emb x)).trans ?_
    beta_reduce
    rw [(rK_emb j x).1, (rK_emb j x).2, ← Nat.add_assoc]
    rfl
  vc j := fun x => by
    refine (rep_iblk4 m c h t ht ((rK j).emb x)).trans ?_
    beta_reduce
    rw [(rK_emb j x).1, (rK_emb j x).2, ← Nat.add_assoc]
    rfl
  qg := fun x => by
    refine (rep_iblk5 m c h t (rG.emb x)).trans ?_
    rw [show (rG.emb x 1).val = (x 1).val from (Nat.zero_add _).trans (Nat.one_mul _)]
  kg := fun x => by
    refine (rep_iblk6 m c h t (rG.emb x)).trans ?_
    rw [show (rG.emb x 1).val = (x 1).val from (Nat.zero_add _).trans (Nat.one_mul _)]
  s j g := fun x => by
    refine (rep_iblk7 m c h t ((rS (hd j g)).emb x)).trans ?_
    have hx : (x 1).val = 0 := by
      have : (x 1).val < 1 := (x 1).isLt
      omega
    rw [show ((rS (hd j g)).emb x 1).val = 4 * j.val + g.val + 1 * (x 1).val from rfl, hx]
    rfl
  mask := fun i => by
    have e : leafAt m c t = leavesOf (BitVec.ofNat 32 t.val) (X0_0 m c t) (iblk m c 1 t) (iblk m c 2 t) (iblk m c 3 t)
        (iblk m c 4 t) (iblk m c 5 t) (iblk m c 6 t) (iblk m c 7 t) (iblk m c 8 t) := by
      unfold leafAt
      rw [(index_facts t).1]
    rw [e]
    exact mask_iff t.val (by omega) i

/-! ## What is held after each point -/

/-- The small gradients after the points up to `n`. -/
def smSum (I : In) (n r c : ℕ) : ℝ := ∑ k ∈ Finset.range (n + 1), smInc I k r c

structure HeldVal (I : In) (n : ℕ) (p : Held Ideal) : Prop where
  dq : Rep (t := .bf16) p.dq fun i c => I.gq (128 * n + i) c
  dkv : 0 < n → Rep (t := .bf16) p.dkv fun i c =>
    if c < 256 then I.gk (128 * (n - 1) + i) c else I.gv (128 * (n - 1) + i) (c - 256)
  sm : Rep (t := .f32) p.sm (smSum I n)
  ck : Rep (t := .f32) p.ck (ckM I n)
  cv : Rep (t := .f32) p.cv (cvM I n)

theorem dqV_val {n : ℕ} {L : Leaves Ideal} (h : LeafVal I n L) : Rep (t := .bf16) (dqV L) fun i c => I.gq (128 * n + i) c := by
  intro y
  have hy : (y 0).val < 128 := (y 0).isLt
  rw [rep_dqV h y]
  simp only [In.gq]
  rw [show (128 * n + (y 0).val) / 128 = n by omega, show (128 * n + (y 0).val) % 128 = (y 0).val by omega]

theorem dkvV_val {n : ℕ} {L : Leaves Ideal} (h : LeafVal I (n + 1) L) (hn : n + 1 < 32) {ck cv : FVec Ideal S128x256 .f32}
    (ha : Rep ck (ckM I n)) (hb : Rep cv (cvM I n)) : Rep (t := .bf16) (dkvV (F := Ideal) L ck cv) fun i c =>
      if c < 256 then I.gk (128 * n + i) c else I.gv (128 * n + i) (c - 256) := by
  intro y
  have hy : (y 0).val < 128 := (y 0).isLt
  rw [rep_dkvV h ha hb y]
  simp only [In.gk, In.gv, ckM, cvM, In.dvT]
  rw [show (128 * n + (y 0).val) / 128 = n by omega, show (128 * n + (y 0).val) % 128 = (y 0).val by omega,
    Nat.add_sub_cancel, if_pos (show n < 31 by omega), ← back_add]
  have e : I.dkT n ((y 1).val / 64) (y 0).val = fun e => I.dkh n ((y 1).val / 64) (128 + (y 0).val) e
      + I.dkh (n + 1) ((y 1).val / 64) (y 0).val e := funext fun e => by
    unfold In.dkT
    rw [if_pos (show n < 31 by omega)]
  rw [e]

theorem tailV_val {ck cv : FVec Ideal S128x256 .f32} (ha : Rep ck (ckM I 31)) (hb : Rep cv (cvM I 31)) :
    Rep (t := .bf16) (tailV (F := Ideal) ck cv) fun i c =>
      if c < 256 then I.gk (128 * 31 + i) c else I.gv (128 * 31 + i) (c - 256) := by
  intro y
  have hy : (y 0).val < 128 := (y 0).isLt
  rw [rep_tailV ha hb y]
  simp only [In.gk, In.gv, ckM, cvM, In.dvT]
  rw [show (128 * 31 + (y 0).val) / 128 = 31 by omega, show (128 * 31 + (y 0).val) % 128 = (y 0).val by omega,
    if_neg (show ¬31 < 31 by omega), add_zero]
  have e : I.dkT 31 ((y 1).val / 64) (y 0).val = fun e => I.dkh 31 ((y 1).val / 64) (128 + (y 0).val) e := funext fun e => by
    unfold In.dkT
    rw [if_neg (show ¬31 < 31 by omega), add_zero]
  rw [e]

theorem stepVal_zero {L : Leaves Ideal} (hL : LeafVal I 0 L) (p : Vec Ideal S128x1024 .bf16) (q : Vec Ideal S128x512 .bf16) :
    HeldVal I 0 ((Held.init p q).step L) := by
  have h3 : Rep (t := .f32) (k0_pay3 (F := Ideal)) fun _ _ => 0 := fun i => by
    show Ideal.ofBits .f32 0x00000000#32 = _
    rw [Ideal.ofBits_zero_f32]; rfl
  refine ⟨dqV_val hL, fun h0 => absurd h0 (lt_irrefl 0), ?_, rep_ckV hL, rep_cvV hL⟩
  intro y
  refine (rep_smV hL h3 y).trans ?_
  unfold smSum
  rw [Finset.sum_range_one]
  beta_reduce
  rw [zero_add]

theorem stepVal {n : ℕ} {L : Leaves Ideal} (hL : LeafVal I (n + 1) L) (hn : n + 1 < 32) {p : Held Ideal} (ih : HeldVal I n p) :
    HeldVal I (n + 1) (p.step L) := by
  refine ⟨dqV_val hL, fun _ => dkvV_val hL hn ih.ck ih.cv, ?_, rep_ckV hL, rep_cvV hL⟩
  intro y
  refine (rep_smV hL ih.sm y).trans ?_
  unfold smSum
  rw [Finset.sum_range_succ _ (n + 1)]

theorem heldVal (h : MemVal m c I) : ∀ (n : ℕ) (hn : n < cfg0.N), n < 32 → HeldVal I n (heldAt m c n hn)
  | 0, hn, _ => stepVal_zero (leafVal m c h ⟨0, hn⟩ (Nat.zero_lt_succ _)) _ _
  | n + 1, hn, h32 => by
    have ih := heldVal h n (Nat.lt_of_succ_lt hn) (Nat.lt_of_succ_lt h32)
    have hs := stepVal (leafVal m c h ⟨n + 1, hn⟩ h32) h32 ih
    have e : heldAt m c (n + 1) hn = (heldAt m c n (Nat.lt_of_succ_lt hn)).step (leafAt m c ⟨n + 1, hn⟩) := if_pos h32
    rw [e]
    exact hs

/-! ## The result arrays -/

theorem closeVal_dq {p : Held Ideal} (hv : HeldVal I 31 p) :
    Rep (t := .bf16) p.close.dq (fun i c => I.gq (128 * 31 + i) c) := hv.dq

theorem closeVal_sm {p : Held Ideal} (hv : HeldVal I 31 p) :
    Rep (t := .f32) p.close.sm (smSum I 31) := hv.sm

theorem closeVal_dkv {p : Held Ideal} (hv : HeldVal I 31 p) :
    Rep (t := .bf16) p.close.dkv (fun i c =>
      if c < 256 then I.gk (128 * 31 + i) c else I.gv (128 * 31 + i) (c - 256)) := by
  rw [show p.close.dkv = tailV (F := Ideal) p.ck p.cv from rfl]
  exact tailV_val hv.ck hv.cv

theorem closeVal {p : Held Ideal} (hv : HeldVal I 31 p) :
    Rep (t := .bf16) p.close.dq (fun i c => I.gq (128 * 31 + i) c) ∧
    Rep (t := .bf16) p.close.dkv (fun i c =>
      if c < 256 then I.gk (128 * 31 + i) c else I.gv (128 * 31 + i) (c - 256)) ∧
    Rep (t := .f32) p.close.sm (smSum I 31) :=
  ⟨closeVal_dq hv, closeVal_dkv hv, closeVal_sm hv⟩

theorem beforeVal (h : MemVal m c I) (t : Fin cfg0.N) (ht : t.val - 1 < 32) (k : ℕ) (hk : t.val - 1 = k) :
    HeldVal I k (heldBefore m c t) := by
  subst hk
  exact heldVal m c h (t.val - 1) (Nat.lt_of_le_of_lt (Nat.sub_le _ _) t.isLt) ht

theorem heldVal_last (h : MemVal m c I) (t : Fin cfg0.N) (ht : ¬t.val < 32) :
    Rep (t := .bf16) (heldAt m c t.val t.isLt).dq (fun i c => I.gq (128 * 31 + i) c) ∧
    Rep (t := .bf16) (heldAt m c t.val t.isLt).dkv (fun i c =>
      if c < 256 then I.gk (128 * 31 + i) c else I.gv (128 * 31 + i) (c - 256)) ∧
    Rep (t := .f32) (heldAt m c t.val t.isLt).sm (smSum I 31) := by
  have hN : t.val < 33 := t.isLt
  rw [heldAt_C m c t (by omega) ht]
  exact closeVal (beforeVal m c h t (by omega) 31 (by omega))

theorem flush_facts : ∀ t : Fin cfg0.N, (cfg0.win 10).flush t = true → 0 < t.val := by decide +kernel

theorem arr9 (h : MemVal m c I) : Rep (a := 4096) (b := 1024) (t := .bf16) ((dats m 0 c).arrAt 9 (cfgs 0).N) I.gq := by
  have : (dats m 0 c).arrAt 9 (cfgs 0).N = fun i : S4096x1024.Idx => ((I.gq (i 0).val (i 1).val : ℝ) : EReal) := by
    refine (dats m 0 c).arrAt_eq_of_covers 9 _ (by decide +kernel) fun t hf y => ?_
    obtain ⟨-, -, -, -, -, -, -, -, -, -, -, -, -, h1, h2, -⟩ := index_facts t
    blk_simp
    rw [after_9]
    rw [show win0_9.index t 0 = min t.val 31 from h1, show win0_9.index t 1 = 0 from h2, Nat.zero_mul, Nat.zero_add]
    by_cases ht : t.val < 32
    · have e := (heldVal m c h t.val t.isLt ht).dq y
      rw [show min t.val 31 * 128 = 128 * t.val by omega]
      exact e
    · have e := (heldVal_last m c h t ht).1 y
      rw [show min t.val 31 * 128 = 128 * 31 by omega]
      exact e
  intro i
  exact congrFun this i

theorem arr10 (h : MemVal m c I) : Rep (a := 4096) (b := 512) (t := .bf16) ((dats m 0 c).arrAt 10 (cfgs 0).N) fun r c =>
    if c < 256 then I.gk r c else I.gv r (c - 256) := by
  have : (dats m 0 c).arrAt 10 (cfgs 0).N = fun i : S4096x512.Idx =>
      (((fun r c => if c < 256 then I.gk r c else I.gv r (c - 256)) (i 0).val (i 1).val : ℝ) : EReal) := by
    refine (dats m 0 c).arrAt_eq_of_covers 10 _ (by decide +kernel) fun t hf y => ?_
    obtain ⟨-, -, -, -, -, -, -, -, -, -, -, -, -, -, -, h1, h2⟩ := index_facts t
    have h0 := flush_facts t hf
    blk_simp
    rw [after_10]
    rw [show win0_10.index t 0 = t.val - 1 from h1, show win0_10.index t 1 = 0 from h2, Nat.zero_mul, Nat.zero_add]
    by_cases ht : t.val < 32
    · have e := (heldVal m c h t.val t.isLt ht).dkv h0 y
      rw [show (t.val - 1) * 128 = 128 * (t.val - 1) by omega]
      exact e
    · have e := (heldVal_last m c h t ht).2.1 y
      have hN : t.val < 33 := t.isLt
      rw [show (t.val - 1) * 128 = 128 * 31 by omega]
      exact e
  intro i
  exact congrFun this i

theorem flush_last : ∀ t : Fin cfg0.N, (cfg0.win 11).flush t = true → ¬t.val < 32 := by decide +kernel
theorem index_last : ∀ t : Fin cfg0.N, (cfg0.win 11).index t 0 = 0 ∧ (cfg0.win 11).index t 1 = 0 := by decide +kernel

theorem arr11 (h : MemVal m c I) : Rep (a := 8) (b := 128) (t := .f32) ((dats m 0 c).arrAt 11 (cfgs 0).N) (smSum I 31) := by
  have : (dats m 0 c).arrAt 11 (cfgs 0).N = fun i : S8x128.Idx => ((smSum I 31 (i 0).val (i 1).val : ℝ) : EReal) := by
    refine (dats m 0 c).arrAt_eq_of_covers 11 _ (by decide +kernel) fun t hf y => ?_
    obtain ⟨h1, h2⟩ := index_last t
    have h0 := flush_last t hf
    blk_simp
    rw [after_11]
    rw [show win0_11.index t 0 = 0 from h1, show win0_11.index t 1 = 0 from h2]
    have e := (heldVal_last m c h t h0).2.2 y
    simp only [Nat.zero_mul, Nat.zero_add]
    exact e
  intro i
  exact congrFun this i

end Cert.KernelIdeal.Swa
-- ==== Proof.Small.lean ====
module

public import proofs.«01_k».proof.Proof.KArr

@[expose] public section

set_option maxRecDepth 16384

noncomputable section

namespace Cert.Swa

open Cert.KernelIdeal.Swa (smSum smInc)

/-- The rows of the small result: the two gains' gradients and the sinks'. -/
def small (I : In) (r c : ℕ) : ℝ :=
  if r = 0 then if c < 64 then I.gqg c else 0
  else if r = 1 then if c < 64 then I.gkg c else 0
  else if r = 2 then if c < 16 then I.gs (c / 4) (c % 4) else 0
  else 0

variable (I : In)

theorem dkh_zero (j c e : ℕ) (h : c < 128) : I.dkh 0 j c e = 0 := by
  unfold In.dkh
  rw [Finset.sum_eq_zero fun g _ => Finset.sum_eq_zero fun i _ => ?_, zero_mul]
  rw [I.ds_unseen _ _ _ _ _ (In.not_see_zero _ _ h), zero_mul]

theorem sum_half (f : ℕ → ℝ) : ∑ k : Fin 256, f k = (∑ i : Fin 128, f i) + ∑ i : Fin 128, f (128 + i.val) := by
  rw [Fin.sum_univ_add (a := 128) (b := 128) (fun k : Fin (128 + 128) => f k)]
  rfl

/-- What block `n` gives the keys' gain: from the block before, and from its own keys. -/
def keyA (n e : ℕ) : ℝ := ∑ j : Fin 4, ∑ i : Fin 128, I.dkh n j i e * I.kn (128 * (n - 1) + i) j e
def keyB (n e : ℕ) : ℝ := ∑ j : Fin 4, ∑ i : Fin 128, I.dkh n j (128 + i) e * I.kn (128 * n + i) j e

theorem key_inc (n e : ℕ) : ∑ j : Fin 4, ∑ k : Fin 256, I.dkh n j k e * I.kn (tok n k) j e = keyA I n e + keyB I n e := by
  unfold keyA keyB
  rw [← Finset.sum_add_distrib]
  refine Finset.sum_congr rfl fun j _ => ?_
  rw [sum_half fun k => I.dkh n j k e * I.kn (tok n k) j e]
  refine congrArg₂ (· + ·) (Finset.sum_congr rfl fun i _ => ?_) (Finset.sum_congr rfl fun i _ => ?_)
  · unfold tok
    rw [if_pos i.isLt]
  · unfold tok
    rw [if_neg (by omega), Nat.add_sub_cancel_left]

theorem keyA_zero (e : ℕ) : keyA I 0 e = 0 :=
  Finset.sum_eq_zero fun j _ => Finset.sum_eq_zero fun i _ => by rw [dkh_zero I _ _ _ i.isLt, zero_mul]

theorem gkg_eq (e : ℕ) : I.gkg e = ∑ n ∈ Finset.range 32, (keyB I n e + if n < 31 then keyA I (n + 1) e else 0) := by
  unfold In.gkg
  rw [Finset.sum_range]
  refine Finset.sum_congr rfl fun n _ => ?_
  unfold In.dkT keyB keyA
  by_cases h : n.val < 31
  · simp only [if_pos h, Nat.add_sub_cancel]
    rw [← Finset.sum_add_distrib]
    refine Finset.sum_congr rfl fun j _ => ?_
    rw [← Finset.sum_add_distrib]
    exact Finset.sum_congr rfl fun i _ => by ring
  · simp only [if_neg h, add_zero]

theorem key_sum (e : ℕ) : ∑ n ∈ Finset.range 32, (keyA I n e + keyB I n e) = I.gkg e := by
  rw [gkg_eq, Finset.sum_add_distrib, Finset.sum_add_distrib, add_comm]
  congr 1
  rw [Finset.sum_range_succ' _ 31, keyA_zero, add_zero, Finset.sum_range_succ _ 31, if_neg (lt_irrefl 31), add_zero]
  exact Finset.sum_congr rfl fun n hn => (if_pos (Finset.mem_range.mp hn)).symm

theorem pick (F : ℕ → ℕ → ℝ) (c : ℕ) : (∑ j : Fin 4, ∑ g : Fin 4, if c = 4 * j.val + g.val then F j g else 0)
    = if c < 16 then F (c / 4) (c % 4) else 0 := by
  by_cases h : c < 16
  · rw [if_pos h, Finset.sum_eq_single (⟨c / 4, by omega⟩ : Fin 4), Finset.sum_eq_single (⟨c % 4, by omega⟩ : Fin 4)]
    · exact if_pos (by simp only; omega)
    · intro g _ hg
      refine if_neg fun e => hg (Fin.ext ?_)
      simp only at e ⊢
      omega
    · exact fun h => absurd (Finset.mem_univ _) h
    · intro j _ hj
      refine Finset.sum_eq_zero fun g _ => if_neg fun e => hj (Fin.ext ?_)
      simp only at e ⊢
      omega
    · exact fun h => absurd (Finset.mem_univ _) h
  · rw [if_neg h]
    exact Finset.sum_eq_zero fun j _ => Finset.sum_eq_zero fun g _ => if_neg (by omega)

/-- What the blocks add up to. -/
theorem smSum_eq (r c : ℕ) : smSum I 31 r c = small I r c := by
  unfold smSum small smInc
  by_cases h0 : r = 0
  · simp only [if_pos h0]
    by_cases hc : c < 64
    · simp only [if_pos hc]
      rw [Finset.sum_range]
      rfl
    · simp only [if_neg hc, Finset.sum_const_zero]
  simp only [if_neg h0]
  by_cases h1 : r = 1
  · simp only [if_pos h1]
    by_cases hc : c < 64
    · simp only [if_pos hc, key_inc]
      exact key_sum I c
    · simp only [if_neg hc, Finset.sum_const_zero]
  simp only [if_neg h1]
  by_cases h2 : r = 2
  · simp only [if_pos h2]
    rw [Finset.sum_congr rfl fun n _ => pick (fun j g => ∑ i : Fin 128, -(I.ps n j g i * I.dl n j g i)) c]
    by_cases hc : c < 16
    · simp only [if_pos hc]
      rw [Finset.sum_range]
      rfl
    · simp only [if_neg hc, Finset.sum_const_zero]
  · simp only [if_neg h2, Finset.sum_const_zero]

end Cert.Swa
-- ==== Proof.ROut.lean ====
module

public import proofs.«01_k».proof.Proof.RGrad
public import proofs.«01_k».proof.Proof.Small
public import proofs.«01_k».proof.Proof.Gen.ReferenceIdeal.Read

@[expose] public section

set_option maxRecDepth 16384

noncomputable section

namespace Cert.ReferenceIdeal.Swa

open Cert.ReferenceIdeal Cert.ReferenceIdeal.Gen Cert.ReferenceIdeal.Read Cert.Swa
open Cert.KernelIdeal.Swa (band_eq late_eq notFirst_eq Rep coe_sum coe_div rsqrt_pos real_top exp_shift)
open Idealize.ShloMosaic Idealize.ShloMosaic.TcCoe Idealize.ShloMosaic.Tactic

variable {I : In}
variable {x0 : FVec Ideal ⟨2, ![4096, 9728]⟩ .f32} {x1 x2 : FVec Ideal ⟨2, ![1, 64]⟩ .f32}
  {x3 : FVec Ideal ⟨2, ![1, 16]⟩ .f32} {x4 : FVec Ideal ⟨2, ![4096, 1024]⟩ .f32}

/-! ## Through the norms -/

/-- The derivative of a row from that of its norm times the gain, the way the reference adds it up. -/
theorem back_eq (dy x g : ℕ → ℝ) (e : ℕ) :
    dy e * g e * rin x + x e * ((∑ e' : Fin 64, x e' * (dy e' * g e')) * (-(1 / 2) * (rin x / msq x)) / 64)
      + (∑ e' : Fin 64, x e' * (dy e' * g e')) * (-(1 / 2) * (rin x / msq x)) / 64 * x e = back dy x g e := by
  have hm := msq_pos x
  have hr : rin x / msq x = rin x * rin x * rin x := by
    unfold rin
    have h := Real.mul_self_sqrt hm.le
    have h0 : Real.sqrt (msq x) ≠ 0 := (Real.sqrt_pos.mpr hm).ne'
    rw [div_eq_mul_inv, ← h]
    rw [Real.sqrt_mul_self (Real.sqrt_nonneg _)]
    field_simp
  have hs : ∑ e' : Fin 64, dy e' * g e' * (x e' * rin x) = (∑ e' : Fin 64, x e' * (dy e' * g e')) * rin x := by
    rw [Finset.sum_mul]
    exact Finset.sum_congr rfl fun _ _ => by ring
  unfold back
  rw [hs, hr]
  ring

theorem r202 (h1 : Rep x1 fun _ => I.qg) : ∀ i, val_main_v202 (F := Ideal) x1 i = ((I.qg (i 4).val : ℝ) : EReal) := by
  intro i
  idx_vars i
  pointwise [val_main_v202, val_main_v22, h1 _]

theorem r203 (h0 : Rep x0 I.P) (h1 : Rep x1 fun _ => I.qg) (h2 : Rep x2 fun _ => I.kg) (h3 : Rep x3 fun _ => I.sk) (h4 : Rep x4 I.D) :
    ∀ i, val_main_v203 (F := Ideal) x0 x1 x2 x3 x4 i
      = ((I.dqh ((i 1).val / 128) (i 2).val (i 3).val ((i 1).val % 128) (i 4).val * I.qg (i 4).val : ℝ) : EReal) := by
  intro i
  rw [val_main_v203_apply, r202 h1 _, r175 h0 h1 h2 h3 h4 _]
  exact (EReal.coe_mul _ _).symm

theorem r213 (h0 : Rep x0 I.P) (h1 : Rep x1 fun _ => I.qg) (h2 : Rep x2 fun _ => I.kg) (h3 : Rep x3 fun _ => I.sk) (h4 : Rep x4 I.D) :
    ∀ i, val_main_v213 (F := Ideal) x0 x1 x2 x3 x4 i
      = (((∑ e' : Fin 64, I.Q (i 1).val (i 2).val (i 3).val e'
        * (I.dqh ((i 1).val / 128) (i 2).val (i 3).val ((i 1).val % 128) e' * I.qg e'))
        * (-(1 / 2) * (rin (I.Q (i 1).val (i 2).val (i 3).val) / msq (I.Q (i 1).val (i 2).val (i 3).val))) / 64 : ℝ) : EReal) := by
  intro i
  idx_vars i
  pointwise [val_main_v213, val_main_v212, val_main_cst_43, val_main_v211, val_main_v208, val_main_v207, val_main_cst_42,
    val_main_v206, r7 h0 _, r203 h0 h1 h2 h3 h4 _, r19 h0 _]
  simp only [← EReal.coe_mul, coe_sum]
  rw [c64_eq, coe_div _ (by norm_num)]

theorem r214 (h0 : Rep x0 I.P) (h1 : Rep x1 fun _ => I.qg) (h2 : Rep x2 fun _ => I.kg) (h3 : Rep x3 fun _ => I.sk) (h4 : Rep x4 I.D) (i : S4096x4x4.Idx) :
    val_main_v214 (F := Ideal) x0 x1 x2 x3 x4 i = val_main_v213 (F := Ideal) x0 x1 x2 x3 x4 (ix5 0 (i 0) (i 1) (i 2) 0) := by
  unfold val_main_v214
  rw [hostSum _ _ reducesTo_S1x4096x4x4x1_S4096x4x4_d0_4 _ _ zero_word (fun _ : Unit => ix5 0 (i 0) (i 1) (i 2) 0) (inj_unit _)]
  · rw [Finset.univ_unique, Finset.sum_singleton]
  · intro k
    constructor
    · intro e
      refine ⟨(), ?_⟩
      funext a; apply Fin.ext
      match a with
      | ⟨0, _⟩ => have : (k 0).val < 1 := (k 0).isLt; show 0 = (k 0).val; omega
      | ⟨1, _⟩ => exact (congrArg Fin.val (congrFun e 0)).symm
      | ⟨2, _⟩ => exact (congrArg Fin.val (congrFun e 1)).symm
      | ⟨3, _⟩ => exact (congrArg Fin.val (congrFun e 2)).symm
      | ⟨4, _⟩ => have : (k 4).val < 1 := (k 4).isLt; show 0 = (k 4).val; omega
    · rintro ⟨_, rfl⟩
      funext b
      apply Fin.ext
      match b with
      | ⟨0, _⟩ => rfl
      | ⟨1, _⟩ => rfl
      | ⟨2, _⟩ => rfl

/-- The gradient of the queries. -/
theorem r233 (h0 : Rep x0 I.P) (h1 : Rep x1 fun _ => I.qg) (h2 : Rep x2 fun _ => I.kg) (h3 : Rep x3 fun _ => I.sk) (h4 : Rep x4 I.D) :
    ∀ i, val_main_v233 (F := Ideal) x0 x1 x2 x3 x4 i = ((I.gq (i 0).val (i 1).val : ℝ) : EReal) := by
  intro i
  idx_vars i
  pointwise [val_main_v233, val_main_v232, val_main_v222, val_main_v220, val_main_v219, val_main_v218, val_main_v217, val_main_v216,
    val_main_v215, val_main_v210, val_main_v209, r214 h0 h1 h2 h3 h4 _, r213 h0 h1 h2 h3 h4 _, r203 h0 h1 h2 h3 h4 _, r7 h0 _, r16 h0 _]
  simp only [← EReal.coe_mul, ← EReal.coe_add]
  congr 1
  exact back_eq (I.dqh (i0.val / 128) (i1.val / 256) (i1.val / 64 % 4) (i0.val % 128))
    (I.Q i0 (i1.val / 256) (i1.val / 64 % 4)) I.qg (i1.val % 64)

theorem r181 (h0 : Rep x0 I.P) (h1 : Rep x1 fun _ => I.qg) (h2 : Rep x2 fun _ => I.kg) (h3 : Rep x3 fun _ => I.sk) (h4 : Rep x4 I.D) :
    ∀ i, val_main_v181 (F := Ideal) x0 x1 x2 x3 x4 i
      = ((I.dkT ((i 1).val / 128) (i 2).val ((i 1).val % 128) (i 3).val * I.kg (i 3).val : ℝ) : EReal) := by
  intro i
  idx_vars i
  pointwise [val_main_v181, val_main_v180, val_main_v38, h2 _, r174 h0 h1 h2 h3 h4 _]
  rw [← EReal.coe_mul]

theorem r191 (h0 : Rep x0 I.P) (h1 : Rep x1 fun _ => I.qg) (h2 : Rep x2 fun _ => I.kg) (h3 : Rep x3 fun _ => I.sk) (h4 : Rep x4 I.D) :
    ∀ i, val_main_v191 (F := Ideal) x0 x1 x2 x3 x4 i
      = (((∑ e' : Fin 64, I.K (i 1).val (i 2).val e'
        * (I.dkT ((i 1).val / 128) (i 2).val ((i 1).val % 128) e' * I.kg e'))
        * (-(1 / 2) * (rin (I.K (i 1).val (i 2).val) / msq (I.K (i 1).val (i 2).val))) / 64 : ℝ) : EReal) := by
  intro i
  idx_vars i
  pointwise [val_main_v191, val_main_v190, val_main_cst_38, val_main_v189, val_main_v186, val_main_v185, val_main_cst_37,
    val_main_v184, r8 h0 _, r181 h0 h1 h2 h3 h4 _, r35 h0 _]
  simp only [← EReal.coe_mul, coe_sum]
  rw [c64_eq, coe_div _ (by norm_num)]

theorem r192 (h0 : Rep x0 I.P) (h1 : Rep x1 fun _ => I.qg) (h2 : Rep x2 fun _ => I.kg) (h3 : Rep x3 fun _ => I.sk) (h4 : Rep x4 I.D) (i : S4096x4.Idx) :
    val_main_v192 (F := Ideal) x0 x1 x2 x3 x4 i = val_main_v191 (F := Ideal) x0 x1 x2 x3 x4 (ix4 0 (i 0) (i 1) 0) := by
  unfold val_main_v192
  rw [hostSum _ _ reducesTo_S1x4096x4x1_S4096x4_d0_3 _ _ zero_word (fun _ : Unit => ix4 0 (i 0) (i 1) 0) (inj_unit _)]
  · rw [Finset.univ_unique, Finset.sum_singleton]
  · intro k
    constructor
    · intro e
      refine ⟨(), ?_⟩
      funext a; apply Fin.ext
      match a with
      | ⟨0, _⟩ => have : (k 0).val < 1 := (k 0).isLt; show 0 = (k 0).val; omega
      | ⟨1, _⟩ => exact (congrArg Fin.val (congrFun e 0)).symm
      | ⟨2, _⟩ => exact (congrArg Fin.val (congrFun e 1)).symm
      | ⟨3, _⟩ => have : (k 3).val < 1 := (k 3).isLt; show 0 = (k 3).val; omega
    · rintro ⟨_, rfl⟩
      funext b
      apply Fin.ext
      match b with
      | ⟨0, _⟩ => rfl
      | ⟨1, _⟩ => rfl

/-- The gradient of the keys. -/
theorem r223 (h0 : Rep x0 I.P) (h1 : Rep x1 fun _ => I.qg) (h2 : Rep x2 fun _ => I.kg) (h3 : Rep x3 fun _ => I.sk) (h4 : Rep x4 I.D) :
    ∀ i, val_main_v223 (F := Ideal) x0 x1 x2 x3 x4 i = ((I.gk (i 0).val (i 1).val : ℝ) : EReal) := by
  intro i
  idx_vars i
  pointwise [val_main_v223, val_main_v221, val_main_v198, val_main_v197, val_main_v196, val_main_v195, val_main_v194,
    val_main_v193, val_main_v188, val_main_v187, r192 h0 h1 h2 h3 h4 _, r191 h0 h1 h2 h3 h4 _, r181 h0 h1 h2 h3 h4 _, r8 h0 _, r32 h0 _]
  simp only [← EReal.coe_mul, ← EReal.coe_add]
  congr 1
  exact back_eq (I.dkT (i0.val / 128) (i1.val / 64) (i0.val % 128)) (I.K i0 (i1.val / 64)) I.kg (i1.val % 64)

/-- The gradients of keys and values, side by side. -/
theorem r234 (h0 : Rep x0 I.P) (h1 : Rep x1 fun _ => I.qg) (h2 : Rep x2 fun _ => I.kg) (h3 : Rep x3 fun _ => I.sk) (h4 : Rep x4 I.D) :
    ∀ i, val_main_v234 (F := Ideal) x0 x1 x2 x3 x4 i
      = (((if (i 1).val < 256 then I.gk (i 0).val (i 1).val else I.gv (i 0).val ((i 1).val - 256) : ℝ)) : EReal) := by
  intro i
  idx_vars i
  pointwise [val_main_v234, val_main_v225, r223 h0 h1 h2 h3 h4 _, r224 h0 h1 h2 h3 h4 _]
  by_cases h : i1.val < 256
  · rw [dif_pos h, if_pos h]
  · rw [dif_neg h, if_neg h]

/-! ## The small results -/

/-- A sum over the tokens, by block. -/
theorem sum_tokens (f : ℕ → ℝ) : ∑ t : Fin 4096, f t = ∑ n : Fin 32, ∑ i : Fin 128, f (128 * n.val + i.val) := by
  rw [← Fintype.sum_prod_type' (f := fun (n : Fin 32) (i : Fin 128) => f (128 * n.val + i.val)),
    ← (finProdFinEquiv (m := 32) (n := 128)).sum_comp]
  refine Finset.sum_congr rfl fun x _ => ?_
  obtain ⟨a, b⟩ := x
  show f (b.val + 128 * a.val) = f (128 * a.val + b.val)
  rw [Nat.add_comm]

theorem tok_div (n : ℕ) (i : Fin 128) : (128 * n + i.val) / 128 = n ∧ (128 * n + i.val) % 128 = i.val := by omega

theorem r200 (h0 : Rep x0 I.P) (h1 : Rep x1 fun _ => I.qg) (h2 : Rep x2 fun _ => I.kg) (h3 : Rep x3 fun _ => I.sk) (h4 : Rep x4 I.D) :
    ∀ i, val_main_v200 (F := Ideal) x0 x1 x2 x3 x4 i = ((I.gqg (i 1).val : ℝ) : EReal) := by
  intro i
  have hi0 : (i 0).val < 1 := (i 0).isLt
  unfold val_main_v200
  rw [hostSum _ _ reducesTo_S1x4096x4x4x64_S1x64_d1_2_3 _ _ zero_word
    (fun k : Fin 4096 × Fin 4 × Fin 4 => ix5 0 k.1 k.2.1 k.2.2 (i 1))
    (fun a b e => Prod.ext (congrFun e 1) (Prod.ext (congrFun e 2) (congrFun e 3)))]
  · have hv : ∀ k : Fin 4096 × Fin 4 × Fin 4, val_main_v199 (F := Ideal) x0 x1 x2 x3 x4 (ix5 0 k.1 k.2.1 k.2.2 (i 1))
        = ((I.qn k.1.val k.2.1.val k.2.2.val (i 1).val
          * I.dqh (k.1.val / 128) k.2.1.val k.2.2.val (k.1.val % 128) (i 1).val : ℝ) : EReal) := fun k => by
      rw [val_main_v199_apply, r21 h0 _, r175 h0 h1 h2 h3 h4 _]
      exact (EReal.coe_mul _ _).symm
    simp only [hv, Fintype.sum_prod_type, coe_sum]
    congr 1
    rw [sum_tokens (fun t => ∑ j : Fin 4, ∑ g : Fin 4, I.qn t j g (i 1).val * I.dqh (t / 128) j g (t % 128) (i 1).val)]
    unfold In.gqg
    refine Finset.sum_congr rfl fun n _ => ?_
    rw [Finset.sum_comm]
    refine Finset.sum_congr rfl fun j _ => ?_
    rw [Finset.sum_comm]
    refine Finset.sum_congr rfl fun g _ => Finset.sum_congr rfl fun k _ => ?_
    rw [(tok_div n k).1, (tok_div n k).2]
    ring
  · intro k
    constructor
    · intro e
      refine ⟨(k 1, k 2, k 3), ?_⟩
      funext a; apply Fin.ext
      match a with
      | ⟨0, _⟩ => have : (k 0).val < 1 := (k 0).isLt; show 0 = (k 0).val; omega
      | ⟨1, _⟩ => rfl
      | ⟨2, _⟩ => rfl
      | ⟨3, _⟩ => rfl
      | ⟨4, _⟩ => exact (congrArg Fin.val (congrFun e 1)).symm
    · rintro ⟨_, rfl⟩
      funext b
      apply Fin.ext
      match b with
      | ⟨0, _⟩ => show 0 = (i 0).val; omega
      | ⟨1, _⟩ => rfl

theorem r204 (h0 : Rep x0 I.P) (h1 : Rep x1 fun _ => I.qg) (h2 : Rep x2 fun _ => I.kg) (h3 : Rep x3 fun _ => I.sk) (h4 : Rep x4 I.D) :
    ∀ i, val_main_v204 (F := Ideal) x0 x1 x2 x3 x4 i = ((I.gqg (i 0).val : ℝ) : EReal) := by
  intro i
  unfold val_main_v204
  rw [hostSum _ _ reducesTo_S1x1x1x1x64_S64_d0_1_2_3 _ _ zero_word (fun _ : Unit => ix5 0 0 0 0 (i 0)) (inj_unit _)]
  · rw [Finset.univ_unique, Finset.sum_singleton]
    idx_vars i
    pointwise [val_main_v201, r200 h0 h1 h2 h3 h4 _]
  · intro k
    constructor
    · intro e
      refine ⟨(), ?_⟩
      funext a; apply Fin.ext
      match a with
      | ⟨0, _⟩ => have : (k 0).val < 1 := (k 0).isLt; show 0 = (k 0).val; omega
      | ⟨1, _⟩ => have : (k 1).val < 1 := (k 1).isLt; show 0 = (k 1).val; omega
      | ⟨2, _⟩ => have : (k 2).val < 1 := (k 2).isLt; show 0 = (k 2).val; omega
      | ⟨3, _⟩ => have : (k 3).val < 1 := (k 3).isLt; show 0 = (k 3).val; omega
      | ⟨4, _⟩ => exact (congrArg Fin.val (congrFun e 0)).symm
    · rintro ⟨_, rfl⟩
      funext b
      apply Fin.ext
      match b with
      | ⟨0, _⟩ => rfl

theorem r178 (h0 : Rep x0 I.P) (h1 : Rep x1 fun _ => I.qg) (h2 : Rep x2 fun _ => I.kg) (h3 : Rep x3 fun _ => I.sk) (h4 : Rep x4 I.D) :
    ∀ i, val_main_v178 (F := Ideal) x0 x1 x2 x3 x4 i = ((I.gkg (i 1).val : ℝ) : EReal) := by
  intro i
  have hi0 : (i 0).val < 1 := (i 0).isLt
  unfold val_main_v178
  rw [hostSum _ _ reducesTo_S1x4096x4x64_S1x64_d1_2 _ _ zero_word
    (fun k : Fin 4096 × Fin 4 => ix4 0 k.1 k.2 (i 1))
    (fun a b e => Prod.ext (congrFun e 1) (congrFun e 2))]
  · have hv : ∀ k : Fin 4096 × Fin 4, val_main_v177 (F := Ideal) x0 x1 x2 x3 x4 (ix4 0 k.1 k.2 (i 1))
        = ((I.kn k.1.val k.2.val (i 1).val
          * I.dkT (k.1.val / 128) k.2.val (k.1.val % 128) (i 1).val : ℝ) : EReal) := fun k => by
      rw [val_main_v177_apply, r37 h0 _, r174 h0 h1 h2 h3 h4 _]
      exact (EReal.coe_mul _ _).symm
    simp only [hv, Fintype.sum_prod_type, coe_sum]
    congr 1
    rw [sum_tokens (fun t => ∑ j : Fin 4, I.kn t j (i 1).val * I.dkT (t / 128) j (t % 128) (i 1).val)]
    unfold In.gkg
    refine Finset.sum_congr rfl fun n _ => ?_
    rw [Finset.sum_comm]
    refine Finset.sum_congr rfl fun j _ => Finset.sum_congr rfl fun k _ => ?_
    rw [(tok_div n k).1, (tok_div n k).2]
    ring
  · intro k
    constructor
    · intro e
      refine ⟨(k 1, k 2), ?_⟩
      funext a; apply Fin.ext
      match a with
      | ⟨0, _⟩ => have : (k 0).val < 1 := (k 0).isLt; show 0 = (k 0).val; omega
      | ⟨1, _⟩ => rfl
      | ⟨2, _⟩ => rfl
      | ⟨3, _⟩ => exact (congrArg Fin.val (congrFun e 1)).symm
    · rintro ⟨_, rfl⟩
      funext b
      apply Fin.ext
      match b with
      | ⟨0, _⟩ => show 0 = (i 0).val; omega
      | ⟨1, _⟩ => rfl

theorem r182 (h0 : Rep x0 I.P) (h1 : Rep x1 fun _ => I.qg) (h2 : Rep x2 fun _ => I.kg) (h3 : Rep x3 fun _ => I.sk) (h4 : Rep x4 I.D) :
    ∀ i, val_main_v182 (F := Ideal) x0 x1 x2 x3 x4 i = ((I.gkg (i 0).val : ℝ) : EReal) := by
  intro i
  unfold val_main_v182
  rw [hostSum _ _ reducesTo_S1x1x1x64_S64_d0_1_2 _ _ zero_word (fun _ : Unit => ix4 0 0 0 (i 0)) (inj_unit _)]
  · rw [Finset.univ_unique, Finset.sum_singleton]
    idx_vars i
    pointwise [val_main_v179, r178 h0 h1 h2 h3 h4 _]
  · intro k
    constructor
    · intro e
      refine ⟨(), ?_⟩
      funext a; apply Fin.ext
      match a with
      | ⟨0, _⟩ => have : (k 0).val < 1 := (k 0).isLt; show 0 = (k 0).val; omega
      | ⟨1, _⟩ => have : (k 1).val < 1 := (k 1).isLt; show 0 = (k 1).val; omega
      | ⟨2, _⟩ => have : (k 2).val < 1 := (k 2).isLt; show 0 = (k 2).val; omega
      | ⟨3, _⟩ => exact (congrArg Fin.val (congrFun e 0)).symm
    · rintro ⟨_, rfl⟩
      funext b
      apply Fin.ext
      match b with
      | ⟨0, _⟩ => rfl

theorem r148 (h0 : Rep x0 I.P) (h1 : Rep x1 fun _ => I.qg) (h2 : Rep x2 fun _ => I.kg) (h3 : Rep x3 fun _ => I.sk) (h4 : Rep x4 I.D) :
    ∀ i, val_main_v148 (F := Ideal) x0 x1 x2 x3 x4 i
      = ((-(I.ps (i 1).val (i 2).val (i 3).val (i 4).val * I.dl (i 1).val (i 2).val (i 3).val (i 4).val) : ℝ) : EReal) := by
  intro i
  idx_vars i
  pointwise [val_main_v148, r146 h0 h1 h2 h3 h4 _]
  congr 1
  have e1 : dpx I i1 i2 i3 i4 256 = 0 := if_neg (lt_irrefl 256)
  have e2 : wx I i1 i2 i3 i4 256 = I.ws i2 i3 := if_neg (lt_irrefl 256)
  rw [e1, e2]
  unfold In.ps
  ring

theorem r149 (h0 : Rep x0 I.P) (h1 : Rep x1 fun _ => I.qg) (h2 : Rep x2 fun _ => I.kg) (h3 : Rep x3 fun _ => I.sk) (h4 : Rep x4 I.D) :
    ∀ i, val_main_v149 (F := Ideal) x0 x1 x2 x3 x4 i = ((I.gs (i 0).val (i 1).val : ℝ) : EReal) := by
  intro i
  unfold val_main_v149
  rw [hostSum _ _ reducesTo_S1x32x4x4x128x1_S4x4_d0_1_4_5 _ _ zero_word
    (fun k : Fin 32 × Fin 128 => ix6 0 k.1 (i 0) (i 1) k.2 0)
    (fun a b e => Prod.ext (congrFun e 1) (congrFun e 4))]
  · have hv : ∀ k : Fin 32 × Fin 128, val_main_v148 (F := Ideal) x0 x1 x2 x3 x4 (ix6 0 k.1 (i 0) (i 1) k.2 0)
        = ((-(I.ps k.1.val (i 0).val (i 1).val k.2.val * I.dl k.1.val (i 0).val (i 1).val k.2.val) : ℝ) : EReal) := fun k =>
      r148 h0 h1 h2 h3 h4 _
    simp only [hv, Fintype.sum_prod_type, coe_sum]
    rfl
  · intro k
    constructor
    · intro e
      refine ⟨(k 1, k 4), ?_⟩
      funext a; apply Fin.ext
      match a with
      | ⟨0, _⟩ => have : (k 0).val < 1 := (k 0).isLt; show 0 = (k 0).val; omega
      | ⟨1, _⟩ => rfl
      | ⟨2, _⟩ => exact (congrArg Fin.val (congrFun e 0)).symm
      | ⟨3, _⟩ => exact (congrArg Fin.val (congrFun e 1)).symm
      | ⟨4, _⟩ => rfl
      | ⟨5, _⟩ => have : (k 5).val < 1 := (k 5).isLt; show 0 = (k 5).val; omega
    · rintro ⟨_, rfl⟩
      funext b
      apply Fin.ext
      match b with
      | ⟨0, _⟩ => rfl
      | ⟨1, _⟩ => rfl

theorem r151 (h0 : Rep x0 I.P) (h1 : Rep x1 fun _ => I.qg) (h2 : Rep x2 fun _ => I.kg) (h3 : Rep x3 fun _ => I.sk) (h4 : Rep x4 I.D) :
    ∀ i, val_main_v151 (F := Ideal) x0 x1 x2 x3 x4 i = ((I.gs (i 0).val (i 1).val : ℝ) : EReal) := by
  intro i
  unfold val_main_v151
  rw [hostSum _ _ reducesTo_S1x1x4x4x1x1_S4x4_d0_1_4_5 _ _ zero_word (fun _ : Unit => ix6 0 0 (i 0) (i 1) 0 0) (inj_unit _)]
  · rw [Finset.univ_unique, Finset.sum_singleton]
    idx_vars i
    pointwise [val_main_v150, r149 h0 h1 h2 h3 h4 _]
  · intro k
    constructor
    · intro e
      refine ⟨(), ?_⟩
      funext a; apply Fin.ext
      match a with
      | ⟨0, _⟩ => have : (k 0).val < 1 := (k 0).isLt; show 0 = (k 0).val; omega
      | ⟨1, _⟩ => have : (k 1).val < 1 := (k 1).isLt; show 0 = (k 1).val; omega
      | ⟨2, _⟩ => exact (congrArg Fin.val (congrFun e 0)).symm
      | ⟨3, _⟩ => exact (congrArg Fin.val (congrFun e 1)).symm
      | ⟨4, _⟩ => have : (k 4).val < 1 := (k 4).isLt; show 0 = (k 4).val; omega
      | ⟨5, _⟩ => have : (k 5).val < 1 := (k 5).isLt; show 0 = (k 5).val; omega
    · rintro ⟨_, rfl⟩
      funext b
      apply Fin.ext
      match b with
      | ⟨0, _⟩ => rfl
      | ⟨1, _⟩ => rfl

theorem zero_int : FloatOps.sitofp (F := Ideal) .f32 (0#32 : BitVec 32) = ((0 : ℝ) : EReal) := by
  show (((0#32 : BitVec 32).toInt : ℝ) : EReal) = _
  norm_num

theorem r231 (h0 : Rep x0 I.P) (h1 : Rep x1 fun _ => I.qg) (h2 : Rep x2 fun _ => I.kg) (h3 : Rep x3 fun _ => I.sk) (h4 : Rep x4 I.D) :
    ∀ i, val_main_v231 (F := Ideal) x0 x1 x2 x3 x4 i = ((small I (i 0).val (i 1).val : ℝ) : EReal) := by
  intro i
  idx_vars i
  pointwise [val_main_v231, val_main_v230, val_main_cst_48, val_main_v229, val_main_v228, val_main_v227, val_main_v226, val_main_v205,
    val_main_v183, val_main_v152, val_main_call2_v0, val_main_call3_v0, val_main_call4_v0, val_main_c_45, val_main_c_46,
    val_main_c_47, r204 h0 h1 h2 h3 h4 _, r182 h0 h1 h2 h3 h4 _, r151 h0 h1 h2 h3 h4 _]
  have hz : FloatOps.sitofp (F := Ideal) .f32 (0#32 : BitVec 32) = ((0 : ℝ) : EReal) := zero_int
  rw [hz]
  unfold small
  have h0 := i0.isLt
  by_cases h : i0.val = 0
  · rw [dif_pos (by omega), if_pos h]
    by_cases h' : i1.val < 64
    · rw [dif_pos ⟨by omega, h'⟩, if_pos h']
    · rw [dif_neg fun e => h' e.2, if_neg h']
  rw [dif_neg (by omega), if_neg h]
  by_cases h : i0.val = 1
  · rw [dif_pos (by omega), if_pos h]
    by_cases h' : i1.val < 64
    · rw [dif_pos ⟨by omega, h'⟩, if_pos h']
    · rw [dif_neg fun e => h' e.2, if_neg h']
  rw [dif_neg (by omega), if_neg h]
  by_cases h : i0.val = 2
  · rw [dif_pos (by omega), if_pos h]
    by_cases h' : i1.val < 16
    · rw [dif_pos ⟨by omega, h'⟩, if_pos h']
    · rw [dif_neg fun e => h' e.2, if_neg h']
  rw [dif_neg (by omega), if_neg h]
  rfl

end Cert.ReferenceIdeal.Swa
-- ==== Proof.Finite.lean ====
module

public import proofs.«01_k».proof.Pre_finite
public import proofs.«01_k».proof.Proof.KOps
public import Idealize.ShloMosaic.Lib.ReduceAll

@[expose] public section

set_option maxRecDepth 16384

noncomputable section

namespace Cert.Swa

open Idealize.ShloMosaic
open Cert.KernelIdeal.Swa (Rep)

/-- The side conditions the precondition's operations state. -/
instance finiteFacts : Cert.Pre_finite.Facts where
  bcast_S_S4096x9728 := by decide
  reducesTo_S4096x9728_S_d0_1 := by decide
  h_S_ := by decide
  bcast_S_S1x64 := by decide
  reducesTo_S1x64_S_d0_1 := by decide
  bcast_S_S1x16 := by decide
  reducesTo_S1x16_S_d0_1 := by decide
  bcast_S_S4096x1024 := by decide
  reducesTo_S4096x1024_S_d0_1 := by decide

/-- The index of row `r`, column `c`. -/
def at2 {a b : ℕ} (r c : ℕ) (h : r < a ∧ c < b) : (⟨2, ![a, b]⟩ : Shape).Idx := fun
  | ⟨0, _⟩ => ⟨r, h.1⟩
  | ⟨1, _⟩ => ⟨c, h.2⟩

/-- The entries of an array as real numbers, 0 beyond its edges. -/
def entries {a b : ℕ} {t : FTy} (x : FVec Ideal ⟨2, ![a, b]⟩ t) (r c : ℕ) : ℝ :=
  if h : r < a ∧ c < b then EReal.toReal (x (at2 r c h)) else 0

theorem rep_entries {a b : ℕ} {t : FTy} {x : FVec Ideal ⟨2, ![a, b]⟩ t} (h : ∀ i, x i ≠ ⊤ ∧ x i ≠ ⊥) : Rep x (entries x) := by
  intro i
  unfold entries
  have hi : (i 0).val < a ∧ (i 1).val < b := ⟨(i 0).isLt, (i 1).isLt⟩
  have e : at2 (i 0).val (i 1).val hi = i := funext fun
    | ⟨0, _⟩ => rfl
    | ⟨1, _⟩ => rfl
  rw [dif_pos hi, e]
  exact (EReal.coe_toReal (h i).1 (h i).2).symm

/-- An entry whose absolute value is below infinity is neither infinity. -/
theorem real_of_abs {y : EReal} (h : Ideal.cmp .olt (max y (-y)) (Ideal.ofBits .f32 0x7F800000#32) = 1#1) : y ≠ ⊤ ∧ y ≠ ⊥ := by
  have e : Ideal.ofBits .f32 0x7F800000#32 = ⊤ := by
    simp [Ideal.ofBits, Ideal.ieee]
  rw [e] at h
  have h' : max y (-y) < ⊤ := by
    by_contra n
    simp [Ideal.cmp, n] at h
  constructor
  · rintro rfl
    simp at h'
  · rintro rfl
    simp at h'

theorem all_real {s : Shape} {bc : (⟨0, ![]⟩ : Shape).BroadcastsInDim s (![] : Fin 0 → Fin s.rank)} {ax : List (Fin s.rank)}
    {hr : s.ReducesTo ax ⟨0, ![]⟩} {hu : 0 < (⟨0, ![]⟩ : Shape).numel} {x : FVec Ideal s .f32} {init : IVec ⟨0, ![]⟩ 1}
    {j : (⟨0, ![]⟩ : Shape).Idx}
    (h : Host.reduce IntOp.andi (cmpf .olt (Host.absf x) (broadcastInDim s ![] bc (constant ⟨0, ![]⟩ .f32 0x7F800000#32))) init hr hu j = 1#1) :
    ∀ i, x i ≠ ⊤ ∧ x i ≠ ⊥ := fun i => real_of_abs (Host.reduce_andi_all _ init hr hu j h i)

theorem and_one {a b : BitVec 1} (h : IntOp.andi a b = 1#1) : a = 1#1 ∧ b = 1#1 := by
  revert h
  revert a b
  decide

/-- What the precondition says: no entry of any argument is an infinity. -/
theorem finite_real {x0 : FVec Ideal ⟨2, ![4096, 9728]⟩ .f32} {x1 x2 : FVec Ideal ⟨2, ![1, 64]⟩ .f32}
    {x3 : FVec Ideal ⟨2, ![1, 16]⟩ .f32} {x4 : FVec Ideal ⟨2, ![4096, 1024]⟩ .f32}
    (h : Cert.Pre_finite.fn (F := Ideal) x0 x1 x2 x3 x4 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥)
      ∧ (∀ i, x3 i ≠ ⊤ ∧ x3 i ≠ ⊥) ∧ ∀ i, x4 i ≠ ⊤ ∧ x4 i ≠ ⊥ := by
  have h := congrFun h fun k => k.elim0
  dsimp only [Cert.Pre_finite.fn, Cert.Pre_finite.fn_part1] at h
  obtain ⟨h, h4⟩ := and_one h
  obtain ⟨h, h3⟩ := and_one h
  obtain ⟨h, h2⟩ := and_one h
  obtain ⟨h, h1⟩ := and_one h
  obtain ⟨-, h0⟩ := and_one h
  exact ⟨all_real h0, all_real h1, all_real h2, all_real h3, all_real h4⟩

end Cert.Swa
-- ==== Proof.Equal.lean ====
module

public import proofs.«01_k».proof.Proof.ROut
public import proofs.«01_k».proof.Proof.Finite
public import proofs.«01_k».proof.Proof.BodyOb
public import proofs.«01_k».proof.Defs

@[expose] public section

set_option maxRecDepth 16384

noncomputable section

namespace Cert.Proof

open Idealize.ShloMosaic Idealize.SL.Sem Cert.Swa
open Cert.KernelIdeal.Swa (Rep ArgVal MemVal)

theorem rep_ext {a b : ℕ} {t : FTy} {x y : FVec Ideal ⟨2, ![a, b]⟩ t} {f : ℕ → ℕ → ℝ} (hx : Rep x f) (hy : Rep y f) : x = y :=
  funext fun i => (hx i).trans (hy i).symm

/-- The arguments on a device, as arrays of reals. -/
def inOf (x0 : FVec Ideal ⟨2, ![4096, 9728]⟩ .f32) (x1 x2 : FVec Ideal ⟨2, ![1, 64]⟩ .f32)
    (x3 : FVec Ideal ⟨2, ![1, 16]⟩ .f32) (x4 : FVec Ideal ⟨2, ![4096, 1024]⟩ .f32) : In where
  P := entries x0
  qg := entries x1 0
  kg := entries x2 0
  sk := entries x3 0
  D := entries x4

theorem rep_row {b : ℕ} {x : FVec Ideal ⟨2, ![1, b]⟩ .f32} (h : ∀ i, x i ≠ ⊤ ∧ x i ≠ ⊥) : Rep x fun _ => entries x 0 := by
  intro i
  have := rep_entries h i
  rwa [show (i 0).val = 0 from Nat.lt_one_iff.mp (i 0).isLt] at this

theorem argVal {x0 : FVec Ideal ⟨2, ![4096, 9728]⟩ .f32} {x1 x2 : FVec Ideal ⟨2, ![1, 64]⟩ .f32}
    {x3 : FVec Ideal ⟨2, ![1, 16]⟩ .f32} {x4 : FVec Ideal ⟨2, ![4096, 1024]⟩ .f32}
    (h : Cert.Pre_finite.fn (F := Ideal) x0 x1 x2 x3 x4 = fun _ => 1#1) : ArgVal (inOf x0 x1 x2 x3 x4) x0 x1 x2 x3 x4 :=
  have h := finite_real h
  ⟨rep_entries h.1, rep_row h.2.1, rep_row h.2.2.1, rep_row h.2.2.2.1, rep_entries h.2.2.2.2⟩

/-- The idealized kernel and the reference, from the same real arguments, end with the same results. -/
theorem same : Cert.algebraic_KernelIdeal_ReferenceIdeal_pre_finite := by
  intro m g m' g' hp ha
  refine ⟨fun c => (Cert.KernelIdeal.Swa.dats m 0 c).arrAt 9 (Cert.KernelIdeal.cfgs 0).N,
    fun c => (Cert.KernelIdeal.Swa.dats m 0 c).arrAt 10 (Cert.KernelIdeal.cfgs 0).N,
    fun c => (Cert.KernelIdeal.Swa.dats m 0 c).arrAt 11 (Cert.KernelIdeal.cfgs 0).N, ?_, ?_⟩
  · refine (θ_run _ _ _).mono (fun r h c => ?_)
      (θ_run_and (Cert.KernelIdeal.Swa.run_main m g) (Cert.KernelIdeal.Swa.frame m g))
    exact ⟨(h.1 c).1 9, (h.1 c).1 10, (h.1 c).1 11, h.2.1 c⟩
  · refine (θ_run _ _ _).mono (fun r h c => ?_) (Cert.ReferenceIdeal.Value.run (F := Ideal) m' g')
    obtain ⟨I, hv⟩ : ∃ I, MemVal m c I := ⟨_, argVal (hp c)⟩
    obtain ⟨a0, a1, a2, a3, a4⟩ := ha c
    have b0 := hv.P; have b1 := hv.qg; have b2 := hv.kg; have b3 := hv.sk; have b4 := hv.D
    rw [← a0] at b0
    rw [← a1] at b1
    rw [← a2] at b2
    rw [← a3] at b3
    rw [← a4] at b4
    obtain ⟨e0, e1, e2, k⟩ := h c
    refine ⟨?_, ?_, ?_, k⟩
    · refine (e0.trans (Cert.ReferenceIdeal.Read.val_main_v233_eq (F := Ideal) _)).trans ?_
      exact rep_ext (Cert.ReferenceIdeal.Swa.r233 b0 b1 b2 b3 b4) (Cert.KernelIdeal.Swa.arr9 m c hv)
    · refine (e1.trans (Cert.ReferenceIdeal.Read.val_main_v234_eq (F := Ideal) _)).trans ?_
      exact (rep_ext (Cert.KernelIdeal.Swa.arr10 m c hv) (Cert.ReferenceIdeal.Swa.r234 b0 b1 b2 b3 b4)).symm
    · refine (e2.trans (Cert.ReferenceIdeal.Read.val_main_v231_eq (F := Ideal) _)).trans ?_
      refine rep_ext (t := .f32) (Cert.ReferenceIdeal.Swa.r231 b0 b1 b2 b3 b4) (f := small _) fun i => ?_
      rw [← smSum_eq]
      exact Cert.KernelIdeal.Swa.arr11 m c hv i

end Cert.Proof
-- ==== Proof.Act.lean ====
module

public import proofs.«01_k».proof.Defs
public import proofs.«01_k».proof.Proof.Gen.ActIdeal.Value
public import proofs.«01_k».proof.Proof.Gen.ActRefIdeal.Run
public import Idealize.ShloMosaic.Lib.Pointwise

/-! # The gradient through the squared positive part -/

@[expose] public section

set_option maxRecDepth 16384

noncomputable section

open Idealize.ShloMosaic Idealize.ShloMosaic.TcCoe Idealize.SL.Sem
open Idealize.ShloMosaic.Pipeline (Dat)

namespace Cert.ActIdeal.Whole

open Cert.ActIdeal Cert.ActIdeal.Gen

variable (m : (ℓ : Loc nD τ sig) → Buf (Elt Ideal) ℓ) (c : Dev nD)

/-- One block of the result at a row and a column: the product of a row of the first block and a row of the second,
    times twice the positive part. -/
theorem pay_apply (a b : Vec Ideal S1024x2048 .bf16) (u : Vec Ideal S1024x1024 .f32) (y : S1024x1024.Idx) :
    k0_pay1 a b u y = (∑ k : Fin 2048, (a (ix2 (y 0) k) : EReal) * b (ix2 (y 1) k)) * (Ideal.ofBits .f32 0x40000000#32 * max (u y) 0) := by
  unfold k0_pay1
  pointwise

/-- The whole result: the product of the rows, times twice the positive part. -/
def res (x : Vec Ideal S4096x2048 .bf16) (w : Vec Ideal S8192x2048 .bf16) (u : Vec Ideal S4096x8192 .f32) : Vec Ideal S4096x8192 .bf16 :=
  fun i => (∑ k : Fin 2048, (x (ix2 (i 0) k) : EReal) * w (ix2 (i 1) k)) * (Ideal.ofBits .f32 0x40000000#32 * max (u i) 0)

abbrev arr : Vec Ideal S4096x8192 .bf16 :=
  res (m ((c : Thread nD τ).loc main_arg0)) (m ((c : Thread nD τ).loc main_arg1)) (m ((c : Thread nD τ).loc main_arg2))

/-- Where each window stands at a point, seen from the result's block. -/
theorem idx_facts : ∀ t : Fin cfg0.N, win0_0.index t 0 = win0_3.index t 0 ∧ win0_0.index t 1 = 0
    ∧ win0_1.index t 0 = win0_3.index t 1 ∧ win0_1.index t 1 = 0
    ∧ win0_2.index t 0 = win0_3.index t 0 ∧ win0_2.index t 1 = win0_3.index t 1 :=
  (by decide +kernel : ∀ t : Fin grid0.N, _)

theorem idx_onto : ∀ (p : Fin 4) (q : Fin 8), ∃ t : Fin cfg0.N, win0_3.index t 0 = p.val ∧ win0_3.index t 1 = q.val :=
  (by decide +kernel : ∀ (p : Fin 4) (q : Fin 8), ∃ t : Fin grid0.N, _)

/-- What a point writes back is its block of the whole result. -/
theorem flushed_eq (t : Fin cfg0.N) : (dats m 0 c).flushed 3 t = ((cfg0.win 3).blk t).view.read (Elt Ideal) (arr m c) := by
  have hz : (![0, 0] : Fin 2 → Nat) = fun _ => 0 := funext fun a => by fin_cases a <;> rfl
  obtain ⟨e0, e1, e2, e3, e4, e5⟩ := idx_facts t
  rw [Value.flushed3]
  unfold out0_3
  rw [View.canon_unit_zero hz, View.ld_unit_zero hz, View.ld_unit_zero hz, View.ld_unit_zero hz]
  funext y
  show k0_pay1 (iblk m c 0 t) (iblk m c 1 t) (iblk m c 2 t) y = arr m c (((cfg0.win 3).blk t).view.emb y)
  rw [pay_apply]
  unfold arr res
  have hx : ∀ k : Fin 2048, iblk m c 0 t (ix2 (y 0) k) = m ((c : Thread nD τ).loc main_arg0) (ix2 (((cfg0.win 3).blk t).view.emb y 0) k) := fun k => by
    unfold iblk
    rw [View.read_apply]
    refine congrArg (m ((c : Thread nD τ).loc main_arg0)) (funext fun a => Fin.ext ?_)
    match a with
    | ⟨0, _⟩ => show win0_0.index t 0 * 1024 + 1 * (y 0).val = win0_3.index t 0 * 1024 + 1 * (y 0).val; rw [e0]
    | ⟨1, _⟩ => show win0_0.index t 1 * 2048 + 1 * k.val = k.val; rw [e1]; omega
  have hw : ∀ k : Fin 2048, iblk m c 1 t (ix2 (y 1) k) = m ((c : Thread nD τ).loc main_arg1) (ix2 (((cfg0.win 3).blk t).view.emb y 1) k) := fun k => by
    unfold iblk
    rw [View.read_apply]
    refine congrArg (m ((c : Thread nD τ).loc main_arg1)) (funext fun a => Fin.ext ?_)
    match a with
    | ⟨0, _⟩ => show win0_1.index t 0 * 1024 + 1 * (y 1).val = win0_3.index t 1 * 1024 + 1 * (y 1).val; rw [e2]
    | ⟨1, _⟩ => show win0_1.index t 1 * 2048 + 1 * k.val = k.val; rw [e3]; omega
  have hu : iblk m c 2 t y = m ((c : Thread nD τ).loc main_arg2) (((cfg0.win 3).blk t).view.emb y) := by
    unfold iblk
    rw [View.read_apply]
    refine congrArg (m ((c : Thread nD τ).loc main_arg2)) (funext fun a => Fin.ext ?_)
    match a with
    | ⟨0, _⟩ => show win0_2.index t 0 * 1024 + 1 * (y 0).val = win0_3.index t 0 * 1024 + 1 * (y 0).val; rw [e4]
    | ⟨1, _⟩ => show win0_2.index t 1 * 1024 + 1 * (y 1).val = win0_3.index t 1 * 1024 + 1 * (y 1).val; rw [e5]
  simp only [hx, hw, hu]

theorem cover (i : S4096x8192.Idx) : ∃ t : Fin cfg0.N, (cfg0.win 3).flush t = true ∧ i ∈ ((cfg0.win 3).blk t).view.set := by
  have h0 : (i 0).val < 4096 := (i 0).isLt
  have h1 : (i 1).val < 8192 := (i 1).isLt
  obtain ⟨t, q0, q1⟩ := idx_onto ⟨(i 0).val / 1024, by omega⟩ ⟨(i 1).val / 1024, by omega⟩
  refine ⟨t, flush0_3 t, ?_⟩
  show i ∈ ((View.whole main_v0).slice (win0_3.rect t)).set
  rw [View.set_slice_whole, Rect.mem_set_unit]
  intro a
  match a with
  | ⟨0, _⟩ => show win0_3.index t 0 * 1024 ≤ (i 0).val ∧ (i 0).val < win0_3.index t 0 * 1024 + 1024; rw [q0]; dsimp only; omega
  | ⟨1, _⟩ => show win0_3.index t 1 * 1024 ≤ (i 1).val ∧ (i 1).val < win0_3.index t 1 * 1024 + 1024; rw [q1]; dsimp only; omega

theorem final : (dats m 0 c).arrAt 3 cfg0.N = arr m c :=
  (dats m 0 c).arrAt_eq_of_cover 3 (arr m c) (fun t _ => flushed_eq m c t) cover

end Cert.ActIdeal.Whole

namespace Cert.Proof

/-- The kernel's gradient through the squared positive part is the reference's. -/
theorem same_act : Cert.algebraic_ActIdeal_ActRefIdeal := by
  intro m g m' g' _ ha
  refine ⟨fun c => Cert.ActIdeal.Whole.arr m c, ?_, ?_⟩
  · refine (θ_run _ _ _).mono (fun r h c => ?_) (Cert.ActIdeal.Value.run_blocks m g)
    exact ⟨(h c).1.trans (Cert.ActIdeal.Whole.final m c), (h c).2⟩
  · refine (θ_run _ _ _).mono (fun r h c => ?_) (Cert.ActRefIdeal.Value.run (F := Ideal) m' g')
    refine ⟨(h c).1.trans ?_, (h c).2⟩
    obtain ⟨a0, a1, a2⟩ := ha c
    rw [a0, a1, a2]
    funext i
    unfold Cert.ActIdeal.Whole.arr Cert.ActIdeal.Whole.res
    pointwise
    split_ifs with h0
    · rfl
    · rw [max_eq_right (not_lt.mp h0), mul_zero, mul_zero]

end Cert.Proof
end
-- ==== Proof.Hid.lean ====
module

public import proofs.«01_k».proof.Defs
public import proofs.«01_k».proof.Proof.Gen.HidIdeal.Value
public import proofs.«01_k».proof.Proof.Gen.HidRefIdeal.Run
public import Idealize.ShloMosaic.Lib.Pointwise
public import Idealize.ShloMosaic.Lib.Tactic

/-! # The gradient back through the hidden layer's weights: a product whose long axis is added up in four steps -/

@[expose] public section

set_option maxRecDepth 16384

noncomputable section

open Idealize.ShloMosaic Idealize.ShloMosaic.TcCoe Idealize.SL.Sem
open Idealize.ShloMosaic.Pipeline (Dat)

namespace Cert.HidIdeal.Whole

open Cert.HidIdeal Cert.HidIdeal.Gen Cert.HidIdeal.Value

variable (m : (ℓ : Loc nD τ sig) → Buf (Elt Ideal) ℓ) (c : Dev nD)

theorem hz : (![0, 0] : Fin 2 → Nat) = fun _ => 0 := funext fun a => by fin_cases a <;> rfl

section Cases

variable (i : grid0.Coords) (a3 : Memref sig .tc .vmem S1024x2048 .bf16) (h3 : a3.IsWhole) (a4 : Memref sig .tc .vmem S1024x2048 .bf16)
  (h4 : a4.IsWhole) (a5 : Memref sig .tc .vmem S1024x1024 .f32) (h5 : a5.IsWhole) (a6 : Memref sig .tc .vmem S1024x1024 .f32) (h6 : a6.IsWhole)
  (x w : Vec Ideal S1024x2048 .bf16) (s : Vec Ideal S1024x1024 .f32)

/-- The first step of a block leaves the product itself. -/
theorem first (k0 : cond0_0 i) (k1 : ¬cond0_1 i) (k2 : ¬cond0_2 i) :
    sout0_A_0 c i a3 h3 a4 h4 a5 h5 a6 h6 k0 k1 k2 x w = k0_pay1 x w := by
  unfold sout0_A_0
  rw [View.read_writes_eq_canon _ _ _ (scover0_A_0 c i a3 h3 a4 h4 a5 h5 a6 h6 k0 k1 k2 x w)]
  unfold kernelRun0_A
  dsimp only
  rw [View.canon_unit_zero hz]
  unfold k0_pay2
  simp only [View.readAt_eq_ld, h3.read_unread, h4.read_unread, View.ld_unit_zero (S := S1024x2048) hz, View.ld_unit_zero (S := S1024x1024) hz, shapeCast_self]

/-- A later step adds its product to what the step before left. -/
theorem step (k0 : ¬cond0_0 i) (k1 : cond0_1 i) (k2 : ¬cond0_2 i) :
    sout0_B_0 c i a3 h3 a4 h4 a5 h5 a6 h6 k0 k1 k2 x w s = addf s (k0_pay1 x w) := by
  unfold sout0_B_0
  rw [View.read_writes_eq_canon _ _ _ (scover0_B_0 c i a3 h3 a4 h4 a5 h5 a6 h6 k0 k1 k2 x w s)]
  unfold kernelRun0_B
  dsimp only
  rw [View.canon_unit_zero hz]
  unfold k0_pay3
  simp only [View.readAt_eq_ld, h3.read_unread, h4.read_unread, h6.read_unread, View.ld_unit_zero (S := S1024x2048) hz, View.ld_unit_zero (S := S1024x1024) hz, shapeCast_self]

/-- So does the last one … -/
theorem last (k0 : ¬cond0_0 i) (k1 : cond0_1 i) (k2 : cond0_2 i) :
    sout0_C_0 c i a3 h3 a4 h4 a5 h5 a6 h6 k0 k1 k2 x w s = addf s (k0_pay1 x w) := by
  unfold sout0_C_0
  rw [View.read_writes_eq_canon _ _ _ (scover0_C_0 c i a3 h3 a4 h4 a5 h5 a6 h6 k0 k1 k2 x w s)]
  unfold kernelRun0_C
  dsimp only
  sl_unfold_words
  rw [View.canon_unit_zero hz]
  unfold k0_pay3
  simp only [View.readAt_eq_ld, h3.read_unread, h4.read_unread, h6.read_unread, View.ld_unit_zero (S := S1024x2048) hz, View.ld_unit_zero (S := S1024x1024) hz, shapeCast_self]

/-- … which also writes it to the result's block. -/
theorem shown (k0 : ¬cond0_0 i) (k1 : cond0_1 i) (k2 : cond0_2 i) :
    out0_C_2 c i a3 h3 a4 h4 a5 h5 a6 h6 k0 k1 k2 x w s = addf s (k0_pay1 x w) := by
  unfold out0_C_2
  rw [View.read_writes_eq_canon _ _ _ (cover0_C_2 c i a3 h3 a4 h4 a5 h5 a6 h6 k0 k1 k2 x w s)]
  unfold kernelRun0_C
  dsimp only
  sl_unfold_words
  rw [View.canon_unit_zero hz, View.readCov_unit_zero (S := S1024x1024) _ hz]
  unfold k0_pay3
  simp only [View.readAt_eq_ld, h3.read_unread, h4.read_unread, h6.read_unread, View.ld_unit_zero (S := S1024x2048) hz, View.ld_unit_zero (S := S1024x1024) hz, shapeCast_self]

end Cases

/-- The product of one step's two blocks. -/
def part (n : Nat) (y : S1024x1024.Idx) : EReal := if h : n < cfg0.N then k0_pay1 (iblk m c 0 ⟨n, h⟩) (iblk m c 1 ⟨n, h⟩) y else 0

/-- What the last step of a block writes back: the four products added up. -/
theorem outs_last (t : Fin cfg0.N) (ht : t.val % 4 = 3) (y : S1024x1024.Idx) :
    (outsAt0 m c t.val t.isLt).1 y = ∑ s : Fin 4, part m c (4 * (t.val / 4) + s.val) y := by
  have e1 : (outsAt0 m c t.val t.isLt).1 = (outsAt0 m c t.val t.isLt).2 := by
    rw [outsAt0_C m c t (by omega) (by omega) ht]
    dsimp only
    rw [shown, last]
  have key : ∀ (n : Nat) (h : n < cfg0.N) (acc : S1024x1024.Idx → EReal) (i : S1024x1024.Idx), ¬n % 4 = 0 →
      scAt0_0 m c n h acc i = acc i + part m c n i := by
    intro n h acc i h0
    unfold scAt0_0 part
    rw [dif_neg h0, dif_pos (by omega : 1 ≤ n % 4), dif_pos h]
    by_cases h2 : n % 4 = 3
    · rw [dif_pos h2, last]; rfl
    · rw [dif_neg h2, step]; rfl
  rw [e1, soutsAt0_0_eq, Pipeline.accAt_add_apply _ (scAt0_0 m c) (fun _ => (0 : EReal)) (part m c) (4 * (t.val / 4)) 3 ?_ ?_ (t.val % 4) (by omega), ht,
    zero_add, Finset.sum_range]
  · intro h i
    unfold scAt0_0 part
    rw [dif_pos (by omega), dif_neg (by omega), dif_neg (by omega), first, dif_pos h, zero_add]
  · intro n h acc i hb he
    exact key n h acc i (by omega)

/-- One step's product at a row and a column. -/
theorem pay_apply (a b : Vec Ideal S1024x2048 .bf16) (y : S1024x1024.Idx) :
    k0_pay1 a b y = ∑ k : Fin 2048, (a (ix2 (y 0) k) : EReal) * b (ix2 (y 1) k) := by
  unfold k0_pay1
  pointwise

/-- The whole result: the product of the rows. -/
def res (x : Vec Ideal S4096x8192 .bf16) (w : Vec Ideal S2048x8192 .bf16) : Vec Ideal S4096x2048 .f32 :=
  fun i => ∑ k : Fin 8192, (x (ix2 (i 0) k) : EReal) * w (ix2 (i 1) k)

abbrev arr : Vec Ideal S4096x2048 .f32 := res (m ((c : Thread nD τ).loc main_arg0)) (m ((c : Thread nD τ).loc main_arg1))

/-- Where each window stands at a point, seen from the point that writes the block back. -/
theorem idx_facts : ∀ (t s : Fin cfg0.N), t.val / 4 = s.val / 4 → win0_0.index s 0 = win0_2.index t 0 ∧ win0_0.index s 1 = s.val % 4
    ∧ win0_1.index s 0 = win0_2.index t 1 ∧ win0_1.index s 1 = s.val % 4 :=
  (by decide +kernel : ∀ t s : Fin grid0.N, _)

/-- What the last point of a block writes back is its block of the whole result. -/
theorem flushed_eq (t : Fin cfg0.N) (hf : (cfg0.win 2).flush t = true) :
    (dats m 0 c).flushed 2 t = ((cfg0.win 2).blk t).view.read (Elt Ideal) (arr m c) := by
  have ht : t.val % 4 = 3 := (flush0_2 t).mp hf
  have hN : t.val < 32 := lt_of_lt_of_eq t.isLt N_0
  rw [flushed2]
  funext y
  show (outsAt0 m c t.val t.isLt).1 y = arr m c (((cfg0.win 2).blk t).view.emb y)
  rw [outs_last m c t ht]
  unfold arr res
  rw [Fin.sum_univ_tiles 4 2048 rfl]
  refine Finset.sum_congr rfl fun s _ => ?_
  have hs : 4 * (t.val / 4) + s.val < cfg0.N := lt_of_lt_of_eq (by have := s.isLt; omega) N_0.symm
  obtain ⟨e0, e1, e2, e3⟩ := idx_facts t ⟨_, hs⟩ (by have := s.isLt; dsimp only; omega)
  have e4 : (4 * (t.val / 4) + s.val) % 4 = s.val := by have := s.isLt; omega
  dsimp only at e1 e3
  rw [e4] at e1 e3
  unfold part
  rw [dif_pos hs, pay_apply]
  refine Finset.sum_congr rfl fun k _ => congrArg₂ (fun p q : EReal => p * q) ?_ ?_
  · unfold iblk
    rw [View.read_apply]
    refine congrArg (m ((c : Thread nD τ).loc main_arg0)) (funext fun a => Fin.ext ?_)
    match a with
    | ⟨0, _⟩ => show win0_0.index ⟨_, hs⟩ 0 * 1024 + 1 * (y 0).val = win0_2.index t 0 * 1024 + 1 * (y 0).val; rw [e0]
    | ⟨1, _⟩ => show win0_0.index ⟨_, hs⟩ 1 * 2048 + 1 * k.val = s.val * 2048 + k.val; rw [e1]; omega
  · unfold iblk
    rw [View.read_apply]
    refine congrArg (m ((c : Thread nD τ).loc main_arg1)) (funext fun a => Fin.ext ?_)
    match a with
    | ⟨0, _⟩ => show win0_1.index ⟨_, hs⟩ 0 * 1024 + 1 * (y 1).val = win0_2.index t 1 * 1024 + 1 * (y 1).val; rw [e2]
    | ⟨1, _⟩ => show win0_1.index ⟨_, hs⟩ 1 * 2048 + 1 * k.val = s.val * 2048 + k.val; rw [e3]; omega

theorem final : (dats m 0 c).arrAt 2 cfg0.N = arr m c :=
  (dats m 0 c).arrAt_eq_of_cover 2 (arr m c) (flushed_eq m c) fun i => (covered_iff2 i).2 (by
    have h0 : (i 0).val < 4096 := (i 0).isLt; have h1 : (i 1).val < 2048 := (i 1).isLt; omega)

end Cert.HidIdeal.Whole

namespace Cert.Proof

/-- The kernel's gradient back through the hidden layer's weights is the reference's. -/
theorem same_hid : Cert.algebraic_HidIdeal_HidRefIdeal := by
  intro m g m' g' _ ha
  refine ⟨fun c => Cert.HidIdeal.Whole.arr m c, ?_, ?_⟩
  · refine (θ_run _ _ _).mono (fun r h c => ?_) (Cert.HidIdeal.Value.run_blocks m g)
    exact ⟨(h c).1.trans (Cert.HidIdeal.Whole.final m c), (h c).2⟩
  · refine (θ_run _ _ _).mono (fun r h c => ?_) (Cert.HidRefIdeal.Value.run (F := Ideal) m' g')
    refine ⟨(h c).1.trans ?_, (h c).2⟩
    obtain ⟨a0, a1⟩ := ha c
    rw [a0, a1]
    funext i
    unfold Cert.HidIdeal.Whole.arr Cert.HidIdeal.Whole.res
    pointwise

end Cert.Proof
end
-- ==== Proof.Inp.lean ====
module

public import proofs.«01_k».proof.Defs
public import proofs.«01_k».proof.Proof.Gen.InpIdeal.Value
public import proofs.«01_k».proof.Proof.Gen.InpRefIdeal.Run
public import Idealize.ShloMosaic.Lib.Pointwise
public import Idealize.ShloMosaic.Lib.Tactic

/-! # The gradient back through the input projection: a product whose long axis is added up in four steps -/

@[expose] public section

set_option maxRecDepth 16384

noncomputable section

open Idealize.ShloMosaic Idealize.ShloMosaic.TcCoe Idealize.SL.Sem
open Idealize.ShloMosaic.Pipeline (Dat)

namespace Cert.InpIdeal.Whole

open Cert.InpIdeal Cert.InpIdeal.Gen Cert.InpIdeal.Value

variable (m : (ℓ : Loc nD τ sig) → Buf (Elt Ideal) ℓ) (c : Dev nD)

theorem hz : (![0, 0] : Fin 2 → Nat) = fun _ => 0 := funext fun a => by fin_cases a <;> rfl

section Cases

variable (i : grid0.Coords) (a3 : Memref sig .tc .vmem S1024x2432 .bf16) (h3 : a3.IsWhole) (a4 : Memref sig .tc .vmem S1024x2432 .bf16)
  (h4 : a4.IsWhole) (a5 : Memref sig .tc .vmem S1024x1024 .f32) (h5 : a5.IsWhole) (a6 : Memref sig .tc .vmem S1024x1024 .f32) (h6 : a6.IsWhole)
  (x w : Vec Ideal S1024x2432 .bf16) (s : Vec Ideal S1024x1024 .f32)

/-- The first step of a block leaves the product itself. -/
theorem first (k0 : cond0_0 i) (k1 : ¬cond0_1 i) (k2 : ¬cond0_2 i) :
    sout0_A_0 c i a3 h3 a4 h4 a5 h5 a6 h6 k0 k1 k2 x w = k0_pay1 x w := by
  unfold sout0_A_0
  rw [View.read_writes_eq_canon _ _ _ (scover0_A_0 c i a3 h3 a4 h4 a5 h5 a6 h6 k0 k1 k2 x w)]
  unfold kernelRun0_A
  dsimp only
  rw [View.canon_unit_zero hz]
  unfold k0_pay2
  simp only [View.readAt_eq_ld, h3.read_unread, h4.read_unread, View.ld_unit_zero (S := S1024x2432) hz, View.ld_unit_zero (S := S1024x1024) hz, shapeCast_self]

/-- A later step adds its product to what the step before left. -/
theorem step (k0 : ¬cond0_0 i) (k1 : cond0_1 i) (k2 : ¬cond0_2 i) :
    sout0_B_0 c i a3 h3 a4 h4 a5 h5 a6 h6 k0 k1 k2 x w s = addf s (k0_pay1 x w) := by
  unfold sout0_B_0
  rw [View.read_writes_eq_canon _ _ _ (scover0_B_0 c i a3 h3 a4 h4 a5 h5 a6 h6 k0 k1 k2 x w s)]
  unfold kernelRun0_B
  dsimp only
  rw [View.canon_unit_zero hz]
  unfold k0_pay3
  simp only [View.readAt_eq_ld, h3.read_unread, h4.read_unread, h6.read_unread, View.ld_unit_zero (S := S1024x2432) hz, View.ld_unit_zero (S := S1024x1024) hz, shapeCast_self]

/-- So does the last one … -/
theorem last (k0 : ¬cond0_0 i) (k1 : cond0_1 i) (k2 : cond0_2 i) :
    sout0_C_0 c i a3 h3 a4 h4 a5 h5 a6 h6 k0 k1 k2 x w s = addf s (k0_pay1 x w) := by
  unfold sout0_C_0
  rw [View.read_writes_eq_canon _ _ _ (scover0_C_0 c i a3 h3 a4 h4 a5 h5 a6 h6 k0 k1 k2 x w s)]
  unfold kernelRun0_C
  dsimp only
  sl_unfold_words
  rw [View.canon_unit_zero hz]
  unfold k0_pay3
  simp only [View.readAt_eq_ld, h3.read_unread, h4.read_unread, h6.read_unread, View.ld_unit_zero (S := S1024x2432) hz, View.ld_unit_zero (S := S1024x1024) hz, shapeCast_self]

/-- … which also writes it to the result's block. -/
theorem shown (k0 : ¬cond0_0 i) (k1 : cond0_1 i) (k2 : cond0_2 i) :
    out0_C_2 c i a3 h3 a4 h4 a5 h5 a6 h6 k0 k1 k2 x w s = addf s (k0_pay1 x w) := by
  unfold out0_C_2
  rw [View.read_writes_eq_canon _ _ _ (cover0_C_2 c i a3 h3 a4 h4 a5 h5 a6 h6 k0 k1 k2 x w s)]
  unfold kernelRun0_C
  dsimp only
  sl_unfold_words
  rw [View.canon_unit_zero hz, View.readCov_unit_zero (S := S1024x1024) _ hz]
  unfold k0_pay3
  simp only [View.readAt_eq_ld, h3.read_unread, h4.read_unread, h6.read_unread, View.ld_unit_zero (S := S1024x2432) hz, View.ld_unit_zero (S := S1024x1024) hz, shapeCast_self]

end Cases

/-- The product of one step's two blocks. -/
def part (n : Nat) (y : S1024x1024.Idx) : EReal := if h : n < cfg0.N then k0_pay1 (iblk m c 0 ⟨n, h⟩) (iblk m c 1 ⟨n, h⟩) y else 0

/-- What the last step of a block writes back: the four products added up. -/
theorem outs_last (t : Fin cfg0.N) (ht : t.val % 4 = 3) (y : S1024x1024.Idx) :
    (outsAt0 m c t.val t.isLt).1 y = ∑ s : Fin 4, part m c (4 * (t.val / 4) + s.val) y := by
  have e1 : (outsAt0 m c t.val t.isLt).1 = (outsAt0 m c t.val t.isLt).2 := by
    rw [outsAt0_C m c t (by omega) (by omega) ht]
    dsimp only
    rw [shown, last]
  have key : ∀ (n : Nat) (h : n < cfg0.N) (acc : S1024x1024.Idx → EReal) (i : S1024x1024.Idx), ¬n % 4 = 0 →
      scAt0_0 m c n h acc i = acc i + part m c n i := by
    intro n h acc i h0
    unfold scAt0_0 part
    rw [dif_neg h0, dif_pos (by omega : 1 ≤ n % 4), dif_pos h]
    by_cases h2 : n % 4 = 3
    · rw [dif_pos h2, last]; rfl
    · rw [dif_neg h2, step]; rfl
  rw [e1, soutsAt0_0_eq, Pipeline.accAt_add_apply _ (scAt0_0 m c) (fun _ => (0 : EReal)) (part m c) (4 * (t.val / 4)) 3 ?_ ?_ (t.val % 4) (by omega), ht,
    zero_add, Finset.sum_range]
  · intro h i
    unfold scAt0_0 part
    rw [dif_pos (by omega), dif_neg (by omega), dif_neg (by omega), first, dif_pos h, zero_add]
  · intro n h acc i hb he
    exact key n h acc i (by omega)

/-- One step's product at a row and a column. -/
theorem pay_apply (a b : Vec Ideal S1024x2432 .bf16) (y : S1024x1024.Idx) :
    k0_pay1 a b y = ∑ k : Fin 2432, (a (ix2 (y 0) k) : EReal) * b (ix2 (y 1) k) := by
  unfold k0_pay1
  pointwise

/-- The whole result: the product of the rows. -/
def res (x : Vec Ideal S4096x9728 .bf16) (w : Vec Ideal S2048x9728 .bf16) : Vec Ideal S4096x2048 .f32 :=
  fun i => ∑ k : Fin 9728, (x (ix2 (i 0) k) : EReal) * w (ix2 (i 1) k)

abbrev arr : Vec Ideal S4096x2048 .f32 := res (m ((c : Thread nD τ).loc main_arg0)) (m ((c : Thread nD τ).loc main_arg1))

/-- Where each window stands at a point, seen from the point that writes the block back. -/
theorem idx_facts : ∀ (t s : Fin cfg0.N), t.val / 4 = s.val / 4 → win0_0.index s 0 = win0_2.index t 0 ∧ win0_0.index s 1 = s.val % 4
    ∧ win0_1.index s 0 = win0_2.index t 1 ∧ win0_1.index s 1 = s.val % 4 :=
  (by decide +kernel : ∀ t s : Fin grid0.N, _)

/-- What the last point of a block writes back is its block of the whole result. -/
theorem flushed_eq (t : Fin cfg0.N) (hf : (cfg0.win 2).flush t = true) :
    (dats m 0 c).flushed 2 t = ((cfg0.win 2).blk t).view.read (Elt Ideal) (arr m c) := by
  have ht : t.val % 4 = 3 := (flush0_2 t).mp hf
  have hN : t.val < 32 := lt_of_lt_of_eq t.isLt N_0
  rw [flushed2]
  funext y
  show (outsAt0 m c t.val t.isLt).1 y = arr m c (((cfg0.win 2).blk t).view.emb y)
  rw [outs_last m c t ht]
  unfold arr res
  rw [Fin.sum_univ_tiles 4 2432 rfl]
  refine Finset.sum_congr rfl fun s _ => ?_
  have hs : 4 * (t.val / 4) + s.val < cfg0.N := lt_of_lt_of_eq (by have := s.isLt; omega) N_0.symm
  obtain ⟨e0, e1, e2, e3⟩ := idx_facts t ⟨_, hs⟩ (by have := s.isLt; dsimp only; omega)
  have e4 : (4 * (t.val / 4) + s.val) % 4 = s.val := by have := s.isLt; omega
  dsimp only at e1 e3
  rw [e4] at e1 e3
  unfold part
  rw [dif_pos hs, pay_apply]
  refine Finset.sum_congr rfl fun k _ => congrArg₂ (fun p q : EReal => p * q) ?_ ?_
  · unfold iblk
    rw [View.read_apply]
    refine congrArg (m ((c : Thread nD τ).loc main_arg0)) (funext fun a => Fin.ext ?_)
    match a with
    | ⟨0, _⟩ => show win0_0.index ⟨_, hs⟩ 0 * 1024 + 1 * (y 0).val = win0_2.index t 0 * 1024 + 1 * (y 0).val; rw [e0]
    | ⟨1, _⟩ => show win0_0.index ⟨_, hs⟩ 1 * 2432 + 1 * k.val = s.val * 2432 + k.val; rw [e1]; omega
  · unfold iblk
    rw [View.read_apply]
    refine congrArg (m ((c : Thread nD τ).loc main_arg1)) (funext fun a => Fin.ext ?_)
    match a with
    | ⟨0, _⟩ => show win0_1.index ⟨_, hs⟩ 0 * 1024 + 1 * (y 1).val = win0_2.index t 1 * 1024 + 1 * (y 1).val; rw [e2]
    | ⟨1, _⟩ => show win0_1.index ⟨_, hs⟩ 1 * 2432 + 1 * k.val = s.val * 2432 + k.val; rw [e3]; omega

theorem final : (dats m 0 c).arrAt 2 cfg0.N = arr m c :=
  (dats m 0 c).arrAt_eq_of_cover 2 (arr m c) (flushed_eq m c) fun i => (covered_iff2 i).2 (by
    have h0 : (i 0).val < 4096 := (i 0).isLt; have h1 : (i 1).val < 2048 := (i 1).isLt; omega)

end Cert.InpIdeal.Whole

namespace Cert.Proof

/-- The kernel's gradient back through the input projection is the reference's. -/
theorem same_inp : Cert.algebraic_InpIdeal_InpRefIdeal := by
  intro m g m' g' _ ha
  refine ⟨fun c => Cert.InpIdeal.Whole.arr m c, ?_, ?_⟩
  · refine (θ_run _ _ _).mono (fun r h c => ?_) (Cert.InpIdeal.Value.run_blocks m g)
    exact ⟨(h c).1.trans (Cert.InpIdeal.Whole.final m c), (h c).2⟩
  · refine (θ_run _ _ _).mono (fun r h c => ?_) (Cert.InpRefIdeal.Value.run (F := Ideal) m' g')
    refine ⟨(h c).1.trans ?_, (h c).2⟩
    obtain ⟨a0, a1⟩ := ha c
    rw [a0, a1]
    funext i
    unfold Cert.InpIdeal.Whole.arr Cert.InpIdeal.Whole.res
    pointwise

end Cert.Proof
end
-- ==== Proof.Mlp.lean ====
module

public import proofs.«01_k».proof.Defs
public import proofs.«01_k».proof.Proof.Gen.MlpIdeal.Value
public import proofs.«01_k».proof.Proof.Gen.MlpRefIdeal.Run
public import Idealize.ShloMosaic.Lib.Pointwise

/-! # The hidden layer before and after its squared positive part -/

@[expose] public section

set_option maxRecDepth 16384

noncomputable section

open Idealize.ShloMosaic Idealize.ShloMosaic.TcCoe Idealize.SL.Sem
open Idealize.ShloMosaic.Pipeline (Dat)

namespace Cert.MlpIdeal.Whole

open Cert.MlpIdeal Cert.MlpIdeal.Gen

variable (m : (ℓ : Loc nD τ sig) → Buf (Elt Ideal) ℓ) (c : Dev nD)

theorem hz : (![0, 0] : Fin 2 → Nat) = fun _ => 0 := funext fun a => by fin_cases a <;> rfl

/-- One block of the layer at a row and a column. -/
theorem pay_apply (a : Vec Ideal S1024x2048 .bf16) (b : Vec Ideal S2048x1024 .bf16) (y : S1024x1024.Idx) :
    k0_pay1 a b y = ∑ k : Fin 2048, (a (ix2 (y 0) k) : EReal) * b (ix2 k (y 1)) := by
  unfold k0_pay1
  pointwise

theorem square_apply (a : Vec Ideal S1024x2048 .bf16) (b : Vec Ideal S2048x1024 .bf16) (y : S1024x1024.Idx) :
    k0_pay2 a b y = (max (k0_pay1 a b y) 0 * max (k0_pay1 a b y) 0 : EReal) := by
  unfold k0_pay2
  pointwise

/-- The whole layer: a row of the input times a column of the weights. -/
def pre (x : Vec Ideal S4096x2048 .bf16) (w : Vec Ideal S2048x8192 .bf16) : Vec Ideal S4096x8192 .f32 :=
  fun i => ∑ k : Fin 2048, (x (ix2 (i 0) k) : EReal) * w (ix2 k (i 1))

abbrev arr : Vec Ideal S4096x8192 .f32 := pre (m ((c : Thread nD τ).loc main_arg0)) (m ((c : Thread nD τ).loc main_arg1))

/-- … and the square of its positive part. -/
def square : Vec Ideal S4096x8192 .bf16 := fun i => (max (arr m c i) 0 * max (arr m c i) 0 : EReal)

/-- Where each window stands at a point, seen from the result's block. -/
theorem idx_facts : ∀ t : Fin cfg0.N, win0_0.index t 0 = win0_2.index t 0 ∧ win0_0.index t 1 = 0
    ∧ win0_1.index t 0 = 0 ∧ win0_1.index t 1 = win0_2.index t 1
    ∧ win0_3.index t 0 = win0_2.index t 0 ∧ win0_3.index t 1 = win0_2.index t 1 :=
  (by decide +kernel : ∀ t : Fin grid0.N, _)

theorem idx_onto : ∀ (p : Fin 4) (q : Fin 8), ∃ t : Fin cfg0.N, win0_2.index t 0 = p.val ∧ win0_2.index t 1 = q.val :=
  (by decide +kernel : ∀ (p : Fin 4) (q : Fin 8), ∃ t : Fin grid0.N, _)

/-- A point's product is the whole product at the place where the result's block has it. -/
theorem point (t : Fin cfg0.N) (y : S1024x1024.Idx) :
    k0_pay1 (iblk m c 0 t) (iblk m c 1 t) y = arr m c (((cfg0.win 2).blk t).view.emb y) := by
  obtain ⟨e0, e1, e2, e3, -, -⟩ := idx_facts t
  rw [pay_apply]
  unfold arr pre
  refine Finset.sum_congr rfl fun k _ => congrArg₂ (fun p q : EReal => p * q) ?_ ?_
  · unfold iblk
    rw [View.read_apply]
    refine congrArg (m ((c : Thread nD τ).loc main_arg0)) (funext fun a => Fin.ext ?_)
    match a with
    | ⟨0, _⟩ => show win0_0.index t 0 * 1024 + 1 * (y 0).val = win0_2.index t 0 * 1024 + 1 * (y 0).val; rw [e0]
    | ⟨1, _⟩ => show win0_0.index t 1 * 2048 + 1 * k.val = k.val; rw [e1]; omega
  · unfold iblk
    rw [View.read_apply]
    refine congrArg (m ((c : Thread nD τ).loc main_arg1)) (funext fun a => Fin.ext ?_)
    match a with
    | ⟨0, _⟩ => show win0_1.index t 0 * 2048 + 1 * k.val = k.val; rw [e2]; omega
    | ⟨1, _⟩ => show win0_1.index t 1 * 1024 + 1 * (y 1).val = win0_2.index t 1 * 1024 + 1 * (y 1).val; rw [e3]

theorem flushed_pre (t : Fin cfg0.N) : (dats m 0 c).flushed 2 t = ((cfg0.win 2).blk t).view.read (Elt Ideal) (arr m c) := by
  rw [Value.flushed2]
  unfold out0_2
  rw [View.canon_unit_zero hz, View.ld_unit_zero hz, View.ld_unit_zero hz]
  exact funext fun y => point m c t y

/-- The second result's blocks stand where the first's do. -/
theorem emb_eq (t : Fin cfg0.N) (y : S1024x1024.Idx) : ((cfg0.win 3).blk t).view.emb y = ((cfg0.win 2).blk t).view.emb y := by
  obtain ⟨-, -, -, -, e4, e5⟩ := idx_facts t
  refine funext fun a => Fin.ext ?_
  match a with
  | ⟨0, _⟩ => show win0_3.index t 0 * 1024 + 1 * (y 0).val = win0_2.index t 0 * 1024 + 1 * (y 0).val; rw [e4]
  | ⟨1, _⟩ => show win0_3.index t 1 * 1024 + 1 * (y 1).val = win0_2.index t 1 * 1024 + 1 * (y 1).val; rw [e5]

theorem flushed_square (t : Fin cfg0.N) : (dats m 0 c).flushed 3 t = ((cfg0.win 3).blk t).view.read (Elt Ideal) (square m c) := by
  rw [Value.flushed3]
  unfold out0_3
  rw [View.canon_unit_zero hz, View.ld_unit_zero hz, View.ld_unit_zero hz]
  funext y
  show k0_pay2 (iblk m c 0 t) (iblk m c 1 t) y = square m c (((cfg0.win 3).blk t).view.emb y)
  rw [square_apply, point, emb_eq]
  rfl

theorem cover (i : S4096x8192.Idx) : ∃ t : Fin cfg0.N, (cfg0.win 2).flush t = true ∧ i ∈ ((cfg0.win 2).blk t).view.set := by
  have h0 : (i 0).val < 4096 := (i 0).isLt
  have h1 : (i 1).val < 8192 := (i 1).isLt
  obtain ⟨t, q0, q1⟩ := idx_onto ⟨(i 0).val / 1024, by omega⟩ ⟨(i 1).val / 1024, by omega⟩
  refine ⟨t, flush0_2 t, ?_⟩
  show i ∈ ((View.whole main_v0_0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [q0]; dsimp only; omega
  | ⟨1, _⟩ => show win0_2.index t 1 * 1024 ≤ (i 1).val ∧ (i 1).val < win0_2.index t 1 * 1024 + 1024; rw [q1]; dsimp only; omega

theorem final_pre : (dats m 0 c).arrAt 2 cfg0.N = arr m c :=
  (dats m 0 c).arrAt_eq_of_cover 2 (arr m c) (fun t _ => flushed_pre m c t) cover

theorem final_square : (dats m 0 c).arrAt 3 cfg0.N = square m c :=
  (dats m 0 c).arrAt_eq_of_cover 3 (square m c) (fun t _ => flushed_square m c t) fun i => by
    obtain ⟨t, -, hi⟩ := cover i
    obtain ⟨y, rfl⟩ := View.exists_emb_of_mem_set _ hi
    refine ⟨t, flush0_3 t, ?_⟩
    rw [← emb_eq]
    exact View.emb_mem_set _ _

end Cert.MlpIdeal.Whole

namespace Cert.Proof

/-- The kernel's hidden layer, before and after the squared positive part, is the reference's. -/
theorem same_mlp : Cert.algebraic_MlpIdeal_MlpRefIdeal := by
  intro m g m' g' _ ha
  refine ⟨fun c => Cert.MlpIdeal.Whole.arr m c, fun c => Cert.MlpIdeal.Whole.square m c, ?_, ?_⟩
  · refine (θ_run _ _ _).mono (fun r h c => ?_) (Cert.MlpIdeal.Value.run_blocks m g)
    exact ⟨(h c).1.trans (Cert.MlpIdeal.Whole.final_pre m c), (h c).2.1.trans (Cert.MlpIdeal.Whole.final_square m c), (h c).2.2⟩
  · refine (θ_run _ _ _).mono (fun r h c => ?_) (Cert.MlpRefIdeal.Value.run (F := Ideal) m' g')
    obtain ⟨a0, a1⟩ := ha c
    refine ⟨(h c).1.trans ?_, (h c).2.1.trans ?_, (h c).2.2⟩
    · rw [a0, a1]
      funext i
      unfold Cert.MlpIdeal.Whole.arr Cert.MlpIdeal.Whole.pre
      pointwise
    · rw [a0, a1]
      funext i
      unfold Cert.MlpIdeal.Whole.square Cert.MlpIdeal.Whole.arr Cert.MlpIdeal.Whole.pre
      pointwise

end Cert.Proof
end
-- ==== Proof.Proj.lean ====
module

public import proofs.«01_k».proof.Defs
public import proofs.«01_k».proof.Proof.Gen.ProjIdeal.Value
public import proofs.«01_k».proof.Proof.Gen.ProjRefIdeal.Run
public import Idealize.ShloMosaic.Lib.Pointwise

/-! # The input projection -/

@[expose] public section

set_option maxRecDepth 16384

noncomputable section

open Idealize.ShloMosaic Idealize.ShloMosaic.TcCoe Idealize.SL.Sem
open Idealize.ShloMosaic.Pipeline (Dat)

namespace Cert.ProjIdeal.Whole

open Cert.ProjIdeal Cert.ProjIdeal.Gen

variable (m : (ℓ : Loc nD τ sig) → Buf (Elt Ideal) ℓ) (c : Dev nD)

/-- One block of the product at a row and a column. -/
theorem pay_apply (a : Vec Ideal S1024x2048 .bf16) (b : Vec Ideal S2048x512 .bf16) (y : S1024x512.Idx) :
    k0_pay1 a b y = ∑ k : Fin 2048, (a (ix2 (y 0) k) : EReal) * b (ix2 k (y 1)) := by
  unfold k0_pay1
  pointwise

/-- The whole product: a row of the input times a column of the weights. -/
def res (x : Vec Ideal S4096x2048 .bf16) (w : Vec Ideal S2048x9728 .bf16) : Vec Ideal S4096x9728 .f32 :=
  fun i => ∑ k : Fin 2048, (x (ix2 (i 0) k) : EReal) * w (ix2 k (i 1))

abbrev arr : Vec Ideal S4096x9728 .f32 := res (m ((c : Thread nD τ).loc main_arg0)) (m ((c : Thread nD τ).loc main_arg1))

/-- Where each window stands at a point, seen from the result's block. -/
theorem idx_facts : ∀ t : Fin cfg0.N, win0_0.index t 0 = win0_2.index t 0 ∧ win0_0.index t 1 = 0
    ∧ win0_1.index t 0 = 0 ∧ win0_1.index t 1 = win0_2.index t 1 :=
  (by decide +kernel : ∀ t : Fin grid0.N, _)

theorem idx_onto : ∀ (p : Fin 4) (q : Fin 19), ∃ t : Fin cfg0.N, win0_2.index t 0 = p.val ∧ win0_2.index t 1 = q.val :=
  (by decide +kernel : ∀ (p : Fin 4) (q : Fin 19), ∃ t : Fin grid0.N, _)

/-- What a point writes back is its block of the whole product. -/
theorem flushed_eq (t : Fin cfg0.N) : (dats m 0 c).flushed 2 t = ((cfg0.win 2).blk t).view.read (Elt Ideal) (arr m c) := by
  have hz : (![0, 0] : Fin 2 → Nat) = fun _ => 0 := funext fun a => by fin_cases a <;> rfl
  obtain ⟨e0, e1, e2, e3⟩ := idx_facts t
  rw [Value.flushed2]
  unfold out0_2
  rw [View.canon_unit_zero hz, View.ld_unit_zero hz, View.ld_unit_zero hz]
  funext y
  show k0_pay1 (iblk m c 0 t) (iblk m c 1 t) y = arr m c (((cfg0.win 2).blk t).view.emb y)
  rw [pay_apply]
  unfold arr res
  refine Finset.sum_congr rfl fun k _ => congrArg₂ (fun p q : EReal => p * q) ?_ ?_
  · unfold iblk
    rw [View.read_apply]
    refine congrArg (m ((c : Thread nD τ).loc main_arg0)) (funext fun a => Fin.ext ?_)
    match a with
    | ⟨0, _⟩ => show win0_0.index t 0 * 1024 + 1 * (y 0).val = win0_2.index t 0 * 1024 + 1 * (y 0).val; rw [e0]
    | ⟨1, _⟩ => show win0_0.index t 1 * 2048 + 1 * k.val = k.val; rw [e1]; omega
  · unfold iblk
    rw [View.read_apply]
    refine congrArg (m ((c : Thread nD τ).loc main_arg1)) (funext fun a => Fin.ext ?_)
    match a with
    | ⟨0, _⟩ => show win0_1.index t 0 * 2048 + 1 * k.val = k.val; rw [e2]; omega
    | ⟨1, _⟩ => show win0_1.index t 1 * 512 + 1 * (y 1).val = win0_2.index t 1 * 512 + 1 * (y 1).val; rw [e3]

theorem cover (i : S4096x9728.Idx) : ∃ t : Fin cfg0.N, (cfg0.win 2).flush t = true ∧ i ∈ ((cfg0.win 2).blk t).view.set := by
  have h0 : (i 0).val < 4096 := (i 0).isLt
  have h1 : (i 1).val < 9728 := (i 1).isLt
  obtain ⟨t, q0, q1⟩ := idx_onto ⟨(i 0).val / 1024, by omega⟩ ⟨(i 1).val / 512, by omega⟩
  refine ⟨t, flush0_2 t, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [q0]; dsimp only; omega
  | ⟨1, _⟩ => show win0_2.index t 1 * 512 ≤ (i 1).val ∧ (i 1).val < win0_2.index t 1 * 512 + 512; rw [q1]; dsimp only; omega

theorem final : (dats m 0 c).arrAt 2 cfg0.N = arr m c :=
  (dats m 0 c).arrAt_eq_of_cover 2 (arr m c) (fun t _ => flushed_eq m c t) cover

end Cert.ProjIdeal.Whole

namespace Cert.Proof

/-- The kernel's input projection is the reference's. -/
theorem same_proj : Cert.algebraic_ProjIdeal_ProjRefIdeal := by
  intro m g m' g' _ ha
  refine ⟨fun c => Cert.ProjIdeal.Whole.arr m c, ?_, ?_⟩
  · refine (θ_run _ _ _).mono (fun r h c => ?_) (Cert.ProjIdeal.Value.run_blocks m g)
    exact ⟨(h c).1.trans (Cert.ProjIdeal.Whole.final m c), (h c).2⟩
  · refine (θ_run _ _ _).mono (fun r h c => ?_) (Cert.ProjRefIdeal.Value.run (F := Ideal) m' g')
    refine ⟨(h c).1.trans ?_, (h c).2⟩
    obtain ⟨a0, a1⟩ := ha c
    rw [a0, a1]
    funext i
    unfold Cert.ProjIdeal.Whole.arr Cert.ProjIdeal.Whole.res
    pointwise

end Cert.Proof
end
-- ==== Proof.Weights.lean ====
module

public import Idealize.ShloMosaic.Lib.Pointwise

/-! # What is kept along a row of points, and what a block holds -/

@[expose] public section

open Idealize.ShloMosaic

namespace Cert.Weights

/-- What is set anew at every first point of a row and left alone at the others is at every point the value that belongs to it,
    where that value changes only from row to row. -/
theorem kept_of {β : Type} {N J : Nat} (o f : (n : Nat) → n < N → β) (h0 : ∀ h : 0 < N, o 0 h = f 0 h)
    (hf : ∀ (n : Nat) (h : n + 1 < N), (n + 1) % J = 0 → o (n + 1) h = f (n + 1) h)
    (hk : ∀ (n : Nat) (h : n + 1 < N), ¬(n + 1) % J = 0 → o (n + 1) h = o n (Nat.lt_of_succ_lt h))
    (hs : ∀ (n : Nat) (h : n + 1 < N), ¬(n + 1) % J = 0 → f n (Nat.lt_of_succ_lt h) = f (n + 1) h) :
    ∀ (n : Nat) (h : n < N), o n h = f n h
  | 0, h => h0 h
  | n + 1, h => by
    by_cases e : (n + 1) % J = 0
    · exact hf n h e
    · rw [hk n h e, kept_of o f h0 hf hk hs n, hs n h e]

/-- A view's place holds what the array holds at the index with the same coordinates. -/
theorem read_at {Val : EltTy → Type} {sig : RefSig} {κ : Kind} {sp : Space} {s : Shape} {e : EltTy} (v : View sig κ sp s e)
    (f : v.ty.Contents Val) (y : s.Idx) (j : v.ty.shape.Idx) (h : ∀ a, (v.emb y a).val = (j a).val) :
    v.read Val f y = _root_.cast (congrArg Val v.elt_eq) (f j) := by
  rw [View.read_apply, show v.emb y = j from funext fun a => Fin.ext (h a)]

end Cert.Weights
end
-- ==== Proof.Gout.lean ====
module

public import proofs.«01_k».proof.Defs
public import proofs.«01_k».proof.Proof.Gen.GoutIdeal.Value
public import proofs.«01_k».proof.Proof.Gen.GoutRefIdeal.Run
public import proofs.«01_k».proof.Proof.Weights
public import Idealize.ShloMosaic.Lib.Pointwise
public import Idealize.ShloMosaic.Lib.Tactic

/-! # The gradient of the output projection's weights: the left block is transposed once and kept for a whole row of blocks -/

@[expose] public section

set_option maxRecDepth 16384

noncomputable section

open Idealize.ShloMosaic Idealize.ShloMosaic.TcCoe Idealize.SL.Sem
open Idealize.ShloMosaic.Pipeline (Dat)

namespace Cert.GoutIdeal.Whole

open Cert.GoutIdeal Cert.GoutIdeal.Gen Cert.GoutIdeal.Value

variable (m : (ℓ : Loc nD τ sig) → Buf (Elt Ideal) ℓ) (c : Dev nD)

theorem hz : (![0, 0] : Fin 2 → Nat) = fun _ => 0 := funext fun a => by fin_cases a <;> rfl

section Cases

variable (i : grid0.Coords) (a3 : Memref sig .tc .vmem S4096x1024 .bf16) (h3 : a3.IsWhole) (a4 : Memref sig .tc .vmem S4096x512 .bf16)
  (h4 : a4.IsWhole) (a5 : Memref sig .tc .vmem S1024x512 .f32) (h5 : a5.IsWhole) (a6 : Memref sig .tc .vmem S1024x4096 .bf16) (h6 : a6.IsWhole)
  (x : Vec Ideal S4096x1024 .bf16) (w : Vec Ideal S4096x512 .bf16) (s : Vec Ideal S1024x4096 .bf16)

/-- The first point of a row of blocks keeps the left block transposed … -/
theorem first_kept (k0 : cond0_0 i) : sout0_A_0 c i a3 h3 a4 h4 a5 h5 a6 h6 k0 x w = k0_pay1 x := by
  unfold sout0_A_0
  rw [View.read_writes_eq_canon _ _ _ (scover0_A_0 c i a3 h3 a4 h4 a5 h5 a6 h6 k0 x w)]
  unfold kernelRun0_A
  dsimp only
  sl_unfold_words
  rw [View.canon_unit_zero hz]
  simp only [View.readAt_eq_ld, h3.read_unread, View.ld_unit_zero (S := S4096x1024) hz]

/-- … and writes its product with the right block … -/
theorem first_out (k0 : cond0_0 i) : out0_A_2 c i a3 h3 a4 h4 a5 h5 a6 h6 k0 x w = k0_pay2 (k0_pay1 x) w := by
  unfold out0_A_2
  rw [View.read_writes_eq_canon _ _ _ (cover0_A_2 c i a3 h3 a4 h4 a5 h5 a6 h6 k0 x w)]
  unfold kernelRun0_A
  dsimp only
  sl_unfold_words
  rw [View.canon_unit_zero hz, View.readCov_unit_zero (S := S1024x4096) _ hz]
  simp only [View.readAt_eq_ld, h3.read_unread, h4.read_unread, View.ld_unit_zero (S := S4096x1024) hz, View.ld_unit_zero (S := S4096x512) hz]

/-- … as the later points of the row do with what was kept. -/
theorem later_out (k0 : ¬cond0_0 i) : out0_B_2 c i a3 h3 a4 h4 a5 h5 a6 h6 k0 x w s = k0_pay2 s w := by
  unfold out0_B_2
  rw [View.read_writes_eq_canon _ _ _ (cover0_B_2 c i a3 h3 a4 h4 a5 h5 a6 h6 k0 x w s)]
  unfold kernelRun0_B
  dsimp only
  rw [View.canon_unit_zero hz]
  simp only [View.readAt_eq_ld, h4.read_unread, h6.read_unread, View.ld_unit_zero (S := S1024x4096) hz, View.ld_unit_zero (S := S4096x512) hz]

end Cases

/-- Where each window stands at a point, seen from the result's block. -/
theorem idx_facts : ∀ t : Fin cfg0.N, win0_0.index t 0 = 0 ∧ win0_0.index t 1 = win0_2.index t 0
    ∧ win0_1.index t 0 = 0 ∧ win0_1.index t 1 = win0_2.index t 1 :=
  (by decide +kernel : ∀ t : Fin grid0.N, _)

/-- A row of blocks has one left block. -/
theorem idx_kept : ∀ s t : Fin cfg0.N, ¬t.val % 4 = 0 → s.val + 1 = t.val → win0_0.index s = win0_0.index t :=
  (by decide +kernel : ∀ s t : Fin grid0.N, _)

/-- After every point the kept block is the point's own left block, transposed. -/
theorem kept : ∀ (n : Nat) (h : n < cfg0.N), (outsAt0 m c n h).2 = k0_pay1 (iblk m c 0 ⟨n, h⟩) :=
  Cert.Weights.kept_of (J := 4) _ _ (fun h => by rw [outsAt0_A m c ⟨0, h⟩ rfl]; dsimp only; rw [first_kept])
    (fun n h e => by rw [outsAt0_A m c ⟨n + 1, h⟩ e]; dsimp only; rw [first_kept])
    (fun n h e => by rw [outsAt0_B m c ⟨n + 1, h⟩ e]; rfl)
    (fun n h e => by
      have e := idx_kept ⟨n, Nat.lt_of_succ_lt h⟩ ⟨n + 1, h⟩ e rfl
      unfold iblk
      refine congrArg k0_pay1 (funext fun y => Cert.Weights.read_at _ _ _ _ fun a => ?_)
      match a with
      | ⟨0, _⟩ => show win0_0.index ⟨n, _⟩ 0 * 4096 + 1 * (y 0).val = win0_0.index ⟨n + 1, _⟩ 0 * 4096 + 1 * (y 0).val; rw [e]
      | ⟨1, _⟩ => show win0_0.index ⟨n, _⟩ 1 * 1024 + 1 * (y 1).val = win0_0.index ⟨n + 1, _⟩ 1 * 1024 + 1 * (y 1).val; rw [e])

/-- So every point writes the product of its own two blocks. -/
theorem outs (t : Fin cfg0.N) : (outsAt0 m c t.val t.isLt).1 = k0_pay2 (k0_pay1 (iblk m c 0 t)) (iblk m c 1 t) := by
  by_cases h0 : t.val % 4 = 0
  · rw [outsAt0_A m c t h0]; dsimp only; rw [first_out]
  · have e := kept m c t.val t.isLt
    rw [outsAt0_B m c t h0] at e ⊢
    dsimp only at e ⊢
    rw [later_out]
    exact congrArg (k0_pay2 · _) e

/-- The product at a row and a column: a column of the left block times a column of the right. -/
theorem pay_apply (a : Vec Ideal S4096x1024 .bf16) (b : Vec Ideal S4096x512 .bf16) (y : S1024x512.Idx) :
    k0_pay2 (k0_pay1 a) b y = ∑ k : Fin 4096, (a (ix2 k (y 0)) : EReal) * b (ix2 k (y 1)) := by
  unfold k0_pay2 k0_pay1
  pointwise

/-- The whole result: a column of the left array times a column of the right. -/
def res (x : Vec Ideal S4096x2048 .bf16) (w : Vec Ideal S4096x2048 .bf16) : Vec Ideal S2048x2048 .f32 :=
  fun i => ∑ k : Fin 4096, (x (ix2 k (i 0)) : EReal) * w (ix2 k (i 1))

abbrev arr : Vec Ideal S2048x2048 .f32 := res (m ((c : Thread nD τ).loc main_arg0)) (m ((c : Thread nD τ).loc main_arg1))

/-- What a point writes back is its block of the whole result. -/
theorem flushed_eq (t : Fin cfg0.N) : (dats m 0 c).flushed 2 t = ((cfg0.win 2).blk t).view.read (Elt Ideal) (arr m c) := by
  obtain ⟨e0, e1, e2, e3⟩ := idx_facts t
  rw [flushed2, outs]
  funext y
  show k0_pay2 (k0_pay1 (iblk m c 0 t)) (iblk m c 1 t) y = arr m c (((cfg0.win 2).blk t).view.emb y)
  rw [pay_apply]
  unfold arr res
  refine Finset.sum_congr rfl fun k _ => congrArg₂ (fun p q : EReal => p * q) ?_ ?_
  · refine Cert.Weights.read_at _ _ _ _ fun a => ?_
    match a with
    | ⟨0, _⟩ => show win0_0.index t 0 * 4096 + 1 * k.val = k.val; rw [e0]; omega
    | ⟨1, _⟩ => show win0_0.index t 1 * 1024 + 1 * (y 0).val = win0_2.index t 0 * 1024 + 1 * (y 0).val; rw [e1]
  · refine Cert.Weights.read_at _ _ _ _ fun a => ?_
    match a with
    | ⟨0, _⟩ => show win0_1.index t 0 * 4096 + 1 * k.val = k.val; rw [e2]; omega
    | ⟨1, _⟩ => show win0_1.index t 1 * 512 + 1 * (y 1).val = win0_2.index t 1 * 512 + 1 * (y 1).val; rw [e3]

theorem final : (dats m 0 c).arrAt 2 cfg0.N = arr m c :=
  (dats m 0 c).arrAt_eq_of_cover 2 (arr m c) (fun t _ => flushed_eq m c t) fun i => (covered_iff2 i).2 (by
    have h0 : (i 0).val < 2048 := (i 0).isLt; have h1 : (i 1).val < 2048 := (i 1).isLt; omega)

end Cert.GoutIdeal.Whole

namespace Cert.Proof

/-- The kernel's gradient of the output projection's weights is the reference's. -/
theorem same_gout : Cert.algebraic_GoutIdeal_GoutRefIdeal := by
  intro m g m' g' _ ha
  refine ⟨fun c => Cert.GoutIdeal.Whole.arr m c, ?_, ?_⟩
  · refine (θ_run _ _ _).mono (fun r h c => ?_) (Cert.GoutIdeal.Value.run_blocks m g)
    exact ⟨(h c).1.trans (Cert.GoutIdeal.Whole.final m c), (h c).2⟩
  · refine (θ_run _ _ _).mono (fun r h c => ?_) (Cert.GoutRefIdeal.Value.run (F := Ideal) m' g')
    refine ⟨(h c).1.trans ?_, (h c).2⟩
    rw [(ha c).1, (ha c).2]
    funext i
    unfold Cert.GoutIdeal.Whole.arr Cert.GoutIdeal.Whole.res
    pointwise
    exact Finset.sum_congr rfl fun k _ => mul_comm _ _

end Cert.Proof
end
-- ==== Proof.Out.lean ====
module

public import proofs.«01_k».proof.Defs
public import proofs.«01_k».proof.Proof.Gen.OutIdeal.Value
public import proofs.«01_k».proof.Proof.Gen.OutRefIdeal.Run
public import Idealize.ShloMosaic.Lib.Pointwise

/-! # The output projection -/

@[expose] public section

set_option maxRecDepth 16384

noncomputable section

open Idealize.ShloMosaic Idealize.ShloMosaic.TcCoe Idealize.SL.Sem
open Idealize.ShloMosaic.Pipeline (Dat)

namespace Cert.OutIdeal.Whole

open Cert.OutIdeal Cert.OutIdeal.Gen

variable (m : (ℓ : Loc nD τ sig) → Buf (Elt Ideal) ℓ) (c : Dev nD)

/-- One block of the product at a row and a column. -/
theorem pay_apply (a : Vec Ideal S1024x2048 .bf16) (b : Vec Ideal S2048x1024 .bf16) (y : S1024x1024.Idx) :
    k0_pay1 a b y = ∑ k : Fin 2048, (a (ix2 (y 0) k) : EReal) * b (ix2 k (y 1)) := by
  unfold k0_pay1
  pointwise

/-- The whole product: a row of the input times a column of the weights. -/
def res (x : Vec Ideal S4096x2048 .bf16) (w : Vec Ideal S2048x2048 .bf16) : Vec Ideal S4096x2048 .f32 :=
  fun i => ∑ k : Fin 2048, (x (ix2 (i 0) k) : EReal) * w (ix2 k (i 1))

abbrev arr : Vec Ideal S4096x2048 .f32 := res (m ((c : Thread nD τ).loc main_arg0)) (m ((c : Thread nD τ).loc main_arg1))

/-- Where each window stands at a point, seen from the result's block. -/
theorem idx_facts : ∀ t : Fin cfg0.N, win0_0.index t 0 = win0_2.index t 0 ∧ win0_0.index t 1 = 0
    ∧ win0_1.index t 0 = 0 ∧ win0_1.index t 1 = win0_2.index t 1 :=
  (by decide +kernel : ∀ t : Fin grid0.N, _)

theorem idx_onto : ∀ (p : Fin 4) (q : Fin 2), ∃ t : Fin cfg0.N, win0_2.index t 0 = p.val ∧ win0_2.index t 1 = q.val :=
  (by decide +kernel : ∀ (p : Fin 4) (q : Fin 2), ∃ t : Fin grid0.N, _)

/-- What a point writes back is its block of the whole product. -/
theorem flushed_eq (t : Fin cfg0.N) : (dats m 0 c).flushed 2 t = ((cfg0.win 2).blk t).view.read (Elt Ideal) (arr m c) := by
  have hz : (![0, 0] : Fin 2 → Nat) = fun _ => 0 := funext fun a => by fin_cases a <;> rfl
  obtain ⟨e0, e1, e2, e3⟩ := idx_facts t
  rw [Value.flushed2]
  unfold out0_2
  rw [View.canon_unit_zero hz, View.ld_unit_zero hz, View.ld_unit_zero hz]
  funext y
  show k0_pay1 (iblk m c 0 t) (iblk m c 1 t) y = arr m c (((cfg0.win 2).blk t).view.emb y)
  rw [pay_apply]
  unfold arr res
  refine Finset.sum_congr rfl fun k _ => congrArg₂ (fun p q : EReal => p * q) ?_ ?_
  · unfold iblk
    rw [View.read_apply]
    refine congrArg (m ((c : Thread nD τ).loc main_arg0)) (funext fun a => Fin.ext ?_)
    match a with
    | ⟨0, _⟩ => show win0_0.index t 0 * 1024 + 1 * (y 0).val = win0_2.index t 0 * 1024 + 1 * (y 0).val; rw [e0]
    | ⟨1, _⟩ => show win0_0.index t 1 * 2048 + 1 * k.val = k.val; rw [e1]; omega
  · unfold iblk
    rw [View.read_apply]
    refine congrArg (m ((c : Thread nD τ).loc main_arg1)) (funext fun a => Fin.ext ?_)
    match a with
    | ⟨0, _⟩ => show win0_1.index t 0 * 2048 + 1 * k.val = k.val; rw [e2]; omega
    | ⟨1, _⟩ => show win0_1.index t 1 * 1024 + 1 * (y 1).val = win0_2.index t 1 * 1024 + 1 * (y 1).val; rw [e3]

theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  obtain ⟨t, q0, q1⟩ := idx_onto ⟨(i 0).val / 1024, by omega⟩ ⟨(i 1).val / 1024, by omega⟩
  refine ⟨t, flush0_2 t, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [q0]; dsimp only; omega
  | ⟨1, _⟩ => show win0_2.index t 1 * 1024 ≤ (i 1).val ∧ (i 1).val < win0_2.index t 1 * 1024 + 1024; rw [q1]; dsimp only; omega

theorem final : (dats m 0 c).arrAt 2 cfg0.N = arr m c :=
  (dats m 0 c).arrAt_eq_of_cover 2 (arr m c) (fun t _ => flushed_eq m c t) cover

end Cert.OutIdeal.Whole

namespace Cert.Proof

/-- The kernel's output projection is the reference's. -/
theorem same_out : Cert.algebraic_OutIdeal_OutRefIdeal := by
  intro m g m' g' _ ha
  refine ⟨fun c => Cert.OutIdeal.Whole.arr m c, ?_, ?_⟩
  · refine (θ_run _ _ _).mono (fun r h c => ?_) (Cert.OutIdeal.Value.run_blocks m g)
    exact ⟨(h c).1.trans (Cert.OutIdeal.Whole.final m c), (h c).2⟩
  · refine (θ_run _ _ _).mono (fun r h c => ?_) (Cert.OutRefIdeal.Value.run (F := Ideal) m' g')
    refine ⟨(h c).1.trans ?_, (h c).2⟩
    obtain ⟨a0, a1⟩ := ha c
    rw [a0, a1]
    funext i
    unfold Cert.OutIdeal.Whole.arr Cert.OutIdeal.Whole.res
    pointwise

end Cert.Proof
end
-- ==== Proof.GmoSend.lean ====
module

public import proofs.«01_k».proof.Defs
public import proofs.«01_k».proof.Proof.Gen.GmoSendIdeal.Value
public import proofs.«01_k».proof.Proof.Gen.GmoSendRefIdeal.Run
public import proofs.«01_k».proof.Proof.Weights
public import Idealize.ShloMosaic.Lib.Pointwise
public import Idealize.ShloMosaic.Lib.Tactic

/-! # The gradient of the second MLP product's weights, the half sent away: its left block is transposed once and kept -/

@[expose] public section

set_option maxRecDepth 16384

noncomputable section

open Idealize.ShloMosaic Idealize.ShloMosaic.TcCoe Idealize.SL.Sem
open Idealize.ShloMosaic.Pipeline (Dat)

namespace Cert.GmoSendIdeal.Whole

open Cert.GmoSendIdeal Cert.GmoSendIdeal.Gen Cert.GmoSendIdeal.Value

variable (m : (ℓ : Loc nD τ sig) → Buf (Elt Ideal) ℓ) (c : Dev nD)

theorem hz : (![0, 0] : Fin 2 → Nat) = fun _ => 0 := funext fun a => by fin_cases a <;> rfl

section Cases

variable (i : grid0.Coords) (a3 : Memref sig .tc .vmem S4096x1024 .bf16) (h3 : a3.IsWhole) (a4 : Memref sig .tc .vmem S4096x512 .bf16)
  (h4 : a4.IsWhole) (a5 : Memref sig .tc .vmem S1024x512 .f32) (h5 : a5.IsWhole) (a6 : Memref sig .tc .vmem S1024x4096 .bf16) (h6 : a6.IsWhole)
  (x : Vec Ideal S4096x1024 .bf16) (w : Vec Ideal S4096x512 .bf16) (s : Vec Ideal S1024x4096 .bf16)

/-- The first point of a row of blocks keeps the left block transposed … -/
theorem first_kept (k0 : cond0_0 i) : sout0_A_0 c i a3 h3 a4 h4 a5 h5 a6 h6 k0 x w = k0_pay1 x := by
  unfold sout0_A_0
  rw [View.read_writes_eq_canon _ _ _ (scover0_A_0 c i a3 h3 a4 h4 a5 h5 a6 h6 k0 x w)]
  unfold kernelRun0_A
  dsimp only
  sl_unfold_words
  rw [View.canon_unit_zero hz]
  simp only [View.readAt_eq_ld, h3.read_unread, View.ld_unit_zero (S := S4096x1024) hz]

/-- … and writes its product with the right block … -/
theorem first_out (k0 : cond0_0 i) : out0_A_2 c i a3 h3 a4 h4 a5 h5 a6 h6 k0 x w = k0_pay2 (k0_pay1 x) w := by
  unfold out0_A_2
  rw [View.read_writes_eq_canon _ _ _ (cover0_A_2 c i a3 h3 a4 h4 a5 h5 a6 h6 k0 x w)]
  unfold kernelRun0_A
  dsimp only
  sl_unfold_words
  rw [View.canon_unit_zero hz, View.readCov_unit_zero (S := S1024x4096) _ hz]
  simp only [View.readAt_eq_ld, h3.read_unread, h4.read_unread, View.ld_unit_zero (S := S4096x1024) hz, View.ld_unit_zero (S := S4096x512) hz]

/-- … as the later points of the row do with what was kept. -/
theorem later_out (k0 : ¬cond0_0 i) : out0_B_2 c i a3 h3 a4 h4 a5 h5 a6 h6 k0 x w s = k0_pay2 s w := by
  unfold out0_B_2
  rw [View.read_writes_eq_canon _ _ _ (cover0_B_2 c i a3 h3 a4 h4 a5 h5 a6 h6 k0 x w s)]
  unfold kernelRun0_B
  dsimp only
  rw [View.canon_unit_zero hz]
  simp only [View.readAt_eq_ld, h4.read_unread, h6.read_unread, View.ld_unit_zero (S := S1024x4096) hz, View.ld_unit_zero (S := S4096x512) hz]

end Cases

/-- Where each window stands at a point, seen from the result's block. -/
theorem idx_facts : ∀ t : Fin cfg0.N, win0_0.index t 0 = 0 ∧ win0_0.index t 1 = 2 * win0_2.index t 0 + 1
    ∧ win0_1.index t 0 = 0 ∧ win0_1.index t 1 = win0_2.index t 1 :=
  (by decide +kernel : ∀ t : Fin grid0.N, _)

/-- A row of blocks has one left block. -/
theorem idx_kept : ∀ s t : Fin cfg0.N, ¬t.val % 4 = 0 → s.val + 1 = t.val → win0_0.index s = win0_0.index t :=
  (by decide +kernel : ∀ s t : Fin grid0.N, _)

/-- After every point the kept block is the point's own left block, transposed. -/
theorem kept : ∀ (n : Nat) (h : n < cfg0.N), (outsAt0 m c n h).2 = k0_pay1 (iblk m c 0 ⟨n, h⟩) :=
  Cert.Weights.kept_of (J := 4) _ _ (fun h => by rw [outsAt0_A m c ⟨0, h⟩ rfl]; dsimp only; rw [first_kept])
    (fun n h e => by rw [outsAt0_A m c ⟨n + 1, h⟩ e]; dsimp only; rw [first_kept])
    (fun n h e => by rw [outsAt0_B m c ⟨n + 1, h⟩ e]; rfl)
    (fun n h e => by
      have e := idx_kept ⟨n, Nat.lt_of_succ_lt h⟩ ⟨n + 1, h⟩ e rfl
      unfold iblk
      refine congrArg k0_pay1 (funext fun y => Cert.Weights.read_at _ _ _ _ fun a => ?_)
      match a with
      | ⟨0, _⟩ => show win0_0.index ⟨n, _⟩ 0 * 4096 + 1 * (y 0).val = win0_0.index ⟨n + 1, _⟩ 0 * 4096 + 1 * (y 0).val; rw [e]
      | ⟨1, _⟩ => show win0_0.index ⟨n, _⟩ 1 * 1024 + 1 * (y 1).val = win0_0.index ⟨n + 1, _⟩ 1 * 1024 + 1 * (y 1).val; rw [e])

/-- So every point writes the product of its own two blocks. -/
theorem outs (t : Fin cfg0.N) : (outsAt0 m c t.val t.isLt).1 = k0_pay2 (k0_pay1 (iblk m c 0 t)) (iblk m c 1 t) := by
  by_cases h0 : t.val % 4 = 0
  · rw [outsAt0_A m c t h0]; dsimp only; rw [first_out]
  · have e := kept m c t.val t.isLt
    rw [outsAt0_B m c t h0] at e ⊢
    dsimp only at e ⊢
    rw [later_out]
    exact congrArg (k0_pay2 · _) e

/-- The product at a row and a column: a column of the left block times a column of the right. -/
theorem pay_apply (a : Vec Ideal S4096x1024 .bf16) (b : Vec Ideal S4096x512 .bf16) (y : S1024x512.Idx) :
    k0_pay2 (k0_pay1 a) b y = ∑ k : Fin 4096, (a (ix2 k (y 0)) : EReal) * b (ix2 k (y 1)) := by
  unfold k0_pay2 k0_pay1
  pointwise

/-- The whole result: a column of the second half of the left array's stretch times a column of the right. -/
def res (x : Vec Ideal S4096x8192 .bf16) (w : Vec Ideal S4096x2048 .bf16) : Vec Ideal S4096x2048 .f32 :=
  fun i => ∑ k : Fin 4096, (x (ix2 k ⟨(i 0).val / 1024 * 2048 + (1024 + (i 0).val % 1024), by have := (i 0).isLt; simp at this; omega⟩) : EReal) * w (ix2 k (i 1))

abbrev arr : Vec Ideal S4096x2048 .f32 := res (m ((c : Thread nD τ).loc main_arg0)) (m ((c : Thread nD τ).loc main_arg1))

/-- What a point writes back is its block of the whole result. -/
theorem flushed_eq (t : Fin cfg0.N) : (dats m 0 c).flushed 2 t = ((cfg0.win 2).blk t).view.read (Elt Ideal) (arr m c) := by
  obtain ⟨e0, e1, e2, e3⟩ := idx_facts t
  rw [flushed2, outs]
  funext y
  show k0_pay2 (k0_pay1 (iblk m c 0 t)) (iblk m c 1 t) y = arr m c (((cfg0.win 2).blk t).view.emb y)
  rw [pay_apply]
  unfold arr res
  refine Finset.sum_congr rfl fun k _ => congrArg₂ (fun p q : EReal => p * q) ?_ ?_
  · refine Cert.Weights.read_at _ _ _ _ fun a => ?_
    match a with
    | ⟨0, _⟩ => show win0_0.index t 0 * 4096 + 1 * k.val = k.val; rw [e0]; omega
    | ⟨1, _⟩ => show win0_0.index t 1 * 1024 + 1 * (y 0).val = (win0_2.index t 0 * 1024 + 1 * (y 0).val) / 1024 * 2048 + (1024 + (win0_2.index t 0 * 1024 + 1 * (y 0).val) % 1024); have h : (y 0).val < 1024 := (y 0).isLt; rw [e1]; omega
  · refine Cert.Weights.read_at _ _ _ _ fun a => ?_
    match a with
    | ⟨0, _⟩ => show win0_1.index t 0 * 4096 + 1 * k.val = k.val; rw [e2]; omega
    | ⟨1, _⟩ => show win0_1.index t 1 * 512 + 1 * (y 1).val = win0_2.index t 1 * 512 + 1 * (y 1).val; rw [e3]

theorem final : (dats m 0 c).arrAt 2 cfg0.N = arr m c :=
  (dats m 0 c).arrAt_eq_of_cover 2 (arr m c) (fun t _ => flushed_eq m c t) fun i => (covered_iff2 i).2 (by
    have h0 : (i 0).val < 4096 := (i 0).isLt; have h1 : (i 1).val < 2048 := (i 1).isLt; omega)

end Cert.GmoSendIdeal.Whole

namespace Cert.Proof

/-- The kernel's half of the second MLP product's gradient that is sent away is the reference's. -/
theorem same_gmo_send : Cert.algebraic_GmoSendIdeal_GmoSendRefIdeal := by
  intro m g m' g' _ ha
  refine ⟨fun c => Cert.GmoSendIdeal.Whole.arr m c, ?_, ?_⟩
  · refine (θ_run _ _ _).mono (fun r h c => ?_) (Cert.GmoSendIdeal.Value.run_blocks m g)
    exact ⟨(h c).1.trans (Cert.GmoSendIdeal.Whole.final m c), (h c).2⟩
  · refine (θ_run _ _ _).mono (fun r h c => ?_) (Cert.GmoSendRefIdeal.Value.run (F := Ideal) m' g')
    refine ⟨(h c).1.trans ?_, (h c).2⟩
    rw [(ha c).1, (ha c).2]
    funext i
    unfold Cert.GmoSendIdeal.Whole.arr Cert.GmoSendIdeal.Whole.res
    pointwise
    exact Finset.sum_congr rfl fun k _ => mul_comm _ _

end Cert.Proof
end
-- ==== Proof.GmoOwn.lean ====
module

public import proofs.«01_k».proof.Defs
public import proofs.«01_k».proof.Proof.Gen.GmoOwnIdeal.Value
public import proofs.«01_k».proof.Proof.Gen.GmoOwnRefIdeal.Run
public import proofs.«01_k».proof.Proof.Weights
public import Idealize.ShloMosaic.Lib.Pointwise
public import Idealize.ShloMosaic.Lib.Tactic

/-! # The gradient of the second MLP product's weights, the half kept, to which the half received is added: its left block is transposed once and kept -/

@[expose] public section

set_option maxRecDepth 16384

noncomputable section

open Idealize.ShloMosaic Idealize.ShloMosaic.TcCoe Idealize.SL.Sem
open Idealize.ShloMosaic.Pipeline (Dat)

namespace Cert.GmoOwnIdeal.Whole

open Cert.GmoOwnIdeal Cert.GmoOwnIdeal.Gen Cert.GmoOwnIdeal.Value

variable (m : (ℓ : Loc nD τ sig) → Buf (Elt Ideal) ℓ) (c : Dev nD)

theorem hz : (![0, 0] : Fin 2 → Nat) = fun _ => 0 := funext fun a => by fin_cases a <;> rfl

section Cases

variable (i : grid0.Coords) (a3 : Memref sig .tc .vmem S4096x1024 .bf16) (h3 : a3.IsWhole) (a4 : Memref sig .tc .vmem S4096x512 .bf16)
  (h4 : a4.IsWhole) (a5 : Memref sig .tc .vmem S1024x512 .f32) (h5 : a5.IsWhole) (a6 : Memref sig .tc .vmem S1024x512 .bf16)
  (h6 : a6.IsWhole) (a7 : Memref sig .tc .vmem S1024x4096 .bf16) (h7 : a7.IsWhole)
  (x : Vec Ideal S4096x1024 .bf16) (w : Vec Ideal S4096x512 .bf16)
  (o : Vec Ideal S1024x512 .f32) (s : Vec Ideal S1024x4096 .bf16)

/-- The first point of a row of blocks keeps the left block transposed … -/
theorem first_kept (k0 : cond0_0 i) : sout0_A_0 c i a3 h3 a4 h4 a5 h5 a6 h6 a7 h7 k0 x w o = k0_pay1 x := by
  unfold sout0_A_0
  rw [View.read_writes_eq_canon _ _ _ (scover0_A_0 c i a3 h3 a4 h4 a5 h5 a6 h6 a7 h7 k0 x w o)]
  unfold kernelRun0_A
  dsimp only
  sl_unfold_words
  rw [View.canon_unit_zero hz]
  simp only [View.readAt_eq_ld, h3.read_unread, View.ld_unit_zero (S := S4096x1024) hz]

/-- … and writes its product with the right block … -/
theorem first_out (k0 : cond0_0 i) : out0_A_3 c i a3 h3 a4 h4 a5 h5 a6 h6 a7 h7 k0 x w o = k0_pay2 (k0_pay1 x) w o := by
  unfold out0_A_3
  rw [View.read_writes_eq_canon _ _ _ (cover0_A_3 c i a3 h3 a4 h4 a5 h5 a6 h6 a7 h7 k0 x w o)]
  unfold kernelRun0_A
  dsimp only
  sl_unfold_words
  rw [View.canon_unit_zero hz, View.readCov_unit_zero (S := S1024x4096) _ hz]
  simp only [View.readAt_eq_ld, h3.read_unread, h4.read_unread, h5.read_unread, View.ld_unit_zero (S := S4096x1024) hz, View.ld_unit_zero (S := S4096x512) hz,
    View.ld_unit_zero (S := S1024x512) hz]

/-- … as the later points of the row do with what was kept. -/
theorem later_out (k0 : ¬cond0_0 i) : out0_B_3 c i a3 h3 a4 h4 a5 h5 a6 h6 a7 h7 k0 x w o s = k0_pay2 s w o := by
  unfold out0_B_3
  rw [View.read_writes_eq_canon _ _ _ (cover0_B_3 c i a3 h3 a4 h4 a5 h5 a6 h6 a7 h7 k0 x w o s)]
  unfold kernelRun0_B
  dsimp only
  rw [View.canon_unit_zero hz]
  simp only [View.readAt_eq_ld, h4.read_unread, h5.read_unread, h7.read_unread, View.ld_unit_zero (S := S1024x4096) hz, View.ld_unit_zero (S := S4096x512) hz,
    View.ld_unit_zero (S := S1024x512) hz]

end Cases

/-- Where each window stands at a point, seen from the result's block. -/
theorem idx_facts : ∀ t : Fin cfg0.N, win0_0.index t 0 = 0 ∧ win0_0.index t 1 = 2 * win0_3.index t 0
    ∧ win0_1.index t 0 = 0 ∧ win0_1.index t 1 = win0_3.index t 1 ∧ win0_2.index t = win0_3.index t :=
  (by decide +kernel : ∀ t : Fin grid0.N, _)

/-- A row of blocks has one left block. -/
theorem idx_kept : ∀ s t : Fin cfg0.N, ¬t.val % 4 = 0 → s.val + 1 = t.val → win0_0.index s = win0_0.index t :=
  (by decide +kernel : ∀ s t : Fin grid0.N, _)

/-- After every point the kept block is the point's own left block, transposed. -/
theorem kept : ∀ (n : Nat) (h : n < cfg0.N), (outsAt0 m c n h).2 = k0_pay1 (iblk m c 0 ⟨n, h⟩) :=
  Cert.Weights.kept_of (J := 4) _ _ (fun h => by rw [outsAt0_A m c ⟨0, h⟩ rfl]; dsimp only; rw [first_kept])
    (fun n h e => by rw [outsAt0_A m c ⟨n + 1, h⟩ e]; dsimp only; rw [first_kept])
    (fun n h e => by rw [outsAt0_B m c ⟨n + 1, h⟩ e]; rfl)
    (fun n h e => by
      have e := idx_kept ⟨n, Nat.lt_of_succ_lt h⟩ ⟨n + 1, h⟩ e rfl
      unfold iblk
      refine congrArg k0_pay1 (funext fun y => Cert.Weights.read_at _ _ _ _ fun a => ?_)
      match a with
      | ⟨0, _⟩ => show win0_0.index ⟨n, _⟩ 0 * 4096 + 1 * (y 0).val = win0_0.index ⟨n + 1, _⟩ 0 * 4096 + 1 * (y 0).val; rw [e]
      | ⟨1, _⟩ => show win0_0.index ⟨n, _⟩ 1 * 1024 + 1 * (y 1).val = win0_0.index ⟨n + 1, _⟩ 1 * 1024 + 1 * (y 1).val; rw [e])

/-- So every point writes the product of its own two blocks. -/
theorem outs (t : Fin cfg0.N) : (outsAt0 m c t.val t.isLt).1 = k0_pay2 (k0_pay1 (iblk m c 0 t)) (iblk m c 1 t) (iblk m c 2 t) := by
  by_cases h0 : t.val % 4 = 0
  · rw [outsAt0_A m c t h0]; dsimp only; rw [first_out]
  · have e := kept m c t.val t.isLt
    rw [outsAt0_B m c t h0] at e ⊢
    dsimp only at e ⊢
    rw [later_out]
    exact congrArg (k0_pay2 · _ _) e

/-- The product at a row and a column: a column of the left block times a column of the right, and the received block. -/
theorem pay_apply (a : Vec Ideal S4096x1024 .bf16) (b : Vec Ideal S4096x512 .bf16) (d : Vec Ideal S1024x512 .f32) (y : S1024x512.Idx) :
    k0_pay2 (k0_pay1 a) b d y = ∑ k : Fin 4096, (a (ix2 k (y 0)) : EReal) * b (ix2 k (y 1)) + d y := by
  unfold k0_pay2 k0_pay1
  pointwise

/-- The whole result: a column of the first half of the left array's stretch times a column of the right array, and the received half. -/
def res (x : Vec Ideal S4096x8192 .bf16) (w : Vec Ideal S4096x2048 .bf16)
    (d : Vec Ideal S4096x2048 .f32) : Vec Ideal S4096x2048 .bf16 :=
  fun i => ∑ k : Fin 4096, (x (ix2 k ⟨(i 0).val / 1024 * 2048 + (i 0).val % 1024, by have := (i 0).isLt; simp at this; omega⟩) : EReal) * w (ix2 k (i 1)) + d i

abbrev arr : Vec Ideal S4096x2048 .bf16 := res (m ((c : Thread nD τ).loc main_arg0)) (m ((c : Thread nD τ).loc main_arg1))
  (m ((c : Thread nD τ).loc main_arg2))

/-- What a point writes back is its block of the whole result. -/
theorem flushed_eq (t : Fin cfg0.N) : (dats m 0 c).flushed 3 t = ((cfg0.win 3).blk t).view.read (Elt Ideal) (arr m c) := by
  obtain ⟨e0, e1, e2, e3, e5⟩ := idx_facts t
  rw [flushed3, outs]
  funext y
  show k0_pay2 (k0_pay1 (iblk m c 0 t)) (iblk m c 1 t) (iblk m c 2 t) y = arr m c (((cfg0.win 3).blk t).view.emb y)
  rw [pay_apply]
  unfold arr res
  refine congrArg₂ (fun p q : EReal => p + q) (Finset.sum_congr rfl fun k _ => congrArg₂ (fun p q : EReal => p * q) ?_ ?_) ?_
  · refine Cert.Weights.read_at _ _ _ _ fun a => ?_
    match a with
    | ⟨0, _⟩ => show win0_0.index t 0 * 4096 + 1 * k.val = k.val; rw [e0]; omega
    | ⟨1, _⟩ => show win0_0.index t 1 * 1024 + 1 * (y 0).val = (win0_3.index t 0 * 1024 + 1 * (y 0).val) / 1024 * 2048 + (win0_3.index t 0 * 1024 + 1 * (y 0).val) % 1024; have h : (y 0).val < 1024 := (y 0).isLt; rw [e1]; omega
  · refine Cert.Weights.read_at _ _ _ _ fun a => ?_
    match a with
    | ⟨0, _⟩ => show win0_1.index t 0 * 4096 + 1 * k.val = k.val; rw [e2]; omega
    | ⟨1, _⟩ => show win0_1.index t 1 * 512 + 1 * (y 1).val = win0_3.index t 1 * 512 + 1 * (y 1).val; rw [e3]
  · refine Cert.Weights.read_at _ _ _ _ fun a => ?_
    match a with
    | ⟨0, _⟩ => show win0_2.index t 0 * 1024 + 1 * (y 0).val = win0_3.index t 0 * 1024 + 1 * (y 0).val; rw [e5]
    | ⟨1, _⟩ => show win0_2.index t 1 * 512 + 1 * (y 1).val = win0_3.index t 1 * 512 + 1 * (y 1).val; rw [e5]

theorem final : (dats m 0 c).arrAt 3 cfg0.N = arr m c :=
  (dats m 0 c).arrAt_eq_of_cover 3 (arr m c) (fun t _ => flushed_eq m c t) fun i => (covered_iff3 i).2 (by
    have h0 : (i 0).val < 4096 := (i 0).isLt; have h1 : (i 1).val < 2048 := (i 1).isLt; omega)

end Cert.GmoOwnIdeal.Whole

namespace Cert.Proof

/-- The kernel's half of the second MLP product's gradient that is kept, with the received half added, is the reference's. -/
theorem same_gmo_own : Cert.algebraic_GmoOwnIdeal_GmoOwnRefIdeal := by
  intro m g m' g' _ ha
  refine ⟨fun c => Cert.GmoOwnIdeal.Whole.arr m c, ?_, ?_⟩
  · refine (θ_run _ _ _).mono (fun r h c => ?_) (Cert.GmoOwnIdeal.Value.run_blocks m g)
    exact ⟨(h c).1.trans (Cert.GmoOwnIdeal.Whole.final m c), (h c).2⟩
  · refine (θ_run _ _ _).mono (fun r h c => ?_) (Cert.GmoOwnRefIdeal.Value.run (F := Ideal) m' g')
    refine ⟨(h c).1.trans ?_, (h c).2⟩
    rw [(ha c).1, (ha c).2.1, (ha c).2.2]
    funext i
    unfold Cert.GmoOwnIdeal.Whole.arr Cert.GmoOwnIdeal.Whole.res
    pointwise
    exact congrArg (· + _) (Finset.sum_congr rfl fun k _ => mul_comm _ _)

end Cert.Proof
end
-- ==== Proof.GmiSend.lean ====
module

public import proofs.«01_k».proof.Defs
public import proofs.«01_k».proof.Proof.Gen.GmiSendIdeal.Value
public import proofs.«01_k».proof.Proof.Gen.GmiSendRefIdeal.Run
public import proofs.«01_k».proof.Proof.Weights
public import Idealize.ShloMosaic.Lib.Pointwise
public import Idealize.ShloMosaic.Lib.Tactic

/-! # The gradient of the first MLP product's weights, the half sent away: its left block is transposed once and kept -/

@[expose] public section

set_option maxRecDepth 16384

noncomputable section

open Idealize.ShloMosaic Idealize.ShloMosaic.TcCoe Idealize.SL.Sem
open Idealize.ShloMosaic.Pipeline (Dat)

namespace Cert.GmiSendIdeal.Whole

open Cert.GmiSendIdeal Cert.GmiSendIdeal.Gen Cert.GmiSendIdeal.Value

variable (m : (ℓ : Loc nD τ sig) → Buf (Elt Ideal) ℓ) (c : Dev nD)

theorem hz : (![0, 0] : Fin 2 → Nat) = fun _ => 0 := funext fun a => by fin_cases a <;> rfl

section Cases

variable (i : grid0.Coords) (a3 : Memref sig .tc .vmem S4096x1024 .bf16) (h3 : a3.IsWhole) (a4 : Memref sig .tc .vmem S4096x512 .bf16)
  (h4 : a4.IsWhole) (a5 : Memref sig .tc .vmem S1024x512 .f32) (h5 : a5.IsWhole) (a6 : Memref sig .tc .vmem S1024x4096 .bf16) (h6 : a6.IsWhole)
  (x : Vec Ideal S4096x1024 .bf16) (w : Vec Ideal S4096x512 .bf16) (s : Vec Ideal S1024x4096 .bf16)

/-- The first point of a row of blocks keeps the left block transposed … -/
theorem first_kept (k0 : cond0_0 i) : sout0_A_0 c i a3 h3 a4 h4 a5 h5 a6 h6 k0 x w = k0_pay1 x := by
  unfold sout0_A_0
  rw [View.read_writes_eq_canon _ _ _ (scover0_A_0 c i a3 h3 a4 h4 a5 h5 a6 h6 k0 x w)]
  unfold kernelRun0_A
  dsimp only
  sl_unfold_words
  rw [View.canon_unit_zero hz]
  simp only [View.readAt_eq_ld, h3.read_unread, View.ld_unit_zero (S := S4096x1024) hz]

/-- … and writes its product with the right block … -/
theorem first_out (k0 : cond0_0 i) : out0_A_2 c i a3 h3 a4 h4 a5 h5 a6 h6 k0 x w = k0_pay2 (k0_pay1 x) w := by
  unfold out0_A_2
  rw [View.read_writes_eq_canon _ _ _ (cover0_A_2 c i a3 h3 a4 h4 a5 h5 a6 h6 k0 x w)]
  unfold kernelRun0_A
  dsimp only
  sl_unfold_words
  rw [View.canon_unit_zero hz, View.readCov_unit_zero (S := S1024x4096) _ hz]
  simp only [View.readAt_eq_ld, h3.read_unread, h4.read_unread, View.ld_unit_zero (S := S4096x1024) hz, View.ld_unit_zero (S := S4096x512) hz]

/-- … as the later points of the row do with what was kept. -/
theorem later_out (k0 : ¬cond0_0 i) : out0_B_2 c i a3 h3 a4 h4 a5 h5 a6 h6 k0 x w s = k0_pay2 s w := by
  unfold out0_B_2
  rw [View.read_writes_eq_canon _ _ _ (cover0_B_2 c i a3 h3 a4 h4 a5 h5 a6 h6 k0 x w s)]
  unfold kernelRun0_B
  dsimp only
  rw [View.canon_unit_zero hz]
  simp only [View.readAt_eq_ld, h4.read_unread, h6.read_unread, View.ld_unit_zero (S := S1024x4096) hz, View.ld_unit_zero (S := S4096x512) hz]

end Cases

/-- Where each window stands at a point, seen from the result's block. -/
theorem idx_facts : ∀ t : Fin cfg0.N, win0_0.index t 0 = 0 ∧ win0_0.index t 1 = win0_2.index t 0 + 1 ∧ win0_2.index t 0 = 0
    ∧ win0_1.index t 0 = 0 ∧ win0_1.index t 1 = win0_2.index t 1 :=
  (by decide +kernel : ∀ t : Fin grid0.N, _)

/-- A row of blocks has one left block. -/
theorem idx_kept : ∀ s t : Fin cfg0.N, ¬t.val % 16 = 0 → s.val + 1 = t.val → win0_0.index s = win0_0.index t :=
  (by decide +kernel : ∀ s t : Fin grid0.N, _)

/-- After every point the kept block is the point's own left block, transposed. -/
theorem kept : ∀ (n : Nat) (h : n < cfg0.N), (outsAt0 m c n h).2 = k0_pay1 (iblk m c 0 ⟨n, h⟩) :=
  Cert.Weights.kept_of (J := 16) _ _ (fun h => by rw [outsAt0_A m c ⟨0, h⟩ rfl]; dsimp only; rw [first_kept])
    (fun n h e => by rw [outsAt0_A m c ⟨n + 1, h⟩ e]; dsimp only; rw [first_kept])
    (fun n h e => by rw [outsAt0_B m c ⟨n + 1, h⟩ e]; rfl)
    (fun n h e => by
      have e := idx_kept ⟨n, Nat.lt_of_succ_lt h⟩ ⟨n + 1, h⟩ e rfl
      unfold iblk
      refine congrArg k0_pay1 (funext fun y => Cert.Weights.read_at _ _ _ _ fun a => ?_)
      match a with
      | ⟨0, _⟩ => show win0_0.index ⟨n, _⟩ 0 * 4096 + 1 * (y 0).val = win0_0.index ⟨n + 1, _⟩ 0 * 4096 + 1 * (y 0).val; rw [e]
      | ⟨1, _⟩ => show win0_0.index ⟨n, _⟩ 1 * 1024 + 1 * (y 1).val = win0_0.index ⟨n + 1, _⟩ 1 * 1024 + 1 * (y 1).val; rw [e])

/-- So every point writes the product of its own two blocks. -/
theorem outs (t : Fin cfg0.N) : (outsAt0 m c t.val t.isLt).1 = k0_pay2 (k0_pay1 (iblk m c 0 t)) (iblk m c 1 t) := by
  by_cases h0 : t.val % 16 = 0
  · rw [outsAt0_A m c t h0]; dsimp only; rw [first_out]
  · have e := kept m c t.val t.isLt
    rw [outsAt0_B m c t h0] at e ⊢
    dsimp only at e ⊢
    rw [later_out]
    exact congrArg (k0_pay2 · _) e

/-- The product at a row and a column: a column of the left block times a column of the right. -/
theorem pay_apply (a : Vec Ideal S4096x1024 .bf16) (b : Vec Ideal S4096x512 .bf16) (y : S1024x512.Idx) :
    k0_pay2 (k0_pay1 a) b y = ∑ k : Fin 4096, (a (ix2 k (y 0)) : EReal) * b (ix2 k (y 1)) := by
  unfold k0_pay2 k0_pay1
  pointwise

/-- The whole result: a column of the left array's second half times a column of the right. -/
def res (x : Vec Ideal S4096x2048 .bf16) (w : Vec Ideal S4096x8192 .bf16) : Vec Ideal S1024x8192 .f32 :=
  fun i => ∑ k : Fin 4096, (x (ix2 k ⟨1024 + (i 0).val, by have := (i 0).isLt; simp at this; omega⟩) : EReal) * w (ix2 k (i 1))

abbrev arr : Vec Ideal S1024x8192 .f32 := res (m ((c : Thread nD τ).loc main_arg0)) (m ((c : Thread nD τ).loc main_arg1))

/-- What a point writes back is its block of the whole result. -/
theorem flushed_eq (t : Fin cfg0.N) : (dats m 0 c).flushed 2 t = ((cfg0.win 2).blk t).view.read (Elt Ideal) (arr m c) := by
  obtain ⟨e0, e1, e4, e2, e3⟩ := idx_facts t
  rw [flushed2, outs]
  funext y
  show k0_pay2 (k0_pay1 (iblk m c 0 t)) (iblk m c 1 t) y = arr m c (((cfg0.win 2).blk t).view.emb y)
  rw [pay_apply]
  unfold arr res
  refine Finset.sum_congr rfl fun k _ => congrArg₂ (fun p q : EReal => p * q) ?_ ?_
  · refine Cert.Weights.read_at _ _ _ _ fun a => ?_
    match a with
    | ⟨0, _⟩ => show win0_0.index t 0 * 4096 + 1 * k.val = k.val; rw [e0]; omega
    | ⟨1, _⟩ => show win0_0.index t 1 * 1024 + 1 * (y 0).val = 1024 + (win0_2.index t 0 * 1024 + 1 * (y 0).val); rw [e1]; omega
  · refine Cert.Weights.read_at _ _ _ _ fun a => ?_
    match a with
    | ⟨0, _⟩ => show win0_1.index t 0 * 4096 + 1 * k.val = k.val; rw [e2]; omega
    | ⟨1, _⟩ => show win0_1.index t 1 * 512 + 1 * (y 1).val = win0_2.index t 1 * 512 + 1 * (y 1).val; rw [e3]

theorem final : (dats m 0 c).arrAt 2 cfg0.N = arr m c :=
  (dats m 0 c).arrAt_eq_of_cover 2 (arr m c) (fun t _ => flushed_eq m c t) fun i => (covered_iff2 i).2 (by
    have h0 : (i 0).val < 1024 := (i 0).isLt; have h1 : (i 1).val < 8192 := (i 1).isLt; omega)

end Cert.GmiSendIdeal.Whole

namespace Cert.Proof

/-- The kernel's half of the first MLP product's gradient that is sent away is the reference's. -/
theorem same_gmi_send : Cert.algebraic_GmiSendIdeal_GmiSendRefIdeal := by
  intro m g m' g' _ ha
  refine ⟨fun c => Cert.GmiSendIdeal.Whole.arr m c, ?_, ?_⟩
  · refine (θ_run _ _ _).mono (fun r h c => ?_) (Cert.GmiSendIdeal.Value.run_blocks m g)
    exact ⟨(h c).1.trans (Cert.GmiSendIdeal.Whole.final m c), (h c).2⟩
  · refine (θ_run _ _ _).mono (fun r h c => ?_) (Cert.GmiSendRefIdeal.Value.run (F := Ideal) m' g')
    refine ⟨(h c).1.trans ?_, (h c).2⟩
    rw [(ha c).1, (ha c).2]
    funext i
    unfold Cert.GmiSendIdeal.Whole.arr Cert.GmiSendIdeal.Whole.res
    pointwise
    exact Finset.sum_congr rfl fun k _ => mul_comm _ _

end Cert.Proof
end
-- ==== Proof.GmiOwn.lean ====
module

public import proofs.«01_k».proof.Defs
public import proofs.«01_k».proof.Proof.Gen.GmiOwnIdeal.Value
public import proofs.«01_k».proof.Proof.Gen.GmiOwnRefIdeal.Run
public import proofs.«01_k».proof.Proof.Weights
public import Idealize.ShloMosaic.Lib.Pointwise
public import Idealize.ShloMosaic.Lib.Tactic

/-! # The gradient of the first MLP product's weights, the half kept, to which the half received is added: its left block is transposed once and kept -/

@[expose] public section

set_option maxRecDepth 16384

noncomputable section

open Idealize.ShloMosaic Idealize.ShloMosaic.TcCoe Idealize.SL.Sem
open Idealize.ShloMosaic.Pipeline (Dat)

namespace Cert.GmiOwnIdeal.Whole

open Cert.GmiOwnIdeal Cert.GmiOwnIdeal.Gen Cert.GmiOwnIdeal.Value

variable (m : (ℓ : Loc nD τ sig) → Buf (Elt Ideal) ℓ) (c : Dev nD)

theorem hz : (![0, 0] : Fin 2 → Nat) = fun _ => 0 := funext fun a => by fin_cases a <;> rfl

section Cases

variable (i : grid0.Coords) (a3 : Memref sig .tc .vmem S4096x1024 .bf16) (h3 : a3.IsWhole) (a4 : Memref sig .tc .vmem S4096x512 .bf16)
  (h4 : a4.IsWhole) (a5 : Memref sig .tc .vmem S1024x512 .f32) (h5 : a5.IsWhole) (a6 : Memref sig .tc .vmem S1024x512 .bf16)
  (h6 : a6.IsWhole) (a7 : Memref sig .tc .vmem S1024x4096 .bf16) (h7 : a7.IsWhole)
  (x : Vec Ideal S4096x1024 .bf16) (w : Vec Ideal S4096x512 .bf16)
  (o : Vec Ideal S1024x512 .f32) (s : Vec Ideal S1024x4096 .bf16)

/-- The first point of a row of blocks keeps the left block transposed … -/
theorem first_kept (k0 : cond0_0 i) : sout0_A_0 c i a3 h3 a4 h4 a5 h5 a6 h6 a7 h7 k0 x w o = k0_pay1 x := by
  unfold sout0_A_0
  rw [View.read_writes_eq_canon _ _ _ (scover0_A_0 c i a3 h3 a4 h4 a5 h5 a6 h6 a7 h7 k0 x w o)]
  unfold kernelRun0_A
  dsimp only
  sl_unfold_words
  rw [View.canon_unit_zero hz]
  simp only [View.readAt_eq_ld, h3.read_unread, View.ld_unit_zero (S := S4096x1024) hz]

/-- … and writes its product with the right block … -/
theorem first_out (k0 : cond0_0 i) : out0_A_3 c i a3 h3 a4 h4 a5 h5 a6 h6 a7 h7 k0 x w o = k0_pay2 (k0_pay1 x) w o := by
  unfold out0_A_3
  rw [View.read_writes_eq_canon _ _ _ (cover0_A_3 c i a3 h3 a4 h4 a5 h5 a6 h6 a7 h7 k0 x w o)]
  unfold kernelRun0_A
  dsimp only
  sl_unfold_words
  rw [View.canon_unit_zero hz, View.readCov_unit_zero (S := S1024x4096) _ hz]
  simp only [View.readAt_eq_ld, h3.read_unread, h4.read_unread, h5.read_unread, View.ld_unit_zero (S := S4096x1024) hz, View.ld_unit_zero (S := S4096x512) hz,
    View.ld_unit_zero (S := S1024x512) hz]

/-- … as the later points of the row do with what was kept. -/
theorem later_out (k0 : ¬cond0_0 i) : out0_B_3 c i a3 h3 a4 h4 a5 h5 a6 h6 a7 h7 k0 x w o s = k0_pay2 s w o := by
  unfold out0_B_3
  rw [View.read_writes_eq_canon _ _ _ (cover0_B_3 c i a3 h3 a4 h4 a5 h5 a6 h6 a7 h7 k0 x w o s)]
  unfold kernelRun0_B
  dsimp only
  rw [View.canon_unit_zero hz]
  simp only [View.readAt_eq_ld, h4.read_unread, h5.read_unread, h7.read_unread, View.ld_unit_zero (S := S1024x4096) hz, View.ld_unit_zero (S := S4096x512) hz,
    View.ld_unit_zero (S := S1024x512) hz]

end Cases

/-- Where each window stands at a point, seen from the result's block. -/
theorem idx_facts : ∀ t : Fin cfg0.N, win0_0.index t 0 = 0 ∧ win0_0.index t 1 = win0_3.index t 0 ∧ win0_3.index t 0 = 0
    ∧ win0_1.index t 0 = 0 ∧ win0_1.index t 1 = win0_3.index t 1 ∧ win0_2.index t = win0_3.index t :=
  (by decide +kernel : ∀ t : Fin grid0.N, _)

/-- A row of blocks has one left block. -/
theorem idx_kept : ∀ s t : Fin cfg0.N, ¬t.val % 16 = 0 → s.val + 1 = t.val → win0_0.index s = win0_0.index t :=
  (by decide +kernel : ∀ s t : Fin grid0.N, _)

/-- After every point the kept block is the point's own left block, transposed. -/
theorem kept : ∀ (n : Nat) (h : n < cfg0.N), (outsAt0 m c n h).2 = k0_pay1 (iblk m c 0 ⟨n, h⟩) :=
  Cert.Weights.kept_of (J := 16) _ _ (fun h => by rw [outsAt0_A m c ⟨0, h⟩ rfl]; dsimp only; rw [first_kept])
    (fun n h e => by rw [outsAt0_A m c ⟨n + 1, h⟩ e]; dsimp only; rw [first_kept])
    (fun n h e => by rw [outsAt0_B m c ⟨n + 1, h⟩ e]; rfl)
    (fun n h e => by
      have e := idx_kept ⟨n, Nat.lt_of_succ_lt h⟩ ⟨n + 1, h⟩ e rfl
      unfold iblk
      refine congrArg k0_pay1 (funext fun y => Cert.Weights.read_at _ _ _ _ fun a => ?_)
      match a with
      | ⟨0, _⟩ => show win0_0.index ⟨n, _⟩ 0 * 4096 + 1 * (y 0).val = win0_0.index ⟨n + 1, _⟩ 0 * 4096 + 1 * (y 0).val; rw [e]
      | ⟨1, _⟩ => show win0_0.index ⟨n, _⟩ 1 * 1024 + 1 * (y 1).val = win0_0.index ⟨n + 1, _⟩ 1 * 1024 + 1 * (y 1).val; rw [e])

/-- So every point writes the product of its own two blocks. -/
theorem outs (t : Fin cfg0.N) : (outsAt0 m c t.val t.isLt).1 = k0_pay2 (k0_pay1 (iblk m c 0 t)) (iblk m c 1 t) (iblk m c 2 t) := by
  by_cases h0 : t.val % 16 = 0
  · rw [outsAt0_A m c t h0]; dsimp only; rw [first_out]
  · have e := kept m c t.val t.isLt
    rw [outsAt0_B m c t h0] at e ⊢
    dsimp only at e ⊢
    rw [later_out]
    exact congrArg (k0_pay2 · _ _) e

/-- The product at a row and a column: a column of the left block times a column of the right, and the received block. -/
theorem pay_apply (a : Vec Ideal S4096x1024 .bf16) (b : Vec Ideal S4096x512 .bf16) (d : Vec Ideal S1024x512 .f32) (y : S1024x512.Idx) :
    k0_pay2 (k0_pay1 a) b d y = ∑ k : Fin 4096, (a (ix2 k (y 0)) : EReal) * b (ix2 k (y 1)) + d y := by
  unfold k0_pay2 k0_pay1
  pointwise

/-- The whole result: a column of the left array's first half times a column of the right array, and the received half. -/
def res (x : Vec Ideal S4096x2048 .bf16) (w : Vec Ideal S4096x8192 .bf16)
    (d : Vec Ideal S1024x8192 .f32) : Vec Ideal S1024x8192 .bf16 :=
  fun i => ∑ k : Fin 4096, (x (ix2 k ⟨(i 0).val, by have := (i 0).isLt; simp at this; omega⟩) : EReal) * w (ix2 k (i 1)) + d i

abbrev arr : Vec Ideal S1024x8192 .bf16 := res (m ((c : Thread nD τ).loc main_arg0)) (m ((c : Thread nD τ).loc main_arg1))
  (m ((c : Thread nD τ).loc main_arg2))

/-- What a point writes back is its block of the whole result. -/
theorem flushed_eq (t : Fin cfg0.N) : (dats m 0 c).flushed 3 t = ((cfg0.win 3).blk t).view.read (Elt Ideal) (arr m c) := by
  obtain ⟨e0, e1, e4, e2, e3, e5⟩ := idx_facts t
  rw [flushed3, outs]
  funext y
  show k0_pay2 (k0_pay1 (iblk m c 0 t)) (iblk m c 1 t) (iblk m c 2 t) y = arr m c (((cfg0.win 3).blk t).view.emb y)
  rw [pay_apply]
  unfold arr res
  refine congrArg₂ (fun p q : EReal => p + q) (Finset.sum_congr rfl fun k _ => congrArg₂ (fun p q : EReal => p * q) ?_ ?_) ?_
  · refine Cert.Weights.read_at _ _ _ _ fun a => ?_
    match a with
    | ⟨0, _⟩ => show win0_0.index t 0 * 4096 + 1 * k.val = k.val; rw [e0]; omega
    | ⟨1, _⟩ => show win0_0.index t 1 * 1024 + 1 * (y 0).val = win0_3.index t 0 * 1024 + 1 * (y 0).val; rw [e1]
  · refine Cert.Weights.read_at _ _ _ _ fun a => ?_
    match a with
    | ⟨0, _⟩ => show win0_1.index t 0 * 4096 + 1 * k.val = k.val; rw [e2]; omega
    | ⟨1, _⟩ => show win0_1.index t 1 * 512 + 1 * (y 1).val = win0_3.index t 1 * 512 + 1 * (y 1).val; rw [e3]
  · refine Cert.Weights.read_at _ _ _ _ fun a => ?_
    match a with
    | ⟨0, _⟩ => show win0_2.index t 0 * 1024 + 1 * (y 0).val = win0_3.index t 0 * 1024 + 1 * (y 0).val; rw [e5]
    | ⟨1, _⟩ => show win0_2.index t 1 * 512 + 1 * (y 1).val = win0_3.index t 1 * 512 + 1 * (y 1).val; rw [e5]

theorem final : (dats m 0 c).arrAt 3 cfg0.N = arr m c :=
  (dats m 0 c).arrAt_eq_of_cover 3 (arr m c) (fun t _ => flushed_eq m c t) fun i => (covered_iff3 i).2 (by
    have h0 : (i 0).val < 1024 := (i 0).isLt; have h1 : (i 1).val < 8192 := (i 1).isLt; omega)

end Cert.GmiOwnIdeal.Whole

namespace Cert.Proof

/-- The kernel's half of the first MLP product's gradient that is kept, with the received half added, is the reference's. -/
theorem same_gmi_own : Cert.algebraic_GmiOwnIdeal_GmiOwnRefIdeal := by
  intro m g m' g' _ ha
  refine ⟨fun c => Cert.GmiOwnIdeal.Whole.arr m c, ?_, ?_⟩
  · refine (θ_run _ _ _).mono (fun r h c => ?_) (Cert.GmiOwnIdeal.Value.run_blocks m g)
    exact ⟨(h c).1.trans (Cert.GmiOwnIdeal.Whole.final m c), (h c).2⟩
  · refine (θ_run _ _ _).mono (fun r h c => ?_) (Cert.GmiOwnRefIdeal.Value.run (F := Ideal) m' g')
    refine ⟨(h c).1.trans ?_, (h c).2⟩
    rw [(ha c).1, (ha c).2.1, (ha c).2.2]
    funext i
    unfold Cert.GmiOwnIdeal.Whole.arr Cert.GmiOwnIdeal.Whole.res
    pointwise
    exact congrArg (· + _) (Finset.sum_congr rfl fun k _ => mul_comm _ _)

end Cert.Proof
end
-- ==== Proof.GinSend.lean ====
module

public import proofs.«01_k».proof.Defs
public import proofs.«01_k».proof.Proof.Gen.GinSendIdeal.Value
public import proofs.«01_k».proof.Proof.Gen.GinSendRefIdeal.Run
public import proofs.«01_k».proof.Proof.Weights
public import Idealize.ShloMosaic.Lib.Pointwise
public import Idealize.ShloMosaic.Lib.Tactic

/-! # The gradient of the input projection's weights, the half sent away: its left block is transposed once and kept -/

@[expose] public section

set_option maxRecDepth 16384

noncomputable section

open Idealize.ShloMosaic Idealize.ShloMosaic.TcCoe Idealize.SL.Sem
open Idealize.ShloMosaic.Pipeline (Dat)

namespace Cert.GinSendIdeal.Whole

open Cert.GinSendIdeal Cert.GinSendIdeal.Gen Cert.GinSendIdeal.Value

variable (m : (ℓ : Loc nD τ sig) → Buf (Elt Ideal) ℓ) (c : Dev nD)

theorem hz : (![0, 0] : Fin 2 → Nat) = fun _ => 0 := funext fun a => by fin_cases a <;> rfl

section Cases

variable (i : grid0.Coords) (a3 : Memref sig .tc .vmem S4096x1024 .bf16) (h3 : a3.IsWhole) (a4 : Memref sig .tc .vmem S4096x512 .bf16)
  (h4 : a4.IsWhole) (a5 : Memref sig .tc .vmem S1024x512 .f32) (h5 : a5.IsWhole) (a6 : Memref sig .tc .vmem S1024x4096 .bf16) (h6 : a6.IsWhole)
  (x : Vec Ideal S4096x1024 .bf16) (w : Vec Ideal S4096x512 .bf16) (s : Vec Ideal S1024x4096 .bf16)

/-- The first point of a row of blocks keeps the left block transposed … -/
theorem first_kept (k0 : cond0_0 i) : sout0_A_0 c i a3 h3 a4 h4 a5 h5 a6 h6 k0 x w = k0_pay1 x := by
  unfold sout0_A_0
  rw [View.read_writes_eq_canon _ _ _ (scover0_A_0 c i a3 h3 a4 h4 a5 h5 a6 h6 k0 x w)]
  unfold kernelRun0_A
  dsimp only
  sl_unfold_words
  rw [View.canon_unit_zero hz]
  simp only [View.readAt_eq_ld, h3.read_unread, View.ld_unit_zero (S := S4096x1024) hz]

/-- … and writes its product with the right block … -/
theorem first_out (k0 : cond0_0 i) : out0_A_2 c i a3 h3 a4 h4 a5 h5 a6 h6 k0 x w = k0_pay2 (k0_pay1 x) w := by
  unfold out0_A_2
  rw [View.read_writes_eq_canon _ _ _ (cover0_A_2 c i a3 h3 a4 h4 a5 h5 a6 h6 k0 x w)]
  unfold kernelRun0_A
  dsimp only
  sl_unfold_words
  rw [View.canon_unit_zero hz, View.readCov_unit_zero (S := S1024x4096) _ hz]
  simp only [View.readAt_eq_ld, h3.read_unread, h4.read_unread, View.ld_unit_zero (S := S4096x1024) hz, View.ld_unit_zero (S := S4096x512) hz]

/-- … as the later points of the row do with what was kept. -/
theorem later_out (k0 : ¬cond0_0 i) : out0_B_2 c i a3 h3 a4 h4 a5 h5 a6 h6 k0 x w s = k0_pay2 s w := by
  unfold out0_B_2
  rw [View.read_writes_eq_canon _ _ _ (cover0_B_2 c i a3 h3 a4 h4 a5 h5 a6 h6 k0 x w s)]
  unfold kernelRun0_B
  dsimp only
  rw [View.canon_unit_zero hz]
  simp only [View.readAt_eq_ld, h4.read_unread, h6.read_unread, View.ld_unit_zero (S := S1024x4096) hz, View.ld_unit_zero (S := S4096x512) hz]

end Cases

/-- Where each window stands at a point, seen from the result's block. -/
theorem idx_facts : ∀ t : Fin cfg0.N, win0_0.index t 0 = 0 ∧ win0_0.index t 1 = win0_2.index t 0 + 1 ∧ win0_2.index t 0 = 0
    ∧ win0_1.index t 0 = 0 ∧ win0_1.index t 1 = win0_2.index t 1 :=
  (by decide +kernel : ∀ t : Fin grid0.N, _)

/-- A row of blocks has one left block. -/
theorem idx_kept : ∀ s t : Fin cfg0.N, ¬t.val % 19 = 0 → s.val + 1 = t.val → win0_0.index s = win0_0.index t :=
  (by decide +kernel : ∀ s t : Fin grid0.N, _)

/-- After every point the kept block is the point's own left block, transposed. -/
theorem kept : ∀ (n : Nat) (h : n < cfg0.N), (outsAt0 m c n h).2 = k0_pay1 (iblk m c 0 ⟨n, h⟩) :=
  Cert.Weights.kept_of (J := 19) _ _ (fun h => by rw [outsAt0_A m c ⟨0, h⟩ rfl]; dsimp only; rw [first_kept])
    (fun n h e => by rw [outsAt0_A m c ⟨n + 1, h⟩ e]; dsimp only; rw [first_kept])
    (fun n h e => by rw [outsAt0_B m c ⟨n + 1, h⟩ e]; rfl)
    (fun n h e => by
      have e := idx_kept ⟨n, Nat.lt_of_succ_lt h⟩ ⟨n + 1, h⟩ e rfl
      unfold iblk
      refine congrArg k0_pay1 (funext fun y => Cert.Weights.read_at _ _ _ _ fun a => ?_)
      match a with
      | ⟨0, _⟩ => show win0_0.index ⟨n, _⟩ 0 * 4096 + 1 * (y 0).val = win0_0.index ⟨n + 1, _⟩ 0 * 4096 + 1 * (y 0).val; rw [e]
      | ⟨1, _⟩ => show win0_0.index ⟨n, _⟩ 1 * 1024 + 1 * (y 1).val = win0_0.index ⟨n + 1, _⟩ 1 * 1024 + 1 * (y 1).val; rw [e])

/-- So every point writes the product of its own two blocks. -/
theorem outs (t : Fin cfg0.N) : (outsAt0 m c t.val t.isLt).1 = k0_pay2 (k0_pay1 (iblk m c 0 t)) (iblk m c 1 t) := by
  by_cases h0 : t.val % 19 = 0
  · rw [outsAt0_A m c t h0]; dsimp only; rw [first_out]
  · have e := kept m c t.val t.isLt
    rw [outsAt0_B m c t h0] at e ⊢
    dsimp only at e ⊢
    rw [later_out]
    exact congrArg (k0_pay2 · _) e

/-- The product at a row and a column: a column of the left block times a column of the right. -/
theorem pay_apply (a : Vec Ideal S4096x1024 .bf16) (b : Vec Ideal S4096x512 .bf16) (y : S1024x512.Idx) :
    k0_pay2 (k0_pay1 a) b y = ∑ k : Fin 4096, (a (ix2 k (y 0)) : EReal) * b (ix2 k (y 1)) := by
  unfold k0_pay2 k0_pay1
  pointwise

/-- The whole result: a column of the left array's second half times a column of the right. -/
def res (x : Vec Ideal S4096x2048 .bf16) (w : Vec Ideal S4096x9728 .bf16) : Vec Ideal S1024x9728 .f32 :=
  fun i => ∑ k : Fin 4096, (x (ix2 k ⟨1024 + (i 0).val, by have := (i 0).isLt; simp at this; omega⟩) : EReal) * w (ix2 k (i 1))

abbrev arr : Vec Ideal S1024x9728 .f32 := res (m ((c : Thread nD τ).loc main_arg0)) (m ((c : Thread nD τ).loc main_arg1))

/-- What a point writes back is its block of the whole result. -/
theorem flushed_eq (t : Fin cfg0.N) : (dats m 0 c).flushed 2 t = ((cfg0.win 2).blk t).view.read (Elt Ideal) (arr m c) := by
  obtain ⟨e0, e1, e4, e2, e3⟩ := idx_facts t
  rw [flushed2, outs]
  funext y
  show k0_pay2 (k0_pay1 (iblk m c 0 t)) (iblk m c 1 t) y = arr m c (((cfg0.win 2).blk t).view.emb y)
  rw [pay_apply]
  unfold arr res
  refine Finset.sum_congr rfl fun k _ => congrArg₂ (fun p q : EReal => p * q) ?_ ?_
  · refine Cert.Weights.read_at _ _ _ _ fun a => ?_
    match a with
    | ⟨0, _⟩ => show win0_0.index t 0 * 4096 + 1 * k.val = k.val; rw [e0]; omega
    | ⟨1, _⟩ => show win0_0.index t 1 * 1024 + 1 * (y 0).val = 1024 + (win0_2.index t 0 * 1024 + 1 * (y 0).val); rw [e1]; omega
  · refine Cert.Weights.read_at _ _ _ _ fun a => ?_
    match a with
    | ⟨0, _⟩ => show win0_1.index t 0 * 4096 + 1 * k.val = k.val; rw [e2]; omega
    | ⟨1, _⟩ => show win0_1.index t 1 * 512 + 1 * (y 1).val = win0_2.index t 1 * 512 + 1 * (y 1).val; rw [e3]

theorem final : (dats m 0 c).arrAt 2 cfg0.N = arr m c :=
  (dats m 0 c).arrAt_eq_of_cover 2 (arr m c) (fun t _ => flushed_eq m c t) fun i => (covered_iff2 i).2 (by
    have h0 : (i 0).val < 1024 := (i 0).isLt; have h1 : (i 1).val < 9728 := (i 1).isLt; omega)

end Cert.GinSendIdeal.Whole

namespace Cert.Proof

/-- The kernel's half of the input projection's gradient that is sent away is the reference's. -/
theorem same_gin_send : Cert.algebraic_GinSendIdeal_GinSendRefIdeal := by
  intro m g m' g' _ ha
  refine ⟨fun c => Cert.GinSendIdeal.Whole.arr m c, ?_, ?_⟩
  · refine (θ_run _ _ _).mono (fun r h c => ?_) (Cert.GinSendIdeal.Value.run_blocks m g)
    exact ⟨(h c).1.trans (Cert.GinSendIdeal.Whole.final m c), (h c).2⟩
  · refine (θ_run _ _ _).mono (fun r h c => ?_) (Cert.GinSendRefIdeal.Value.run (F := Ideal) m' g')
    refine ⟨(h c).1.trans ?_, (h c).2⟩
    rw [(ha c).1, (ha c).2]
    funext i
    unfold Cert.GinSendIdeal.Whole.arr Cert.GinSendIdeal.Whole.res
    pointwise
    exact Finset.sum_congr rfl fun k _ => mul_comm _ _

end Cert.Proof
end
-- ==== Proof.GinOwn.lean ====
module

public import proofs.«01_k».proof.Defs
public import proofs.«01_k».proof.Proof.Gen.GinOwnIdeal.Value
public import proofs.«01_k».proof.Proof.Gen.GinOwnRefIdeal.Run
public import proofs.«01_k».proof.Proof.Weights
public import Idealize.ShloMosaic.Lib.Pointwise
public import Idealize.ShloMosaic.Lib.Tactic

/-! # The gradient of the input projection's weights, the half kept: its left block is transposed once and kept -/

@[expose] public section

set_option maxRecDepth 16384

noncomputable section

open Idealize.ShloMosaic Idealize.ShloMosaic.TcCoe Idealize.SL.Sem
open Idealize.ShloMosaic.Pipeline (Dat)

namespace Cert.GinOwnIdeal.Whole

open Cert.GinOwnIdeal Cert.GinOwnIdeal.Gen Cert.GinOwnIdeal.Value

variable (m : (ℓ : Loc nD τ sig) → Buf (Elt Ideal) ℓ) (c : Dev nD)

theorem hz : (![0, 0] : Fin 2 → Nat) = fun _ => 0 := funext fun a => by fin_cases a <;> rfl

section Cases

variable (i : grid0.Coords) (a3 : Memref sig .tc .vmem S4096x1024 .bf16) (h3 : a3.IsWhole) (a4 : Memref sig .tc .vmem S4096x512 .bf16)
  (h4 : a4.IsWhole) (a5 : Memref sig .tc .vmem S1024x512 .f32) (h5 : a5.IsWhole) (a6 : Memref sig .tc .vmem S1024x4096 .bf16) (h6 : a6.IsWhole)
  (x : Vec Ideal S4096x1024 .bf16) (w : Vec Ideal S4096x512 .bf16) (s : Vec Ideal S1024x4096 .bf16)

/-- The first point of a row of blocks keeps the left block transposed … -/
theorem first_kept (k0 : cond0_0 i) : sout0_A_0 c i a3 h3 a4 h4 a5 h5 a6 h6 k0 x w = k0_pay1 x := by
  unfold sout0_A_0
  rw [View.read_writes_eq_canon _ _ _ (scover0_A_0 c i a3 h3 a4 h4 a5 h5 a6 h6 k0 x w)]
  unfold kernelRun0_A
  dsimp only
  sl_unfold_words
  rw [View.canon_unit_zero hz]
  simp only [View.readAt_eq_ld, h3.read_unread, View.ld_unit_zero (S := S4096x1024) hz]

/-- … and writes its product with the right block … -/
theorem first_out (k0 : cond0_0 i) : out0_A_2 c i a3 h3 a4 h4 a5 h5 a6 h6 k0 x w = k0_pay2 (k0_pay1 x) w := by
  unfold out0_A_2
  rw [View.read_writes_eq_canon _ _ _ (cover0_A_2 c i a3 h3 a4 h4 a5 h5 a6 h6 k0 x w)]
  unfold kernelRun0_A
  dsimp only
  sl_unfold_words
  rw [View.canon_unit_zero hz, View.readCov_unit_zero (S := S1024x4096) _ hz]
  simp only [View.readAt_eq_ld, h3.read_unread, h4.read_unread, View.ld_unit_zero (S := S4096x1024) hz, View.ld_unit_zero (S := S4096x512) hz]

/-- … as the later points of the row do with what was kept. -/
theorem later_out (k0 : ¬cond0_0 i) : out0_B_2 c i a3 h3 a4 h4 a5 h5 a6 h6 k0 x w s = k0_pay2 s w := by
  unfold out0_B_2
  rw [View.read_writes_eq_canon _ _ _ (cover0_B_2 c i a3 h3 a4 h4 a5 h5 a6 h6 k0 x w s)]
  unfold kernelRun0_B
  dsimp only
  rw [View.canon_unit_zero hz]
  simp only [View.readAt_eq_ld, h4.read_unread, h6.read_unread, View.ld_unit_zero (S := S1024x4096) hz, View.ld_unit_zero (S := S4096x512) hz]

end Cases

/-- Where each window stands at a point, seen from the result's block. -/
theorem idx_facts : ∀ t : Fin cfg0.N, win0_0.index t 0 = 0 ∧ win0_0.index t 1 = win0_2.index t 0 ∧ win0_2.index t 0 = 0
    ∧ win0_1.index t 0 = 0 ∧ win0_1.index t 1 = win0_2.index t 1 :=
  (by decide +kernel : ∀ t : Fin grid0.N, _)

/-- A row of blocks has one left block. -/
theorem idx_kept : ∀ s t : Fin cfg0.N, ¬t.val % 19 = 0 → s.val + 1 = t.val → win0_0.index s = win0_0.index t :=
  (by decide +kernel : ∀ s t : Fin grid0.N, _)

/-- After every point the kept block is the point's own left block, transposed. -/
theorem kept : ∀ (n : Nat) (h : n < cfg0.N), (outsAt0 m c n h).2 = k0_pay1 (iblk m c 0 ⟨n, h⟩) :=
  Cert.Weights.kept_of (J := 19) _ _ (fun h => by rw [outsAt0_A m c ⟨0, h⟩ rfl]; dsimp only; rw [first_kept])
    (fun n h e => by rw [outsAt0_A m c ⟨n + 1, h⟩ e]; dsimp only; rw [first_kept])
    (fun n h e => by rw [outsAt0_B m c ⟨n + 1, h⟩ e]; rfl)
    (fun n h e => by
      have e := idx_kept ⟨n, Nat.lt_of_succ_lt h⟩ ⟨n + 1, h⟩ e rfl
      unfold iblk
      refine congrArg k0_pay1 (funext fun y => Cert.Weights.read_at _ _ _ _ fun a => ?_)
      match a with
      | ⟨0, _⟩ => show win0_0.index ⟨n, _⟩ 0 * 4096 + 1 * (y 0).val = win0_0.index ⟨n + 1, _⟩ 0 * 4096 + 1 * (y 0).val; rw [e]
      | ⟨1, _⟩ => show win0_0.index ⟨n, _⟩ 1 * 1024 + 1 * (y 1).val = win0_0.index ⟨n + 1, _⟩ 1 * 1024 + 1 * (y 1).val; rw [e])

/-- So every point writes the product of its own two blocks. -/
theorem outs (t : Fin cfg0.N) : (outsAt0 m c t.val t.isLt).1 = k0_pay2 (k0_pay1 (iblk m c 0 t)) (iblk m c 1 t) := by
  by_cases h0 : t.val % 19 = 0
  · rw [outsAt0_A m c t h0]; dsimp only; rw [first_out]
  · have e := kept m c t.val t.isLt
    rw [outsAt0_B m c t h0] at e ⊢
    dsimp only at e ⊢
    rw [later_out]
    exact congrArg (k0_pay2 · _) e

/-- The product at a row and a column: a column of the left block times a column of the right. -/
theorem pay_apply (a : Vec Ideal S4096x1024 .bf16) (b : Vec Ideal S4096x512 .bf16) (y : S1024x512.Idx) :
    k0_pay2 (k0_pay1 a) b y = ∑ k : Fin 4096, (a (ix2 k (y 0)) : EReal) * b (ix2 k (y 1)) := by
  unfold k0_pay2 k0_pay1
  pointwise

/-- The whole result: a column of the left array's first half times a column of the right. -/
def res (x : Vec Ideal S4096x2048 .bf16) (w : Vec Ideal S4096x9728 .bf16) : Vec Ideal S1024x9728 .f32 :=
  fun i => ∑ k : Fin 4096, (x (ix2 k ⟨(i 0).val, by have := (i 0).isLt; simp at this; omega⟩) : EReal) * w (ix2 k (i 1))

abbrev arr : Vec Ideal S1024x9728 .f32 := res (m ((c : Thread nD τ).loc main_arg0)) (m ((c : Thread nD τ).loc main_arg1))

/-- What a point writes back is its block of the whole result. -/
theorem flushed_eq (t : Fin cfg0.N) : (dats m 0 c).flushed 2 t = ((cfg0.win 2).blk t).view.read (Elt Ideal) (arr m c) := by
  obtain ⟨e0, e1, e4, e2, e3⟩ := idx_facts t
  rw [flushed2, outs]
  funext y
  show k0_pay2 (k0_pay1 (iblk m c 0 t)) (iblk m c 1 t) y = arr m c (((cfg0.win 2).blk t).view.emb y)
  rw [pay_apply]
  unfold arr res
  refine Finset.sum_congr rfl fun k _ => congrArg₂ (fun p q : EReal => p * q) ?_ ?_
  · refine Cert.Weights.read_at _ _ _ _ fun a => ?_
    match a with
    | ⟨0, _⟩ => show win0_0.index t 0 * 4096 + 1 * k.val = k.val; rw [e0]; omega
    | ⟨1, _⟩ => show win0_0.index t 1 * 1024 + 1 * (y 0).val = win0_2.index t 0 * 1024 + 1 * (y 0).val; rw [e1]
  · refine Cert.Weights.read_at _ _ _ _ fun a => ?_
    match a with
    | ⟨0, _⟩ => show win0_1.index t 0 * 4096 + 1 * k.val = k.val; rw [e2]; omega
    | ⟨1, _⟩ => show win0_1.index t 1 * 512 + 1 * (y 1).val = win0_2.index t 1 * 512 + 1 * (y 1).val; rw [e3]

theorem final : (dats m 0 c).arrAt 2 cfg0.N = arr m c :=
  (dats m 0 c).arrAt_eq_of_cover 2 (arr m c) (fun t _ => flushed_eq m c t) fun i => (covered_iff2 i).2 (by
    have h0 : (i 0).val < 1024 := (i 0).isLt; have h1 : (i 1).val < 9728 := (i 1).isLt; omega)

end Cert.GinOwnIdeal.Whole

namespace Cert.Proof

/-- The kernel's half of the input projection's gradient that is kept is the reference's. -/
theorem same_gin_own : Cert.algebraic_GinOwnIdeal_GinOwnRefIdeal := by
  intro m g m' g' _ ha
  refine ⟨fun c => Cert.GinOwnIdeal.Whole.arr m c, ?_, ?_⟩
  · refine (θ_run _ _ _).mono (fun r h c => ?_) (Cert.GinOwnIdeal.Value.run_blocks m g)
    exact ⟨(h c).1.trans (Cert.GinOwnIdeal.Whole.final m c), (h c).2⟩
  · refine (θ_run _ _ _).mono (fun r h c => ?_) (Cert.GinOwnRefIdeal.Value.run (F := Ideal) m' g')
    refine ⟨(h c).1.trans ?_, (h c).2⟩
    rw [(ha c).1, (ha c).2]
    funext i
    unfold Cert.GinOwnIdeal.Whole.arr Cert.GinOwnIdeal.Whole.res
    pointwise
    exact Finset.sum_congr rfl fun k _ => mul_comm _ _

end Cert.Proof
end
-- ==== Proof.Bra.lean ====
module

public import proofs.«01_k».proof.Defs
public import proofs.«01_k».proof.Proof.Gen.BraIdeal.Value
public import proofs.«01_k».proof.Proof.Gen.BraRefIdeal.Run
public import Idealize.ShloMosaic.Lib.Pointwise

/-! # The branch projection -/

@[expose] public section

set_option maxRecDepth 16384

noncomputable section

open Idealize.ShloMosaic Idealize.ShloMosaic.TcCoe Idealize.SL.Sem
open Idealize.ShloMosaic.Pipeline (Dat)

namespace Cert.BraIdeal.Whole

open Cert.BraIdeal Cert.BraIdeal.Gen

variable (m : (ℓ : Loc nD τ sig) → Buf (Elt Ideal) ℓ) (c : Dev nD)

/-- One block of the product at a row and a column. -/
theorem pay_apply (a : Vec Ideal S1024x1024 .bf16) (b : Vec Ideal S1024x1024 .bf16) (y : S1024x1024.Idx) :
    k0_pay1 a b y = ∑ k : Fin 1024, (a (ix2 (y 0) k) : EReal) * b (ix2 k (y 1)) := by
  unfold k0_pay1
  pointwise

/-- The whole product: a row of the input times a column of the weights. -/
def res (x : Vec Ideal S4096x1024 .bf16) (w : Vec Ideal S1024x2048 .bf16) : Vec Ideal S4096x2048 .f32 :=
  fun i => ∑ k : Fin 1024, (x (ix2 (i 0) k) : EReal) * w (ix2 k (i 1))

abbrev arr : Vec Ideal S4096x2048 .f32 := res (m ((c : Thread nD τ).loc main_arg0)) (m ((c : Thread nD τ).loc main_arg1))

/-- Where each window stands at a point, seen from the result's block. -/
theorem idx_facts : ∀ t : Fin cfg0.N, win0_0.index t 0 = win0_2.index t 0 ∧ win0_0.index t 1 = 0
    ∧ win0_1.index t 0 = 0 ∧ win0_1.index t 1 = win0_2.index t 1 :=
  (by decide +kernel : ∀ t : Fin grid0.N, _)

theorem idx_onto : ∀ (p : Fin 4) (q : Fin 2), ∃ t : Fin cfg0.N, win0_2.index t 0 = p.val ∧ win0_2.index t 1 = q.val :=
  (by decide +kernel : ∀ (p : Fin 4) (q : Fin 2), ∃ t : Fin grid0.N, _)

/-- What a point writes back is its block of the whole product. -/
theorem flushed_eq (t : Fin cfg0.N) : (dats m 0 c).flushed 2 t = ((cfg0.win 2).blk t).view.read (Elt Ideal) (arr m c) := by
  have hz : (![0, 0] : Fin 2 → Nat) = fun _ => 0 := funext fun a => by fin_cases a <;> rfl
  obtain ⟨e0, e1, e2, e3⟩ := idx_facts t
  rw [Value.flushed2]
  unfold out0_2
  rw [View.canon_unit_zero hz, View.ld_unit_zero hz, View.ld_unit_zero hz]
  funext y
  show k0_pay1 (iblk m c 0 t) (iblk m c 1 t) y = arr m c (((cfg0.win 2).blk t).view.emb y)
  rw [pay_apply]
  unfold arr res
  refine Finset.sum_congr rfl fun k _ => congrArg₂ (fun p q : EReal => p * q) ?_ ?_
  · unfold iblk
    rw [View.read_apply]
    refine congrArg (m ((c : Thread nD τ).loc main_arg0)) (funext fun a => Fin.ext ?_)
    match a with
    | ⟨0, _⟩ => show win0_0.index t 0 * 1024 + 1 * (y 0).val = win0_2.index t 0 * 1024 + 1 * (y 0).val; rw [e0]
    | ⟨1, _⟩ => show win0_0.index t 1 * 1024 + 1 * k.val = k.val; rw [e1]; omega
  · unfold iblk
    rw [View.read_apply]
    refine congrArg (m ((c : Thread nD τ).loc main_arg1)) (funext fun a => Fin.ext ?_)
    match a with
    | ⟨0, _⟩ => show win0_1.index t 0 * 1024 + 1 * k.val = k.val; rw [e2]; omega
    | ⟨1, _⟩ => show win0_1.index t 1 * 1024 + 1 * (y 1).val = win0_2.index t 1 * 1024 + 1 * (y 1).val; rw [e3]

theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  obtain ⟨t, q0, q1⟩ := idx_onto ⟨(i 0).val / 1024, by omega⟩ ⟨(i 1).val / 1024, by omega⟩
  refine ⟨t, flush0_2 t, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [q0]; dsimp only; omega
  | ⟨1, _⟩ => show win0_2.index t 1 * 1024 ≤ (i 1).val ∧ (i 1).val < win0_2.index t 1 * 1024 + 1024; rw [q1]; dsimp only; omega

theorem final : (dats m 0 c).arrAt 2 cfg0.N = arr m c :=
  (dats m 0 c).arrAt_eq_of_cover 2 (arr m c) (fun t _ => flushed_eq m c t) cover

end Cert.BraIdeal.Whole

namespace Cert.Proof

/-- The kernel's branch projection is the reference's. -/
theorem same_bra : Cert.algebraic_BraIdeal_BraRefIdeal := by
  intro m g m' g' _ ha
  refine ⟨fun c => Cert.BraIdeal.Whole.arr m c, ?_, ?_⟩
  · refine (θ_run _ _ _).mono (fun r h c => ?_) (Cert.BraIdeal.Value.run_blocks m g)
    exact ⟨(h c).1.trans (Cert.BraIdeal.Whole.final m c), (h c).2⟩
  · refine (θ_run _ _ _).mono (fun r h c => ?_) (Cert.BraRefIdeal.Value.run (F := Ideal) m' g')
    refine ⟨(h c).1.trans ?_, (h c).2⟩
    obtain ⟨a0, a1⟩ := ha c
    rw [a0, a1]
    funext i
    unfold Cert.BraIdeal.Whole.arr Cert.BraIdeal.Whole.res
    pointwise

end Cert.Proof
end
-- ==== Proof.Dob.lean ====
module

public import proofs.«01_k».proof.Defs
public import proofs.«01_k».proof.Proof.Gen.DobIdeal.Value
public import proofs.«01_k».proof.Proof.Gen.DobRefIdeal.Run
public import Idealize.ShloMosaic.Lib.Pointwise

/-! # The gradient back through a branch projection's weights -/

@[expose] public section

set_option maxRecDepth 16384

noncomputable section

open Idealize.ShloMosaic Idealize.ShloMosaic.TcCoe Idealize.SL.Sem
open Idealize.ShloMosaic.Pipeline (Dat)

namespace Cert.DobIdeal.Whole

open Cert.DobIdeal Cert.DobIdeal.Gen

variable (m : (ℓ : Loc nD τ sig) → Buf (Elt Ideal) ℓ) (c : Dev nD)

/-- One block of the product at a row and a column. -/
theorem pay_apply (a : Vec Ideal S1024x2048 .bf16) (b : Vec Ideal S1024x2048 .bf16) (y : S1024x1024.Idx) :
    k0_pay1 a b y = ∑ k : Fin 2048, (a (ix2 (y 0) k) : EReal) * b (ix2 (y 1) k) := by
  unfold k0_pay1
  pointwise

/-- The whole product: a row of the one times a row of the other. -/
def res (x : Vec Ideal S4096x2048 .bf16) (w : Vec Ideal S1024x2048 .bf16) : Vec Ideal S4096x1024 .f32 :=
  fun i => ∑ k : Fin 2048, (x (ix2 (i 0) k) : EReal) * w (ix2 (i 1) k)

abbrev arr : Vec Ideal S4096x1024 .f32 := res (m ((c : Thread nD τ).loc main_arg0)) (m ((c : Thread nD τ).loc main_arg1))

/-- Where each window stands at a point, seen from the result's block. -/
theorem idx_facts : ∀ t : Fin cfg0.N, win0_0.index t 0 = win0_2.index t 0 ∧ win0_0.index t 1 = 0
    ∧ win0_1.index t 0 = win0_2.index t 1 ∧ win0_1.index t 1 = 0 :=
  (by decide +kernel : ∀ t : Fin grid0.N, _)

theorem idx_onto : ∀ (p : Fin 4) (q : Fin 1), ∃ t : Fin cfg0.N, win0_2.index t 0 = p.val ∧ win0_2.index t 1 = q.val :=
  (by decide +kernel : ∀ (p : Fin 4) (q : Fin 1), ∃ t : Fin grid0.N, _)

/-- What a point writes back is its block of the whole product. -/
theorem flushed_eq (t : Fin cfg0.N) : (dats m 0 c).flushed 2 t = ((cfg0.win 2).blk t).view.read (Elt Ideal) (arr m c) := by
  have hz : (![0, 0] : Fin 2 → Nat) = fun _ => 0 := funext fun a => by fin_cases a <;> rfl
  obtain ⟨e0, e1, e2, e3⟩ := idx_facts t
  rw [Value.flushed2]
  unfold out0_2
  rw [View.canon_unit_zero hz, View.ld_unit_zero hz, View.ld_unit_zero hz]
  funext y
  show k0_pay1 (iblk m c 0 t) (iblk m c 1 t) y = arr m c (((cfg0.win 2).blk t).view.emb y)
  rw [pay_apply]
  unfold arr res
  refine Finset.sum_congr rfl fun k _ => congrArg₂ (fun p q : EReal => p * q) ?_ ?_
  · unfold iblk
    rw [View.read_apply]
    refine congrArg (m ((c : Thread nD τ).loc main_arg0)) (funext fun a => Fin.ext ?_)
    match a with
    | ⟨0, _⟩ => show win0_0.index t 0 * 1024 + 1 * (y 0).val = win0_2.index t 0 * 1024 + 1 * (y 0).val; rw [e0]
    | ⟨1, _⟩ => show win0_0.index t 1 * 2048 + 1 * k.val = k.val; rw [e1]; omega
  · unfold iblk
    rw [View.read_apply]
    refine congrArg (m ((c : Thread nD τ).loc main_arg1)) (funext fun a => Fin.ext ?_)
    match a with
    | ⟨0, _⟩ => show win0_1.index t 0 * 1024 + 1 * (y 1).val = win0_2.index t 1 * 1024 + 1 * (y 1).val; rw [e2]
    | ⟨1, _⟩ => show win0_1.index t 1 * 2048 + 1 * k.val = k.val; rw [e3]; omega

theorem cover (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  obtain ⟨t, q0, q1⟩ := idx_onto ⟨(i 0).val / 1024, by omega⟩ ⟨(i 1).val / 1024, by omega⟩
  refine ⟨t, flush0_2 t, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [q0]; dsimp only; omega
  | ⟨1, _⟩ => show win0_2.index t 1 * 1024 ≤ (i 1).val ∧ (i 1).val < win0_2.index t 1 * 1024 + 1024; rw [q1]; dsimp only; omega

theorem final : (dats m 0 c).arrAt 2 cfg0.N = arr m c :=
  (dats m 0 c).arrAt_eq_of_cover 2 (arr m c) (fun t _ => flushed_eq m c t) cover

end Cert.DobIdeal.Whole

namespace Cert.Proof

/-- The kernel's gradient back through a branch projection is the reference's. -/
theorem same_dob : Cert.algebraic_DobIdeal_DobRefIdeal := by
  intro m g m' g' _ ha
  refine ⟨fun c => Cert.DobIdeal.Whole.arr m c, ?_, ?_⟩
  · refine (θ_run _ _ _).mono (fun r h c => ?_) (Cert.DobIdeal.Value.run_blocks m g)
    exact ⟨(h c).1.trans (Cert.DobIdeal.Whole.final m c), (h c).2⟩
  · refine (θ_run _ _ _).mono (fun r h c => ?_) (Cert.DobRefIdeal.Value.run (F := Ideal) m' g')
    refine ⟨(h c).1.trans ?_, (h c).2⟩
    obtain ⟨a0, a1⟩ := ha c
    rw [a0, a1]
    funext i
    unfold Cert.DobIdeal.Whole.arr Cert.DobIdeal.Whole.res
    pointwise

end Cert.Proof
end
-- ==== Proof.Gab.lean ====
module

public import proofs.«01_k».proof.Defs
public import proofs.«01_k».proof.Proof.Gen.GabIdeal.Value
public import proofs.«01_k».proof.Proof.Gen.GabRefIdeal.Run
public import proofs.«01_k».proof.Proof.Weights
public import Idealize.ShloMosaic.Lib.Pointwise
public import Idealize.ShloMosaic.Lib.Tactic

/-! # The gradient of the branch projections' weights: the left block is transposed once and kept for a whole row of blocks -/

@[expose] public section

set_option maxRecDepth 16384

noncomputable section

open Idealize.ShloMosaic Idealize.ShloMosaic.TcCoe Idealize.SL.Sem
open Idealize.ShloMosaic.Pipeline (Dat)

namespace Cert.GabIdeal.Whole

open Cert.GabIdeal Cert.GabIdeal.Gen Cert.GabIdeal.Value

variable (m : (ℓ : Loc nD τ sig) → Buf (Elt Ideal) ℓ) (c : Dev nD)

theorem hz : (![0, 0] : Fin 2 → Nat) = fun _ => 0 := funext fun a => by fin_cases a <;> rfl

section Cases

variable (i : grid0.Coords) (a3 : Memref sig .tc .vmem S4096x1024 .bf16) (h3 : a3.IsWhole) (a4 : Memref sig .tc .vmem S4096x512 .bf16)
  (h4 : a4.IsWhole) (a5 : Memref sig .tc .vmem S1024x512 .f32) (h5 : a5.IsWhole) (a6 : Memref sig .tc .vmem S1024x4096 .bf16) (h6 : a6.IsWhole)
  (x : Vec Ideal S4096x1024 .bf16) (w : Vec Ideal S4096x512 .bf16) (s : Vec Ideal S1024x4096 .bf16)

/-- The first point of a row of blocks keeps the left block transposed … -/
theorem first_kept (k0 : cond0_0 i) : sout0_A_0 c i a3 h3 a4 h4 a5 h5 a6 h6 k0 x w = k0_pay1 x := by
  unfold sout0_A_0
  rw [View.read_writes_eq_canon _ _ _ (scover0_A_0 c i a3 h3 a4 h4 a5 h5 a6 h6 k0 x w)]
  unfold kernelRun0_A
  dsimp only
  sl_unfold_words
  rw [View.canon_unit_zero hz]
  simp only [View.readAt_eq_ld, h3.read_unread, View.ld_unit_zero (S := S4096x1024) hz]

/-- … and writes its product with the right block … -/
theorem first_out (k0 : cond0_0 i) : out0_A_2 c i a3 h3 a4 h4 a5 h5 a6 h6 k0 x w = k0_pay2 (k0_pay1 x) w := by
  unfold out0_A_2
  rw [View.read_writes_eq_canon _ _ _ (cover0_A_2 c i a3 h3 a4 h4 a5 h5 a6 h6 k0 x w)]
  unfold kernelRun0_A
  dsimp only
  sl_unfold_words
  rw [View.canon_unit_zero hz, View.readCov_unit_zero (S := S1024x4096) _ hz]
  simp only [View.readAt_eq_ld, h3.read_unread, h4.read_unread, View.ld_unit_zero (S := S4096x1024) hz, View.ld_unit_zero (S := S4096x512) hz]

/-- … as the later points of the row do with what was kept. -/
theorem later_out (k0 : ¬cond0_0 i) : out0_B_2 c i a3 h3 a4 h4 a5 h5 a6 h6 k0 x w s = k0_pay2 s w := by
  unfold out0_B_2
  rw [View.read_writes_eq_canon _ _ _ (cover0_B_2 c i a3 h3 a4 h4 a5 h5 a6 h6 k0 x w s)]
  unfold kernelRun0_B
  dsimp only
  rw [View.canon_unit_zero hz]
  simp only [View.readAt_eq_ld, h4.read_unread, h6.read_unread, View.ld_unit_zero (S := S1024x4096) hz, View.ld_unit_zero (S := S4096x512) hz]

end Cases

/-- Where each window stands at a point, seen from the result's block. -/
theorem idx_facts : ∀ t : Fin cfg0.N, win0_0.index t 0 = 0 ∧ win0_0.index t 1 = win0_2.index t 0
    ∧ win0_1.index t 0 = 0 ∧ win0_1.index t 1 = win0_2.index t 1 :=
  (by decide +kernel : ∀ t : Fin grid0.N, _)

/-- A row of blocks has one left block. -/
theorem idx_kept : ∀ s t : Fin cfg0.N, ¬t.val % 4 = 0 → s.val + 1 = t.val → win0_0.index s = win0_0.index t :=
  (by decide +kernel : ∀ s t : Fin grid0.N, _)

/-- After every point the kept block is the point's own left block, transposed. -/
theorem kept : ∀ (n : Nat) (h : n < cfg0.N), (outsAt0 m c n h).2 = k0_pay1 (iblk m c 0 ⟨n, h⟩) :=
  Cert.Weights.kept_of (J := 4) _ _ (fun h => by rw [outsAt0_A m c ⟨0, h⟩ rfl]; dsimp only; rw [first_kept])
    (fun n h e => by rw [outsAt0_A m c ⟨n + 1, h⟩ e]; dsimp only; rw [first_kept])
    (fun n h e => by rw [outsAt0_B m c ⟨n + 1, h⟩ e]; rfl)
    (fun n h e => by
      have e := idx_kept ⟨n, Nat.lt_of_succ_lt h⟩ ⟨n + 1, h⟩ e rfl
      unfold iblk
      refine congrArg k0_pay1 (funext fun y => Cert.Weights.read_at _ _ _ _ fun a => ?_)
      match a with
      | ⟨0, _⟩ => show win0_0.index ⟨n, _⟩ 0 * 4096 + 1 * (y 0).val = win0_0.index ⟨n + 1, _⟩ 0 * 4096 + 1 * (y 0).val; rw [e]
      | ⟨1, _⟩ => show win0_0.index ⟨n, _⟩ 1 * 1024 + 1 * (y 1).val = win0_0.index ⟨n + 1, _⟩ 1 * 1024 + 1 * (y 1).val; rw [e])

/-- So every point writes the product of its own two blocks. -/
theorem outs (t : Fin cfg0.N) : (outsAt0 m c t.val t.isLt).1 = k0_pay2 (k0_pay1 (iblk m c 0 t)) (iblk m c 1 t) := by
  by_cases h0 : t.val % 4 = 0
  · rw [outsAt0_A m c t h0]; dsimp only; rw [first_out]
  · have e := kept m c t.val t.isLt
    rw [outsAt0_B m c t h0] at e ⊢
    dsimp only at e ⊢
    rw [later_out]
    exact congrArg (k0_pay2 · _) e

/-- The product at a row and a column: a column of the left block times a column of the right. -/
theorem pay_apply (a : Vec Ideal S4096x1024 .bf16) (b : Vec Ideal S4096x512 .bf16) (y : S1024x512.Idx) :
    k0_pay2 (k0_pay1 a) b y = ∑ k : Fin 4096, (a (ix2 k (y 0)) : EReal) * b (ix2 k (y 1)) := by
  unfold k0_pay2 k0_pay1
  pointwise

/-- The whole result: a column of the left array times a column of the right. -/
def res (x : Vec Ideal S4096x1024 .bf16) (w : Vec Ideal S4096x2048 .bf16) : Vec Ideal S1024x2048 .f32 :=
  fun i => ∑ k : Fin 4096, (x (ix2 k (i 0)) : EReal) * w (ix2 k (i 1))

abbrev arr : Vec Ideal S1024x2048 .f32 := res (m ((c : Thread nD τ).loc main_arg0)) (m ((c : Thread nD τ).loc main_arg1))

/-- What a point writes back is its block of the whole result. -/
theorem flushed_eq (t : Fin cfg0.N) : (dats m 0 c).flushed 2 t = ((cfg0.win 2).blk t).view.read (Elt Ideal) (arr m c) := by
  obtain ⟨e0, e1, e2, e3⟩ := idx_facts t
  rw [flushed2, outs]
  funext y
  show k0_pay2 (k0_pay1 (iblk m c 0 t)) (iblk m c 1 t) y = arr m c (((cfg0.win 2).blk t).view.emb y)
  rw [pay_apply]
  unfold arr res
  refine Finset.sum_congr rfl fun k _ => congrArg₂ (fun p q : EReal => p * q) ?_ ?_
  · refine Cert.Weights.read_at _ _ _ _ fun a => ?_
    match a with
    | ⟨0, _⟩ => show win0_0.index t 0 * 4096 + 1 * k.val = k.val; rw [e0]; omega
    | ⟨1, _⟩ => show win0_0.index t 1 * 1024 + 1 * (y 0).val = win0_2.index t 0 * 1024 + 1 * (y 0).val; rw [e1]
  · refine Cert.Weights.read_at _ _ _ _ fun a => ?_
    match a with
    | ⟨0, _⟩ => show win0_1.index t 0 * 4096 + 1 * k.val = k.val; rw [e2]; omega
    | ⟨1, _⟩ => show win0_1.index t 1 * 512 + 1 * (y 1).val = win0_2.index t 1 * 512 + 1 * (y 1).val; rw [e3]

theorem final : (dats m 0 c).arrAt 2 cfg0.N = arr m c :=
  (dats m 0 c).arrAt_eq_of_cover 2 (arr m c) (fun t _ => flushed_eq m c t) fun i => (covered_iff2 i).2 (by
    have h0 : (i 0).val < 1024 := (i 0).isLt; have h1 : (i 1).val < 2048 := (i 1).isLt; omega)

end Cert.GabIdeal.Whole

namespace Cert.Proof

/-- The kernel's gradient of the branch projections' weights is the reference's. -/
theorem same_gab : Cert.algebraic_GabIdeal_GabRefIdeal := by
  intro m g m' g' _ ha
  refine ⟨fun c => Cert.GabIdeal.Whole.arr m c, ?_, ?_⟩
  · refine (θ_run _ _ _).mono (fun r h c => ?_) (Cert.GabIdeal.Value.run_blocks m g)
    exact ⟨(h c).1.trans (Cert.GabIdeal.Whole.final m c), (h c).2⟩
  · refine (θ_run _ _ _).mono (fun r h c => ?_) (Cert.GabRefIdeal.Value.run (F := Ideal) m' g')
    refine ⟨(h c).1.trans ?_, (h c).2⟩
    rw [(ha c).1, (ha c).2]
    funext i
    unfold Cert.GabIdeal.Whole.arr Cert.GabIdeal.Whole.res
    pointwise
    exact Finset.sum_congr rfl fun k _ => mul_comm _ _

end Cert.Proof
end
-- ==== Proof.Loss.lean ====
module

public import proofs.«01_k».proof.Defs
public import proofs.«01_k».proof.Proof.Gen.LossIdeal.Value
public import proofs.«01_k».proof.Proof.Gen.LossRefIdeal.Run
public import Idealize.ShloMosaic.Lib.Pointwise
public import Idealize.ShloMosaic.Lib.Tactic

/-! # The MLP's output with the loss: a product added up in four steps, and what the last step makes of the sum -/

@[expose] public section

set_option maxRecDepth 16384

noncomputable section

open Idealize.ShloMosaic Idealize.ShloMosaic.TcCoe Idealize.SL.Sem
open Idealize.ShloMosaic.Pipeline (Dat)

namespace Cert.LossIdeal.Whole

open Cert.LossIdeal Cert.LossIdeal.Gen Cert.LossIdeal.Value

variable (m : (ℓ : Loc nD τ sig) → Buf (Elt Ideal) ℓ) (c : Dev nD)

theorem hz : (![0, 0] : Fin 2 → Nat) = fun _ => 0 := funext fun a => by fin_cases a <;> rfl

section Cases

variable (i : grid0.Coords) (a3 : Memref sig .tc .vmem S512x2048 .bf16) (h3 : a3.IsWhole) (a4 : Memref sig .tc .vmem S2048x1024 .bf16)
  (h4 : a4.IsWhole) (a5 : Memref sig .tc .vmem S512x1024 .f32) (h5 : a5.IsWhole) (a6 : Memref sig .tc .vmem S512x1024 .f32) (h6 : a6.IsWhole)
  (a7 : Memref sig .tc .vmem S8x1024 .f32) (h7 : a7.IsWhole) (a8 : Memref sig .tc .vmem S512x1024 .f32) (h8 : a8.IsWhole)
  (a9 : Memref sig .tc .vmem S512x1024 .bf16) (h9 : a9.IsWhole) (a10 : Memref sig .tc .vmem S8x1024 .f32) (h10 : a10.IsWhole)
  (a11 : Memref sig .tc .vmem S512x1024 .f32) (h11 : a11.IsWhole)
  (x : Vec Ideal S512x2048 .bf16) (w : Vec Ideal S2048x1024 .bf16) (u v : Vec Ideal S512x1024 .f32) (g : Vec Ideal S8x1024 .f32) (s : Vec Ideal S512x1024 .f32)

/-- The first step of a block leaves the product itself. -/
theorem first (k0 : cond0_0 i) (k1 : ¬cond0_1 i) (k2 : ¬cond0_2 i) :
    sout0_A_0 c i a3 h3 a4 h4 a5 h5 a6 h6 a7 h7 a8 h8 a9 h9 a10 h10 a11 h11 k0 k1 k2 x w u v g = k0_pay1 x w := by
  unfold sout0_A_0
  rw [View.read_writes_eq_canon _ _ _ (scover0_A_0 c i a3 h3 a4 h4 a5 h5 a6 h6 a7 h7 a8 h8 a9 h9 a10 h10 a11 h11 k0 k1 k2 x w u v g)]
  unfold kernelRun0_A
  dsimp only
  rw [View.canon_unit_zero hz]
  unfold k0_pay2
  simp only [View.readAt_eq_ld, h3.read_unread, h4.read_unread, View.ld_unit_zero (S := S512x2048) hz, View.ld_unit_zero (S := S2048x1024) hz, shapeCast_self]

/-- A later step adds its product to what the step before left. -/
theorem step (k0 : ¬cond0_0 i) (k1 : cond0_1 i) (k2 : ¬cond0_2 i) :
    sout0_B_0 c i a3 h3 a4 h4 a5 h5 a6 h6 a7 h7 a8 h8 a9 h9 a10 h10 a11 h11 k0 k1 k2 x w u v g s = addf s (k0_pay1 x w) := by
  unfold sout0_B_0
  rw [View.read_writes_eq_canon _ _ _ (scover0_B_0 c i a3 h3 a4 h4 a5 h5 a6 h6 a7 h7 a8 h8 a9 h9 a10 h10 a11 h11 k0 k1 k2 x w u v g s)]
  unfold kernelRun0_B
  dsimp only
  rw [View.canon_unit_zero hz]
  unfold k0_pay3
  simp only [View.readAt_eq_ld, h3.read_unread, h4.read_unread, h11.read_unread, View.ld_unit_zero (S := S512x2048) hz, View.ld_unit_zero (S := S2048x1024) hz, View.ld_unit_zero (S := S512x1024) hz, shapeCast_self]

/-- So does the last one … -/
theorem last (k0 : ¬cond0_0 i) (k1 : cond0_1 i) (k2 : cond0_2 i) :
    sout0_C_0 c i a3 h3 a4 h4 a5 h5 a6 h6 a7 h7 a8 h8 a9 h9 a10 h10 a11 h11 k0 k1 k2 x w u v g s = addf s (k0_pay1 x w) := by
  unfold sout0_C_0
  rw [View.read_writes_eq_canon _ _ _ (scover0_C_0 c i a3 h3 a4 h4 a5 h5 a6 h6 a7 h7 a8 h8 a9 h9 a10 h10 a11 h11 k0 k1 k2 x w u v g s)]
  unfold kernelRun0_C
  dsimp only
  sl_unfold_words
  rw [View.canon_unit_zero hz]
  unfold k0_pay3
  simp only [View.readAt_eq_ld, h3.read_unread, h4.read_unread, h11.read_unread, View.ld_unit_zero (S := S512x2048) hz, View.ld_unit_zero (S := S2048x1024) hz, View.ld_unit_zero (S := S512x1024) hz, shapeCast_self]

/-- … which then writes the loss's gradient to the first result's block, … -/
theorem shown_dy (k0 : ¬cond0_0 i) (k1 : cond0_1 i) (k2 : cond0_2 i) :
    out0_C_5 c i a3 h3 a4 h4 a5 h5 a6 h6 a7 h7 a8 h8 a9 h9 a10 h10 a11 h11 k0 k1 k2 x w u v g s = k0_pay6 (addf s (k0_pay1 x w)) u v g := by
  unfold out0_C_5
  rw [View.read_writes_eq_canon _ _ _ (cover0_C_5 c i a3 h3 a4 h4 a5 h5 a6 h6 a7 h7 a8 h8 a9 h9 a10 h10 a11 h11 k0 k1 k2 x w u v g s)]
  unfold kernelRun0_C
  dsimp only
  sl_unfold_words
  rw [View.canon_unit_zero hz, View.readCov_unit_zero (S := S512x1024) _ hz]
  unfold k0_pay3
  simp only [View.readAt_eq_ld, h3.read_unread, h4.read_unread, h5.read_unread, h6.read_unread, h7.read_unread, h11.read_unread, View.ld_unit_zero (S := S512x2048) hz, View.ld_unit_zero (S := S2048x1024) hz, View.ld_unit_zero (S := S512x1024) hz, View.ld_unit_zero (S := S8x1024) hz, shapeCast_self]

/-- … the same through the gate to the second's, … -/
theorem shown_dmlp (k0 : ¬cond0_0 i) (k1 : cond0_1 i) (k2 : cond0_2 i) :
    out0_C_6 c i a3 h3 a4 h4 a5 h5 a6 h6 a7 h7 a8 h8 a9 h9 a10 h10 a11 h11 k0 k1 k2 x w u v g s = k0_pay8 (addf s (k0_pay1 x w)) u v g := by
  unfold out0_C_6
  rw [View.read_writes_eq_canon _ _ _ (cover0_C_6 c i a3 h3 a4 h4 a5 h5 a6 h6 a7 h7 a8 h8 a9 h9 a10 h10 a11 h11 k0 k1 k2 x w u v g s)]
  unfold kernelRun0_C
  dsimp only
  sl_unfold_words
  rw [View.canon_unit_zero hz, View.readCov_unit_zero (S := S512x1024) _ hz]
  unfold k0_pay3
  simp only [View.readAt_eq_ld, h3.read_unread, h4.read_unread, h5.read_unread, h6.read_unread, h7.read_unread, h11.read_unread, View.ld_unit_zero (S := S512x2048) hz, View.ld_unit_zero (S := S2048x1024) hz, View.ld_unit_zero (S := S512x1024) hz, View.ld_unit_zero (S := S8x1024) hz, shapeCast_self]

/-- … and the block's sums to the third's. -/
theorem shown_sums (k0 : ¬cond0_0 i) (k1 : cond0_1 i) (k2 : cond0_2 i) :
    out0_C_7 c i a3 h3 a4 h4 a5 h5 a6 h6 a7 h7 a8 h8 a9 h9 a10 h10 a11 h11 k0 k1 k2 x w u v g s = k0_pay7 (addf s (k0_pay1 x w)) u v g := by
  unfold out0_C_7
  rw [View.read_writes_eq_canon _ _ _ (cover0_C_7 c i a3 h3 a4 h4 a5 h5 a6 h6 a7 h7 a8 h8 a9 h9 a10 h10 a11 h11 k0 k1 k2 x w u v g s)]
  unfold kernelRun0_C
  dsimp only
  sl_unfold_words
  rw [View.canon_unit_zero hz, View.readCov_unit_zero (S := S512x1024) _ hz]
  unfold k0_pay3
  simp only [View.readAt_eq_ld, h3.read_unread, h4.read_unread, h5.read_unread, h6.read_unread, h7.read_unread, h11.read_unread, View.ld_unit_zero (S := S512x2048) hz, View.ld_unit_zero (S := S2048x1024) hz, View.ld_unit_zero (S := S512x1024) hz, View.ld_unit_zero (S := S8x1024) hz, shapeCast_self]

end Cases

/-- The product of one step's two blocks. -/
def part (n : Nat) (y : S512x1024.Idx) : EReal := if h : n < cfg0.N then k0_pay1 (iblk m c 0 ⟨n, h⟩) (iblk m c 1 ⟨n, h⟩) y else 0

/-- What the last step of a block leaves in scratch: the four products added up. -/
theorem kept_last (t : Fin cfg0.N) (ht : t.val % 4 = 3) (y : S512x1024.Idx) :
    (outsAt0 m c t.val t.isLt).2.2.2 y = ∑ s : Fin 4, part m c (4 * (t.val / 4) + s.val) y := by
  have key : ∀ (n : Nat) (h : n < cfg0.N) (acc : S512x1024.Idx → EReal) (i : S512x1024.Idx), ¬n % 4 = 0 →
      scAt0_0 m c n h acc i = acc i + part m c n i := by
    intro n h acc i h0
    unfold scAt0_0 part
    rw [dif_neg h0, dif_pos (by omega : 1 ≤ n % 4), dif_pos h]
    by_cases h2 : n % 4 = 3
    · rw [dif_pos h2, last]; rfl
    · rw [dif_neg h2, step]; rfl
  rw [soutsAt0_0_eq, Pipeline.accAt_add_apply _ (scAt0_0 m c) (fun _ => (0 : EReal)) (part m c) (4 * (t.val / 4)) 3 ?_ ?_ (t.val % 4) (by omega), ht,
    zero_add, Finset.sum_range]
  · intro h i
    unfold scAt0_0 part
    rw [dif_pos (by omega), dif_neg (by omega), dif_neg (by omega), first, dif_pos h, zero_add]
  · intro n h acc i hb he
    exact key n h acc i (by omega)

/-- The results of a block's last step, from what it leaves in scratch. -/
theorem outs_last (t : Fin cfg0.N) (ht : t.val % 4 = 3) :
    (outsAt0 m c t.val t.isLt).1 = k0_pay6 (outsAt0 m c t.val t.isLt).2.2.2 (iblk m c 2 t) (iblk m c 3 t) (iblk m c 4 t)
    ∧ (outsAt0 m c t.val t.isLt).2.1 = k0_pay8 (outsAt0 m c t.val t.isLt).2.2.2 (iblk m c 2 t) (iblk m c 3 t) (iblk m c 4 t)
    ∧ (outsAt0 m c t.val t.isLt).2.2.1 = k0_pay7 (outsAt0 m c t.val t.isLt).2.2.2 (iblk m c 2 t) (iblk m c 3 t) (iblk m c 4 t) := by
  rw [outsAt0_C m c t (by omega) (by omega) ht]
  dsimp only
  rw [shown_dy, shown_dmlp, shown_sums, last]
  exact ⟨rfl, rfl, rfl⟩

/-- One step's product at a row and a column. -/
theorem pay_apply (a : Vec Ideal S512x2048 .bf16) (b : Vec Ideal S2048x1024 .bf16) (y : S512x1024.Idx) :
    k0_pay1 a b y = ∑ k : Fin 2048, (a (ix2 (y 0) k) : EReal) * b (ix2 k (y 1)) := by
  unfold k0_pay1
  pointwise

theorem err_apply (s u v : Vec Ideal S512x1024 .f32) (g : Vec Ideal S8x1024 .f32) (y : S512x1024.Idx) :
    k0_pay5 s u v g y = ((u y : EReal) + g (ix2 5 (y 1)) * s y) - v y := by
  unfold k0_pay5 k0_pay4
  pointwise

theorem dy_apply (s u v : Vec Ideal S512x1024 .f32) (g : Vec Ideal S8x1024 .f32) (y : S512x1024.Idx) :
    k0_pay6 s u v g y = (k0_pay5 s u v g y * Ideal.ofBits .f32 0x3A000000#32 : EReal) := by
  unfold k0_pay6
  pointwise

theorem dmlp_apply (s u v : Vec Ideal S512x1024 .f32) (g : Vec Ideal S8x1024 .f32) (y : S512x1024.Idx) :
    k0_pay8 s u v g y = (k0_pay6 s u v g y * g (ix2 5 (y 1)) : EReal) := by
  unfold k0_pay8 k0_pay4
  pointwise

/-- The row decides which of the two sums stands there. -/
theorem pick (n : Nat) (h : n < 8) (p q : EReal) :
    Scalar.select (IntOp.cmpi CmpIPredicate.eq (BitVec.ofNat 32 n) 0#32) p (Scalar.select (IntOp.cmpi CmpIPredicate.eq (BitVec.ofNat 32 n) 1#32) q 0)
      = if n = 0 then p else if n = 1 then q else 0 := by
  interval_cases n <;> rfl

theorem sums_apply (s u v : Vec Ideal S512x1024 .f32) (g : Vec Ideal S8x1024 .f32) (y : S8x1024.Idx) :
    k0_pay7 s u v g y = if (y 0).val = 0 then ∑ r : Fin 512, (k0_pay5 s u v g (ix2 r (y 1)) * k0_pay5 s u v g (ix2 r (y 1)) : EReal)
      else if (y 0).val = 1 then ∑ r : Fin 512, (k0_pay6 s u v g (ix2 r (y 1)) * s (ix2 r (y 1)) : EReal) else 0 := by
  unfold k0_pay7
  pointwise
  exact pick _ (y 0).isLt _ _

/-! The results as whole arrays: the MLP's output, the error, the loss's gradient, the same through the gate, the sums. -/

abbrev gate (j : Fin 2048) : EReal := m ((c : Thread nD τ).loc main_arg4) (ix2 5 j)

abbrev x1 : Vec Ideal S4096x2048 .f32 := m ((c : Thread nD τ).loc main_arg2)

abbrev target : Vec Ideal S4096x2048 .f32 := m ((c : Thread nD τ).loc main_arg3)

def mlp (x : Vec Ideal S4096x8192 .bf16) (w : Vec Ideal S8192x2048 .bf16) : Vec Ideal S4096x2048 .f32 :=
  fun i => ∑ k : Fin 8192, (x (ix2 (i 0) k) : EReal) * w (ix2 k (i 1))

abbrev arr : Vec Ideal S4096x2048 .f32 := mlp (m ((c : Thread nD τ).loc main_arg0)) (m ((c : Thread nD τ).loc main_arg1))

def err : Vec Ideal S4096x2048 .f32 := fun i =>
  ((x1 m c i : EReal) + gate m c (i 1) * arr m c i) - target m c i

def dy : Vec Ideal S4096x2048 .f32 := fun i => (err m c i * Ideal.ofBits .f32 0x3A000000#32 : EReal)

def dmlp : Vec Ideal S4096x2048 .bf16 := fun i => (dy m c i * gate m c (i 1) : EReal)

/-- A row of the block of 512 that a row of the sums belongs to. -/
abbrev row (i : S64x2048.Idx) (r : Fin 512) : Fin 4096 := ⟨(i 0).val / 8 * 512 + r.val, by have : (i 0).val < 64 := (i 0).isLt; omega⟩

def sums : Vec Ideal S64x2048 .f32 := fun i =>
  if (i 0).val % 8 = 0 then ∑ r : Fin 512, (err m c (ix2 (row i r) (i 1)) * err m c (ix2 (row i r) (i 1)) : EReal)
  else if (i 0).val % 8 = 1 then ∑ r : Fin 512, (dy m c (ix2 (row i r) (i 1)) * arr m c (ix2 (row i r) (i 1)) : EReal) else 0

/-- Where each window stands at a point. -/
theorem idx_facts : ∀ t : Fin cfg0.N, win0_0.index t 0 = t.val / 8 ∧ win0_0.index t 1 = t.val % 4 ∧ win0_1.index t 0 = t.val % 4
    ∧ win0_1.index t 1 = t.val / 4 % 2 ∧ win0_5.index t 0 = t.val / 8 ∧ win0_5.index t 1 = t.val / 4 % 2 :=
  (by decide +kernel : ∀ t : Fin grid0.N, _)

theorem idx_same : ∀ t : Fin cfg0.N, win0_2.index t = win0_5.index t ∧ win0_3.index t = win0_5.index t ∧ win0_6.index t = win0_5.index t
    ∧ win0_7.index t = win0_5.index t ∧ win0_4.index t 0 = 0 ∧ win0_4.index t 1 = win0_5.index t 1 :=
  (by decide +kernel : ∀ t : Fin grid0.N, _)

/-- The place in the whole array of a place in a point's block. -/
abbrev place (t : Fin cfg0.N) (y : S512x1024.Idx) : S4096x2048.Idx := ((cfg0.win 5).blk t).view.emb y

theorem place_6 (t : Fin cfg0.N) (y : S512x1024.Idx) : ((cfg0.win 6).blk t).view.emb y = place t y := by
  obtain ⟨-, -, e, -⟩ := idx_same t
  refine funext fun a => Fin.ext ?_
  match a with
  | ⟨0, _⟩ => show win0_6.index t 0 * 512 + 1 * (y 0).val = win0_5.index t 0 * 512 + 1 * (y 0).val; rw [e]
  | ⟨1, _⟩ => show win0_6.index t 1 * 1024 + 1 * (y 1).val = win0_5.index t 1 * 1024 + 1 * (y 1).val; rw [e]

theorem read_x1 (t : Fin cfg0.N) (y : S512x1024.Idx) : iblk m c 2 t y = m ((c : Thread nD τ).loc main_arg2) (place t y) := by
  obtain ⟨e, -⟩ := idx_same t
  unfold iblk
  rw [View.read_apply]
  refine congrArg (m ((c : Thread nD τ).loc main_arg2)) (funext fun a => Fin.ext ?_)
  match a with
  | ⟨0, _⟩ => show win0_2.index t 0 * 512 + 1 * (y 0).val = win0_5.index t 0 * 512 + 1 * (y 0).val; rw [e]
  | ⟨1, _⟩ => show win0_2.index t 1 * 1024 + 1 * (y 1).val = win0_5.index t 1 * 1024 + 1 * (y 1).val; rw [e]

theorem read_target (t : Fin cfg0.N) (y : S512x1024.Idx) : iblk m c 3 t y = m ((c : Thread nD τ).loc main_arg3) (place t y) := by
  obtain ⟨-, e, -⟩ := idx_same t
  unfold iblk
  rw [View.read_apply]
  refine congrArg (m ((c : Thread nD τ).loc main_arg3)) (funext fun a => Fin.ext ?_)
  match a with
  | ⟨0, _⟩ => show win0_3.index t 0 * 512 + 1 * (y 0).val = win0_5.index t 0 * 512 + 1 * (y 0).val; rw [e]
  | ⟨1, _⟩ => show win0_3.index t 1 * 1024 + 1 * (y 1).val = win0_5.index t 1 * 1024 + 1 * (y 1).val; rw [e]

theorem read_gate (t : Fin cfg0.N) (y : S512x1024.Idx) : iblk m c 4 t (ix2 5 (y 1)) = gate m c (place t y 1) := by
  obtain ⟨-, -, -, -, e0, e1⟩ := idx_same t
  unfold iblk gate
  rw [View.read_apply]
  refine congrArg (m ((c : Thread nD τ).loc main_arg4)) (funext fun a => Fin.ext ?_)
  match a with
  | ⟨0, _⟩ => show win0_4.index t 0 * 8 + 1 * 5 = 5; rw [e0]
  | ⟨1, _⟩ => show win0_4.index t 1 * 1024 + 1 * (y 1).val = win0_5.index t 1 * 1024 + 1 * (y 1).val; rw [e1]

/-- What the last step of a block leaves in scratch is its block of the MLP's output. -/
theorem kept_eq (t : Fin cfg0.N) (ht : t.val % 4 = 3) (y : S512x1024.Idx) : (outsAt0 m c t.val t.isLt).2.2.2 y = arr m c (place t y) := by
  have hN : t.val < 64 := lt_of_lt_of_eq t.isLt N_0
  obtain ⟨-, -, -, -, f0, f1⟩ := idx_facts t
  rw [kept_last m c t ht]
  unfold arr mlp
  rw [Fin.sum_univ_tiles 4 2048 rfl]
  refine Finset.sum_congr rfl fun s _ => ?_
  have hs : 4 * (t.val / 4) + s.val < cfg0.N := lt_of_lt_of_eq (by have := s.isLt; omega) N_0.symm
  obtain ⟨e0, e1, e2, e3, -, -⟩ := idx_facts ⟨_, hs⟩
  dsimp only at e0 e1 e2 e3
  have e4 : (4 * (t.val / 4) + s.val) % 4 = s.val := by have := s.isLt; omega
  have e5 : (4 * (t.val / 4) + s.val) / 8 = t.val / 8 := by have := s.isLt; omega
  have e6 : (4 * (t.val / 4) + s.val) / 4 % 2 = t.val / 4 % 2 := by have := s.isLt; omega
  rw [e5] at e0
  rw [e4] at e1 e2
  rw [e6] at e3
  unfold part
  rw [dif_pos hs, pay_apply]
  refine Finset.sum_congr rfl fun k _ => congrArg₂ (fun p q : EReal => p * q) ?_ ?_
  · unfold iblk
    rw [View.read_apply]
    refine congrArg (m ((c : Thread nD τ).loc main_arg0)) (funext fun a => Fin.ext ?_)
    match a with
    | ⟨0, _⟩ => show win0_0.index ⟨_, hs⟩ 0 * 512 + 1 * (y 0).val = win0_5.index t 0 * 512 + 1 * (y 0).val; rw [e0, f0]
    | ⟨1, _⟩ => show win0_0.index ⟨_, hs⟩ 1 * 2048 + 1 * k.val = s.val * 2048 + k.val; rw [e1]; omega
  · unfold iblk
    rw [View.read_apply]
    refine congrArg (m ((c : Thread nD τ).loc main_arg1)) (funext fun a => Fin.ext ?_)
    match a with
    | ⟨0, _⟩ => show win0_1.index ⟨_, hs⟩ 0 * 2048 + 1 * k.val = s.val * 2048 + k.val; rw [e2]; omega
    | ⟨1, _⟩ => show win0_1.index ⟨_, hs⟩ 1 * 1024 + 1 * (y 1).val = win0_5.index t 1 * 1024 + 1 * (y 1).val; rw [e3, f1]

section Points

variable (t : Fin cfg0.N) (ht : t.val % 4 = 3)

include ht

theorem err_eq (y : S512x1024.Idx) :
    k0_pay5 (outsAt0 m c t.val t.isLt).2.2.2 (iblk m c 2 t) (iblk m c 3 t) (iblk m c 4 t) y = err m c (place t y) := by
  rw [err_apply, kept_eq m c t ht, read_x1, read_target, read_gate]
  rfl

theorem dy_eq (y : S512x1024.Idx) :
    k0_pay6 (outsAt0 m c t.val t.isLt).2.2.2 (iblk m c 2 t) (iblk m c 3 t) (iblk m c 4 t) y = dy m c (place t y) := by
  rw [dy_apply, err_eq m c t ht]
  rfl

theorem flushed_dy : (dats m 0 c).flushed 5 t = ((cfg0.win 5).blk t).view.read (Elt Ideal) (dy m c) := by
  rw [flushed5, (outs_last m c t ht).1]
  exact funext fun y => dy_eq m c t ht y

theorem flushed_dmlp : (dats m 0 c).flushed 6 t = ((cfg0.win 6).blk t).view.read (Elt Ideal) (dmlp m c) := by
  rw [flushed6, (outs_last m c t ht).2.1]
  funext y
  show k0_pay8 (outsAt0 m c t.val t.isLt).2.2.2 (iblk m c 2 t) (iblk m c 3 t) (iblk m c 4 t) y = dmlp m c (((cfg0.win 6).blk t).view.emb y)
  rw [dmlp_apply, dy_eq m c t ht, read_gate, place_6]
  rfl

theorem flushed_sums : (dats m 0 c).flushed 7 t = ((cfg0.win 7).blk t).view.read (Elt Ideal) (sums m c) := by
  obtain ⟨-, -, -, e, -⟩ := idx_same t
  rw [flushed7, (outs_last m c t ht).2.2]
  funext y
  show k0_pay7 (outsAt0 m c t.val t.isLt).2.2.2 (iblk m c 2 t) (iblk m c 3 t) (iblk m c 4 t) y = sums m c (((cfg0.win 7).blk t).view.emb y)
  have hy : (y 0).val < 8 := (y 0).isLt
  have h0 : ((((cfg0.win 7).blk t).view.emb y : S64x2048.Idx) 0).val = win0_5.index t 0 * 8 + (y 0).val := by
    show win0_7.index t 0 * 8 + 1 * (y 0).val = _; rw [e]; omega
  have hp : ∀ r : Fin 512, place t (ix2 r (y 1)) = ix2 (row (((cfg0.win 7).blk t).view.emb y) r) ((((cfg0.win 7).blk t).view.emb y : S64x2048.Idx) 1) := by
    refine fun r => funext fun a => Fin.ext ?_
    match a with
    | ⟨0, _⟩ => show win0_5.index t 0 * 512 + 1 * r.val = ((((cfg0.win 7).blk t).view.emb y : S64x2048.Idx) 0).val / 8 * 512 + r.val; rw [h0]; omega
    | ⟨1, _⟩ => show win0_5.index t 1 * 1024 + 1 * (y 1).val = win0_7.index t 1 * 1024 + 1 * (y 1).val; rw [e]
  have h8 : ((((cfg0.win 7).blk t).view.emb y : S64x2048.Idx) 0).val % 8 = (y 0).val := by rw [h0]; omega
  rw [sums_apply]
  unfold sums
  rw [h8]
  simp only [err_eq m c t ht, dy_eq m c t ht, kept_eq m c t ht, hp]
  rfl

end Points

theorem final_dy : (dats m 0 c).arrAt 5 cfg0.N = dy m c :=
  (dats m 0 c).arrAt_eq_of_cover 5 (dy m c) (fun t h => flushed_dy m c t ((flush0_5 t).mp h)) fun i => (covered_iff5 i).2 (by
    have h0 : (i 0).val < 4096 := (i 0).isLt; have h1 : (i 1).val < 2048 := (i 1).isLt; omega)

theorem final_dmlp : (dats m 0 c).arrAt 6 cfg0.N = dmlp m c :=
  (dats m 0 c).arrAt_eq_of_cover 6 (dmlp m c) (fun t h => flushed_dmlp m c t ((flush0_6 t).mp h)) fun i => (covered_iff6 i).2 (by
    have h0 : (i 0).val < 4096 := (i 0).isLt; have h1 : (i 1).val < 2048 := (i 1).isLt; omega)

theorem final_sums : (dats m 0 c).arrAt 7 cfg0.N = sums m c :=
  (dats m 0 c).arrAt_eq_of_cover 7 (sums m c) (fun t h => flushed_sums m c t ((flush0_7 t).mp h)) fun i => (covered_iff7 i).2 (by
    have h0 : (i 0).val < 64 := (i 0).isLt; have h1 : (i 1).val < 2048 := (i 1).isLt; omega)

end Cert.LossIdeal.Whole

namespace Cert.LossRefIdeal.Sums

open Cert.LossRefIdeal Cert.LossRefIdeal.Gen

/-- The reference's sums over blocks of 512 rows, stacked with rows of zeros. -/
theorem stack_apply (p q : Vec Ideal S4096x2048 .f32) (i : S64x2048.Idx) :
    (shapeCast S64x2048 (concatenate S8x8x2048 1 [⟨S8x2x2048, (concatenate S8x2x2048 1 [⟨S8x1x2048, (broadcastInDim S8x1x2048 ![0, 2] bcast_S8x2048_S8x1x2048_0_2
      (Host.reduceAdd (shapeCast _ p shapeCasts_S4096x2048_S8x512x2048) (constant (F := Ideal) S_ .f32 0x00000000#32) reducesTo_S8x512x2048_S8x2048_d1 h_S_))⟩,
      ⟨S8x1x2048, (broadcastInDim S8x1x2048 ![0, 2] bcast_S8x2048_S8x1x2048_0_2
      (Host.reduceAdd (shapeCast _ q shapeCasts_S4096x2048_S8x512x2048) (constant (F := Ideal) S_ .f32 0x00000000#32) reducesTo_S8x512x2048_S8x2048_d1 h_S_))⟩] concatenates_S8x1x2048_S8x1x2048_S8x2x2048_d1)⟩,
      ⟨S8x6x2048, (broadcastInDim S8x6x2048 ![] bcast_S_S8x6x2048 (constant (F := Ideal) S_ .f32 0x00000000#32))⟩] concatenates_S8x2x2048_S8x6x2048_S8x8x2048_d1) shapeCasts_S8x8x2048_S64x2048 : Vec Ideal S64x2048 .f32) i
    = if (i 0).val % 8 = 0 then ∑ r : Fin 512, (p (ix2 ⟨(i 0).val / 8 * 512 + r.val, by have : (i 0).val < 64 := (i 0).isLt; omega⟩ (i 1)) : EReal)
      else if (i 0).val % 8 = 1 then ∑ r : Fin 512, (q (ix2 ⟨(i 0).val / 8 * 512 + r.val, by have : (i 0).val < 64 := (i 0).isLt; omega⟩ (i 1)) : EReal) else 0 := by
  pointwise
  split_ifs <;> first | rfl | omega

/-- Half of the square's derivative over the width is one over the width. -/
theorem half : Ideal.div (Ideal.ofBits .f32 0x3F000000#32) (Ideal.ofBits .f32 0x45000000#32) * Ideal.ofBits .f32 0x40000000#32 = Ideal.ofBits .f32 0x3A000000#32 := by
  have h1 : Ideal.ofBits .f32 0x3F000000#32 = ((1 / 2 : ℝ) : EReal) := by simp [Ideal.ofBits, Ideal.ieee]; rw [← EReal.coe_mul]; norm_num
  have h2 : Ideal.ofBits .f32 0x45000000#32 = ((2048 : ℝ) : EReal) := by simp [Ideal.ofBits, Ideal.ieee]; rw [← EReal.coe_mul]; norm_num
  have h3 : Ideal.ofBits .f32 0x40000000#32 = ((2 : ℝ) : EReal) := by simp [Ideal.ofBits, Ideal.ieee]; rw [← EReal.coe_mul]; norm_num
  have h4 : Ideal.ofBits .f32 0x3A000000#32 = ((1 / 2048 : ℝ) : EReal) := by simp [Ideal.ofBits, Ideal.ieee]; rw [← EReal.coe_mul]; norm_num
  rw [h1, h2, h3, h4, Ideal.div_coe (by norm_num), ← EReal.coe_mul, ← EReal.coe_mul]
  congr 1
  norm_num

theorem scaled (e : EReal) : Ideal.div (Ideal.ofBits .f32 0x3F000000#32) (Ideal.ofBits .f32 0x45000000#32) * (Ideal.ofBits .f32 0x40000000#32 * e)
    = e * Ideal.ofBits .f32 0x3A000000#32 := by
  rw [← mul_assoc, half, mul_comm]

end Cert.LossRefIdeal.Sums

namespace Cert.Proof

/-- The kernel's output of the MLP with the loss is the reference's. -/
theorem same_loss : Cert.algebraic_LossIdeal_LossRefIdeal := by
  intro m g m' g' _ ha
  refine ⟨fun c => Cert.LossIdeal.Whole.dy m c, fun c => Cert.LossIdeal.Whole.dmlp m c, fun c => Cert.LossIdeal.Whole.sums m c, ?_, ?_⟩
  · refine (θ_run _ _ _).mono (fun r h c => ?_) (Cert.LossIdeal.Value.run_blocks m g)
    exact ⟨(h c).1.trans (Cert.LossIdeal.Whole.final_dy m c), (h c).2.1.trans (Cert.LossIdeal.Whole.final_dmlp m c),
      (h c).2.2.1.trans (Cert.LossIdeal.Whole.final_sums m c), (h c).2.2.2⟩
  · refine (θ_run _ _ _).mono (fun r h c => ?_) (Cert.LossRefIdeal.Value.run (F := Ideal) m' g')
    obtain ⟨a0, a1, a2, a3, a4⟩ := ha c
    refine ⟨(h c).1.trans ?_, (h c).2.1.trans ?_, (h c).2.2.1.trans ?_, (h c).2.2.2⟩
    · rw [a0, a1, a2, a3, a4]
      funext i
      unfold Cert.LossIdeal.Whole.dy Cert.LossIdeal.Whole.err Cert.LossIdeal.Whole.arr Cert.LossIdeal.Whole.mlp
      pointwise
      exact Cert.LossRefIdeal.Sums.scaled _
    · rw [a0, a1, a2, a3, a4]
      funext i
      unfold Cert.LossIdeal.Whole.dmlp Cert.LossIdeal.Whole.dy Cert.LossIdeal.Whole.err Cert.LossIdeal.Whole.arr Cert.LossIdeal.Whole.mlp
      pointwise
      rw [Cert.LossRefIdeal.Sums.scaled]
      exact mul_comm _ _
    · rw [a0, a1, a2, a3, a4]
      funext i
      refine (Cert.LossRefIdeal.Sums.stack_apply _ _ i).trans ?_
      unfold Cert.LossIdeal.Whole.sums
      refine if_congr Iff.rfl (Finset.sum_congr rfl fun r _ => ?_) (if_congr Iff.rfl (Finset.sum_congr rfl fun r _ => ?_) rfl)
      · unfold Cert.LossIdeal.Whole.err Cert.LossIdeal.Whole.arr Cert.LossIdeal.Whole.mlp
        pointwise
      · unfold Cert.LossIdeal.Whole.dy Cert.LossIdeal.Whole.err Cert.LossIdeal.Whole.arr Cert.LossIdeal.Whole.mlp
        pointwise
        rw [Cert.LossRefIdeal.Sums.scaled]

end Cert.Proof
end
-- ==== Proof.Gates.lean ====
module

public import Idealize.ShloMosaic.Lib.Pointwise

/-! # The gates' logistic function -/

@[expose] public section

noncomputable section

open Idealize.ShloMosaic

namespace Cert.Gates

def logi (x : EReal) : EReal := Ideal.div 1 (1 + Ideal.exp (-x))

theorem logi_eq (x : EReal) : Ideal.div 1 (1 + Ideal.exp (0 - x)) = logi x := by
  rw [sub_eq_add_neg, zero_add]
  rfl

end Cert.Gates
end
-- ==== Proof.Mrg.lean ====
module

public import proofs.«01_k».proof.Defs
public import proofs.«01_k».proof.Proof.Gates
public import proofs.«01_k».proof.Proof.Gen.MrgIdeal.Value
public import proofs.«01_k».proof.Proof.Gen.MrgRefIdeal.Run
public import Idealize.ShloMosaic.Lib.Pointwise
public import Idealize.ShloMosaic.Lib.Tactic

/-! # The second branch's projection and the gated sum of the branches -/

@[expose] public section

set_option maxRecDepth 16384

noncomputable section

open Idealize.ShloMosaic Idealize.ShloMosaic.TcCoe Idealize.SL.Sem
open Idealize.ShloMosaic.Pipeline (Dat)

namespace Cert.MrgIdeal.Whole

open Cert.MrgIdeal Cert.MrgIdeal.Gen Cert.Gates

variable (m : (ℓ : Loc nD τ sig) → Buf (Elt Ideal) ℓ) (c : Dev nD)

theorem hz : (![0, 0] : Fin 2 → Nat) = fun _ => 0 := funext fun a => by fin_cases a <;> rfl

/-- One block of the product at a row and a column. -/
theorem pay_apply (a : Vec Ideal S1024x1024 .bf16) (b : Vec Ideal S1024x512 .bf16) (y : S1024x512.Idx) :
    k0_pay1 a b y = ∑ k : Fin 1024, (a (ix2 (y 0) k) : EReal) * b (ix2 k (y 1)) := by
  unfold k0_pay1
  pointwise

/-- The whole product. -/
def prod (x : Vec Ideal S4096x1024 .bf16) (w : Vec Ideal S1024x2048 .bf16) : Vec Ideal S4096x2048 .f32 :=
  fun i => ∑ k : Fin 1024, (x (ix2 (i 0) k) : EReal) * w (ix2 k (i 1))

abbrev arr : Vec Ideal S4096x2048 .f32 := prod (m ((c : Thread nD τ).loc main_arg0)) (m ((c : Thread nD τ).loc main_arg1))

/-- The columns of the projections where the two gates of a place stand. -/
abbrev colA (i : S4096x2048.Idx) : S4096x9728.Idx := ix2 (i 0) ⟨5632 + (i 1).val, by have : (i 1).val < 2048 := (i 1).isLt; omega⟩

abbrev colB (i : S4096x2048.Idx) : S4096x9728.Idx := ix2 (i 0) ⟨7680 + (i 1).val, by have : (i 1).val < 2048 := (i 1).isLt; omega⟩

abbrev gates : Vec Ideal S4096x9728 .f32 := m ((c : Thread nD τ).loc main_arg2)

/-! Where the windows stand at a point, seen from the first result's block. -/

theorem idx_prod : ∀ t : Fin cfg0.N, win0_0.index t 0 = win0_5.index t 0 ∧ win0_0.index t 1 = 0 ∧ win0_1.index t 0 = 0 ∧ win0_1.index t 1 = win0_5.index t 1 :=
  (by decide +kernel : ∀ t : Fin grid0.N, _)

theorem idx_onto : ∀ p q : Fin 4, ∃ t : Fin cfg0.N, win0_5.index t 0 = p.val ∧ win0_5.index t 1 = q.val :=
  (by decide +kernel : ∀ p q : Fin 4, ∃ t : Fin grid0.N, _)

theorem idx_2 : ∀ t : Fin cfg0.N, win0_2.index t 0 = win0_5.index t 0 ∧ win0_2.index t 1 = 11 + win0_5.index t 1 :=
  (by decide +kernel : ∀ t : Fin grid0.N, _)

theorem idx_3 : ∀ t : Fin cfg0.N, win0_3.index t 0 = win0_5.index t 0 ∧ win0_3.index t 1 = 15 + win0_5.index t 1 :=
  (by decide +kernel : ∀ t : Fin grid0.N, _)

theorem idx_4 : ∀ t : Fin cfg0.N, win0_4.index t 0 = win0_5.index t 0 ∧ win0_4.index t 1 = win0_5.index t 1 :=
  (by decide +kernel : ∀ t : Fin grid0.N, _)

theorem idx_6 : ∀ t : Fin cfg0.N, win0_6.index t 0 = win0_5.index t 0 ∧ win0_6.index t 1 = win0_5.index t 1 :=
  (by decide +kernel : ∀ t : Fin grid0.N, _)

/-- The place in the whole array of a place in a point's block. -/
abbrev place (t : Fin cfg0.N) (y : S1024x512.Idx) : S4096x2048.Idx := ((cfg0.win 5).blk t).view.emb y

theorem point (t : Fin cfg0.N) (y : S1024x512.Idx) : k0_pay1 (iblk m c 0 t) (iblk m c 1 t) y = arr m c (place t y) := by
  obtain ⟨e0, e1, e2, e3⟩ := idx_prod t
  rw [pay_apply]
  unfold arr prod
  refine Finset.sum_congr rfl fun k _ => congrArg₂ (fun p q : EReal => p * q) ?_ ?_
  · unfold iblk
    rw [View.read_apply]
    refine congrArg (m ((c : Thread nD τ).loc main_arg0)) (funext fun a => Fin.ext ?_)
    match a with
    | ⟨0, _⟩ => show win0_0.index t 0 * 1024 + 1 * (y 0).val = win0_5.index t 0 * 1024 + 1 * (y 0).val; rw [e0]
    | ⟨1, _⟩ => show win0_0.index t 1 * 1024 + 1 * k.val = k.val; rw [e1]; omega
  · unfold iblk
    rw [View.read_apply]
    refine congrArg (m ((c : Thread nD τ).loc main_arg1)) (funext fun a => Fin.ext ?_)
    match a with
    | ⟨0, _⟩ => show win0_1.index t 0 * 1024 + 1 * k.val = k.val; rw [e2]; omega
    | ⟨1, _⟩ => show win0_1.index t 1 * 512 + 1 * (y 1).val = win0_5.index t 1 * 512 + 1 * (y 1).val; rw [e3]

theorem read_ga (t : Fin cfg0.N) (y : S1024x512.Idx) : iblk m c 2 t y = m ((c : Thread nD τ).loc main_arg2) (colA (place t y)) := by
  obtain ⟨e0, e1⟩ := idx_2 t
  unfold iblk
  rw [View.read_apply]
  refine congrArg (m ((c : Thread nD τ).loc main_arg2)) (funext fun a => Fin.ext ?_)
  match a with
    | ⟨0, _⟩ => show win0_2.index t 0 * 1024 + 1 * (y 0).val = win0_5.index t 0 * 1024 + 1 * (y 0).val; rw [e0]
    | ⟨1, _⟩ => show win0_2.index t 1 * 512 + 1 * (y 1).val = 5632 + (win0_5.index t 1 * 512 + 1 * (y 1).val); rw [e1]; omega

theorem read_gb (t : Fin cfg0.N) (y : S1024x512.Idx) : iblk m c 3 t y = m ((c : Thread nD τ).loc main_arg2) (colB (place t y)) := by
  obtain ⟨e0, e1⟩ := idx_3 t
  unfold iblk
  rw [View.read_apply]
  refine congrArg (m ((c : Thread nD τ).loc main_arg2)) (funext fun a => Fin.ext ?_)
  match a with
    | ⟨0, _⟩ => show win0_3.index t 0 * 1024 + 1 * (y 0).val = win0_5.index t 0 * 1024 + 1 * (y 0).val; rw [e0]
    | ⟨1, _⟩ => show win0_3.index t 1 * 512 + 1 * (y 1).val = 7680 + (win0_5.index t 1 * 512 + 1 * (y 1).val); rw [e1]; omega

theorem read_ya (t : Fin cfg0.N) (y : S1024x512.Idx) : iblk m c 4 t y = m ((c : Thread nD τ).loc main_arg3) (place t y) := by
  obtain ⟨e0, e1⟩ := idx_4 t
  unfold iblk
  rw [View.read_apply]
  refine congrArg (m ((c : Thread nD τ).loc main_arg3)) (funext fun a => Fin.ext ?_)
  match a with
    | ⟨0, _⟩ => show win0_4.index t 0 * 1024 + 1 * (y 0).val = win0_5.index t 0 * 1024 + 1 * (y 0).val; rw [e0]
    | ⟨1, _⟩ => show win0_4.index t 1 * 512 + 1 * (y 1).val = win0_5.index t 1 * 512 + 1 * (y 1).val; rw [e1]

theorem place_6 (t : Fin cfg0.N) (y : S1024x512.Idx) : ((cfg0.win 6).blk t).view.emb y = place t y := by
  obtain ⟨e0, e1⟩ := idx_6 t
  refine funext fun a => Fin.ext ?_
  match a with
  | ⟨0, _⟩ => show win0_6.index t 0 * 1024 + 1 * (y 0).val = win0_5.index t 0 * 1024 + 1 * (y 0).val; rw [e0]
  | ⟨1, _⟩ => show win0_6.index t 1 * 512 + 1 * (y 1).val = win0_5.index t 1 * 512 + 1 * (y 1).val; rw [e1]

theorem merge_apply (a : Vec Ideal S1024x1024 .bf16) (b : Vec Ideal S1024x512 .bf16) (ga gb ya : Vec Ideal S1024x512 .f32) (y : S1024x512.Idx) :
    k0_pay2 a b ga gb ya y = (logi (ga y) * ya y + logi (gb y) * k0_pay1 a b y : EReal) := by
  unfold k0_pay2
  pointwise
  rw [logi_eq, logi_eq]

/-- The gated sum of the two branches. -/
def merged : Vec Ideal S4096x2048 .bf16 := fun i =>
  (logi (gates m c (colA i)) * (m ((c : Thread nD τ).loc main_arg3) : Vec Ideal S4096x2048 .f32) i + logi (gates m c (colB i)) * arr m c i : EReal)

theorem flushed_arr (t : Fin cfg0.N) : (dats m 0 c).flushed 5 t = ((cfg0.win 5).blk t).view.read (Elt Ideal) (arr m c) := by
  rw [Value.flushed5]
  unfold out0_5
  rw [View.canon_unit_zero hz, View.ld_unit_zero hz, View.ld_unit_zero hz]
  exact funext fun y => point m c t y

theorem flushed_merged (t : Fin cfg0.N) : (dats m 0 c).flushed 6 t = ((cfg0.win 6).blk t).view.read (Elt Ideal) (merged m c) := by
  rw [Value.flushed6]
  unfold out0_6
  rw [View.canon_unit_zero hz]
  simp only [View.ld_unit_zero (S := S1024x1024) hz, View.ld_unit_zero (S := S1024x512) hz]
  funext y
  show k0_pay2 (iblk m c 0 t) (iblk m c 1 t) (iblk m c 2 t) (iblk m c 3 t) (iblk m c 4 t) y = merged m c (((cfg0.win 6).blk t).view.emb y)
  rw [merge_apply, point, place_6, read_ga, read_gb, read_ya]
  rfl

theorem cover (i : S4096x2048.Idx) : ∃ (t : Fin cfg0.N) (y : S1024x512.Idx), i = place t y := by
  have h0 : (i 0).val < 4096 := (i 0).isLt
  have h1 : (i 1).val < 2048 := (i 1).isLt
  obtain ⟨t, q0, q1⟩ := idx_onto ⟨(i 0).val / 1024, by omega⟩ ⟨(i 1).val / 512, by omega⟩
  refine ⟨t, ix2 ⟨(i 0).val % 1024, by omega⟩ ⟨(i 1).val % 512, by omega⟩, funext fun a => Fin.ext ?_⟩
  match a with
  | ⟨0, _⟩ => show (i 0).val = win0_5.index t 0 * 1024 + 1 * ((i 0).val % 1024); rw [q0]; dsimp only; omega
  | ⟨1, _⟩ => show (i 1).val = win0_5.index t 1 * 512 + 1 * ((i 1).val % 512); rw [q1]; dsimp only; omega

theorem final_arr : (dats m 0 c).arrAt 5 cfg0.N = arr m c :=
  (dats m 0 c).arrAt_eq_of_cover 5 (arr m c) (fun t _ => flushed_arr m c t) fun i => by
    obtain ⟨t, y, rfl⟩ := cover i
    exact ⟨t, flush0_5 t, View.emb_mem_set _ y⟩

theorem final_merged : (dats m 0 c).arrAt 6 cfg0.N = merged m c :=
  (dats m 0 c).arrAt_eq_of_cover 6 (merged m c) (fun t _ => flushed_merged m c t) fun i => by
    obtain ⟨t, y, rfl⟩ := cover i
    exact ⟨t, flush0_6 t, place_6 t y ▸ View.emb_mem_set _ y⟩

end Cert.MrgIdeal.Whole

namespace Cert.Proof

/-- The kernel's second branch and gated sum are the reference's. -/
theorem same_mrg : Cert.algebraic_MrgIdeal_MrgRefIdeal := by
  intro m g m' g' _ ha
  refine ⟨fun c => Cert.MrgIdeal.Whole.arr m c, fun c => Cert.MrgIdeal.Whole.merged m c, ?_, ?_⟩
  · refine (θ_run _ _ _).mono (fun r h c => ?_) (Cert.MrgIdeal.Value.run_blocks m g)
    exact ⟨(h c).1.trans (Cert.MrgIdeal.Whole.final_arr m c), (h c).2.1.trans (Cert.MrgIdeal.Whole.final_merged m c), (h c).2.2⟩
  · refine (θ_run _ _ _).mono (fun r h c => ?_) (Cert.MrgRefIdeal.Value.run (F := Ideal) m' g')
    obtain ⟨a0, a1, a2, a3⟩ := ha c
    refine ⟨(h c).1.trans ?_, (h c).2.1.trans ?_, (h c).2.2⟩
    · rw [a0, a1]
      funext i
      unfold Cert.MrgIdeal.Whole.arr Cert.MrgIdeal.Whole.prod
      pointwise
    · rw [a0, a1, a2, a3]
      funext i
      unfold Cert.MrgIdeal.Whole.merged Cert.MrgIdeal.Whole.arr Cert.MrgIdeal.Whole.prod Cert.Gates.logi
      pointwise

end Cert.Proof
end
-- ==== Proof.Dmg.lean ====
module

public import proofs.«01_k».proof.Defs
public import proofs.«01_k».proof.Proof.Gates
public import proofs.«01_k».proof.Proof.Gen.DmgIdeal.Value
public import proofs.«01_k».proof.Proof.Gen.DmgRefIdeal.Run
public import Idealize.ShloMosaic.Lib.Pointwise
public import Idealize.ShloMosaic.Lib.Tactic

/-! # The gradient back through the output projection's weights and the gated sum -/

@[expose] public section

set_option maxRecDepth 16384

noncomputable section

open Idealize.ShloMosaic Idealize.ShloMosaic.TcCoe Idealize.SL.Sem
open Idealize.ShloMosaic.Pipeline (Dat)

namespace Cert.DmgIdeal.Whole

open Cert.DmgIdeal Cert.DmgIdeal.Gen Cert.Gates

variable (m : (ℓ : Loc nD τ sig) → Buf (Elt Ideal) ℓ) (c : Dev nD)

theorem hz : (![0, 0] : Fin 2 → Nat) = fun _ => 0 := funext fun a => by fin_cases a <;> rfl

/-- One block of the product at a row and a column. -/
theorem pay_apply (a : Vec Ideal S1024x2048 .bf16) (b : Vec Ideal S512x2048 .bf16) (y : S1024x512.Idx) :
    k0_pay4 a b y = ∑ k : Fin 2048, (a (ix2 (y 0) k) : EReal) * b (ix2 (y 1) k) := by
  unfold k0_pay4
  pointwise

/-- The whole product. -/
def prod (x : Vec Ideal S4096x2048 .bf16) (w : Vec Ideal S2048x2048 .bf16) : Vec Ideal S4096x2048 .f32 :=
  fun i => ∑ k : Fin 2048, (x (ix2 (i 0) k) : EReal) * w (ix2 (i 1) k)

abbrev arr : Vec Ideal S4096x2048 .f32 := prod (m ((c : Thread nD τ).loc main_arg0)) (m ((c : Thread nD τ).loc main_arg1))

/-- The columns of the projections where the two gates of a place stand. -/
abbrev colA (i : S4096x2048.Idx) : S4096x9728.Idx := ix2 (i 0) ⟨5632 + (i 1).val, by have : (i 1).val < 2048 := (i 1).isLt; omega⟩

abbrev colB (i : S4096x2048.Idx) : S4096x9728.Idx := ix2 (i 0) ⟨7680 + (i 1).val, by have : (i 1).val < 2048 := (i 1).isLt; omega⟩

abbrev gates : Vec Ideal S4096x9728 .f32 := m ((c : Thread nD τ).loc main_arg2)

/-! Where the windows stand at a point, seen from the first result's block. -/

theorem idx_prod : ∀ t : Fin cfg0.N, win0_0.index t 0 = win0_6.index t 0 ∧ win0_0.index t 1 = 0 ∧ win0_1.index t 0 = win0_6.index t 1 ∧ win0_1.index t 1 = 0 :=
  (by decide +kernel : ∀ t : Fin grid0.N, _)

theorem idx_onto : ∀ p q : Fin 4, ∃ t : Fin cfg0.N, win0_6.index t 0 = p.val ∧ win0_6.index t 1 = q.val :=
  (by decide +kernel : ∀ p q : Fin 4, ∃ t : Fin grid0.N, _)

theorem idx_2 : ∀ t : Fin cfg0.N, win0_2.index t 0 = win0_6.index t 0 ∧ win0_2.index t 1 = 11 + win0_6.index t 1 :=
  (by decide +kernel : ∀ t : Fin grid0.N, _)

theorem idx_3 : ∀ t : Fin cfg0.N, win0_3.index t 0 = win0_6.index t 0 ∧ win0_3.index t 1 = 15 + win0_6.index t 1 :=
  (by decide +kernel : ∀ t : Fin grid0.N, _)

theorem idx_4 : ∀ t : Fin cfg0.N, win0_4.index t 0 = win0_6.index t 0 ∧ win0_4.index t 1 = win0_6.index t 1 :=
  (by decide +kernel : ∀ t : Fin grid0.N, _)

theorem idx_5 : ∀ t : Fin cfg0.N, win0_5.index t 0 = win0_6.index t 0 ∧ win0_5.index t 1 = win0_6.index t 1 :=
  (by decide +kernel : ∀ t : Fin grid0.N, _)

theorem idx_7 : ∀ t : Fin cfg0.N, win0_7.index t 0 = win0_6.index t 0 ∧ win0_7.index t 1 = win0_6.index t 1 :=
  (by decide +kernel : ∀ t : Fin grid0.N, _)

theorem idx_8 : ∀ t : Fin cfg0.N, win0_8.index t 0 = win0_6.index t 0 ∧ win0_8.index t 1 = win0_6.index t 1 :=
  (by decide +kernel : ∀ t : Fin grid0.N, _)

theorem idx_9 : ∀ t : Fin cfg0.N, win0_9.index t 0 = win0_6.index t 0 ∧ win0_9.index t 1 = win0_6.index t 1 :=
  (by decide +kernel : ∀ t : Fin grid0.N, _)

/-- The place in the whole array of a place in a point's block. -/
abbrev place (t : Fin cfg0.N) (y : S1024x512.Idx) : S4096x2048.Idx := ((cfg0.win 6).blk t).view.emb y

theorem point (t : Fin cfg0.N) (y : S1024x512.Idx) : k0_pay4 (iblk m c 0 t) (iblk m c 1 t) y = arr m c (place t y) := by
  obtain ⟨e0, e1, e2, e3⟩ := idx_prod t
  rw [pay_apply]
  unfold arr prod
  refine Finset.sum_congr rfl fun k _ => congrArg₂ (fun p q : EReal => p * q) ?_ ?_
  · unfold iblk
    rw [View.read_apply]
    refine congrArg (m ((c : Thread nD τ).loc main_arg0)) (funext fun a => Fin.ext ?_)
    match a with
    | ⟨0, _⟩ => show win0_0.index t 0 * 1024 + 1 * (y 0).val = win0_6.index t 0 * 1024 + 1 * (y 0).val; rw [e0]
    | ⟨1, _⟩ => show win0_0.index t 1 * 2048 + 1 * k.val = k.val; rw [e1]; omega
  · unfold iblk
    rw [View.read_apply]
    refine congrArg (m ((c : Thread nD τ).loc main_arg1)) (funext fun a => Fin.ext ?_)
    match a with
    | ⟨0, _⟩ => show win0_1.index t 0 * 512 + 1 * (y 1).val = win0_6.index t 1 * 512 + 1 * (y 1).val; rw [e2]
    | ⟨1, _⟩ => show win0_1.index t 1 * 2048 + 1 * k.val = k.val; rw [e3]; omega

theorem read_ga (t : Fin cfg0.N) (y : S1024x512.Idx) : iblk m c 2 t y = m ((c : Thread nD τ).loc main_arg2) (colA (place t y)) := by
  obtain ⟨e0, e1⟩ := idx_2 t
  unfold iblk
  rw [View.read_apply]
  refine congrArg (m ((c : Thread nD τ).loc main_arg2)) (funext fun a => Fin.ext ?_)
  match a with
    | ⟨0, _⟩ => show win0_2.index t 0 * 1024 + 1 * (y 0).val = win0_6.index t 0 * 1024 + 1 * (y 0).val; rw [e0]
    | ⟨1, _⟩ => show win0_2.index t 1 * 512 + 1 * (y 1).val = 5632 + (win0_6.index t 1 * 512 + 1 * (y 1).val); rw [e1]; omega

theorem read_gb (t : Fin cfg0.N) (y : S1024x512.Idx) : iblk m c 3 t y = m ((c : Thread nD τ).loc main_arg2) (colB (place t y)) := by
  obtain ⟨e0, e1⟩ := idx_3 t
  unfold iblk
  rw [View.read_apply]
  refine congrArg (m ((c : Thread nD τ).loc main_arg2)) (funext fun a => Fin.ext ?_)
  match a with
    | ⟨0, _⟩ => show win0_3.index t 0 * 1024 + 1 * (y 0).val = win0_6.index t 0 * 1024 + 1 * (y 0).val; rw [e0]
    | ⟨1, _⟩ => show win0_3.index t 1 * 512 + 1 * (y 1).val = 7680 + (win0_6.index t 1 * 512 + 1 * (y 1).val); rw [e1]; omega

theorem read_ya (t : Fin cfg0.N) (y : S1024x512.Idx) : iblk m c 4 t y = m ((c : Thread nD τ).loc main_arg3) (place t y) := by
  obtain ⟨e0, e1⟩ := idx_4 t
  unfold iblk
  rw [View.read_apply]
  refine congrArg (m ((c : Thread nD τ).loc main_arg3)) (funext fun a => Fin.ext ?_)
  match a with
    | ⟨0, _⟩ => show win0_4.index t 0 * 1024 + 1 * (y 0).val = win0_6.index t 0 * 1024 + 1 * (y 0).val; rw [e0]
    | ⟨1, _⟩ => show win0_4.index t 1 * 512 + 1 * (y 1).val = win0_6.index t 1 * 512 + 1 * (y 1).val; rw [e1]

theorem read_yb (t : Fin cfg0.N) (y : S1024x512.Idx) : iblk m c 5 t y = m ((c : Thread nD τ).loc main_arg4) (place t y) := by
  obtain ⟨e0, e1⟩ := idx_5 t
  unfold iblk
  rw [View.read_apply]
  refine congrArg (m ((c : Thread nD τ).loc main_arg4)) (funext fun a => Fin.ext ?_)
  match a with
    | ⟨0, _⟩ => show win0_5.index t 0 * 1024 + 1 * (y 0).val = win0_6.index t 0 * 1024 + 1 * (y 0).val; rw [e0]
    | ⟨1, _⟩ => show win0_5.index t 1 * 512 + 1 * (y 1).val = win0_6.index t 1 * 512 + 1 * (y 1).val; rw [e1]

theorem place_7 (t : Fin cfg0.N) (y : S1024x512.Idx) : ((cfg0.win 7).blk t).view.emb y = place t y := by
  obtain ⟨e0, e1⟩ := idx_7 t
  refine funext fun a => Fin.ext ?_
  match a with
  | ⟨0, _⟩ => show win0_7.index t 0 * 1024 + 1 * (y 0).val = win0_6.index t 0 * 1024 + 1 * (y 0).val; rw [e0]
  | ⟨1, _⟩ => show win0_7.index t 1 * 512 + 1 * (y 1).val = win0_6.index t 1 * 512 + 1 * (y 1).val; rw [e1]

theorem place_8 (t : Fin cfg0.N) (y : S1024x512.Idx) : ((cfg0.win 8).blk t).view.emb y = place t y := by
  obtain ⟨e0, e1⟩ := idx_8 t
  refine funext fun a => Fin.ext ?_
  match a with
  | ⟨0, _⟩ => show win0_8.index t 0 * 1024 + 1 * (y 0).val = win0_6.index t 0 * 1024 + 1 * (y 0).val; rw [e0]
  | ⟨1, _⟩ => show win0_8.index t 1 * 512 + 1 * (y 1).val = win0_6.index t 1 * 512 + 1 * (y 1).val; rw [e1]

theorem place_9 (t : Fin cfg0.N) (y : S1024x512.Idx) : ((cfg0.win 9).blk t).view.emb y = place t y := by
  obtain ⟨e0, e1⟩ := idx_9 t
  refine funext fun a => Fin.ext ?_
  match a with
  | ⟨0, _⟩ => show win0_9.index t 0 * 1024 + 1 * (y 0).val = win0_6.index t 0 * 1024 + 1 * (y 0).val; rw [e0]
  | ⟨1, _⟩ => show win0_9.index t 1 * 512 + 1 * (y 1).val = win0_6.index t 1 * 512 + 1 * (y 1).val; rw [e1]

section Pays

variable (a : Vec Ideal S1024x2048 .bf16) (b : Vec Ideal S512x2048 .bf16) (g v : Vec Ideal S1024x512 .f32) (y : S1024x512.Idx)

theorem da_apply : k0_pay10 a b g y = (k0_pay4 a b y * logi (g y) : EReal) := by
  unfold k0_pay10 k0_pay5
  pointwise
  rw [logi_eq]

theorem db_apply : k0_pay1 (k0_pay7 a b g) y = (k0_pay4 a b y * logi (g y) : EReal) := by
  unfold k0_pay1 k0_pay7 k0_pay6
  pointwise
  rw [logi_eq]

theorem ga_apply : k0_pay2 (k0_pay8 a b g v) y = (k0_pay4 a b y * v y * logi (g y) * (1 - logi (g y)) : EReal) := by
  unfold k0_pay2 k0_pay8 k0_pay5
  pointwise
  rw [logi_eq]

theorem gb_apply : k0_pay3 (k0_pay9 a b g v) y = (k0_pay4 a b y * v y * logi (g y) * (1 - logi (g y)) : EReal) := by
  unfold k0_pay3 k0_pay9 k0_pay6
  pointwise
  rw [logi_eq]

end Pays

abbrev ya : Vec Ideal S4096x2048 .f32 := m ((c : Thread nD τ).loc main_arg3)

abbrev yb : Vec Ideal S4096x2048 .f32 := m ((c : Thread nD τ).loc main_arg4)

/-! The four results: the gradients of the two branches and of the two gates before the logistic function. -/

def da : Vec Ideal S4096x2048 .bf16 := fun i => (arr m c i * logi (gates m c (colA i)) : EReal)

def db : Vec Ideal S4096x2048 .bf16 := fun i => (arr m c i * logi (gates m c (colB i)) : EReal)

def dga : Vec Ideal S4096x2048 .bf16 := fun i => (arr m c i * ya m c i * logi (gates m c (colA i)) * (1 - logi (gates m c (colA i))) : EReal)

def dgb : Vec Ideal S4096x2048 .bf16 := fun i => (arr m c i * yb m c i * logi (gates m c (colB i)) * (1 - logi (gates m c (colB i))) : EReal)

theorem flushed_da (t : Fin cfg0.N) : (dats m 0 c).flushed 6 t = ((cfg0.win 6).blk t).view.read (Elt Ideal) (da m c) := by
  rw [Value.flushed6]
  unfold out0_6
  rw [View.canon_unit_zero hz]
  simp only [View.ld_unit_zero (S := S1024x2048) hz, View.ld_unit_zero (S := S512x2048) hz, View.ld_unit_zero (S := S1024x512) hz]
  funext y
  show k0_pay10 (iblk m c 0 t) (iblk m c 1 t) (iblk m c 2 t) y = da m c (((cfg0.win 6).blk t).view.emb y)
  rw [da_apply, point, read_ga]
  rfl

theorem flushed_db (t : Fin cfg0.N) : (dats m 0 c).flushed 7 t = ((cfg0.win 7).blk t).view.read (Elt Ideal) (db m c) := by
  rw [Value.flushed7]
  unfold out0_7
  rw [View.canon_unit_zero hz]
  simp only [View.ld_unit_zero (S := S1024x2048) hz, View.ld_unit_zero (S := S512x2048) hz, View.ld_unit_zero (S := S1024x512) hz]
  funext y
  show k0_pay1 (k0_pay7 (iblk m c 0 t) (iblk m c 1 t) (iblk m c 3 t)) y = db m c (((cfg0.win 7).blk t).view.emb y)
  rw [db_apply, point, place_7, read_gb]
  rfl

theorem flushed_dga (t : Fin cfg0.N) : (dats m 0 c).flushed 8 t = ((cfg0.win 8).blk t).view.read (Elt Ideal) (dga m c) := by
  rw [Value.flushed8]
  unfold out0_8
  rw [View.canon_unit_zero hz]
  simp only [View.ld_unit_zero (S := S1024x2048) hz, View.ld_unit_zero (S := S512x2048) hz, View.ld_unit_zero (S := S1024x512) hz]
  funext y
  show k0_pay2 (k0_pay8 (iblk m c 0 t) (iblk m c 1 t) (iblk m c 2 t) (iblk m c 4 t)) y = dga m c (((cfg0.win 8).blk t).view.emb y)
  rw [ga_apply, point, place_8, read_ga, read_ya]
  rfl

theorem flushed_dgb (t : Fin cfg0.N) : (dats m 0 c).flushed 9 t = ((cfg0.win 9).blk t).view.read (Elt Ideal) (dgb m c) := by
  rw [Value.flushed9]
  unfold out0_9
  rw [View.canon_unit_zero hz]
  simp only [View.ld_unit_zero (S := S1024x2048) hz, View.ld_unit_zero (S := S512x2048) hz, View.ld_unit_zero (S := S1024x512) hz]
  funext y
  show k0_pay3 (k0_pay9 (iblk m c 0 t) (iblk m c 1 t) (iblk m c 3 t) (iblk m c 5 t)) y = dgb m c (((cfg0.win 9).blk t).view.emb y)
  rw [gb_apply, point, place_9, read_gb, read_yb]
  rfl

theorem cover (i : S4096x2048.Idx) : ∃ (t : Fin cfg0.N) (y : S1024x512.Idx), i = place t y := by
  have h0 : (i 0).val < 4096 := (i 0).isLt
  have h1 : (i 1).val < 2048 := (i 1).isLt
  obtain ⟨t, q0, q1⟩ := idx_onto ⟨(i 0).val / 1024, by omega⟩ ⟨(i 1).val / 512, by omega⟩
  refine ⟨t, ix2 ⟨(i 0).val % 1024, by omega⟩ ⟨(i 1).val % 512, by omega⟩, funext fun a => Fin.ext ?_⟩
  match a with
  | ⟨0, _⟩ => show (i 0).val = win0_6.index t 0 * 1024 + 1 * ((i 0).val % 1024); rw [q0]; dsimp only; omega
  | ⟨1, _⟩ => show (i 1).val = win0_6.index t 1 * 512 + 1 * ((i 1).val % 512); rw [q1]; dsimp only; omega

theorem final_da : (dats m 0 c).arrAt 6 cfg0.N = da m c :=
  (dats m 0 c).arrAt_eq_of_cover 6 (da m c) (fun t _ => flushed_da m c t) fun i => by
    obtain ⟨t, y, rfl⟩ := cover i
    exact ⟨t, flush0_6 t, View.emb_mem_set _ y⟩

theorem final_db : (dats m 0 c).arrAt 7 cfg0.N = db m c :=
  (dats m 0 c).arrAt_eq_of_cover 7 (db m c) (fun t _ => flushed_db m c t) fun i => by
    obtain ⟨t, y, rfl⟩ := cover i
    exact ⟨t, flush0_7 t, place_7 t y ▸ View.emb_mem_set _ y⟩

theorem final_dga : (dats m 0 c).arrAt 8 cfg0.N = dga m c :=
  (dats m 0 c).arrAt_eq_of_cover 8 (dga m c) (fun t _ => flushed_dga m c t) fun i => by
    obtain ⟨t, y, rfl⟩ := cover i
    exact ⟨t, flush0_8 t, place_8 t y ▸ View.emb_mem_set _ y⟩

theorem final_dgb : (dats m 0 c).arrAt 9 cfg0.N = dgb m c :=
  (dats m 0 c).arrAt_eq_of_cover 9 (dgb m c) (fun t _ => flushed_dgb m c t) fun i => by
    obtain ⟨t, y, rfl⟩ := cover i
    exact ⟨t, flush0_9 t, place_9 t y ▸ View.emb_mem_set _ y⟩

end Cert.DmgIdeal.Whole

namespace Cert.Proof

/-- The kernel's gradient back through the gated sum is the reference's. -/
theorem same_dmg : Cert.algebraic_DmgIdeal_DmgRefIdeal := by
  intro m g m' g' _ ha
  refine ⟨fun c => Cert.DmgIdeal.Whole.da m c, fun c => Cert.DmgIdeal.Whole.db m c, fun c => Cert.DmgIdeal.Whole.dga m c,
    fun c => Cert.DmgIdeal.Whole.dgb m c, ?_, ?_⟩
  · refine (θ_run _ _ _).mono (fun r h c => ?_) (Cert.DmgIdeal.Value.run_blocks m g)
    exact ⟨(h c).1.trans (Cert.DmgIdeal.Whole.final_da m c), (h c).2.1.trans (Cert.DmgIdeal.Whole.final_db m c),
      (h c).2.2.1.trans (Cert.DmgIdeal.Whole.final_dga m c), (h c).2.2.2.1.trans (Cert.DmgIdeal.Whole.final_dgb m c), (h c).2.2.2.2⟩
  · refine (θ_run _ _ _).mono (fun r h c => ?_) (Cert.DmgRefIdeal.Value.run (F := Ideal) m' g')
    obtain ⟨a0, a1, a2, a3, a4⟩ := ha c
    refine ⟨(h c).1.trans ?_, (h c).2.1.trans ?_, (h c).2.2.1.trans ?_, (h c).2.2.2.1.trans ?_, (h c).2.2.2.2⟩
    · rw [a0, a1, a2]
      funext i
      unfold Cert.DmgIdeal.Whole.da Cert.DmgIdeal.Whole.arr Cert.DmgIdeal.Whole.prod Cert.Gates.logi
      pointwise
      exact mul_comm _ _
    · rw [a0, a1, a2]
      funext i
      unfold Cert.DmgIdeal.Whole.db Cert.DmgIdeal.Whole.arr Cert.DmgIdeal.Whole.prod Cert.Gates.logi
      pointwise
      exact mul_comm _ _
    · rw [a0, a1, a2, a3]
      funext i
      unfold Cert.DmgIdeal.Whole.dga Cert.DmgIdeal.Whole.arr Cert.DmgIdeal.Whole.prod Cert.Gates.logi
      pointwise
      exact (mul_assoc _ _ _).symm
    · rw [a0, a1, a2, a4]
      funext i
      unfold Cert.DmgIdeal.Whole.dgb Cert.DmgIdeal.Whole.arr Cert.DmgIdeal.Whole.prod Cert.Gates.logi
      pointwise
      exact (mul_assoc _ _ _).symm

end Cert.Proof
end
-- ==== Proof.lean ====
module

public import proofs.«01_k».proof.Defs
public import proofs.«01_k».proof.Proof.FrameP
public import proofs.«01_k».proof.Proof.Equal
public import proofs.«01_k».proof.Proof.Act
public import proofs.«01_k».proof.Proof.Gen.Act.Frame
public import proofs.«01_k».proof.Proof.Hid
public import proofs.«01_k».proof.Proof.Gen.Hid.Frame
public import proofs.«01_k».proof.Proof.Inp
public import proofs.«01_k».proof.Proof.Gen.Inp.Frame
public import proofs.«01_k».proof.Proof.Mlp
public import proofs.«01_k».proof.Proof.Gen.Mlp.Frame
public import proofs.«01_k».proof.Proof.Proj
public import proofs.«01_k».proof.Proof.Gen.Proj.Frame
public import proofs.«01_k».proof.Proof.Gout
public import proofs.«01_k».proof.Proof.Gen.Gout.Frame
public import proofs.«01_k».proof.Proof.Out
public import proofs.«01_k».proof.Proof.Gen.Out.Frame
public import proofs.«01_k».proof.Proof.GmoSend
public import proofs.«01_k».proof.Proof.Gen.GmoSend.Frame
public import proofs.«01_k».proof.Proof.GmoOwn
public import proofs.«01_k».proof.Proof.Gen.GmoOwn.Frame
public import proofs.«01_k».proof.Proof.GmiSend
public import proofs.«01_k».proof.Proof.Gen.GmiSend.Frame
public import proofs.«01_k».proof.Proof.GmiOwn
public import proofs.«01_k».proof.Proof.Gen.GmiOwn.Frame
public import proofs.«01_k».proof.Proof.GinSend
public import proofs.«01_k».proof.Proof.Gen.GinSend.Frame
public import proofs.«01_k».proof.Proof.GinOwn
public import proofs.«01_k».proof.Proof.Gen.GinOwn.Frame
public import proofs.«01_k».proof.Proof.Bra
public import proofs.«01_k».proof.Proof.Gen.Bra.Frame
public import proofs.«01_k».proof.Proof.Dob
public import proofs.«01_k».proof.Proof.Gen.Dob.Frame
public import proofs.«01_k».proof.Proof.Gab
public import proofs.«01_k».proof.Proof.Gen.Gab.Frame
public import proofs.«01_k».proof.Proof.Loss
public import proofs.«01_k».proof.Proof.Gen.Loss.Frame
public import proofs.«01_k».proof.Proof.Mrg
public import proofs.«01_k».proof.Proof.Gen.Mrg.Frame
public import proofs.«01_k».proof.Proof.Dmg
public import proofs.«01_k».proof.Proof.Gen.Dmg.Frame
public import Idealize.ShloMosaic.Adequacy
public import Idealize.ShloMosaic.Init

@[expose] public section

noncomputable section

namespace Cert.Proof

open Idealize.ShloMosaic Idealize.SL.Sem

/-- The reference runs to the end and keeps its arguments; it declares no semaphore, so every counter stays at zero. -/
theorem frame_r : Cert.quiescent_ReferenceIdeal := fun m ρ _ =>
  θ_run_mono (Cert.ReferenceIdeal.Value.run (F := Ideal) m ρ) fun r h =>
    ⟨fun c => (h c).2.2.2, sem_eq_zero_of_no_sems (by decide) r.2⟩

/-! The products' references do the same. -/

theorem frame_act : Cert.quiescent_ActRefIdeal := fun m ρ _ =>
  θ_run_mono (Cert.ActRefIdeal.Value.run (F := Ideal) m ρ) fun r h => ⟨fun c => (h c).2, sem_eq_zero_of_no_sems (by decide) r.2⟩

theorem frame_hid : Cert.quiescent_HidRefIdeal := fun m ρ _ =>
  θ_run_mono (Cert.HidRefIdeal.Value.run (F := Ideal) m ρ) fun r h => ⟨fun c => (h c).2, sem_eq_zero_of_no_sems (by decide) r.2⟩

theorem frame_inp : Cert.quiescent_InpRefIdeal := fun m ρ _ =>
  θ_run_mono (Cert.InpRefIdeal.Value.run (F := Ideal) m ρ) fun r h => ⟨fun c => (h c).2, sem_eq_zero_of_no_sems (by decide) r.2⟩

theorem frame_mlp : Cert.quiescent_MlpRefIdeal := fun m ρ _ =>
  θ_run_mono (Cert.MlpRefIdeal.Value.run (F := Ideal) m ρ) fun r h => ⟨fun c => (h c).2.2, sem_eq_zero_of_no_sems (by decide) r.2⟩

theorem frame_proj : Cert.quiescent_ProjRefIdeal := fun m ρ _ =>
  θ_run_mono (Cert.ProjRefIdeal.Value.run (F := Ideal) m ρ) fun r h => ⟨fun c => (h c).2, sem_eq_zero_of_no_sems (by decide) r.2⟩

theorem frame_gout : Cert.quiescent_GoutRefIdeal := fun m ρ _ =>
  θ_run_mono (Cert.GoutRefIdeal.Value.run (F := Ideal) m ρ) fun r h => ⟨fun c => (h c).2, sem_eq_zero_of_no_sems (by decide) r.2⟩

theorem frame_out : Cert.quiescent_OutRefIdeal := fun m ρ _ =>
  θ_run_mono (Cert.OutRefIdeal.Value.run (F := Ideal) m ρ) fun r h => ⟨fun c => (h c).2, sem_eq_zero_of_no_sems (by decide) r.2⟩

theorem frame_gmo_send : Cert.quiescent_GmoSendRefIdeal := fun m ρ _ =>
  θ_run_mono (Cert.GmoSendRefIdeal.Value.run (F := Ideal) m ρ) fun r h => ⟨fun c => (h c).2, sem_eq_zero_of_no_sems (by decide) r.2⟩

theorem frame_gmo_own : Cert.quiescent_GmoOwnRefIdeal := fun m ρ _ =>
  θ_run_mono (Cert.GmoOwnRefIdeal.Value.run (F := Ideal) m ρ) fun r h => ⟨fun c => (h c).2, sem_eq_zero_of_no_sems (by decide) r.2⟩

theorem frame_gmi_send : Cert.quiescent_GmiSendRefIdeal := fun m ρ _ =>
  θ_run_mono (Cert.GmiSendRefIdeal.Value.run (F := Ideal) m ρ) fun r h => ⟨fun c => (h c).2, sem_eq_zero_of_no_sems (by decide) r.2⟩

theorem frame_gmi_own : Cert.quiescent_GmiOwnRefIdeal := fun m ρ _ =>
  θ_run_mono (Cert.GmiOwnRefIdeal.Value.run (F := Ideal) m ρ) fun r h => ⟨fun c => (h c).2, sem_eq_zero_of_no_sems (by decide) r.2⟩

theorem frame_gin_send : Cert.quiescent_GinSendRefIdeal := fun m ρ _ =>
  θ_run_mono (Cert.GinSendRefIdeal.Value.run (F := Ideal) m ρ) fun r h => ⟨fun c => (h c).2, sem_eq_zero_of_no_sems (by decide) r.2⟩

theorem frame_gin_own : Cert.quiescent_GinOwnRefIdeal := fun m ρ _ =>
  θ_run_mono (Cert.GinOwnRefIdeal.Value.run (F := Ideal) m ρ) fun r h => ⟨fun c => (h c).2, sem_eq_zero_of_no_sems (by decide) r.2⟩

theorem frame_bra : Cert.quiescent_BraRefIdeal := fun m ρ _ =>
  θ_run_mono (Cert.BraRefIdeal.Value.run (F := Ideal) m ρ) fun r h => ⟨fun c => (h c).2, sem_eq_zero_of_no_sems (by decide) r.2⟩

theorem frame_dob : Cert.quiescent_DobRefIdeal := fun m ρ _ =>
  θ_run_mono (Cert.DobRefIdeal.Value.run (F := Ideal) m ρ) fun r h => ⟨fun c => (h c).2, sem_eq_zero_of_no_sems (by decide) r.2⟩

theorem frame_gab : Cert.quiescent_GabRefIdeal := fun m ρ _ =>
  θ_run_mono (Cert.GabRefIdeal.Value.run (F := Ideal) m ρ) fun r h => ⟨fun c => (h c).2, sem_eq_zero_of_no_sems (by decide) r.2⟩

theorem frame_loss : Cert.quiescent_LossRefIdeal := fun m ρ _ =>
  θ_run_mono (Cert.LossRefIdeal.Value.run (F := Ideal) m ρ) fun r h => ⟨fun c => (h c).2.2.2, sem_eq_zero_of_no_sems (by decide) r.2⟩

theorem frame_mrg : Cert.quiescent_MrgRefIdeal := fun m ρ _ =>
  θ_run_mono (Cert.MrgRefIdeal.Value.run (F := Ideal) m ρ) fun r h => ⟨fun c => (h c).2.2, sem_eq_zero_of_no_sems (by decide) r.2⟩

theorem frame_dmg : Cert.quiescent_DmgRefIdeal := fun m ρ _ =>
  θ_run_mono (Cert.DmgRefIdeal.Value.run (F := Ideal) m ρ) fun r h => ⟨fun c => (h c).2.2.2.2, sem_eq_zero_of_no_sems (by decide) r.2⟩

/-- The certificate: the frames, the named constant, and the results' equality. -/
theorem claim : Cert.Claim :=
  ⟨Cert.Kernel.Gen.facts, Cert.KernelIdeal.Gen.facts, Cert.ReferenceIdeal.Gen.facts,
    Cert.Act.Gen.facts, Cert.ActIdeal.Gen.facts, Cert.ActRefIdeal.Gen.facts, Cert.Hid.Gen.facts,
    Cert.HidIdeal.Gen.facts, Cert.HidRefIdeal.Gen.facts, Cert.Inp.Gen.facts, Cert.InpIdeal.Gen.facts,
    Cert.InpRefIdeal.Gen.facts, Cert.Mlp.Gen.facts, Cert.MlpIdeal.Gen.facts, Cert.MlpRefIdeal.Gen.facts,
    Cert.Proj.Gen.facts, Cert.ProjIdeal.Gen.facts, Cert.ProjRefIdeal.Gen.facts, Cert.Gout.Gen.facts,
    Cert.GoutIdeal.Gen.facts, Cert.GoutRefIdeal.Gen.facts, Cert.Out.Gen.facts, Cert.OutIdeal.Gen.facts,
    Cert.OutRefIdeal.Gen.facts, Cert.GmoSend.Gen.facts, Cert.GmoSendIdeal.Gen.facts, Cert.GmoSendRefIdeal.Gen.facts,
    Cert.GmoOwn.Gen.facts, Cert.GmoOwnIdeal.Gen.facts, Cert.GmoOwnRefIdeal.Gen.facts, Cert.GmiSend.Gen.facts,
    Cert.GmiSendIdeal.Gen.facts, Cert.GmiSendRefIdeal.Gen.facts, Cert.GmiOwn.Gen.facts, Cert.GmiOwnIdeal.Gen.facts,
    Cert.GmiOwnRefIdeal.Gen.facts, Cert.GinSend.Gen.facts, Cert.GinSendIdeal.Gen.facts,
    Cert.GinSendRefIdeal.Gen.facts, Cert.GinOwn.Gen.facts, Cert.GinOwnIdeal.Gen.facts, Cert.GinOwnRefIdeal.Gen.facts,
    Cert.Bra.Gen.facts, Cert.BraIdeal.Gen.facts, Cert.BraRefIdeal.Gen.facts,
    Cert.Dob.Gen.facts, Cert.DobIdeal.Gen.facts, Cert.DobRefIdeal.Gen.facts,
    Cert.Gab.Gen.facts, Cert.GabIdeal.Gen.facts, Cert.GabRefIdeal.Gen.facts,
    Cert.Loss.Gen.facts, Cert.LossIdeal.Gen.facts, Cert.LossRefIdeal.Gen.facts,
    Cert.Mrg.Gen.facts, Cert.MrgIdeal.Gen.facts, Cert.MrgRefIdeal.Gen.facts,
    Cert.Dmg.Gen.facts, Cert.DmgIdeal.Gen.facts, Cert.DmgRefIdeal.Gen.facts,
    Cert.Swa.finiteFacts, frame_k,
    fun m ρ _ => Cert.KernelIdeal.Swa.frame m ρ, fun m ρ _ => Cert.KernelIdeal.Swa.frame m ρ, frame_r,
    fun m ρ _ => frame_r m ρ trivial,
    fun m ρ _ => Cert.Act.Gen.frame m ρ, fun m ρ _ => Cert.ActIdeal.Gen.frame m ρ, frame_act, fun m ρ _ =>
    Cert.Hid.Gen.frame m ρ, fun m ρ _ => Cert.HidIdeal.Gen.frame m ρ, frame_hid, fun m ρ _ => Cert.Inp.Gen.frame m ρ,
    fun m ρ _ => Cert.InpIdeal.Gen.frame m ρ, frame_inp, fun m ρ _ => Cert.Mlp.Gen.frame m ρ, fun m ρ _ =>
    Cert.MlpIdeal.Gen.frame m ρ, frame_mlp, fun m ρ _ => Cert.Proj.Gen.frame m ρ, fun m ρ _ =>
    Cert.ProjIdeal.Gen.frame m ρ, frame_proj, fun m ρ _ => Cert.Gout.Gen.frame m ρ, fun m ρ _ =>
    Cert.GoutIdeal.Gen.frame m ρ, frame_gout, fun m ρ _ => Cert.Out.Gen.frame m ρ, fun m ρ _ =>
    Cert.OutIdeal.Gen.frame m ρ, frame_out, fun m ρ _ => Cert.GmoSend.Gen.frame m ρ, fun m ρ _ =>
    Cert.GmoSendIdeal.Gen.frame m ρ, frame_gmo_send, fun m ρ _ => Cert.GmoOwn.Gen.frame m ρ, fun m ρ _ =>
    Cert.GmoOwnIdeal.Gen.frame m ρ, frame_gmo_own, fun m ρ _ => Cert.GmiSend.Gen.frame m ρ, fun m ρ _ =>
    Cert.GmiSendIdeal.Gen.frame m ρ, frame_gmi_send, fun m ρ _ => Cert.GmiOwn.Gen.frame m ρ, fun m ρ _ =>
    Cert.GmiOwnIdeal.Gen.frame m ρ, frame_gmi_own, fun m ρ _ => Cert.GinSend.Gen.frame m ρ, fun m ρ _ =>
    Cert.GinSendIdeal.Gen.frame m ρ, frame_gin_send, fun m ρ _ => Cert.GinOwn.Gen.frame m ρ, fun m ρ _ =>
    Cert.GinOwnIdeal.Gen.frame m ρ, frame_gin_own,
    fun m ρ _ => Cert.Bra.Gen.frame m ρ, fun m ρ _ => Cert.BraIdeal.Gen.frame m ρ, frame_bra,
    fun m ρ _ => Cert.Dob.Gen.frame m ρ, fun m ρ _ => Cert.DobIdeal.Gen.frame m ρ, frame_dob,
    fun m ρ _ => Cert.Gab.Gen.frame m ρ, fun m ρ _ => Cert.GabIdeal.Gen.frame m ρ, frame_gab,
    fun m ρ _ => Cert.Loss.Gen.frame m ρ, fun m ρ _ => Cert.LossIdeal.Gen.frame m ρ, frame_loss,
    fun m ρ _ => Cert.Mrg.Gen.frame m ρ, fun m ρ _ => Cert.MrgIdeal.Gen.frame m ρ, frame_mrg,
    fun m ρ _ => Cert.Dmg.Gen.frame m ρ, fun m ρ _ => Cert.DmgIdeal.Gen.frame m ρ, frame_dmg,
    IdealRules.named_const.statement Cert.KernelIdeal.κ "mask" .f32 0xF149F2CA#32 ⊥ rfl, same,
    trivial, same_act, trivial, same_hid, trivial, same_inp, trivial, same_mlp, trivial, same_proj, trivial,
    same_gout, trivial, same_out, trivial, same_gmo_send, trivial, same_gmo_own, trivial, same_gmi_send, trivial,
    same_gmi_own, trivial, same_gin_send, trivial, same_gin_own,
    trivial, same_bra, trivial, same_dob, trivial, same_gab, trivial, same_loss, trivial, same_mrg, trivial, same_dmg⟩

end Cert.Proof

end
